-- ==== Defs.lean ====
def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulReferenceIdeal (m : (ℓ : Loc Cert.MatmulReferenceIdeal.nD Cert.MatmulReferenceIdeal.τ Cert.MatmulReferenceIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXIdeal_finite [hPre_finite : Cert.Pre_finite.Facts] (m : (ℓ : Loc Cert.QuantXIdeal.nD Cert.QuantXIdeal.τ Cert.QuantXIdeal.sig) → Buf (Elt Ideal) ℓ) : Prop :=
  ∀ c : Dev Cert.QuantXIdeal.nD,
    (Cert.Pre_finite.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1)) (m ((c.tc : Thread Cert.QuantXIdeal.nD Cert.QuantXIdeal.τ).loc Cert.QuantXIdeal.main_arg2))).1 = (fun _ => 1#1)
    ∧ (Cert.Pre_finite.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1)) (m ((c.tc : Thread Cert.QuantXIdeal.nD Cert.QuantXIdeal.τ).loc Cert.QuantXIdeal.main_arg2))).2 = (fun _ => 1#1)

def Pre_QuantXReferenceIdeal (m : (ℓ : Loc Cert.QuantXReferenceIdeal.nD Cert.QuantXReferenceIdeal.τ Cert.QuantXReferenceIdeal.sig) → Buf (Elt Ideal) ℓ) : Prop :=
  True

def Pre_QuantXReferenceIdeal_finite [hPre_finite : Cert.Pre_finite.Facts] (m : (ℓ : Loc Cert.QuantXReferenceIdeal.nD Cert.QuantXReferenceIdeal.τ Cert.QuantXReferenceIdeal.sig) → Buf (Elt Ideal) ℓ) : Prop :=
  ∀ c : Dev Cert.QuantXReferenceIdeal.nD,
    (Cert.Pre_finite.fn (F := Ideal) (m ((c.tc : Thread Cert.QuantXReferenceIdeal.nD Cert.QuantXReferenceIdeal.τ).loc Cert.QuantXReferenceIdeal.main_arg0)) (m ((c.tc : Thread Cert.QuantXReferenceIdeal.nD Cert.QuantXReferenceIdeal.τ).loc Cert.QuantXReferenceIdeal.main_arg1)) (m ((c.tc : Thread Cert.QuantXReferenceIdeal.nD Cert.QuantXReferenceIdeal.τ).loc Cert.QuantXReferenceIdeal.main_arg2))).1 = (fun _ => 1#1)
    ∧ (Cert.Pre_finite.fn (F := Ideal) (m ((c.tc : Thread Cert.QuantXReferenceIdeal.nD Cert.QuantXReferenceIdeal.τ).loc Cert.QuantXReferenceIdeal.main_arg0)) (m ((c.tc : Thread Cert.QuantXReferenceIdeal.nD Cert.QuantXReferenceIdeal.τ).loc Cert.QuantXReferenceIdeal.main_arg1)) (m ((c.tc : Thread Cert.QuantXReferenceIdeal.nD Cert.QuantXReferenceIdeal.τ).loc Cert.QuantXReferenceIdeal.main_arg2))).2 = (fun _ => 1#1)

def Pre_QuantDy (m : (ℓ : Loc Cert.QuantDy.nD Cert.QuantDy.τ Cert.QuantDy.sig) → Buf (Elt Bits) ℓ) : Prop :=
  True

def Pre_QuantDyIdeal (m : (ℓ : Loc Cert.QuantDyIdeal.nD Cert.QuantDyIdeal.τ Cert.QuantDyIdeal.sig) → Buf (Elt Ideal) ℓ) : Prop :=
  True

def Pre_QuantDyIdeal_finite_dy [hPre_finite_dy : Cert.Pre_finite_dy.Facts] (m : (ℓ : Loc Cert.QuantDyIdeal.nD Cert.QuantDyIdeal.τ Cert.QuantDyIdeal.sig) → Buf (Elt Ideal) ℓ) : Prop :=
  ∀ c : Dev Cert.QuantDyIdeal.nD,
    (Cert.Pre_finite_dy.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2)) (m ((c.tc : Thread Cert.QuantDyIdeal.nD Cert.QuantDyIdeal.τ).loc Cert.QuantDyIdeal.main_arg3))).1 = (fun _ => 1#1)
    ∧ (Cert.Pre_finite_dy.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2)) (m ((c.tc : Thread Cert.QuantDyIdeal.nD Cert.QuantDyIdeal.τ).loc Cert.QuantDyIdeal.main_arg3))).2 = (fun _ => 1#1)

def Pre_QuantDyReferenceIdeal (m : (ℓ : Loc Cert.QuantDyReferenceIdeal.nD Cert.QuantDyReferenceIdeal.τ Cert.QuantDyReferenceIdeal.sig) → Buf (Elt Ideal) ℓ) : Prop :=
  True

def Pre_QuantDyReferenceIdeal_finite_dy [hPre_finite_dy : Cert.Pre_finite_dy.Facts] (m : (ℓ : Loc Cert.QuantDyReferenceIdeal.nD Cert.QuantDyReferenceIdeal.τ Cert.QuantDyReferenceIdeal.sig) → Buf (Elt Ideal) ℓ) : Prop :=
  ∀ c : Dev Cert.QuantDyReferenceIdeal.nD,
    (Cert.Pre_finite_dy.fn (F := Ideal) (m ((c.tc : Thread Cert.QuantDyReferenceIdeal.nD Cert.QuantDyReferenceIdeal.τ).loc Cert.QuantDyReferenceIdeal.main_arg0)) (m ((c.tc : Thread Cert.QuantDyReferenceIdeal.nD Cert.QuantDyReferenceIdeal.τ).loc Cert.QuantDyReferenceIdeal.main_arg1)) (m ((c.tc : Thread Cert.QuantDyReferenceIdeal.nD Cert.QuantDyReferenceIdeal.τ).loc Cert.QuantDyReferenceIdeal.main_arg2)) (m ((c.tc : Thread Cert.QuantDyReferenceIdeal.nD Cert.QuantDyReferenceIdeal.τ).loc Cert.QuantDyReferenceIdeal.main_arg3))).1 = (fun _ => 1#1)
    ∧ (Cert.Pre_finite_dy.fn (F := Ideal) (m ((c.tc : Thread Cert.QuantDyReferenceIdeal.nD Cert.QuantDyReferenceIdeal.τ).loc Cert.QuantDyReferenceIdeal.main_arg0)) (m ((c.tc : Thread Cert.QuantDyReferenceIdeal.nD Cert.QuantDyReferenceIdeal.τ).loc Cert.QuantDyReferenceIdeal.main_arg1)) (m ((c.tc : Thread Cert.QuantDyReferenceIdeal.nD Cert.QuantDyReferenceIdeal.τ).loc Cert.QuantDyReferenceIdeal.main_arg2)) (m ((c.tc : Thread Cert.QuantDyReferenceIdeal.nD Cert.QuantDyReferenceIdeal.τ).loc Cert.QuantDyReferenceIdeal.main_arg3))).2 = (fun _ => 1#1)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1)
      ∧ r.2.mem ((c.tc : Thread Cert.Matmul.nD Cert.Matmul.τ).loc Cert.Matmul.main_arg2) = m ((c.tc : Thread Cert.Matmul.nD Cert.Matmul.τ).loc Cert.Matmul.main_arg2)
      ∧ r.2.mem ((c.tc : Thread Cert.Matmul.nD Cert.Matmul.τ).loc Cert.Matmul.main_arg3) = m ((c.tc : Thread Cert.Matmul.nD Cert.Matmul.τ).loc Cert.Matmul.main_arg3))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
      ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
      ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ r.2.sem = fun _ => 0)

def quiescent_MatmulReferenceIdeal [hMatmulReferenceIdeal : Cert.MatmulReferenceIdeal.Facts] : Prop :=
  ∀ (m : (ℓ : Loc Cert.MatmulReferenceIdeal.nD Cert.MatmulReferenceIdeal.τ Cert.MatmulReferenceIdeal.sig) → Buf (Elt Ideal) ℓ) (g : Dev Cert.MatmulReferenceIdeal.nD → PrngReg), Pre_MatmulReferenceIdeal m →
    θ_run (Cert.MatmulReferenceIdeal.defs (F := Ideal)) (onTc (τ := Cert.MatmulReferenceIdeal.τ) (Cert.MatmulReferenceIdeal.main (F := Ideal))) ⟨m, fun _ => 0, g⟩ (fun r => (∀ c : Dev Cert.MatmulReferenceIdeal.nD,
      r.2.mem ((c.tc : Thread Cert.MatmulReferenceIdeal.nD Cert.MatmulReferenceIdeal.τ).loc Cert.MatmulReferenceIdeal.main_arg0) = m ((c.tc : Thread Cert.MatmulReferenceIdeal.nD Cert.MatmulReferenceIdeal.τ).loc Cert.MatmulReferenceIdeal.main_arg0)
      ∧ r.2.mem ((c.tc : Thread Cert.MatmulReferenceIdeal.nD Cert.MatmulReferenceIdeal.τ).loc Cert.MatmulReferenceIdeal.main_arg1) = m ((c.tc : Thread Cert.MatmulReferenceIdeal.nD Cert.MatmulReferenceIdeal.τ).loc Cert.MatmulReferenceIdeal.main_arg1)
      ∧ r.2.mem ((c.tc : Thread Cert.MatmulReferenceIdeal.nD Cert.MatmulReferenceIdeal.τ).loc Cert.MatmulReferenceIdeal.main_arg2) = m ((c.tc : Thread Cert.MatmulReferenceIdeal.nD Cert.MatmulReferenceIdeal.τ).loc Cert.MatmulReferenceIdeal.main_arg2)
      ∧ r.2.mem ((c.tc : Thread Cert.MatmulReferenceIdeal.nD Cert.MatmulReferenceIdeal.τ).loc Cert.MatmulReferenceIdeal.main_arg3) = m ((c.tc : Thread Cert.MatmulReferenceIdeal.nD Cert.MatmulReferenceIdeal.τ).loc Cert.MatmulReferenceIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1)
      ∧ r.2.mem ((c.tc : Thread Cert.QuantX.nD Cert.QuantX.τ).loc Cert.QuantX.main_arg2) = m ((c.tc : Thread Cert.QuantX.nD Cert.QuantX.τ).loc Cert.QuantX.main_arg2))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
      ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ r.2.sem = fun _ => 0)

def quiescent_QuantXIdeal_pre_finite [hQuantXIdeal : Cert.QuantXIdeal.Facts] [hPre_finite : Cert.Pre_finite.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal_finite m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
      ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ r.2.sem = fun _ => 0)

def quiescent_QuantXReferenceIdeal [hQuantXReferenceIdeal : Cert.QuantXReferenceIdeal.Facts] : Prop :=
  ∀ (m : (ℓ : Loc Cert.QuantXReferenceIdeal.nD Cert.QuantXReferenceIdeal.τ Cert.QuantXReferenceIdeal.sig) → Buf (Elt Ideal) ℓ) (g : Dev Cert.QuantXReferenceIdeal.nD → PrngReg), Pre_QuantXReferenceIdeal m →
    θ_run (Cert.QuantXReferenceIdeal.defs (F := Ideal)) (onTc (τ := Cert.QuantXReferenceIdeal.τ) (Cert.QuantXReferenceIdeal.main (F := Ideal))) ⟨m, fun _ => 0, g⟩ (fun r => (∀ c : Dev Cert.QuantXReferenceIdeal.nD,
      r.2.mem ((c.tc : Thread Cert.QuantXReferenceIdeal.nD Cert.QuantXReferenceIdeal.τ).loc Cert.QuantXReferenceIdeal.main_arg0) = m ((c.tc : Thread Cert.QuantXReferenceIdeal.nD Cert.QuantXReferenceIdeal.τ).loc Cert.QuantXReferenceIdeal.main_arg0)
      ∧ r.2.mem ((c.tc : Thread Cert.QuantXReferenceIdeal.nD Cert.QuantXReferenceIdeal.τ).loc Cert.QuantXReferenceIdeal.main_arg1) = m ((c.tc : Thread Cert.QuantXReferenceIdeal.nD Cert.QuantXReferenceIdeal.τ).loc Cert.QuantXReferenceIdeal.main_arg1)
      ∧ r.2.mem ((c.tc : Thread Cert.QuantXReferenceIdeal.nD Cert.QuantXReferenceIdeal.τ).loc Cert.QuantXReferenceIdeal.main_arg2) = m ((c.tc : Thread Cert.QuantXReferenceIdeal.nD Cert.QuantXReferenceIdeal.τ).loc Cert.QuantXReferenceIdeal.main_arg2))
      ∧ r.2.sem = fun _ => 0)

def quiescent_QuantXReferenceIdeal_pre_finite [hQuantXReferenceIdeal : Cert.QuantXReferenceIdeal.Facts] [hPre_finite : Cert.Pre_finite.Facts] : Prop :=
  ∀ (m : (ℓ : Loc Cert.QuantXReferenceIdeal.nD Cert.QuantXReferenceIdeal.τ Cert.QuantXReferenceIdeal.sig) → Buf (Elt Ideal) ℓ) (g : Dev Cert.QuantXReferenceIdeal.nD → PrngReg), Pre_QuantXReferenceIdeal_finite m →
    θ_run (Cert.QuantXReferenceIdeal.defs (F := Ideal)) (onTc (τ := Cert.QuantXReferenceIdeal.τ) (Cert.QuantXReferenceIdeal.main (F := Ideal))) ⟨m, fun _ => 0, g⟩ (fun r => (∀ c : Dev Cert.QuantXReferenceIdeal.nD,
      r.2.mem ((c.tc : Thread Cert.QuantXReferenceIdeal.nD Cert.QuantXReferenceIdeal.τ).loc Cert.QuantXReferenceIdeal.main_arg0) = m ((c.tc : Thread Cert.QuantXReferenceIdeal.nD Cert.QuantXReferenceIdeal.τ).loc Cert.QuantXReferenceIdeal.main_arg0)
      ∧ r.2.mem ((c.tc : Thread Cert.QuantXReferenceIdeal.nD Cert.QuantXReferenceIdeal.τ).loc Cert.QuantXReferenceIdeal.main_arg1) = m ((c.tc : Thread Cert.QuantXReferenceIdeal.nD Cert.QuantXReferenceIdeal.τ).loc Cert.QuantXReferenceIdeal.main_arg1)
      ∧ r.2.mem ((c.tc : Thread Cert.QuantXReferenceIdeal.nD Cert.QuantXReferenceIdeal.τ).loc Cert.QuantXReferenceIdeal.main_arg2) = m ((c.tc : Thread Cert.QuantXReferenceIdeal.nD Cert.QuantXReferenceIdeal.τ).loc Cert.QuantXReferenceIdeal.main_arg2))
      ∧ r.2.sem = fun _ => 0)

def quiescent_QuantDy [hQuantDy : Cert.QuantDy.Facts] : Prop :=
  ∀ (m : (ℓ : Loc Cert.QuantDy.nD Cert.QuantDy.τ Cert.QuantDy.sig) → Buf (Elt Bits) ℓ) (g : Dev Cert.QuantDy.nD → PrngReg), Pre_QuantDy m →
    θ_run (Cert.QuantDy.defs (F := Bits)) (onTc (τ := Cert.QuantDy.τ) (Cert.QuantDy.main (F := Bits))) ⟨m, fun _ => 0, g⟩ (fun r => (∀ c : Dev Cert.QuantDy.nD,
      r.2.mem ((c.tc : Thread Cert.QuantDy.nD Cert.QuantDy.τ).loc Cert.QuantDy.main_arg0) = m ((c.tc : Thread Cert.QuantDy.nD Cert.QuantDy.τ).loc Cert.QuantDy.main_arg0)
      ∧ r.2.mem ((c.tc : Thread Cert.QuantDy.nD Cert.QuantDy.τ).loc Cert.QuantDy.main_arg1) = m ((c.tc : Thread Cert.QuantDy.nD Cert.QuantDy.τ).loc Cert.QuantDy.main_arg1)
      ∧ r.2.mem ((c.tc : Thread Cert.QuantDy.nD Cert.QuantDy.τ).loc Cert.QuantDy.main_arg2) = m ((c.tc : Thread Cert.QuantDy.nD Cert.QuantDy.τ).loc Cert.QuantDy.main_arg2)
      ∧ r.2.mem ((c.tc : Thread Cert.QuantDy.nD Cert.QuantDy.τ).loc Cert.QuantDy.main_arg3) = m ((c.tc : Thread Cert.QuantDy.nD Cert.QuantDy.τ).loc Cert.QuantDy.main_arg3))
      ∧ r.2.sem = fun _ => 0)

def quiescent_QuantDyIdeal [hQuantDyIdeal : Cert.QuantDyIdeal.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
      ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ r.2.sem = fun _ => 0)

def quiescent_QuantDyIdeal_pre_finite_dy [hQuantDyIdeal : Cert.QuantDyIdeal.Facts] [hPre_finite_dy : Cert.Pre_finite_dy.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal_finite_dy m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
      ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ r.2.sem = fun _ => 0)

def quiescent_QuantDyReferenceIdeal [hQuantDyReferenceIdeal : Cert.QuantDyReferenceIdeal.Facts] : Prop :=
  ∀ (m : (ℓ : Loc Cert.QuantDyReferenceIdeal.nD Cert.QuantDyReferenceIdeal.τ Cert.QuantDyReferenceIdeal.sig) → Buf (Elt Ideal) ℓ) (g : Dev Cert.QuantDyReferenceIdeal.nD → PrngReg), Pre_QuantDyReferenceIdeal m →
    θ_run (Cert.QuantDyReferenceIdeal.defs (F := Ideal)) (onTc (τ := Cert.QuantDyReferenceIdeal.τ) (Cert.QuantDyReferenceIdeal.main (F := Ideal))) ⟨m, fun _ => 0, g⟩ (fun r => (∀ c : Dev Cert.QuantDyReferenceIdeal.nD,
      r.2.mem ((c.tc : Thread Cert.QuantDyReferenceIdeal.nD Cert.QuantDyReferenceIdeal.τ).loc Cert.QuantDyReferenceIdeal.main_arg0) = m ((c.tc : Thread Cert.QuantDyReferenceIdeal.nD Cert.QuantDyReferenceIdeal.τ).loc Cert.QuantDyReferenceIdeal.main_arg0)
      ∧ r.2.mem ((c.tc : Thread Cert.QuantDyReferenceIdeal.nD Cert.QuantDyReferenceIdeal.τ).loc Cert.QuantDyReferenceIdeal.main_arg1) = m ((c.tc : Thread Cert.QuantDyReferenceIdeal.nD Cert.QuantDyReferenceIdeal.τ).loc Cert.QuantDyReferenceIdeal.main_arg1)
      ∧ r.2.mem ((c.tc : Thread Cert.QuantDyReferenceIdeal.nD Cert.QuantDyReferenceIdeal.τ).loc Cert.QuantDyReferenceIdeal.main_arg2) = m ((c.tc : Thread Cert.QuantDyReferenceIdeal.nD Cert.QuantDyReferenceIdeal.τ).loc Cert.QuantDyReferenceIdeal.main_arg2)
      ∧ r.2.mem ((c.tc : Thread Cert.QuantDyReferenceIdeal.nD Cert.QuantDyReferenceIdeal.τ).loc Cert.QuantDyReferenceIdeal.main_arg3) = m ((c.tc : Thread Cert.QuantDyReferenceIdeal.nD Cert.QuantDyReferenceIdeal.τ).loc Cert.QuantDyReferenceIdeal.main_arg3))
      ∧ r.2.sem = fun _ => 0)

def quiescent_QuantDyReferenceIdeal_pre_finite_dy [hQuantDyReferenceIdeal : Cert.QuantDyReferenceIdeal.Facts] [hPre_finite_dy : Cert.Pre_finite_dy.Facts] : Prop :=
  ∀ (m : (ℓ : Loc Cert.QuantDyReferenceIdeal.nD Cert.QuantDyReferenceIdeal.τ Cert.QuantDyReferenceIdeal.sig) → Buf (Elt Ideal) ℓ) (g : Dev Cert.QuantDyReferenceIdeal.nD → PrngReg), Pre_QuantDyReferenceIdeal_finite_dy m →
    θ_run (Cert.QuantDyReferenceIdeal.defs (F := Ideal)) (onTc (τ := Cert.QuantDyReferenceIdeal.τ) (Cert.QuantDyReferenceIdeal.main (F := Ideal))) ⟨m, fun _ => 0, g⟩ (fun r => (∀ c : Dev Cert.QuantDyReferenceIdeal.nD,
      r.2.mem ((c.tc : Thread Cert.QuantDyReferenceIdeal.nD Cert.QuantDyReferenceIdeal.τ).loc Cert.QuantDyReferenceIdeal.main_arg0) = m ((c.tc : Thread Cert.QuantDyReferenceIdeal.nD Cert.QuantDyReferenceIdeal.τ).loc Cert.QuantDyReferenceIdeal.main_arg0)
      ∧ r.2.mem ((c.tc : Thread Cert.QuantDyReferenceIdeal.nD Cert.QuantDyReferenceIdeal.τ).loc Cert.QuantDyReferenceIdeal.main_arg1) = m ((c.tc : Thread Cert.QuantDyReferenceIdeal.nD Cert.QuantDyReferenceIdeal.τ).loc Cert.QuantDyReferenceIdeal.main_arg1)
      ∧ r.2.mem ((c.tc : Thread Cert.QuantDyReferenceIdeal.nD Cert.QuantDyReferenceIdeal.τ).loc Cert.QuantDyReferenceIdeal.main_arg2) = m ((c.tc : Thread Cert.QuantDyReferenceIdeal.nD Cert.QuantDyReferenceIdeal.τ).loc Cert.QuantDyReferenceIdeal.main_arg2)
      ∧ r.2.mem ((c.tc : Thread Cert.QuantDyReferenceIdeal.nD Cert.QuantDyReferenceIdeal.τ).loc Cert.QuantDyReferenceIdeal.main_arg3) = m ((c.tc : Thread Cert.QuantDyReferenceIdeal.nD Cert.QuantDyReferenceIdeal.τ).loc Cert.QuantDyReferenceIdeal.main_arg3))
      ∧ r.2.sem = fun _ => 0)

def preserves_Matmul_MatmulIdeal : Prop :=
  True

def algebraic_MatmulIdeal_MatmulReferenceIdeal [hMatmulIdeal : Cert.MatmulIdeal.Facts] [hMatmulReferenceIdeal : Cert.MatmulReferenceIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulReferenceIdeal.nD Cert.MatmulReferenceIdeal.τ Cert.MatmulReferenceIdeal.sig) → Buf (Elt Ideal) ℓ) (g' : Dev Cert.MatmulReferenceIdeal.nD → PrngReg), Pre_MatmulIdeal m →
    (∀ c : Dev Cert.MatmulIdeal.nD,
      m' ((c.tc : Thread Cert.MatmulReferenceIdeal.nD Cert.MatmulReferenceIdeal.τ).loc Cert.MatmulReferenceIdeal.main_arg0) = m ((c.tc : Thread Cert.MatmulIdeal.nD Cert.MatmulIdeal.τ).loc Cert.MatmulIdeal.main_arg0)
      ∧ m' ((c.tc : Thread Cert.MatmulReferenceIdeal.nD Cert.MatmulReferenceIdeal.τ).loc Cert.MatmulReferenceIdeal.main_arg1) = m ((c.tc : Thread Cert.MatmulIdeal.nD Cert.MatmulIdeal.τ).loc Cert.MatmulIdeal.main_arg1)
      ∧ m' ((c.tc : Thread Cert.MatmulReferenceIdeal.nD Cert.MatmulReferenceIdeal.τ).loc Cert.MatmulReferenceIdeal.main_arg2) = m ((c.tc : Thread Cert.MatmulIdeal.nD Cert.MatmulIdeal.τ).loc Cert.MatmulIdeal.main_arg2)
      ∧ m' ((c.tc : Thread Cert.MatmulReferenceIdeal.nD Cert.MatmulReferenceIdeal.τ).loc Cert.MatmulReferenceIdeal.main_arg3) = m ((c.tc : Thread Cert.MatmulIdeal.nD Cert.MatmulIdeal.τ).loc Cert.MatmulIdeal.main_arg3)) →
    ∃ (v0 : (c : Dev Cert.MatmulIdeal.nD) → Buf (Elt Ideal) ((c.tc : Thread Cert.MatmulIdeal.nD Cert.MatmulIdeal.τ).loc Cert.MatmulIdeal.main_v11)) (v1 : (c : Dev Cert.MatmulIdeal.nD) → Buf (Elt Ideal) ((c.tc : Thread Cert.MatmulIdeal.nD Cert.MatmulIdeal.τ).loc Cert.MatmulIdeal.main_v4)) (v2 : (c : Dev Cert.MatmulIdeal.nD) → Buf (Elt Ideal) ((c.tc : Thread Cert.MatmulIdeal.nD Cert.MatmulIdeal.τ).loc Cert.MatmulIdeal.main_v9)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v11) = v0 c
          ∧ r.2.mem ((c.tc : Thread Cert.MatmulIdeal.nD Cert.MatmulIdeal.τ).loc Cert.MatmulIdeal.main_v4) = v1 c
          ∧ r.2.mem ((c.tc : Thread Cert.MatmulIdeal.nD Cert.MatmulIdeal.τ).loc Cert.MatmulIdeal.main_v9) = v2 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
          ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
          ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ θ_run (Cert.MatmulReferenceIdeal.defs (F := Ideal)) (onTc (τ := Cert.MatmulReferenceIdeal.τ) (Cert.MatmulReferenceIdeal.main (F := Ideal))) ⟨m', fun _ => 0, g'⟩ (fun r => ∀ c : Dev Cert.MatmulReferenceIdeal.nD,
          r.2.mem ((c.tc : Thread Cert.MatmulReferenceIdeal.nD Cert.MatmulReferenceIdeal.τ).loc Cert.MatmulReferenceIdeal.main_v14) = v0 c
          ∧ r.2.mem ((c.tc : Thread Cert.MatmulReferenceIdeal.nD Cert.MatmulReferenceIdeal.τ).loc Cert.MatmulReferenceIdeal.main_v4) = v1 c
          ∧ r.2.mem ((c.tc : Thread Cert.MatmulReferenceIdeal.nD Cert.MatmulReferenceIdeal.τ).loc Cert.MatmulReferenceIdeal.main_v9) = v2 c
          ∧ r.2.mem ((c.tc : Thread Cert.MatmulReferenceIdeal.nD Cert.MatmulReferenceIdeal.τ).loc Cert.MatmulReferenceIdeal.main_arg0) = m' ((c.tc : Thread Cert.MatmulReferenceIdeal.nD Cert.MatmulReferenceIdeal.τ).loc Cert.MatmulReferenceIdeal.main_arg0)
          ∧ r.2.mem ((c.tc : Thread Cert.MatmulReferenceIdeal.nD Cert.MatmulReferenceIdeal.τ).loc Cert.MatmulReferenceIdeal.main_arg1) = m' ((c.tc : Thread Cert.MatmulReferenceIdeal.nD Cert.MatmulReferenceIdeal.τ).loc Cert.MatmulReferenceIdeal.main_arg1)
          ∧ r.2.mem ((c.tc : Thread Cert.MatmulReferenceIdeal.nD Cert.MatmulReferenceIdeal.τ).loc Cert.MatmulReferenceIdeal.main_arg2) = m' ((c.tc : Thread Cert.MatmulReferenceIdeal.nD Cert.MatmulReferenceIdeal.τ).loc Cert.MatmulReferenceIdeal.main_arg2)
          ∧ r.2.mem ((c.tc : Thread Cert.MatmulReferenceIdeal.nD Cert.MatmulReferenceIdeal.τ).loc Cert.MatmulReferenceIdeal.main_arg3) = m' ((c.tc : Thread Cert.MatmulReferenceIdeal.nD Cert.MatmulReferenceIdeal.τ).loc Cert.MatmulReferenceIdeal.main_arg3))

def preserves_QuantX_QuantXIdeal : Prop :=
  IdealRules.bf16_pair.Statement Cert.QuantXIdeal.S8x2x128 Cert.QuantXIdeal.S8x1x128
  ∧ IdealRules.bf16_pair.Statement Cert.QuantXIdeal.S16x128 Cert.QuantXIdeal.S8x128
  ∧ IdealRules.truncf_extf.Statement Cert.QuantXIdeal.S8x128 .f32 .fp8e4m3
  ∧ IdealRules.bf16_pair.PackStatement Cert.QuantXIdeal.S8x128

def algebraic_QuantXIdeal_QuantXReferenceIdeal_pre_finite [hQuantXIdeal : Cert.QuantXIdeal.Facts] [hQuantXReferenceIdeal : Cert.QuantXReferenceIdeal.Facts] [hPre_finite : Cert.Pre_finite.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXReferenceIdeal.nD Cert.QuantXReferenceIdeal.τ Cert.QuantXReferenceIdeal.sig) → Buf (Elt Ideal) ℓ) (g' : Dev Cert.QuantXReferenceIdeal.nD → PrngReg), Pre_QuantXIdeal_finite m →
    (∀ c : Dev Cert.QuantXIdeal.nD,
      m' ((c.tc : Thread Cert.QuantXReferenceIdeal.nD Cert.QuantXReferenceIdeal.τ).loc Cert.QuantXReferenceIdeal.main_arg0) = m ((c.tc : Thread Cert.QuantXIdeal.nD Cert.QuantXIdeal.τ).loc Cert.QuantXIdeal.main_arg0)
      ∧ m' ((c.tc : Thread Cert.QuantXReferenceIdeal.nD Cert.QuantXReferenceIdeal.τ).loc Cert.QuantXReferenceIdeal.main_arg1) = m ((c.tc : Thread Cert.QuantXIdeal.nD Cert.QuantXIdeal.τ).loc Cert.QuantXIdeal.main_arg1)
      ∧ m' ((c.tc : Thread Cert.QuantXReferenceIdeal.nD Cert.QuantXReferenceIdeal.τ).loc Cert.QuantXReferenceIdeal.main_arg2) = m ((c.tc : Thread Cert.QuantXIdeal.nD Cert.QuantXIdeal.τ).loc Cert.QuantXIdeal.main_arg2)) →
    ∃ (v0 : (c : Dev Cert.QuantXIdeal.nD) → Buf (Elt Ideal) ((c.tc : Thread Cert.QuantXIdeal.nD Cert.QuantXIdeal.τ).loc Cert.QuantXIdeal.main_v2_0)) (v1 : (c : Dev Cert.QuantXIdeal.nD) → Buf (Elt Ideal) ((c.tc : Thread Cert.QuantXIdeal.nD Cert.QuantXIdeal.τ).loc Cert.QuantXIdeal.main_v2_1)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v2_0) = v0 c
          ∧ r.2.mem ((c.tc : Thread Cert.QuantXIdeal.nD Cert.QuantXIdeal.τ).loc Cert.QuantXIdeal.main_v2_1) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
          ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ θ_run (Cert.QuantXReferenceIdeal.defs (F := Ideal)) (onTc (τ := Cert.QuantXReferenceIdeal.τ) (Cert.QuantXReferenceIdeal.main (F := Ideal))) ⟨m', fun _ => 0, g'⟩ (fun r => ∀ c : Dev Cert.QuantXReferenceIdeal.nD,
          r.2.mem ((c.tc : Thread Cert.QuantXReferenceIdeal.nD Cert.QuantXReferenceIdeal.τ).loc Cert.QuantXReferenceIdeal.main_v114) = v0 c
          ∧ r.2.mem ((c.tc : Thread Cert.QuantXReferenceIdeal.nD Cert.QuantXReferenceIdeal.τ).loc Cert.QuantXReferenceIdeal.main_v139) = v1 c
          ∧ r.2.mem ((c.tc : Thread Cert.QuantXReferenceIdeal.nD Cert.QuantXReferenceIdeal.τ).loc Cert.QuantXReferenceIdeal.main_arg0) = m' ((c.tc : Thread Cert.QuantXReferenceIdeal.nD Cert.QuantXReferenceIdeal.τ).loc Cert.QuantXReferenceIdeal.main_arg0)
          ∧ r.2.mem ((c.tc : Thread Cert.QuantXReferenceIdeal.nD Cert.QuantXReferenceIdeal.τ).loc Cert.QuantXReferenceIdeal.main_arg1) = m' ((c.tc : Thread Cert.QuantXReferenceIdeal.nD Cert.QuantXReferenceIdeal.τ).loc Cert.QuantXReferenceIdeal.main_arg1)
          ∧ r.2.mem ((c.tc : Thread Cert.QuantXReferenceIdeal.nD Cert.QuantXReferenceIdeal.τ).loc Cert.QuantXReferenceIdeal.main_arg2) = m' ((c.tc : Thread Cert.QuantXReferenceIdeal.nD Cert.QuantXReferenceIdeal.τ).loc Cert.QuantXReferenceIdeal.main_arg2))

def preserves_QuantDy_QuantDyIdeal : Prop :=
  IdealRules.bf16_pair.Statement Cert.QuantDyIdeal.S8x2x128 Cert.QuantDyIdeal.S8x1x128
  ∧ IdealRules.bf16_pair.Statement Cert.QuantDyIdeal.S16x128 Cert.QuantDyIdeal.S8x128
  ∧ IdealRules.truncf_extf.Statement Cert.QuantDyIdeal.S8x128 .f32 .fp8e4m3
  ∧ IdealRules.bf16_pair.PackStatement Cert.QuantDyIdeal.S8x128

def algebraic_QuantDyIdeal_QuantDyReferenceIdeal_pre_finite_dy [hQuantDyIdeal : Cert.QuantDyIdeal.Facts] [hQuantDyReferenceIdeal : Cert.QuantDyReferenceIdeal.Facts] [hPre_finite_dy : Cert.Pre_finite_dy.Facts] : Prop :=
  ∀ (m : (ℓ : Loc Cert.QuantDyIdeal.nD Cert.QuantDyIdeal.τ Cert.QuantDyIdeal.sig) → Buf (Elt Ideal) ℓ) (g : Dev Cert.QuantDyIdeal.nD → PrngReg)
    (m' : (ℓ : Loc Cert.QuantDyReferenceIdeal.nD Cert.QuantDyReferenceIdeal.τ Cert.QuantDyReferenceIdeal.sig) → Buf (Elt Ideal) ℓ) (g' : Dev Cert.QuantDyReferenceIdeal.nD → PrngReg), Pre_QuantDyIdeal_finite_dy m →
    (∀ c : Dev Cert.QuantDyIdeal.nD,
      m' ((c.tc : Thread Cert.QuantDyReferenceIdeal.nD Cert.QuantDyReferenceIdeal.τ).loc Cert.QuantDyReferenceIdeal.main_arg0) = m ((c.tc : Thread Cert.QuantDyIdeal.nD Cert.QuantDyIdeal.τ).loc Cert.QuantDyIdeal.main_arg0)
      ∧ m' ((c.tc : Thread Cert.QuantDyReferenceIdeal.nD Cert.QuantDyReferenceIdeal.τ).loc Cert.QuantDyReferenceIdeal.main_arg1) = m ((c.tc : Thread Cert.QuantDyIdeal.nD Cert.QuantDyIdeal.τ).loc Cert.QuantDyIdeal.main_arg1)
      ∧ m' ((c.tc : Thread Cert.QuantDyReferenceIdeal.nD Cert.QuantDyReferenceIdeal.τ).loc Cert.QuantDyReferenceIdeal.main_arg2) = m ((c.tc : Thread Cert.QuantDyIdeal.nD Cert.QuantDyIdeal.τ).loc Cert.QuantDyIdeal.main_arg2)
      ∧ m' ((c.tc : Thread Cert.QuantDyReferenceIdeal.nD Cert.QuantDyReferenceIdeal.τ).loc Cert.QuantDyReferenceIdeal.main_arg3) = m ((c.tc : Thread Cert.QuantDyIdeal.nD Cert.QuantDyIdeal.τ).loc Cert.QuantDyIdeal.main_arg3)) →
    ∃ (v0 : (c : Dev Cert.QuantDyIdeal.nD) → Buf (Elt Ideal) ((c.tc : Thread Cert.QuantDyIdeal.nD Cert.QuantDyIdeal.τ).loc Cert.QuantDyIdeal.main_v3_0)) (v1 : (c : Dev Cert.QuantDyIdeal.nD) → Buf (Elt Ideal) ((c.tc : Thread Cert.QuantDyIdeal.nD Cert.QuantDyIdeal.τ).loc Cert.QuantDyIdeal.main_v3_1)),
      θ_run (Cert.QuantDyIdeal.defs (F := Ideal)) (onTc (τ := Cert.QuantDyIdeal.τ) (Cert.QuantDyIdeal.main (F := Ideal))) ⟨m, fun _ => 0, g⟩ (fun r => ∀ c : Dev Cert.QuantDyIdeal.nD,
          r.2.mem ((c.tc : Thread Cert.QuantDyIdeal.nD Cert.QuantDyIdeal.τ).loc Cert.QuantDyIdeal.main_v3_0) = v0 c
          ∧ r.2.mem ((c.tc : Thread Cert.QuantDyIdeal.nD Cert.QuantDyIdeal.τ).loc Cert.QuantDyIdeal.main_v3_1) = v1 c
          ∧ r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
          ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
          ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
          ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ θ_run (Cert.QuantDyReferenceIdeal.defs (F := Ideal)) (onTc (τ := Cert.QuantDyReferenceIdeal.τ) (Cert.QuantDyReferenceIdeal.main (F := Ideal))) ⟨m', fun _ => 0, g'⟩ (fun r => ∀ c : Dev Cert.QuantDyReferenceIdeal.nD,
          r.2.mem ((c.tc : Thread Cert.QuantDyReferenceIdeal.nD Cert.QuantDyReferenceIdeal.τ).loc Cert.QuantDyReferenceIdeal.main_v176) = v0 c
          ∧ r.2.mem ((c.tc : Thread Cert.QuantDyReferenceIdeal.nD Cert.QuantDyReferenceIdeal.τ).loc Cert.QuantDyReferenceIdeal.main_v201) = v1 c
          ∧ r.2.mem ((c.tc : Thread Cert.QuantDyReferenceIdeal.nD Cert.QuantDyReferenceIdeal.τ).loc Cert.QuantDyReferenceIdeal.main_arg0) = m' ((c.tc : Thread Cert.QuantDyReferenceIdeal.nD Cert.QuantDyReferenceIdeal.τ).loc Cert.QuantDyReferenceIdeal.main_arg0)
          ∧ r.2.mem ((c.tc : Thread Cert.QuantDyReferenceIdeal.nD Cert.QuantDyReferenceIdeal.τ).loc Cert.QuantDyReferenceIdeal.main_arg1) = m' ((c.tc : Thread Cert.QuantDyReferenceIdeal.nD Cert.QuantDyReferenceIdeal.τ).loc Cert.QuantDyReferenceIdeal.main_arg1)
          ∧ r.2.mem ((c.tc : Thread Cert.QuantDyReferenceIdeal.nD Cert.QuantDyReferenceIdeal.τ).loc Cert.QuantDyReferenceIdeal.main_arg2) = m' ((c.tc : Thread Cert.QuantDyReferenceIdeal.nD Cert.QuantDyReferenceIdeal.τ).loc Cert.QuantDyReferenceIdeal.main_arg2)
          ∧ r.2.mem ((c.tc : Thread Cert.QuantDyReferenceIdeal.nD Cert.QuantDyReferenceIdeal.τ).loc Cert.QuantDyReferenceIdeal.main_arg3) = m' ((c.tc : Thread Cert.QuantDyReferenceIdeal.nD Cert.QuantDyReferenceIdeal.τ).loc Cert.QuantDyReferenceIdeal.main_arg3))

def Claim : Prop :=
  ∃ (hMatmul : Cert.Matmul.Facts) (hMatmulIdeal : Cert.MatmulIdeal.Facts) (hMatmulReferenceIdeal : Cert.MatmulReferenceIdeal.Facts) (hQuantX : Cert.QuantX.Facts) (hQuantXIdeal : Cert.QuantXIdeal.Facts) (hQuantXReferenceIdeal : Cert.QuantXReferenceIdeal.Facts) (hQuantDy : Cert.QuantDy.Facts) (hQuantDyIdeal : Cert.QuantDyIdeal.Facts) (hQuantDyReferenceIdeal : Cert.QuantDyReferenceIdeal.Facts) (hPre_finite : Cert.Pre_finite.Facts) (hPre_finite_dy : Cert.Pre_finite_dy.Facts),
    quiescent_Matmul (hMatmul := hMatmul)
    ∧ quiescent_MatmulIdeal (hMatmulIdeal := hMatmulIdeal)
    ∧ quiescent_MatmulReferenceIdeal (hMatmulReferenceIdeal := hMatmulReferenceIdeal)
    ∧ quiescent_QuantX (hQuantX := hQuantX)
    ∧ quiescent_QuantXIdeal (hQuantXIdeal := hQuantXIdeal)
    ∧ quiescent_QuantXIdeal_pre_finite (hQuantXIdeal := hQuantXIdeal) (hPre_finite := hPre_finite)
    ∧ quiescent_QuantXReferenceIdeal (hQuantXReferenceIdeal := hQuantXReferenceIdeal)
    ∧ quiescent_QuantXReferenceIdeal_pre_finite (hQuantXReferenceIdeal := hQuantXReferenceIdeal) (hPre_finite := hPre_finite)
    ∧ quiescent_QuantDy (hQuantDy := hQuantDy)
    ∧ quiescent_QuantDyIdeal (hQuantDyIdeal := hQuantDyIdeal)
    ∧ quiescent_QuantDyIdeal_pre_finite_dy (hQuantDyIdeal := hQuantDyIdeal) (hPre_finite_dy := hPre_finite_dy)
    ∧ quiescent_QuantDyReferenceIdeal (hQuantDyReferenceIdeal := hQuantDyReferenceIdeal)
    ∧ quiescent_QuantDyReferenceIdeal_pre_finite_dy (hQuantDyReferenceIdeal := hQuantDyReferenceIdeal) (hPre_finite_dy := hPre_finite_dy)
    ∧ preserves_Matmul_MatmulIdeal
    ∧ algebraic_MatmulIdeal_MatmulReferenceIdeal (hMatmulIdeal := hMatmulIdeal) (hMatmulReferenceIdeal := hMatmulReferenceIdeal)
    ∧ preserves_QuantX_QuantXIdeal
    ∧ algebraic_QuantXIdeal_QuantXReferenceIdeal_pre_finite (hQuantXIdeal := hQuantXIdeal) (hQuantXReferenceIdeal := hQuantXReferenceIdeal) (hPre_finite := hPre_finite)
    ∧ preserves_QuantDy_QuantDyIdeal
    ∧ algebraic_QuantDyIdeal_QuantDyReferenceIdeal_pre_finite_dy (hQuantDyIdeal := hQuantDyIdeal) (hQuantDyReferenceIdeal := hQuantDyReferenceIdeal) (hPre_finite_dy := hPre_finite_dy)
-- ==== Pre_finite.lean ====
abbrev S2x768x7168 : Shape := ⟨3, ![2, 768, 7168]⟩
abbrev S16 : Shape := ⟨1, ![16]⟩
abbrev S1 : Shape := ⟨1, ![1]⟩
abbrev S_ : Shape := ⟨0, ![]⟩

class Facts : Prop where
  bitsLt_bf16_f32 : FTy.bits .bf16 < FTy.bits .f32
  bcast_S_S2x768x7168 : S_.BroadcastsInDim S2x768x7168 (![] : Fin 0 → Fin S2x768x7168.rank)
  bcast_S_S16 : S_.BroadcastsInDim S16 (![] : Fin 0 → Fin S16.rank)

variable [Facts]

def fn {F : FTy → Type} [FloatOps F] (main_arg0 : FVec F S2x768x7168 .bf16) (main_arg1 : FVec F S16 .f32) (main_arg2 : FVec F S1 .f32) : IVec S2x768x7168 1 × IVec S16 1 :=
  let main_v0 : FVec F S2x768x7168 .f32 := (extf .f32 · bitsLt_bf16_f32) main_arg0
  let main_v1 : FVec F S2x768x7168 .f32 := Host.absf main_v0
  let main_cst : FVec F S_ .f32 := constant S_ .f32 0x7F800000#32
  let main_v2 : FVec F S2x768x7168 .f32 := broadcastInDim S2x768x7168 ![] bcast_S_S2x768x7168 main_cst
  let main_v3 : IVec S2x768x7168 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Pre_finite_dy.lean ====
abbrev S2x768x18432 : Shape := ⟨3, ![2, 768, 18432]⟩
abbrev S16 : Shape := ⟨1, ![16]⟩
abbrev S1 : Shape := ⟨1, ![1]⟩
abbrev S_ : Shape := ⟨0, ![]⟩

class Facts : Prop where
  bitsLt_bf16_f32 : FTy.bits .bf16 < FTy.bits .f32
  bcast_S_S2x768x18432 : S_.BroadcastsInDim S2x768x18432 (![] : Fin 0 → Fin S2x768x18432.rank)
  bcast_S_S16 : S_.BroadcastsInDim S16 (![] : Fin 0 → Fin S16.rank)

variable [Facts]

def fn {F : FTy → Type} [FloatOps F] (main_arg0 : FVec F S2x768x18432 .bf16) (main_arg1 : IVec S2x768x18432 8) (main_arg2 : FVec F S16 .f32) (main_arg3 : FVec F S1 .f32) : IVec S2x768x18432 1 × IVec S16 1 :=
  let main_v0 : FVec F S2x768x18432 .f32 := (extf .f32 · bitsLt_bf16_f32) main_arg0
  let main_v1 : FVec F S2x768x18432 .f32 := Host.absf main_v0
  let main_cst : FVec F S_ .f32 := constant S_ .f32 0x7F800000#32
  let main_v2 : FVec F S2x768x18432 .f32 := broadcastInDim S2x768x18432 ![] bcast_S_S2x768x18432 main_cst
  let main_v3 : IVec S2x768x18432 1 := cmpf .olt main_v1 main_v2
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Matmul.lean ====
abbrev S18432x1536 : Shape := ⟨2, ![18432, 1536]⟩
abbrev S1536x7168 : Shape := ⟨2, ![1536, 7168]⟩
abbrev S1 : Shape := ⟨1, ![1]⟩
abbrev S_ : Shape := ⟨0, ![]⟩
abbrev S18432x7168 : Shape := ⟨2, ![18432, 7168]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 26
  | .vmem => 6
  | .smem => 1
  | _ => 0

abbrev bufTy : (tb : Table) → Fin (tcTables nBuf tb) → BufTy
  | .hbm, ⟨0, _⟩ => ⟨S18432x1536, .bf16⟩
  | .hbm, ⟨1, _⟩ => ⟨S1536x7168, .bf16⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S1, .i1⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .i1⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S18432x7168, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .smem, ⟨0, _⟩ => ⟨S1, .f32⟩
  | _, _ => ⟨S18432x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![18, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MatmulReferenceIdeal.lean ====
abbrev S18432x1536 : Shape := ⟨2, ![18432, 1536]⟩
abbrev S1536x7168 : Shape := ⟨2, ![1536, 7168]⟩
abbrev S1 : Shape := ⟨1, ![1]⟩
abbrev S_ : Shape := ⟨0, ![]⟩
abbrev S18432x7168 : Shape := ⟨2, ![18432, 7168]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S18432x1536, .bf16⟩
  | .hbm, ⟨1, _⟩ => ⟨S1536x7168, .bf16⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S1, .i1⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .i1⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S18432x7168, .f32⟩
  | .hbm, ⟨25, _⟩ => ⟨S1, .f32⟩
  | .hbm, ⟨26, _⟩ => ⟨S1x1, .f32⟩
  | .hbm, ⟨27, _⟩ => ⟨S18432x7168, .f32⟩
  | .hbm, ⟨28, _⟩ => ⟨S18432x7168, .f32⟩
  | _, _ => ⟨S18432x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== QuantX.lean ====
abbrev S2x768x7168 : Shape := ⟨3, ![2, 768, 7168]⟩
abbrev S16 : Shape := ⟨1, ![16]⟩
abbrev S1 : Shape := ⟨1, ![1]⟩
abbrev S1536x7168 : Shape := ⟨2, ![1536, 7168]⟩
abbrev S1x1 : Shape := ⟨2, ![1, 1]⟩
abbrev S7168x768 : Shape := ⟨2, ![7168, 768]⟩
abbrev S7168x96 : Shape := ⟨2, ![7168, 96]⟩
abbrev S1536x128 : Shape := ⟨2, ![1536, 128]⟩
abbrev S128x768 : Shape := ⟨2, ![128, 768]⟩
abbrev S128x96 : Shape := ⟨2, ![128, 96]⟩
abbrev S768x128 : Shape := ⟨2, ![768, 128]⟩
abbrev S128x128 : Shape := ⟨2, ![128, 128]⟩
abbrev S8x128 : Shape := ⟨2, ![8, 128]⟩
abbrev S768x2x128 : Shape := ⟨3, ![768, 2, 128]⟩
abbrev S8x2x128 : Shape := ⟨3, ![8, 2, 128]⟩
abbrev S8x1x128 : Shape := ⟨3, ![8, 1, 128]⟩
abbrev S16x128 : Shape := ⟨2, ![16, 128]⟩

abbrev nBuf : Space → Nat
  | .hbm => 8
  | .vmem => 11
  | .smem => 1
  | _ => 0

abbrev bufTy : (tb : Table) → Fin (tcTables nBuf tb) → BufTy
  | .hbm, ⟨0, _⟩ => ⟨S2x768x7168, .bf16⟩
  | .hbm, ⟨1, _⟩ => ⟨S16, .f32⟩
  | .hbm, ⟨2, _⟩ => ⟨S1, .f32⟩
  | .hbm, ⟨3, _⟩ => ⟨S1536x7168, .bf16⟩
  | .hbm, ⟨4, _⟩ => ⟨S1x1, .f32⟩
  | .hbm, ⟨5, _⟩ => ⟨S7168x768, .i8⟩
  | .hbm, ⟨6, _⟩ => ⟨S7168x96, .fp8e4m3⟩
  | .hbm, ⟨7, _⟩ => ⟨S1536x7168, .bf16⟩
  | .local _ .vmem, ⟨0, _⟩ => ⟨S1536x128, .bf16⟩
  | .local _ .vmem, ⟨1, _⟩ => ⟨S1536x128, .bf16⟩
  | .local _ .vmem, ⟨2, _⟩ => ⟨S1x1, .f32⟩
  | .local _ .vmem, ⟨3, _⟩ => ⟨S128x768, .i8⟩
  | .local _ .vmem, ⟨4, _⟩ => ⟨S128x768, .i8⟩
  | .local _ .vmem, ⟨5, _⟩ => ⟨S128x96, .fp8e4m3⟩
  | .local _ .vmem, ⟨6, _⟩ => ⟨S128x96, .fp8e4m3⟩
  | .local _ .vmem, ⟨7, _⟩ => ⟨S1536x128, .bf16⟩
  | .local _ .vmem, ⟨8, _⟩ => ⟨S1536x128, .bf16⟩
  | .local _ .vmem, ⟨9, _⟩ => ⟨S768x128, .i32⟩
  | .local _ .vmem, ⟨10, _⟩ => ⟨S128x128, .f32⟩
  | .local _ .smem, ⟨0, _⟩ => ⟨S16, .f32⟩
  | _, _ => ⟨S2x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x768 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x96 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantXIdeal.lean ====
variable {F : FTy → Type} [FloatOps F]
-- ==== QuantXReferenceIdeal.lean ====
abbrev S2x768x7168 : Shape := ⟨3, ![2, 768, 7168]⟩
abbrev S16 : Shape := ⟨1, ![16]⟩
abbrev S1 : Shape := ⟨1, ![1]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S96x16x7168 : Shape := ⟨3, ![96, 16, 7168]⟩
abbrev S96x7168x16 : Shape := ⟨3, ![96, 7168, 16]⟩
abbrev S7168x96x16 : Shape := ⟨3, ![7168, 96, 16]⟩
abbrev S7168x96 : Shape := ⟨2, ![7168, 96]⟩
abbrev S1x1 : Shape := ⟨2, ![1, 1]⟩
abbrev S7168x96x1 : Shape := ⟨3, ![7168, 96, 1]⟩
abbrev S7168x768x2 : Shape := ⟨3, ![7168, 768, 2]⟩
abbrev S7168x768x1 : Shape := ⟨3, ![7168, 768, 1]⟩
abbrev S7168x768 : Shape := ⟨2, ![7168, 768]⟩

abbrev nBuf : Space → Nat
  | .hbm => 230
  | .vmem => 0
  | .smem => 0
  | _ => 0

abbrev hbmTy0_0 (i : Nat) : BufTy := match i % 128 with
  | 0 => ⟨S2x768x7168, .bf16⟩
  | 1 => ⟨S16, .f32⟩
  | 2 => ⟨S1, .f32⟩
  | 3 => ⟨S16, .i32⟩
  | 4 => ⟨S16x1, .i32⟩
  | 5 => ⟨S1x16, .i32⟩
  | 6 => ⟨S16x16, .i32⟩
  | 7 => ⟨S16x16, .i32⟩
  | 8 => ⟨S16x16, .i32⟩
  | 9 => ⟨S_, .i32⟩
  | 10 => ⟨S16x16, .i32⟩
  | 11 => ⟨S_, .i32⟩
  | 12 => ⟨S16x16, .i32⟩
  | 13 => ⟨S16x16, .i32⟩
  | 14 => ⟨S_, .i32⟩
  | 15 => ⟨S16x16, .i32⟩
  | 16 => ⟨S16x16, .i32⟩
  | 17 => ⟨S16x16, .i32⟩
  | 18 => ⟨S_, .i32⟩
  | 19 => ⟨S16x16, .i32⟩
  | 20 => ⟨S16x16, .i32⟩
  | 21 => ⟨S_, .i32⟩
  | 22 => ⟨S16x16, .i32⟩
  | 23 => ⟨S16x16, .i32⟩
  | 24 => ⟨S16x16, .i32⟩
  | 25 => ⟨S_, .i32⟩
  | 26 => ⟨S16x16, .i32⟩
  | 27 => ⟨S16x16, .i32⟩
  | 28 => ⟨S_, .i32⟩
  | 29 => ⟨S16x16, .i32⟩
  | 30 => ⟨S16x16, .i32⟩
  | 31 => ⟨S16x16, .i32⟩
  | 32 => ⟨S_, .i32⟩
  | 33 => ⟨S16x16, .i32⟩
  | 34 => ⟨S16x16, .i32⟩
  | 35 => ⟨S_, .i32⟩
  | 36 => ⟨S16x16, .i32⟩
  | 37 => ⟨S16x16, .i32⟩
  | 38 => ⟨S16x16, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S16x16, .i32⟩
  | 46 => ⟨S16x16, .i32⟩
  | 47 => ⟨S_, .i32⟩
  | 48 => ⟨S16x16, .i32⟩
  | 49 => ⟨S16x16, .i1⟩
  | 50 => ⟨S_, .i32⟩
  | 51 => ⟨S16x16, .i32⟩
  | 52 => ⟨S16x16, .i1⟩
  | 53 => ⟨S_, .i32⟩
  | 54 => ⟨S_, .i1⟩
  | 55 => ⟨S16x16, .i1⟩
  | 56 => ⟨S16x16, .i1⟩
  | 57 => ⟨S16x16, .i1⟩
  | 58 => ⟨S16x16, .i32⟩
  | 59 => ⟨S16x16, .i32⟩
  | 60 => ⟨S16x16, .i32⟩
  | 61 => ⟨S_, .i32⟩
  | 62 => ⟨S16x16, .i32⟩
  | 63 => ⟨S16x16, .i1⟩
  | 64 => ⟨S_, .f32⟩
  | 65 => ⟨S_, .f32⟩
  | 66 => ⟨S16x16, .f32⟩
  | 67 => ⟨S16x16, .f32⟩
  | 68 => ⟨S16x16, .f32⟩
  | 69 => ⟨S1x16, .f32⟩
  | 70 => ⟨S16x16, .f32⟩
  | 71 => ⟨S16x16, .f32⟩
  | 72 => ⟨S16x16, .f32⟩
  | 73 => ⟨S_, .f32⟩
  | 74 => ⟨S16x16, .f32⟩
  | 75 => ⟨S16x16, .f32⟩
  | 76 => ⟨S2x768x7168, .f32⟩
  | 77 => ⟨S96x16x7168, .f32⟩
  | 78 => ⟨S96x7168x16, .f32⟩
  | 79 => ⟨S7168x96x16, .f32⟩
  | 80 => ⟨S_, .f32⟩
  | 81 => ⟨S1, .f32⟩
  | 82 => ⟨S1, .i1⟩
  | 83 => ⟨S_, .f32⟩
  | 84 => ⟨S1, .f32⟩
  | 85 => ⟨S1, .f32⟩
  | 86 => ⟨S_, .f32⟩
  | 87 => ⟨S_, .f32⟩
  | 88 => ⟨S1, .f32⟩
  | 89 => ⟨S1, .f32⟩
  | 90 => ⟨S7168x96x16, .f32⟩
  | 91 => ⟨S_, .f32⟩
  | 92 => ⟨S7168x96, .f32⟩
  | 93 => ⟨S_, .f32⟩
  | 94 => ⟨S1, .f32⟩
  | 95 => ⟨S1, .f32⟩
  | 96 => ⟨S1x1, .f32⟩
  | 97 => ⟨S7168x96, .f32⟩
  | 98 => ⟨S7168x96, .f32⟩
  | 99 => ⟨S_, .f32⟩
  | 100 => ⟨S7168x96, .f32⟩
  | 101 => ⟨S7168x96, .f32⟩
  | 102 => ⟨S1x1, .f32⟩
  | 103 => ⟨S7168x96, .f32⟩
  | 104 => ⟨S7168x96, .f32⟩
  | 105 => ⟨S7168x96x1, .f32⟩
  | 106 => ⟨S_, .f32⟩
  | 107 => ⟨S7168x96x1, .f32⟩
  | 108 => ⟨S7168x96x1, .i1⟩
  | 109 => ⟨S_, .f32⟩
  | 110 => ⟨S7168x96x1, .f32⟩
  | 111 => ⟨S7168x96x1, .i1⟩
  | 112 => ⟨S_, .f32⟩
  | 113 => ⟨S_, .f32⟩
  | 114 => ⟨S7168x96x1, .f32⟩
  | 115 => ⟨S7168x96x1, .f32⟩
  | 116 => ⟨S7168x96x16, .f32⟩
  | 117 => ⟨S7168x96x16, .f32⟩
  | 118 => ⟨S_, .f32⟩
  | 119 => ⟨S_, .f32⟩
  | 120 => ⟨S7168x96x16, .i1⟩
  | 121 => ⟨S7168x96x16, .f32⟩
  | 122 => ⟨S7168x96x16, .f32⟩
  | 123 => ⟨S7168x96x16, .f32⟩
  | 124 => ⟨S_, .f32⟩
  | 125 => ⟨S7168x96x16, .f32⟩
  | 126 => ⟨S7168x96x16, .f32⟩
  | 127 => ⟨S_, .f32⟩
  | _ => ⟨S2x768x7168, .bf16⟩

abbrev hbmTy0_1 (i : Nat) : BufTy := match i % 128 with
  | 0 => ⟨S7168x96x16, .f32⟩
  | 1 => ⟨S7168x96x16, .i1⟩
  | 2 => ⟨S7168x96x16, .i32⟩
  | 3 => ⟨S_, .f32⟩
  | 4 => ⟨S7168x96x16, .f32⟩
  | 5 => ⟨S7168x96x16, .i1⟩
  | 6 => ⟨S7168x96x16, .i32⟩
  | 7 => ⟨S7168x96x16, .i32⟩
  | 8 => ⟨S_, .f32⟩
  | 9 => ⟨S7168x96x16, .f32⟩
  | 10 => ⟨S7168x96x16, .i1⟩
  | 11 => ⟨S7168x96x16, .i32⟩
  | 12 => ⟨S7168x96x16, .i32⟩
  | 13 => ⟨S_, .f32⟩
  | 14 => ⟨S7168x96x16, .f32⟩
  | 15 => ⟨S7168x96x16, .i1⟩
  | 16 => ⟨S7168x96x16, .i32⟩
  | 17 => ⟨S7168x96x16, .i32⟩
  | 18 => ⟨S_, .f32⟩
  | 19 => ⟨S7168x96x16, .f32⟩
  | 20 => ⟨S7168x96x16, .i1⟩
  | 21 => ⟨S7168x96x16, .i32⟩
  | 22 => ⟨S7168x96x16, .i32⟩
  | 23 => ⟨S_, .f32⟩
  | 24 => ⟨S7168x96x16, .f32⟩
  | 25 => ⟨S7168x96x16, .i1⟩
  | 26 => ⟨S7168x96x16, .i32⟩
  | 27 => ⟨S7168x96x16, .i32⟩
  | 28 => ⟨S_, .f32⟩
  | 29 => ⟨S7168x96x16, .f32⟩
  | 30 => ⟨S7168x96x16, .i1⟩
  | 31 => ⟨S7168x96x16, .i32⟩
  | 32 => ⟨S7168x96x16, .i32⟩
  | 33 => ⟨S_, .f32⟩
  | 34 => ⟨S7168x96x16, .f32⟩
  | 35 => ⟨S7168x96x16, .i1⟩
  | 36 => ⟨S_, .i32⟩
  | 37 => ⟨S7168x96x16, .i32⟩
  | 38 => ⟨S7168x96x16, .i1⟩
  | 39 => ⟨S7168x96x16, .i1⟩
  | 40 => ⟨S7168x96x16, .i32⟩
  | 41 => ⟨S_, .i32⟩
  | 42 => ⟨S7168x96x16, .i32⟩
  | 43 => ⟨S7168x96x16, .i32⟩
  | 44 => ⟨S7168x96x16, .i32⟩
  | 45 => ⟨S7168x768x2, .i32⟩
  | 46 => ⟨S7168x768x1, .i32⟩
  | 47 => ⟨S7168x768, .i32⟩
  | 48 => ⟨S7168x768x1, .i32⟩
  | 49 => ⟨S7168x768, .i32⟩
  | 50 => ⟨S_, .i32⟩
  | 51 => ⟨S7168x768, .i32⟩
  | 52 => ⟨S7168x768, .i32⟩
  | 53 => ⟨S7168x768, .i32⟩
  | 54 => ⟨S7168x768, .i8⟩
  | 55 => ⟨S_, .i32⟩
  | 56 => ⟨S7168x96x16, .i32⟩
  | 57 => ⟨S7168x96x16, .i32⟩
  | 58 => ⟨S_, .i32⟩
  | 59 => ⟨S7168x96x16, .i32⟩
  | 60 => ⟨S7168x96x16, .i1⟩
  | 61 => ⟨S_, .i32⟩
  | 62 => ⟨S7168x96x16, .i32⟩
  | 63 => ⟨S7168x96x16, .i32⟩
  | 64 => ⟨S_, .i32⟩
  | 65 => ⟨S7168x96x16, .i32⟩
  | 66 => ⟨S7168x96x16, .i1⟩
  | 67 => ⟨S_, .i32⟩
  | 68 => ⟨S7168x96x16, .i32⟩
  | 69 => ⟨S7168x96x16, .i32⟩
  | 70 => ⟨S_, .i32⟩
  | 71 => ⟨S7168x96x16, .i32⟩
  | 72 => ⟨S7168x96x16, .i1⟩
  | 73 => ⟨S_, .f32⟩
  | 74 => ⟨S_, .f32⟩
  | 75 => ⟨S7168x96x16, .f32⟩
  | 76 => ⟨S7168x96x16, .f32⟩
  | 77 => ⟨S7168x96x16, .f32⟩
  | 78 => ⟨S_, .f32⟩
  | 79 => ⟨S_, .f32⟩
  | 80 => ⟨S7168x96x16, .f32⟩
  | 81 => ⟨S7168x96x16, .f32⟩
  | 82 => ⟨S7168x96x16, .f32⟩
  | 83 => ⟨S7168x96x16, .f32⟩
  | 84 => ⟨S_, .f32⟩
  | 85 => ⟨S_, .f32⟩
  | 86 => ⟨S7168x96x16, .f32⟩
  | 87 => ⟨S7168x96x16, .f32⟩
  | 88 => ⟨S7168x96x16, .f32⟩
  | 89 => ⟨S_, .f32⟩
  | 90 => ⟨S_, .f32⟩
  | 91 => ⟨S7168x96x16, .f32⟩
  | 92 => ⟨S7168x96x16, .f32⟩
  | 93 => ⟨S7168x96x16, .f32⟩
  | 94 => ⟨S7168x96x16, .f32⟩
  | 95 => ⟨S7168x96x16, .f32⟩
  | 96 => ⟨S7168x96x16, .f32⟩
  | 97 => ⟨S7168x96x16, .f32⟩
  | 98 => ⟨S7168x96x1, .f32⟩
  | 99 => ⟨S7168x96x16, .f32⟩
  | 100 => ⟨S7168x96x16, .f32⟩
  | 101 => ⟨S7168x96, .fp8e4m3⟩
  | _ => ⟨S2x768x7168, .bf16⟩

abbrev hbmTy (i : Nat) : BufTy := match i / 128 with
  | 0 => hbmTy0_0 i
  | 1 => hbmTy0_1 i
  | _ => ⟨S2x768x7168, .bf16⟩

abbrev bufTy : (tb : Table) → Fin (tcTables nBuf tb) → BufTy
  | .hbm, ⟨i, _⟩ => hbmTy i
  | _, _ => ⟨S2x768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_v5 : Ref sig .tc := ⟨.hbm, 48, rfl⟩
abbrev main_call0_v6 : Ref sig .tc := ⟨.hbm, 49, rfl⟩
abbrev main_call0_c_2 : Ref sig .tc := ⟨.hbm, 50, rfl⟩
abbrev main_call0_v7 : Ref sig .tc := ⟨.hbm, 51, rfl⟩
abbrev main_call0_v8 : Ref sig .tc := ⟨.hbm, 52, rfl⟩
abbrev main_call0_c_3 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_v27 : Ref sig .tc := ⟨.hbm, 60, rfl⟩
abbrev main_c_9 : Ref sig .tc := ⟨.hbm, 61, rfl⟩
abbrev main_v28 : Ref sig .tc := ⟨.hbm, 62, rfl⟩
abbrev main_v29 : Ref sig .tc := ⟨.hbm, 63, rfl⟩
abbrev main_cst : Ref sig .tc := ⟨.hbm, 64, rfl⟩
abbrev main_cst_10 : Ref sig .tc := ⟨.hbm, 65, rfl⟩
abbrev main_call1_v0 : Ref sig .tc := ⟨.hbm, 66, rfl⟩
abbrev main_call1_v1 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_11 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_12 : Ref sig .tc := ⟨.hbm, 80, rfl⟩
abbrev main_v41 : Ref sig .tc := ⟨.hbm, 81, rfl⟩
abbrev main_v42 : Ref sig .tc := ⟨.hbm, 82, rfl⟩
abbrev main_cst_13 : Ref sig .tc := ⟨.hbm, 83, rfl⟩
abbrev main_v43 : Ref sig .tc := ⟨.hbm, 84, rfl⟩
abbrev main_v44 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v45 : Ref sig .tc := ⟨.hbm, 89, rfl⟩
abbrev main_v46 : Ref sig .tc := ⟨.hbm, 90, rfl⟩
abbrev main_cst_15 : Ref sig .tc := ⟨.hbm, 91, rfl⟩
abbrev main_v47 : Ref sig .tc := ⟨.hbm, 92, rfl⟩
abbrev main_cst_16 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_17 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_18 : Ref sig .tc := ⟨.hbm, 106, rfl⟩
abbrev main_v59 : Ref sig .tc := ⟨.hbm, 107, rfl⟩
abbrev main_v60 : Ref sig .tc := ⟨.hbm, 108, rfl⟩
abbrev main_cst_19 : Ref sig .tc := ⟨.hbm, 109, rfl⟩
abbrev main_v61 : Ref sig .tc := ⟨.hbm, 110, rfl⟩
abbrev main_v62 : Ref sig .tc := ⟨.hbm, 111, rfl⟩
abbrev main_cst_20 : Ref sig .tc := ⟨.hbm, 112, rfl⟩
abbrev main_call3_v0 : Ref sig .tc := ⟨.hbm, 113, rfl⟩
abbrev main_call3_v1 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_21 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v66 : Ref sig .tc := ⟨.hbm, 122, rfl⟩
abbrev main_v67 : Ref sig .tc := ⟨.hbm, 123, rfl⟩
abbrev main_cst_22 : Ref sig .tc := ⟨.hbm, 124, rfl⟩
abbrev main_v68 : Ref sig .tc := ⟨.hbm, 125, rfl⟩
abbrev main_v69 : Ref sig .tc := ⟨.hbm, 126, rfl⟩
abbrev main_cst_23 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_24 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_cst_25 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_26 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_27 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_28 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_29 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_30 : Ref sig .tc := ⟨.hbm, 161, rfl⟩
abbrev main_v97 : Ref sig .tc := ⟨.hbm, 162, rfl⟩
abbrev main_v98 : Ref sig .tc := ⟨.hbm, 163, rfl⟩
abbrev main_c_31 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_c_32 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_c_33 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_c_34 : Ref sig .tc := ⟨.hbm, 183, rfl⟩
abbrev main_v115 : Ref sig .tc := ⟨.hbm, 184, rfl⟩
abbrev main_v116 : Ref sig .tc := ⟨.hbm, 185, rfl⟩
abbrev main_c_35 : Ref sig .tc := ⟨.hbm, 186, rfl⟩
abbrev main_v117 : Ref sig .tc := ⟨.hbm, 187, rfl⟩
abbrev main_v118 : Ref sig .tc := ⟨.hbm, 188, rfl⟩
abbrev main_c_36 : Ref sig .tc := ⟨.hbm, 189, rfl⟩
abbrev main_v119 : Ref sig .tc := ⟨.hbm, 190, rfl⟩
abbrev main_v120 : Ref sig .tc := ⟨.hbm, 191, rfl⟩
abbrev main_c_37 : Ref sig .tc := ⟨.hbm, 192, rfl⟩
abbrev main_v121 : Ref sig .tc := ⟨.hbm, 193, rfl⟩
abbrev main_v122 : Ref sig .tc := ⟨.hbm, 194, rfl⟩
abbrev main_c_38 : Ref sig .tc := ⟨.hbm, 195, rfl⟩
abbrev main_v123 : Ref sig .tc := ⟨.hbm, 196, rfl⟩
abbrev main_v124 : Ref sig .tc := ⟨.hbm, 197, rfl⟩
abbrev main_c_39 : Ref sig .tc := ⟨.hbm, 198, rfl⟩
abbrev main_v125 : Ref sig .tc := ⟨.hbm, 199, rfl⟩
abbrev main_v126 : Ref sig .tc := ⟨.hbm, 200, rfl⟩
abbrev main_cst_40 : Ref sig .tc := ⟨.hbm, 201, rfl⟩
abbrev main_cst_41 : Ref sig .tc := ⟨.hbm, 202, rfl⟩
abbrev main_call5_v0 : Ref sig .tc := ⟨.hbm, 203, rfl⟩
abbrev main_call5_v1 : Ref sig .tc := ⟨.hbm, 204, rfl⟩
abbrev main_v127 : Ref sig .tc := ⟨.hbm, 205, rfl⟩
abbrev main_cst_42 : Ref sig .tc := ⟨.hbm, 206, rfl⟩
abbrev main_cst_43 : Ref sig .tc := ⟨.hbm, 207, rfl⟩
abbrev main_call6_v0 : Ref sig .tc := ⟨.hbm, 208, rfl⟩
abbrev main_call6_v1 : Ref sig .tc := ⟨.hbm, 209, rfl⟩
abbrev main_v128 : Ref sig .tc := ⟨.hbm, 210, rfl⟩
abbrev main_v129 : Ref sig .tc := ⟨.hbm, 211, rfl⟩
abbrev main_cst_44 : Ref sig .tc := ⟨.hbm, 212, rfl⟩
abbrev main_cst_45 : Ref sig .tc := ⟨.hbm, 213, rfl⟩
abbrev main_call8_v0 : Ref sig .tc := ⟨.hbm, 214, rfl⟩
abbrev main_call8_v1 : Ref sig .tc := ⟨.hbm, 215, rfl⟩
abbrev main_v130 : Ref sig .tc := ⟨.hbm, 216, rfl⟩
abbrev main_cst_46 : Ref sig .tc := ⟨.hbm, 217, rfl⟩
abbrev main_cst_47 : Ref sig .tc := ⟨.hbm, 218, rfl⟩
abbrev main_call9_v0 : Ref sig .tc := ⟨.hbm, 219, rfl⟩
abbrev main_call9_v1 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩

abbrev nD : Nat := 1
abbrev τ : Topo := Topo.v7x

variable {F : FTy → Type} [FloatOps F]
-- ==== QuantDy.lean ====
abbrev S2x768x18432 : Shape := ⟨3, ![2, 768, 18432]⟩
abbrev S16 : Shape := ⟨1, ![16]⟩
abbrev S1 : Shape := ⟨1, ![1]⟩
abbrev S1536x18432 : Shape := ⟨2, ![1536, 18432]⟩
abbrev S1x1 : Shape := ⟨2, ![1, 1]⟩
abbrev S18432x768 : Shape := ⟨2, ![18432, 768]⟩
abbrev S18432x96 : Shape := ⟨2, ![18432, 96]⟩
abbrev S18432x1536 : Shape := ⟨2, ![18432, 1536]⟩
abbrev S1536x128 : Shape := ⟨2, ![1536, 128]⟩
abbrev S128x768 : Shape := ⟨2, ![128, 768]⟩
abbrev S128x96 : Shape := ⟨2, ![128, 96]⟩
abbrev S128x1536 : Shape := ⟨2, ![128, 1536]⟩
abbrev S768x128 : Shape := ⟨2, ![768, 128]⟩
abbrev S128x128 : Shape := ⟨2, ![128, 128]⟩
abbrev S384x128 : Shape := ⟨2, ![384, 128]⟩
abbrev S8x128 : Shape := ⟨2, ![8, 128]⟩
abbrev S768x2x128 : Shape := ⟨3, ![768, 2, 128]⟩
abbrev S8x2x128 : Shape := ⟨3, ![8, 2, 128]⟩
abbrev S8x1x128 : Shape := ⟨3, ![8, 1, 128]⟩
abbrev S32x128 : Shape := ⟨2, ![32, 128]⟩
abbrev S8x4x128 : Shape := ⟨3, ![8, 4, 128]⟩
abbrev S16x128 : Shape := ⟨2, ![16, 128]⟩

abbrev nBuf : Space → Nat
  | .hbm => 10
  | .vmem => 13
  | .smem => 1
  | _ => 0

abbrev bufTy : (tb : Table) → Fin (tcTables nBuf tb) → BufTy
  | .hbm, ⟨0, _⟩ => ⟨S2x768x18432, .bf16⟩
  | .hbm, ⟨1, _⟩ => ⟨S2x768x18432, .i8⟩
  | .hbm, ⟨2, _⟩ => ⟨S16, .f32⟩
  | .hbm, ⟨3, _⟩ => ⟨S1, .f32⟩
  | .hbm, ⟨4, _⟩ => ⟨S1536x18432, .bf16⟩
  | .hbm, ⟨5, _⟩ => ⟨S1536x18432, .i8⟩
  | .hbm, ⟨6, _⟩ => ⟨S1x1, .f32⟩
  | .hbm, ⟨7, _⟩ => ⟨S18432x768, .i8⟩
  | .hbm, ⟨8, _⟩ => ⟨S18432x96, .fp8e4m3⟩
  | .hbm, ⟨9, _⟩ => ⟨S18432x1536, .bf16⟩
  | .local _ .vmem, ⟨0, _⟩ => ⟨S1536x128, .bf16⟩
  | .local _ .vmem, ⟨1, _⟩ => ⟨S1536x128, .bf16⟩
  | .local _ .vmem, ⟨2, _⟩ => ⟨S1536x128, .i8⟩
  | .local _ .vmem, ⟨3, _⟩ => ⟨S1536x128, .i8⟩
  | .local _ .vmem, ⟨4, _⟩ => ⟨S1x1, .f32⟩
  | .local _ .vmem, ⟨5, _⟩ => ⟨S128x768, .i8⟩
  | .local _ .vmem, ⟨6, _⟩ => ⟨S128x768, .i8⟩
  | .local _ .vmem, ⟨7, _⟩ => ⟨S128x96, .fp8e4m3⟩
  | .local _ .vmem, ⟨8, _⟩ => ⟨S128x96, .fp8e4m3⟩
  | .local _ .vmem, ⟨9, _⟩ => ⟨S128x1536, .bf16⟩
  | .local _ .vmem, ⟨10, _⟩ => ⟨S128x1536, .bf16⟩
  | .local _ .vmem, ⟨11, _⟩ => ⟨S768x128, .i32⟩
  | .local _ .vmem, ⟨12, _⟩ => ⟨S128x128, .f32⟩
  | .local _ .smem, ⟨0, _⟩ => ⟨S16, .f32⟩
  | _, _ => ⟨S2x768x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x96 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantDyIdeal.lean ====
variable {F : FTy → Type} [FloatOps F]
-- ==== QuantDyReferenceIdeal.lean ====
abbrev S2x768x18432 : Shape := ⟨3, ![2, 768, 18432]⟩
abbrev S16 : Shape := ⟨1, ![16]⟩
abbrev S1 : Shape := ⟨1, ![1]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S96x16x18432 : Shape := ⟨3, ![96, 16, 18432]⟩
abbrev S96x18432x16 : Shape := ⟨3, ![96, 18432, 16]⟩
abbrev S18432x96x16 : Shape := ⟨3, ![18432, 96, 16]⟩
abbrev S18432x96 : Shape := ⟨2, ![18432, 96]⟩
abbrev S1x1 : Shape := ⟨2, ![1, 1]⟩
abbrev S18432x96x1 : Shape := ⟨3, ![18432, 96, 1]⟩
abbrev S18432x768x2 : Shape := ⟨3, ![18432, 768, 2]⟩
abbrev S18432x768x1 : Shape := ⟨3, ![18432, 768, 1]⟩
abbrev S18432x768 : Shape := ⟨2, ![18432, 768]⟩

abbrev nBuf : Space → Nat
  | .hbm => 349
  | .vmem => 0
  | .smem => 0
  | _ => 0

abbrev hbmTy0_0 (i : Nat) : BufTy := match i % 128 with
  | 0 => ⟨S2x768x18432, .bf16⟩
  | 1 => ⟨S2x768x18432, .i8⟩
  | 2 => ⟨S16, .f32⟩
  | 3 => ⟨S1, .f32⟩
  | 4 => ⟨S16, .i32⟩
  | 5 => ⟨S16x1, .i32⟩
  | 6 => ⟨S1x16, .i32⟩
  | 7 => ⟨S16x16, .i32⟩
  | 8 => ⟨S16x16, .i32⟩
  | 9 => ⟨S16x16, .i32⟩
  | 10 => ⟨S_, .i32⟩
  | 11 => ⟨S16x16, .i32⟩
  | 12 => ⟨S_, .i32⟩
  | 13 => ⟨S16x16, .i32⟩
  | 14 => ⟨S16x16, .i32⟩
  | 15 => ⟨S_, .i32⟩
  | 16 => ⟨S16x16, .i32⟩
  | 17 => ⟨S16x16, .i32⟩
  | 18 => ⟨S16x16, .i32⟩
  | 19 => ⟨S_, .i32⟩
  | 20 => ⟨S16x16, .i32⟩
  | 21 => ⟨S16x16, .i32⟩
  | 22 => ⟨S_, .i32⟩
  | 23 => ⟨S16x16, .i32⟩
  | 24 => ⟨S16x16, .i32⟩
  | 25 => ⟨S16x16, .i32⟩
  | 26 => ⟨S_, .i32⟩
  | 27 => ⟨S16x16, .i32⟩
  | 28 => ⟨S16x16, .i32⟩
  | 29 => ⟨S_, .i32⟩
  | 30 => ⟨S16x16, .i32⟩
  | 31 => ⟨S16x16, .i32⟩
  | 32 => ⟨S16x16, .i32⟩
  | 33 => ⟨S_, .i32⟩
  | 34 => ⟨S16x16, .i32⟩
  | 35 => ⟨S16x16, .i32⟩
  | 36 => ⟨S_, .i32⟩
  | 37 => ⟨S16x16, .i32⟩
  | 38 => ⟨S16x16, .i32⟩
  | 39 => ⟨S16x16, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S16x16, .i32⟩
  | 47 => ⟨S16x16, .i32⟩
  | 48 => ⟨S_, .i32⟩
  | 49 => ⟨S16x16, .i32⟩
  | 50 => ⟨S16x16, .i1⟩
  | 51 => ⟨S_, .i32⟩
  | 52 => ⟨S16x16, .i32⟩
  | 53 => ⟨S16x16, .i1⟩
  | 54 => ⟨S_, .i32⟩
  | 55 => ⟨S_, .i1⟩
  | 56 => ⟨S16x16, .i1⟩
  | 57 => ⟨S16x16, .i1⟩
  | 58 => ⟨S16x16, .i1⟩
  | 59 => ⟨S16x16, .i32⟩
  | 60 => ⟨S16x16, .i32⟩
  | 61 => ⟨S16x16, .i32⟩
  | 62 => ⟨S_, .i32⟩
  | 63 => ⟨S16x16, .i32⟩
  | 64 => ⟨S16x16, .i1⟩
  | 65 => ⟨S_, .f32⟩
  | 66 => ⟨S_, .f32⟩
  | 67 => ⟨S16x16, .f32⟩
  | 68 => ⟨S16x16, .f32⟩
  | 69 => ⟨S16x16, .f32⟩
  | 70 => ⟨S1x16, .f32⟩
  | 71 => ⟨S16x16, .f32⟩
  | 72 => ⟨S16x16, .f32⟩
  | 73 => ⟨S16x16, .f32⟩
  | 74 => ⟨S_, .f32⟩
  | 75 => ⟨S16x16, .f32⟩
  | 76 => ⟨S16x16, .f32⟩
  | 77 => ⟨S2x768x18432, .f32⟩
  | 78 => ⟨S96x16x18432, .f32⟩
  | 79 => ⟨S96x18432x16, .f32⟩
  | 80 => ⟨S18432x96x16, .f32⟩
  | 81 => ⟨S96x16x18432, .i8⟩
  | 82 => ⟨S18432x96x16, .i8⟩
  | 83 => ⟨S_, .f32⟩
  | 84 => ⟨S1, .f32⟩
  | 85 => ⟨S1, .i1⟩
  | 86 => ⟨S_, .f32⟩
  | 87 => ⟨S1, .f32⟩
  | 88 => ⟨S1, .f32⟩
  | 89 => ⟨S_, .f32⟩
  | 90 => ⟨S_, .f32⟩
  | 91 => ⟨S1, .f32⟩
  | 92 => ⟨S1, .f32⟩
  | 93 => ⟨S18432x96x16, .f32⟩
  | 94 => ⟨S_, .f32⟩
  | 95 => ⟨S18432x96, .f32⟩
  | 96 => ⟨S_, .f32⟩
  | 97 => ⟨S1, .f32⟩
  | 98 => ⟨S1, .f32⟩
  | 99 => ⟨S1x1, .f32⟩
  | 100 => ⟨S18432x96, .f32⟩
  | 101 => ⟨S18432x96, .f32⟩
  | 102 => ⟨S_, .f32⟩
  | 103 => ⟨S18432x96, .f32⟩
  | 104 => ⟨S18432x96, .f32⟩
  | 105 => ⟨S1x1, .f32⟩
  | 106 => ⟨S18432x96, .f32⟩
  | 107 => ⟨S18432x96, .f32⟩
  | 108 => ⟨S18432x96x1, .f32⟩
  | 109 => ⟨S_, .f32⟩
  | 110 => ⟨S18432x96x1, .f32⟩
  | 111 => ⟨S18432x96x1, .i1⟩
  | 112 => ⟨S_, .f32⟩
  | 113 => ⟨S18432x96x1, .f32⟩
  | 114 => ⟨S18432x96x1, .i1⟩
  | 115 => ⟨S_, .f32⟩
  | 116 => ⟨S_, .f32⟩
  | 117 => ⟨S18432x96x1, .f32⟩
  | 118 => ⟨S18432x96x1, .f32⟩
  | 119 => ⟨S18432x96x16, .f32⟩
  | 120 => ⟨S18432x96x16, .f32⟩
  | 121 => ⟨S_, .f32⟩
  | 122 => ⟨S_, .f32⟩
  | 123 => ⟨S18432x96x16, .i1⟩
  | 124 => ⟨S18432x96x16, .f32⟩
  | 125 => ⟨S18432x96x16, .f32⟩
  | 126 => ⟨S18432x96x16, .f32⟩
  | 127 => ⟨S_, .f32⟩
  | _ => ⟨S2x768x18432, .bf16⟩

abbrev hbmTy0_1 (i : Nat) : BufTy := match i % 128 with
  | 0 => ⟨S18432x96x16, .f32⟩
  | 1 => ⟨S18432x96x16, .f32⟩
  | 2 => ⟨S_, .f32⟩
  | 3 => ⟨S18432x96x16, .f32⟩
  | 4 => ⟨S18432x96x16, .i1⟩
  | 5 => ⟨S18432x96x16, .i32⟩
  | 6 => ⟨S_, .f32⟩
  | 7 => ⟨S18432x96x16, .f32⟩
  | 8 => ⟨S18432x96x16, .i1⟩
  | 9 => ⟨S18432x96x16, .i32⟩
  | 10 => ⟨S18432x96x16, .i32⟩
  | 11 => ⟨S_, .f32⟩
  | 12 => ⟨S18432x96x16, .f32⟩
  | 13 => ⟨S18432x96x16, .i1⟩
  | 14 => ⟨S18432x96x16, .i32⟩
  | 15 => ⟨S18432x96x16, .i32⟩
  | 16 => ⟨S_, .f32⟩
  | 17 => ⟨S18432x96x16, .f32⟩
  | 18 => ⟨S18432x96x16, .i1⟩
  | 19 => ⟨S18432x96x16, .i32⟩
  | 20 => ⟨S18432x96x16, .i32⟩
  | 21 => ⟨S_, .f32⟩
  | 22 => ⟨S18432x96x16, .f32⟩
  | 23 => ⟨S18432x96x16, .i1⟩
  | 24 => ⟨S18432x96x16, .i32⟩
  | 25 => ⟨S18432x96x16, .i32⟩
  | 26 => ⟨S_, .f32⟩
  | 27 => ⟨S18432x96x16, .f32⟩
  | 28 => ⟨S18432x96x16, .i1⟩
  | 29 => ⟨S18432x96x16, .i32⟩
  | 30 => ⟨S18432x96x16, .i32⟩
  | 31 => ⟨S_, .f32⟩
  | 32 => ⟨S18432x96x16, .f32⟩
  | 33 => ⟨S18432x96x16, .i1⟩
  | 34 => ⟨S18432x96x16, .i32⟩
  | 35 => ⟨S18432x96x16, .i32⟩
  | 36 => ⟨S_, .i32⟩
  | 37 => ⟨S18432x96x16, .i32⟩
  | 38 => ⟨S18432x96x16, .i32⟩
  | 39 => ⟨S_, .i32⟩
  | 40 => ⟨S18432x96x16, .i32⟩
  | 41 => ⟨S18432x96x16, .i1⟩
  | 42 => ⟨S_, .i32⟩
  | 43 => ⟨S18432x96x16, .i32⟩
  | 44 => ⟨S18432x96x16, .i32⟩
  | 45 => ⟨S_, .i32⟩
  | 46 => ⟨S18432x96x16, .i32⟩
  | 47 => ⟨S18432x96x16, .i1⟩
  | 48 => ⟨S_, .i32⟩
  | 49 => ⟨S18432x96x16, .i32⟩
  | 50 => ⟨S18432x96x16, .i32⟩
  | 51 => ⟨S_, .i32⟩
  | 52 => ⟨S18432x96x16, .i32⟩
  | 53 => ⟨S18432x96x16, .i1⟩
  | 54 => ⟨S_, .f32⟩
  | 55 => ⟨S_, .f32⟩
  | 56 => ⟨S18432x96x16, .f32⟩
  | 57 => ⟨S18432x96x16, .f32⟩
  | 58 => ⟨S18432x96x16, .f32⟩
  | 59 => ⟨S_, .f32⟩
  | 60 => ⟨S_, .f32⟩
  | 61 => ⟨S18432x96x16, .f32⟩
  | 62 => ⟨S18432x96x16, .f32⟩
  | 63 => ⟨S18432x96x16, .f32⟩
  | 64 => ⟨S18432x96x16, .f32⟩
  | 65 => ⟨S_, .f32⟩
  | 66 => ⟨S_, .f32⟩
  | 67 => ⟨S18432x96x16, .f32⟩
  | 68 => ⟨S18432x96x16, .f32⟩
  | 69 => ⟨S18432x96x16, .f32⟩
  | 70 => ⟨S_, .f32⟩
  | 71 => ⟨S_, .f32⟩
  | 72 => ⟨S18432x96x16, .f32⟩
  | 73 => ⟨S18432x96x16, .f32⟩
  | 74 => ⟨S18432x96x16, .f32⟩
  | 75 => ⟨S18432x96x16, .f32⟩
  | 76 => ⟨S18432x96x16, .f32⟩
  | 77 => ⟨S_, .i32⟩
  | 78 => ⟨S18432x96x16, .i32⟩
  | 79 => ⟨S18432x96x16, .i32⟩
  | 80 => ⟨S_, .i32⟩
  | 81 => ⟨S18432x96x16, .i32⟩
  | 82 => ⟨S18432x96x16, .i32⟩
  | 83 => ⟨S_, .i32⟩
  | 84 => ⟨S18432x96x16, .i32⟩
  | 85 => ⟨S18432x96x16, .i32⟩
  | 86 => ⟨S_, .i32⟩
  | 87 => ⟨S18432x96x16, .i32⟩
  | 88 => ⟨S18432x96x16, .i1⟩
  | 89 => ⟨S_, .i32⟩
  | 90 => ⟨S18432x96x16, .i32⟩
  | 91 => ⟨S18432x96x16, .i32⟩
  | 92 => ⟨S_, .i32⟩
  | 93 => ⟨S18432x96x16, .i32⟩
  | 94 => ⟨S18432x96x16, .i1⟩
  | 95 => ⟨S_, .i32⟩
  | 96 => ⟨S18432x96x16, .i32⟩
  | 97 => ⟨S18432x96x16, .i32⟩
  | 98 => ⟨S_, .i32⟩
  | 99 => ⟨S18432x96x16, .i32⟩
  | 100 => ⟨S18432x96x16, .i1⟩
  | 101 => ⟨S_, .f32⟩
  | 102 => ⟨S_, .f32⟩
  | 103 => ⟨S18432x96x16, .f32⟩
  | 104 => ⟨S18432x96x16, .f32⟩
  | 105 => ⟨S18432x96x16, .f32⟩
  | 106 => ⟨S_, .f32⟩
  | 107 => ⟨S_, .f32⟩
  | 108 => ⟨S18432x96x16, .f32⟩
  | 109 => ⟨S18432x96x16, .f32⟩
  | 110 => ⟨S18432x96x16, .f32⟩
  | 111 => ⟨S18432x96x16, .f32⟩
  | 112 => ⟨S_, .f32⟩
  | 113 => ⟨S_, .f32⟩
  | 114 => ⟨S18432x96x16, .f32⟩
  | 115 => ⟨S18432x96x16, .f32⟩
  | 116 => ⟨S18432x96x16, .f32⟩
  | 117 => ⟨S_, .f32⟩
  | 118 => ⟨S_, .f32⟩
  | 119 => ⟨S18432x96x16, .f32⟩
  | 120 => ⟨S18432x96x16, .f32⟩
  | 121 => ⟨S18432x96x16, .f32⟩
  | 122 => ⟨S18432x96x16, .f32⟩
  | 123 => ⟨S18432x96x16, .f32⟩
  | 124 => ⟨S18432x96x16, .f32⟩
  | 125 => ⟨S_, .f32⟩
  | 126 => ⟨S18432x96x16, .f32⟩
  | 127 => ⟨S18432x96x16, .i1⟩
  | _ => ⟨S2x768x18432, .bf16⟩

abbrev hbmTy0_2 (i : Nat) : BufTy := match i % 128 with
  | 0 => ⟨S18432x96x16, .f32⟩
  | 1 => ⟨S_, .f32⟩
  | 2 => ⟨S18432x96x16, .f32⟩
  | 3 => ⟨S18432x96x16, .i1⟩
  | 4 => ⟨S_, .f32⟩
  | 5 => ⟨S_, .f32⟩
  | 6 => ⟨S18432x96x16, .f32⟩
  | 7 => ⟨S18432x96x16, .f32⟩
  | 8 => ⟨S18432x96x16, .f32⟩
  | 9 => ⟨S_, .f32⟩
  | 10 => ⟨S_, .f32⟩
  | 11 => ⟨S18432x96x16, .f32⟩
  | 12 => ⟨S18432x96x16, .f32⟩
  | 13 => ⟨S18432x96x16, .i32⟩
  | 14 => ⟨S18432x96x16, .f32⟩
  | 15 => ⟨S_, .f32⟩
  | 16 => ⟨S18432x96x16, .f32⟩
  | 17 => ⟨S18432x96x16, .f32⟩
  | 18 => ⟨S_, .f32⟩
  | 19 => ⟨S18432x96x16, .f32⟩
  | 20 => ⟨S18432x96x16, .f32⟩
  | 21 => ⟨S18432x96x16, .i1⟩
  | 22 => ⟨S18432x96x16, .i32⟩
  | 23 => ⟨S18432x96x16, .i32⟩
  | 24 => ⟨S_, .f32⟩
  | 25 => ⟨S18432x96x16, .f32⟩
  | 26 => ⟨S18432x96x16, .i1⟩
  | 27 => ⟨S_, .i32⟩
  | 28 => ⟨S18432x96x16, .i32⟩
  | 29 => ⟨S18432x96x16, .i1⟩
  | 30 => ⟨S18432x96x16, .i1⟩
  | 31 => ⟨S18432x96x16, .i32⟩
  | 32 => ⟨S_, .i32⟩
  | 33 => ⟨S18432x96x16, .i32⟩
  | 34 => ⟨S18432x96x16, .i32⟩
  | 35 => ⟨S18432x96x16, .i32⟩
  | 36 => ⟨S18432x768x2, .i32⟩
  | 37 => ⟨S18432x768x1, .i32⟩
  | 38 => ⟨S18432x768, .i32⟩
  | 39 => ⟨S18432x768x1, .i32⟩
  | 40 => ⟨S18432x768, .i32⟩
  | 41 => ⟨S_, .i32⟩
  | 42 => ⟨S18432x768, .i32⟩
  | 43 => ⟨S18432x768, .i32⟩
  | 44 => ⟨S18432x768, .i32⟩
  | 45 => ⟨S18432x768, .i8⟩
  | 46 => ⟨S_, .i32⟩
  | 47 => ⟨S18432x96x16, .i32⟩
  | 48 => ⟨S18432x96x16, .i32⟩
  | 49 => ⟨S_, .i32⟩
  | 50 => ⟨S18432x96x16, .i32⟩
  | 51 => ⟨S18432x96x16, .i1⟩
  | 52 => ⟨S_, .i32⟩
  | 53 => ⟨S18432x96x16, .i32⟩
  | 54 => ⟨S18432x96x16, .i32⟩
  | 55 => ⟨S_, .i32⟩
  | 56 => ⟨S18432x96x16, .i32⟩
  | 57 => ⟨S18432x96x16, .i1⟩
  | 58 => ⟨S_, .i32⟩
  | 59 => ⟨S18432x96x16, .i32⟩
  | 60 => ⟨S18432x96x16, .i32⟩
  | 61 => ⟨S_, .i32⟩
  | 62 => ⟨S18432x96x16, .i32⟩
  | 63 => ⟨S18432x96x16, .i1⟩
  | 64 => ⟨S_, .f32⟩
  | 65 => ⟨S_, .f32⟩
  | 66 => ⟨S18432x96x16, .f32⟩
  | 67 => ⟨S18432x96x16, .f32⟩
  | 68 => ⟨S18432x96x16, .f32⟩
  | 69 => ⟨S_, .f32⟩
  | 70 => ⟨S_, .f32⟩
  | 71 => ⟨S18432x96x16, .f32⟩
  | 72 => ⟨S18432x96x16, .f32⟩
  | 73 => ⟨S18432x96x16, .f32⟩
  | 74 => ⟨S18432x96x16, .f32⟩
  | 75 => ⟨S_, .f32⟩
  | 76 => ⟨S_, .f32⟩
  | 77 => ⟨S18432x96x16, .f32⟩
  | 78 => ⟨S18432x96x16, .f32⟩
  | 79 => ⟨S18432x96x16, .f32⟩
  | 80 => ⟨S_, .f32⟩
  | 81 => ⟨S_, .f32⟩
  | 82 => ⟨S18432x96x16, .f32⟩
  | 83 => ⟨S18432x96x16, .f32⟩
  | 84 => ⟨S18432x96x16, .f32⟩
  | 85 => ⟨S18432x96x16, .f32⟩
  | 86 => ⟨S18432x96x16, .f32⟩
  | 87 => ⟨S18432x96x16, .f32⟩
  | 88 => ⟨S18432x96x16, .f32⟩
  | 89 => ⟨S18432x96x1, .f32⟩
  | 90 => ⟨S18432x96x16, .f32⟩
  | 91 => ⟨S18432x96x16, .f32⟩
  | 92 => ⟨S18432x96, .fp8e4m3⟩
  | _ => ⟨S2x768x18432, .bf16⟩

abbrev hbmTy (i : Nat) : BufTy := match i / 128 with
  | 0 => hbmTy0_0 i
  | 1 => hbmTy0_1 i
  | 2 => hbmTy0_2 i
  | _ => ⟨S2x768x18432, .bf16⟩

abbrev bufTy : (tb : Table) → Fin (tcTables nBuf tb) → BufTy
  | .hbm, ⟨i, _⟩ => hbmTy i
  | _, _ => ⟨S2x768x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_1 : Ref sig .tc := ⟨.hbm, 48, rfl⟩
abbrev main_call0_v5 : Ref sig .tc := ⟨.hbm, 49, rfl⟩
abbrev main_call0_v6 : Ref sig .tc := ⟨.hbm, 50, rfl⟩
abbrev main_call0_c_2 : Ref sig .tc := ⟨.hbm, 51, rfl⟩
abbrev main_call0_v7 : Ref sig .tc := ⟨.hbm, 52, rfl⟩
abbrev main_call0_v8 : Ref sig .tc := ⟨.hbm, 53, rfl⟩
abbrev main_call0_c_3 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_v27 : Ref sig .tc := ⟨.hbm, 61, rfl⟩
abbrev main_c_9 : Ref sig .tc := ⟨.hbm, 62, rfl⟩
abbrev main_v28 : Ref sig .tc := ⟨.hbm, 63, rfl⟩
abbrev main_v29 : Ref sig .tc := ⟨.hbm, 64, rfl⟩
abbrev main_cst : Ref sig .tc := ⟨.hbm, 65, rfl⟩
abbrev main_cst_10 : Ref sig .tc := ⟨.hbm, 66, rfl⟩
abbrev main_call1_v0 : Ref sig .tc := ⟨.hbm, 67, rfl⟩
abbrev main_call1_v1 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_11 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_12 : Ref sig .tc := ⟨.hbm, 83, rfl⟩
abbrev main_v43 : Ref sig .tc := ⟨.hbm, 84, rfl⟩
abbrev main_v44 : Ref sig .tc := ⟨.hbm, 85, rfl⟩
abbrev main_cst_13 : Ref sig .tc := ⟨.hbm, 86, rfl⟩
abbrev main_v45 : Ref sig .tc := ⟨.hbm, 87, rfl⟩
abbrev main_v46 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v47 : Ref sig .tc := ⟨.hbm, 92, rfl⟩
abbrev main_v48 : Ref sig .tc := ⟨.hbm, 93, rfl⟩
abbrev main_cst_15 : Ref sig .tc := ⟨.hbm, 94, rfl⟩
abbrev main_v49 : Ref sig .tc := ⟨.hbm, 95, rfl⟩
abbrev main_cst_16 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_17 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_18 : Ref sig .tc := ⟨.hbm, 109, rfl⟩
abbrev main_v61 : Ref sig .tc := ⟨.hbm, 110, rfl⟩
abbrev main_v62 : Ref sig .tc := ⟨.hbm, 111, rfl⟩
abbrev main_cst_19 : Ref sig .tc := ⟨.hbm, 112, rfl⟩
abbrev main_v63 : Ref sig .tc := ⟨.hbm, 113, rfl⟩
abbrev main_v64 : Ref sig .tc := ⟨.hbm, 114, rfl⟩
abbrev main_cst_20 : Ref sig .tc := ⟨.hbm, 115, rfl⟩
abbrev main_call3_v0 : Ref sig .tc := ⟨.hbm, 116, rfl⟩
abbrev main_call3_v1 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_21 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v68 : Ref sig .tc := ⟨.hbm, 125, rfl⟩
abbrev main_v69 : Ref sig .tc := ⟨.hbm, 126, rfl⟩
abbrev main_cst_22 : Ref sig .tc := ⟨.hbm, 127, rfl⟩
abbrev main_v70 : Ref sig .tc := ⟨.hbm, 128, rfl⟩
abbrev main_v71 : Ref sig .tc := ⟨.hbm, 129, rfl⟩
abbrev main_cst_23 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_24 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_25 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_cst_26 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_27 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_28 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_29 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_c_30 : Ref sig .tc := ⟨.hbm, 164, rfl⟩
abbrev main_v99 : Ref sig .tc := ⟨.hbm, 165, rfl⟩
abbrev main_v100 : Ref sig .tc := ⟨.hbm, 166, rfl⟩
abbrev main_c_31 : Ref sig .tc := ⟨.hbm, 167, rfl⟩
abbrev main_v101 : Ref sig .tc := ⟨.hbm, 168, rfl⟩
abbrev main_v102 : Ref sig .tc := ⟨.hbm, 169, rfl⟩
abbrev main_c_32 : Ref sig .tc := ⟨.hbm, 170, rfl⟩
abbrev main_v103 : Ref sig .tc := ⟨.hbm, 171, rfl⟩
abbrev main_v104 : Ref sig .tc := ⟨.hbm, 172, rfl⟩
abbrev main_c_33 : Ref sig .tc := ⟨.hbm, 173, rfl⟩
abbrev main_v105 : Ref sig .tc := ⟨.hbm, 174, rfl⟩
abbrev main_v106 : Ref sig .tc := ⟨.hbm, 175, rfl⟩
abbrev main_c_34 : Ref sig .tc := ⟨.hbm, 176, rfl⟩
abbrev main_v107 : Ref sig .tc := ⟨.hbm, 177, rfl⟩
abbrev main_v108 : Ref sig .tc := ⟨.hbm, 178, rfl⟩
abbrev main_c_35 : Ref sig .tc := ⟨.hbm, 179, rfl⟩
abbrev main_v109 : Ref sig .tc := ⟨.hbm, 180, rfl⟩
abbrev main_v110 : Ref sig .tc := ⟨.hbm, 181, rfl⟩
abbrev main_cst_36 : Ref sig .tc := ⟨.hbm, 182, rfl⟩
abbrev main_cst_37 : Ref sig .tc := ⟨.hbm, 183, rfl⟩
abbrev main_call5_v0 : Ref sig .tc := ⟨.hbm, 184, rfl⟩
abbrev main_call5_v1 : Ref sig .tc := ⟨.hbm, 185, rfl⟩
abbrev main_v111 : Ref sig .tc := ⟨.hbm, 186, rfl⟩
abbrev main_cst_38 : Ref sig .tc := ⟨.hbm, 187, rfl⟩
abbrev main_cst_39 : Ref sig .tc := ⟨.hbm, 188, rfl⟩
abbrev main_call6_v0 : Ref sig .tc := ⟨.hbm, 189, rfl⟩
abbrev main_call6_v1 : Ref sig .tc := ⟨.hbm, 190, rfl⟩
abbrev main_v112 : Ref sig .tc := ⟨.hbm, 191, rfl⟩
abbrev main_v113 : Ref sig .tc := ⟨.hbm, 192, rfl⟩
abbrev main_cst_40 : Ref sig .tc := ⟨.hbm, 193, rfl⟩
abbrev main_cst_41 : Ref sig .tc := ⟨.hbm, 194, rfl⟩
abbrev main_call8_v0 : Ref sig .tc := ⟨.hbm, 195, rfl⟩
abbrev main_call8_v1 : Ref sig .tc := ⟨.hbm, 196, rfl⟩
abbrev main_v114 : Ref sig .tc := ⟨.hbm, 197, rfl⟩
abbrev main_cst_42 : Ref sig .tc := ⟨.hbm, 198, rfl⟩
abbrev main_cst_43 : Ref sig .tc := ⟨.hbm, 199, rfl⟩
abbrev main_call9_v0 : Ref sig .tc := ⟨.hbm, 200, rfl⟩
abbrev main_call9_v1 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_c_44 : Ref sig .tc := ⟨.hbm, 205, rfl⟩
abbrev main_v118 : Ref sig .tc := ⟨.hbm, 206, rfl⟩
abbrev main_v119 : Ref sig .tc := ⟨.hbm, 207, rfl⟩
abbrev main_c_45 : Ref sig .tc := ⟨.hbm, 208, rfl⟩
abbrev main_v120 : Ref sig .tc := ⟨.hbm, 209, rfl⟩
abbrev main_v121 : Ref sig .tc := ⟨.hbm, 210, rfl⟩
abbrev main_c_46 : Ref sig .tc := ⟨.hbm, 211, rfl⟩
abbrev main_v122 : Ref sig .tc := ⟨.hbm, 212, rfl⟩
abbrev main_v123 : Ref sig .tc := ⟨.hbm, 213, rfl⟩
abbrev main_c_47 : Ref sig .tc := ⟨.hbm, 214, rfl⟩
abbrev main_v124 : Ref sig .tc := ⟨.hbm, 215, rfl⟩
abbrev main_v125 : Ref sig .tc := ⟨.hbm, 216, rfl⟩
abbrev main_c_48 : Ref sig .tc := ⟨.hbm, 217, rfl⟩
abbrev main_v126 : Ref sig .tc := ⟨.hbm, 218, rfl⟩
abbrev main_v127 : Ref sig .tc := ⟨.hbm, 219, rfl⟩
abbrev main_c_49 : Ref sig .tc := ⟨.hbm, 220, rfl⟩
abbrev main_v128 : Ref sig .tc := ⟨.hbm, 221, rfl⟩
abbrev main_v129 : Ref sig .tc := ⟨.hbm, 222, rfl⟩
abbrev main_c_50 : Ref sig .tc := ⟨.hbm, 223, rfl⟩
abbrev main_v130 : Ref sig .tc := ⟨.hbm, 224, rfl⟩
abbrev main_v131 : Ref sig .tc := ⟨.hbm, 225, rfl⟩
abbrev main_c_51 : Ref sig .tc := ⟨.hbm, 226, rfl⟩
abbrev main_v132 : Ref sig .tc := ⟨.hbm, 227, rfl⟩
abbrev main_v133 : Ref sig .tc := ⟨.hbm, 228, rfl⟩
abbrev main_cst_52 : Ref sig .tc := ⟨.hbm, 229, rfl⟩
abbrev main_cst_53 : Ref sig .tc := ⟨.hbm, 230, rfl⟩
abbrev main_call12_v0 : Ref sig .tc := ⟨.hbm, 231, rfl⟩
abbrev main_call12_v1 : Ref sig .tc := ⟨.hbm, 232, rfl⟩
abbrev main_v134 : Ref sig .tc := ⟨.hbm, 233, rfl⟩
abbrev main_cst_54 : Ref sig .tc := ⟨.hbm, 234, rfl⟩
abbrev main_cst_55 : Ref sig .tc := ⟨.hbm, 235, rfl⟩
abbrev main_call13_v0 : Ref sig .tc := ⟨.hbm, 236, rfl⟩
abbrev main_call13_v1 : Ref sig .tc := ⟨.hbm, 237, rfl⟩
abbrev main_v135 : Ref sig .tc := ⟨.hbm, 238, rfl⟩
abbrev main_v136 : Ref sig .tc := ⟨.hbm, 239, rfl⟩
abbrev main_cst_56 : Ref sig .tc := ⟨.hbm, 240, rfl⟩
abbrev main_cst_57 : Ref sig .tc := ⟨.hbm, 241, rfl⟩
abbrev main_call15_v0 : Ref sig .tc := ⟨.hbm, 242, rfl⟩
abbrev main_call15_v1 : Ref sig .tc := ⟨.hbm, 243, rfl⟩
abbrev main_v137 : Ref sig .tc := ⟨.hbm, 244, rfl⟩
abbrev main_cst_58 : Ref sig .tc := ⟨.hbm, 245, rfl⟩
abbrev main_cst_59 : Ref sig .tc := ⟨.hbm, 246, rfl⟩
abbrev main_call16_v0 : Ref sig .tc := ⟨.hbm, 247, rfl⟩
abbrev main_call16_v1 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_cst_60 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_cst_61 : Ref sig .tc := ⟨.hbm, 257, rfl⟩
abbrev main_v145 : Ref sig .tc := ⟨.hbm, 258, rfl⟩
abbrev main_v146 : Ref sig .tc := ⟨.hbm, 259, rfl⟩
abbrev main_cst_62 : Ref sig .tc := ⟨.hbm, 260, rfl⟩
abbrev main_call19_v0 : Ref sig .tc := ⟨.hbm, 261, rfl⟩
abbrev main_call19_v1 : Ref sig .tc := ⟨.hbm, 262, rfl⟩
abbrev main_v147 : Ref sig .tc := ⟨.hbm, 263, rfl⟩
abbrev main_v148 : Ref sig .tc := ⟨.hbm, 264, rfl⟩
abbrev main_cst_63 : Ref sig .tc := ⟨.hbm, 265, rfl⟩
abbrev main_call20_v0 : Ref sig .tc := ⟨.hbm, 266, rfl⟩
abbrev main_call20_v1 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_cst_64 : Ref sig .tc := ⟨.hbm, 271, rfl⟩
abbrev main_v152 : Ref sig .tc := ⟨.hbm, 272, rfl⟩
abbrev main_v153 : Ref sig .tc := ⟨.hbm, 273, rfl⟩
abbrev main_cst_65 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_cst_66 : Ref sig .tc := ⟨.hbm, 280, rfl⟩
abbrev main_v159 : Ref sig .tc := ⟨.hbm, 281, rfl⟩
abbrev main_v160 : Ref sig .tc := ⟨.hbm, 282, rfl⟩
abbrev main_c_67 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_c_68 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_c_69 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_c_70 : Ref sig .tc := ⟨.hbm, 302, rfl⟩
abbrev main_v177 : Ref sig .tc := ⟨.hbm, 303, rfl⟩
abbrev main_v178 : Ref sig .tc := ⟨.hbm, 304, rfl⟩
abbrev main_c_71 : Ref sig .tc := ⟨.hbm, 305, rfl⟩
abbrev main_v179 : Ref sig .tc := ⟨.hbm, 306, rfl⟩
abbrev main_v180 : Ref sig .tc := ⟨.hbm, 307, rfl⟩
abbrev main_c_72 : Ref sig .tc := ⟨.hbm, 308, rfl⟩
abbrev main_v181 : Ref sig .tc := ⟨.hbm, 309, rfl⟩
abbrev main_v182 : Ref sig .tc := ⟨.hbm, 310, rfl⟩
abbrev main_c_73 : Ref sig .tc := ⟨.hbm, 311, rfl⟩
abbrev main_v183 : Ref sig .tc := ⟨.hbm, 312, rfl⟩
abbrev main_v184 : Ref sig .tc := ⟨.hbm, 313, rfl⟩
abbrev main_c_74 : Ref sig .tc := ⟨.hbm, 314, rfl⟩
abbrev main_v185 : Ref sig .tc := ⟨.hbm, 315, rfl⟩
abbrev main_v186 : Ref sig .tc := ⟨.hbm, 316, rfl⟩
abbrev main_c_75 : Ref sig .tc := ⟨.hbm, 317, rfl⟩
abbrev main_v187 : Ref sig .tc := ⟨.hbm, 318, rfl⟩
abbrev main_v188 : Ref sig .tc := ⟨.hbm, 319, rfl⟩
abbrev main_cst_76 : Ref sig .tc := ⟨.hbm, 320, rfl⟩
abbrev main_cst_77 : Ref sig .tc := ⟨.hbm, 321, rfl⟩
abbrev main_call21_v0 : Ref sig .tc := ⟨.hbm, 322, rfl⟩
abbrev main_call21_v1 : Ref sig .tc := ⟨.hbm, 323, rfl⟩
abbrev main_v189 : Ref sig .tc := ⟨.hbm, 324, rfl⟩
abbrev main_cst_78 : Ref sig .tc := ⟨.hbm, 325, rfl⟩
abbrev main_cst_79 : Ref sig .tc := ⟨.hbm, 326, rfl⟩
abbrev main_call22_v0 : Ref sig .tc := ⟨.hbm, 327, rfl⟩
abbrev main_call22_v1 : Ref sig .tc := ⟨.hbm, 328, rfl⟩
abbrev main_v190 : Ref sig .tc := ⟨.hbm, 329, rfl⟩
abbrev main_v191 : Ref sig .tc := ⟨.hbm, 330, rfl⟩
abbrev main_cst_80 : Ref sig .tc := ⟨.hbm, 331, rfl⟩
abbrev main_cst_81 : Ref sig .tc := ⟨.hbm, 332, rfl⟩
abbrev main_call24_v0 : Ref sig .tc := ⟨.hbm, 333, rfl⟩
abbrev main_call24_v1 : Ref sig .tc := ⟨.hbm, 334, rfl⟩
abbrev main_v192 : Ref sig .tc := ⟨.hbm, 335, rfl⟩
abbrev main_cst_82 : Ref sig .tc := ⟨.hbm, 336, rfl⟩
abbrev main_cst_83 : Ref sig .tc := ⟨.hbm, 337, rfl⟩
abbrev main_call25_v0 : Ref sig .tc := ⟨.hbm, 338, rfl⟩
abbrev main_call25_v1 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩

abbrev nD : Nat := 1
abbrev τ : Topo := Topo.v7x

variable {F : FTy → Type} [FloatOps F]
-- ==== Proof.MatmulBlock.lean ====
/- One grid point of the matrix product: the block it writes back, read at an index. -/
module

public import proofs.«01_k».proof.Proof.Gen.MatmulIdeal.Value
public import Idealize.ShloMosaic.Lib.Pipeline.ValueKit
public import Idealize.ShloMosaic.Lib.Pointwise

@[expose] public section

set_option maxRecDepth 16384

noncomputable section

namespace Cert.MatmulIdeal.Final

open Cert.MatmulIdeal Cert.MatmulIdeal.Gen Idealize.ShloMosaic Idealize.ShloMosaic.TcCoe Idealize.SL.Sem
open Idealize.ShloMosaic.Pipeline (Dat)

/-- What the body stores, from its three operands: at row `j 0`, column `j 1` the inner product of that row of the left
    block with that column of the right block, times the scale word. -/
theorem pay_apply (x : Vec Ideal S1024x1536 .bf16) (y : Vec Ideal S1536x1024 .bf16) (s : Elt Ideal .f32)
    (j : S1024x1024.Idx) :
    k0_pay1 (F := Ideal) x y s j = (∑ k : Fin 1536, x (ix2 (j 0) k) * y (ix2 k (j 1))) * s := by
  pointwise [k0_pay1]

variable (m : (ℓ : Loc nD τ sig) → Buf (Elt Ideal) ℓ)

/-- The block index of every window at point `t` of the 18 by 7 grid: the left operand's row block is `t / 7`, the right
    operand's column block `t % 7`, the result's block the pair. -/
theorem idx : ∀ t : Fin cfg0.N, win0_0.index t = ![t.val / 7, 0] ∧ win0_1.index t = ![0, t.val % 7]
    ∧ win0_2.index t = ![0] ∧ win0_3.index t = ![t.val / 7, t.val % 7] :=
  (by decide +kernel : ∀ t : Fin grid0.N, _)

/-- What a point leaves in the result window: the stored value at the point's blocks. -/
theorem out_eq (c : Dev nD) (t : Fin cfg0.N) :
    outsAt0 m c t = k0_pay1 (iblk m c 0 t) (iblk m c 1 t) (iblk m c 2 t (ix1 0)) := by
  unfold outsAt0
  frame_out
  congr 1
  exact congrArg (iblk m c 2 t) (funext fun a => Fin.ext (by match a with | ⟨0, _⟩ => rfl))

/-- The scaled product of two whole arrays. -/
def PROD (a : FVec Ideal S18432x1536 .bf16) (b : FVec Ideal S1536x7168 .bf16) (s : FVec Ideal S1 .f32) :
    FVec Ideal S18432x7168 .f32 := fun i =>
  (∑ k : Fin 1536, a (ix2 (i 0) k) * b (ix2 k (i 1))) * s (ix1 0)

/-- The left operand's block at a point, at an index: the array's rows from `1024 (t / 7)` on. -/
theorem lhs_apply (c : Dev nD) (t : Fin cfg0.N) (r : Fin 1024) (k : Fin 1536) (i : S18432x7168.Idx)
    (hi : (i 0).val = t.val / 7 * 1024 + r.val) :
    iblk m c 0 t (ix2 r k) = (V m c main_arg0 : Vec Ideal S18432x1536 .bf16) (ix2 (i 0) k) := by
  blk_simp [iblk]
  refine congrArg (V m c main_arg0 : Vec Ideal S18432x1536 .bf16) (funext fun a => Fin.ext ?_)
  match a with
  | ⟨0, _⟩ => blk_simp [(idx t).1]; exact hi.symm
  | ⟨1, _⟩ => blk_simp [(idx t).1]

/-- The right operand's block at a point, at an index: the array's columns from `1024 (t % 7)` on. -/
theorem rhs_apply (c : Dev nD) (t : Fin cfg0.N) (r : Fin 1024) (k : Fin 1536) (i : S18432x7168.Idx)
    (hi : (i 1).val = t.val % 7 * 1024 + r.val) :
    iblk m c 1 t (ix2 k r) = (V m c main_arg1 : Vec Ideal S1536x7168 .bf16) (ix2 k (i 1)) := by
  blk_simp [iblk]
  refine congrArg (V m c main_arg1 : Vec Ideal S1536x7168 .bf16) (funext fun a => Fin.ext ?_)
  match a with
  | ⟨0, _⟩ => blk_simp [(idx t).2.1]
  | ⟨1, _⟩ => blk_simp [(idx t).2.1]; exact hi.symm

/-- The scale word at a point: the one scale. -/
theorem scale_apply (c : Dev nD) (t : Fin cfg0.N) :
    iblk m c 2 t (ix1 0) = (V m c main_v10 : Vec Ideal S1 .f32) (ix1 0) := by
  blk_simp [iblk]
  refine congrArg (V m c main_v10 : Vec Ideal S1 .f32) (funext fun a => Fin.ext ?_)
  match a with
  | ⟨0, _⟩ => blk_simp [(idx t).2.2.1]

/-- After the launch the result array is the scaled product of the two arrays the launch finds. -/
theorem final (c : Dev nD) : (dats m 0 c).arrAt 3 cfg0.N
    = (PROD (V m c main_arg0) (V m c main_arg1) (V m c main_v10) : Vec Ideal S18432x7168 .f32) := by
  refine (dats m 0 c).arrAt_eq_of_covers 3 _ (by decide +kernel) fun t _ y => ?_
  blk_simp
  rw [after0_3, out_eq]
  refine (pay_apply _ _ _ y).trans ?_
  have e3 := (idx t).2.2.2
  have h0 : ((((cfg0.win 3).blk t).view.emb y) 0 : Nat) = t.val / 7 * 1024 + (y 0).val := by blk_simp [e3]
  have h1 : ((((cfg0.win 3).blk t).view.emb y) 1 : Nat) = t.val % 7 * 1024 + (y 1).val := by blk_simp [e3]
  rw [scale_apply]
  exact congrArg (· * _) (Finset.sum_congr rfl fun k _ =>
    congr (congrArg _ (lhs_apply m c t (y 0) k _ h0)) (rhs_apply m c t (y 1) k _ h1))

end Cert.MatmulIdeal.Final

end
-- ==== Proof.MatmulRun.lean ====
/- The whole program of the matrix product, and its reference: what their results hold. Both end with the scaled product
   of the two arrays and with the two tensor scales. -/
module

public import proofs.«01_k».proof.Proof.MatmulBlock
public import proofs.«01_k».proof.Proof.Gen.MatmulReferenceIdeal.Run
public import proofs.«01_k».proof.Proof.Gen.MatmulReferenceIdeal
public import Idealize.ShloMosaic.Lib.Claim

@[expose] public section

set_option maxRecDepth 16384

noncomputable section

open Idealize.ShloMosaic Idealize.ShloMosaic.TcCoe Idealize.SL.Sem

namespace Cert.MatmulIdeal.Final

open Cert.MatmulIdeal Cert.MatmulIdeal.Gen

variable (m : (ℓ : Loc nD τ sig) → Buf (Elt Ideal) ℓ)

/-- A tensor scale from the tensor's largest magnitude: that over 2688 = 6 · 448 where it is positive, else one. -/
def SCALE (a : FVec Ideal S1 .f32) : FVec Ideal S1 .f32 :=
  select (cmpf .ogt a (broadcastInDim S1 ![] bcast_S_S1 (constant S_ .f32 0x00000000#32)))
    (Host.divf a (broadcastInDim S1 ![] bcast_S_S1 (constant S_ .f32 0x45280000#32)))
    (broadcastInDim S1 ![] bcast_S_S1 (constant S_ .f32 0x3F800000#32))

/-- What the launch finds in the two scales' buffers, -/
theorem entry_x (c : Dev nD) : V m c main_v4 = SCALE (m ((c : Thread nD τ).loc main_arg2)) := by
  unfold V
  simp only [hostOps0, hostOps0_1, hostOps0_2, hostOps0_3, hostOps0_4, List.flatten_cons, List.flatten_nil,
    List.append_nil, List.cons_append, List.nil_append, StableHlo.TRef.ternary, StableHlo.TRef.unary, StableHlo.TRef.toBuf,
    StableHlo.TRef.ofBuf, cast_eq]
  after_results
  rfl
theorem entry_dy (c : Dev nD) : V m c main_v9 = SCALE (m ((c : Thread nD τ).loc main_arg3)) := by
  unfold V
  simp only [hostOps0, hostOps0_1, hostOps0_2, hostOps0_3, hostOps0_4, List.flatten_cons, List.flatten_nil,
    List.append_nil, List.cons_append, List.nil_append, StableHlo.TRef.ternary, StableHlo.TRef.unary, StableHlo.TRef.toBuf,
    StableHlo.TRef.ofBuf, cast_eq]
  after_results
  rfl
/-- and in the buffer of their product. -/
theorem entry_scale (c : Dev nD) : V m c main_v10
    = (mulf (SCALE (m ((c : Thread nD τ).loc main_arg3))) (SCALE (m ((c : Thread nD τ).loc main_arg2))) : FVec Ideal S1 .f32) := by
  unfold V
  simp only [hostOps0, hostOps0_1, hostOps0_2, hostOps0_3, hostOps0_4, List.flatten_cons, List.flatten_nil,
    List.append_nil, List.cons_append, List.nil_append, StableHlo.TRef.ternary, StableHlo.TRef.unary, StableHlo.TRef.toBuf,
    StableHlo.TRef.ofBuf, cast_eq]
  after_results
  rfl

end Cert.MatmulIdeal.Final

namespace Cert.MatmulReferenceIdeal.Final

open Cert.MatmulReferenceIdeal Cert.MatmulReferenceIdeal.Gen

/-- The reference's product, at an index. -/
theorem ref_apply (a : FVec Ideal S18432x1536 .bf16) (b : FVec Ideal S1536x7168 .bf16) (s : FVec Ideal S1 .f32)
    (i : S18432x7168.Idx) :
    mulf (Host.dotGeneral (F := Ideal) (φ₁ := .bf16) (φ₂ := .bf16) dot_S18432x1536_S1536x7168_S18432x7168_1_0_0_1_n_n none a b)
      (broadcastInDim S18432x7168 ![0, 1] bcast_S1x1_S18432x7168_0_1 (broadcastInDim S1x1 ![1] bcast_S1_S1x1_1 s)) i
      = Cert.MatmulIdeal.Final.PROD a b s i := by
  pointwise [Cert.MatmulIdeal.Final.PROD]

end Cert.MatmulReferenceIdeal.Final

namespace Cert.MatmulIdeal.Final

open Cert.MatmulIdeal Cert.MatmulIdeal.Gen

variable (m : (ℓ : Loc nD τ sig) → Buf (Elt Ideal) ℓ) (ρ : Dev nD → PrngReg)

/-- The program's run: the result is the scaled product, beside it the two tensor scales; the arguments stay. -/
theorem run : θ_run defs (onTc (τ := τ) (main (F := Ideal))) ⟨m, fun _ => 0, ρ⟩ fun r => ∀ c : Dev nD,
      r.2.mem ((c : Thread nD τ).loc main_v11)
        = (PROD (m ((c : Thread nD τ).loc main_arg0)) (m ((c : Thread nD τ).loc main_arg1))
            (mulf (SCALE (m ((c : Thread nD τ).loc main_arg3))) (SCALE (m ((c : Thread nD τ).loc main_arg2))))
            : Vec Ideal S18432x7168 .f32)
      ∧ r.2.mem ((c : Thread nD τ).loc main_v4) = SCALE (m ((c : Thread nD τ).loc main_arg2))
      ∧ r.2.mem ((c : Thread nD τ).loc main_v9) = SCALE (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post3 m r h c).trans ((final m c).trans (by
        rw [entry_scale, V_main_arg0, V_main_arg1])),
      ((h c).2 main_v4 (Pipeline.mem_restRefs_of main_v4 (by decide) (by decide))).trans (entry_x m c),
      ((h c).2 main_v9 (Pipeline.mem_restRefs_of main_v9 (by decide) (by decide))).trans (entry_dy m c),
      Value.kept_main_arg0 m r h c, Value.kept_main_arg1 m r h c, Value.kept_main_arg2 m r h c,
      Value.kept_main_arg3 m r h c⟩)
    (run_main m ρ)

end Cert.MatmulIdeal.Final

end
-- ==== Proof.MatmulClaims.lean ====
/- The claims about the matrix product and its reference. -/
module

public import proofs.«01_k».proof.Defs
public import proofs.«01_k».proof.Proof.Gen.Matmul.Frame
public import proofs.«01_k».proof.Proof.MatmulRun

@[expose] public section

noncomputable section

open Idealize.ShloMosaic Idealize.ShloMosaic.TcCoe Idealize.SL.Sem

namespace Cert.Proof.MatmulClaims

theorem frame_p : Cert.quiescent_Matmul := fun m ρ _ => Cert.Matmul.Gen.frame m ρ
theorem frame_pi : Cert.quiescent_MatmulIdeal := fun m ρ _ => Cert.MatmulIdeal.Gen.frame m ρ
theorem frame_ri : Cert.quiescent_MatmulReferenceIdeal := fun m ρ _ =>
  (θ_run Cert.MatmulReferenceIdeal.defs _ _).mono (fun r h => ⟨fun c => (h c).2.2.2,
      sem_eq_zero_of_no_sems (by decide) r.2⟩)
    (Cert.MatmulReferenceIdeal.Value.run (F := Ideal) m ρ)

/-- The idealized kernel is the printed one: no use was rewritten. -/
theorem preserves : Cert.preserves_Matmul_MatmulIdeal := trivial

/-- The kernel and the reference end with the same product and the same two scales. -/
theorem algebraic : Cert.algebraic_MatmulIdeal_MatmulReferenceIdeal := by
  intro m ρ m' ρ' _ hagree
  refine ⟨_, _, _, Cert.MatmulIdeal.Final.run m ρ, ?_⟩
  refine (θ_run Cert.MatmulReferenceIdeal.defs _ _).mono
    (fun _ h c => ⟨(h c).1.trans ?_, (h c).2.1.trans ?_, (h c).2.2.1.trans ?_, (h c).2.2.2⟩)
    (Cert.MatmulReferenceIdeal.Value.run (F := Ideal) m' ρ')
  · rw [(hagree c).1, (hagree c).2.1, (hagree c).2.2.1, (hagree c).2.2.2]
    exact funext (Cert.MatmulReferenceIdeal.Final.ref_apply _ _ _)
  · rw [(hagree c).2.2.1]; rfl
  · rw [(hagree c).2.2.2]; rfl

end Cert.Proof.MatmulClaims

end
-- ==== Proof.QuantXBody.lean ====
/-
  The body of `quant_x` run once on whole staging buffers: what it leaves in the codes, the block scales and the decoded
  values, found by the run. The byte scratch is overwritten before it is read; the scale scratch is read whole although
  only its first 96 rows are written, so its entry contents `f8` stay a parameter.
-/
module

public import proofs.«01_k».proof.Proof.Gen.QuantX.Launch
public import proofs.«01_k».proof.Proof.Gen.QuantX.Skeleton
public import Idealize.ShloMosaic.Lib.Pipeline.FrameBody
public import Idealize.ShloMosaic.Lib.Tactic

@[expose] public section

set_option maxRecDepth 16384

noncomputable section

namespace Cert.QuantX.Body

open Cert.QuantX Cert.QuantX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- A memref's buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.stridedRows true
set_option maxHeartbeats 4000000

/-- What the body leaves in its three results, WITH the proof that it runs to its return leaving them so, the inputs as
    they were and the scratch buffers at something. -/
noncomputable def kernelRun (c : Dev nD) (i : grid0.Coords) (arg1 : Memref sig .tc .vmem S1536x128 .bf16) (harg1 : arg1.IsWhole)
    (arg2 : Memref sig .tc .smem S16 .f32) (harg2 : arg2.IsWhole) (arg3 : Memref sig .tc .vmem S1x1 .f32) (harg3 : arg3.IsWhole)
    (arg4 : Memref sig .tc .vmem S128x768 .i8) (harg4 : arg4.IsWhole) (arg5 : Memref sig .tc .vmem S128x96 .fp8e4m3) (harg5 : arg5.IsWhole)
    (arg6 : Memref sig .tc .vmem S1536x128 .bf16) (harg6 : arg6.IsWhole) (arg7 : Memref sig .tc .vmem S768x128 .i32) (harg7 : arg7.IsWhole)
    (arg8 : Memref sig .tc .vmem S128x128 .f32) (harg8 : arg8.IsWhole)
    (f1 : Bf (F := F) c arg1) (f2 : Bf (F := F) c arg2) (f3 : Bf (F := F) c arg3) (f8 : Bf (F := F) c arg8) :
    { W : Bf (F := F) c arg4 × Bf (F := F) c arg5 × Bf (F := F) c arg6 //
      ∀ (f4 : Bf (F := F) c arg4) (f5 : Bf (F := F) c arg5) (f6 : Bf (F := F) c arg6) (f7 : Bf (F := F) c arg7)
        (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8
            ∗ (iprop(pt c arg1 f1 ∗ pt c arg2 f2 ∗ pt c arg3 f3 ∗ pt c arg4 W.1 ∗ pt c arg5 W.2.1 ∗ pt c arg6 W.2.2
                ∗ (∃ f, pt c arg7 f) ∗ (∃ f, pt c arg8 f)) -∗ Q ⟨⟩))
          ⊢ wp frame (wpE (defs₀ (F := F)) Variants.none c none) E
              (cc0_quant_x i arg1 harg1 arg2 harg2 arg3 harg3 arg4 harg4 arg5 harg5 arg6 harg6 arg7 harg7 arg8 harg8) Q } := by
  refine ⟨⟨?_, ?_, ?_⟩, fun f4 f5 f6 f7 E Q => ?run⟩
  case run =>
    iintro ⟨H1, H2, H3, H4, H5, H6, H7, H8, Hk⟩
    rw [cc0_quant_x_eq_skeleton]; unfold cc0_quant_x_skel
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

end Cert.QuantX.Body

end
-- ==== Proof.QuantXPoint.lean ====
/-
  Towards the frame of `quant_x`: the two reshapes the host does, then the pipeline over 56 slabs of 128 channels. The body's run
  (`Body.kernelRun`) is applied at every point on the blocks of the three inputs; each result's staging buffer holds after a
  point what the run leaves in it, whatever the scratch buffers held before the point.
-/
module

public import proofs.«01_k».proof.Proof.QuantXBody
public import Idealize.ShloMosaic.Lib.HeldBySlice
public import Idealize.ShloMosaic.Lib.Claim
public import Idealize.ShloMosaic.Lib.Ring
public import Idealize.ShloMosaic.Lib.Pointwise

@[expose] public section

set_option maxRecDepth 16384

noncomputable section

namespace Cert.QuantX.Body

open Cert.QuantX Cert.QuantX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The host's reshapes -/

/-- Core `c`'s buffers when the pipeline starts: after the two reshapes. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks and staging buffers -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .vmem S1536x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x768 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x96 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x128 .bf16 := win0_5.stage (cfg0.slots t 5)
abbrev hs0_5 (t : Fin cfg0.N) : (ms0_5 t).IsWhole := hstage0_5 ((cfg0.slots t 5).cast nbuf0_5)
/-- The two scratch buffers, whole. -/
abbrev scB : Memref sig .tc .vmem S768x128 .i32 := Memref.whole cc0_scratch0
abbrev scS : Memref sig .tc .vmem S128x128 .f32 := Memref.whole cc0_scratch1

/-- The body as the pipeline calls it at point `t`. -/
abbrev bodyAt0 (t : Fin cfg0.N) :=
  cc0_quant_x (F := F) (grid0.coords t) (ms0_0 t) (hs0_0 t) (ms0_1 t) (hs0_1 t) (ms0_2 t) (hs0_2 t) (ms0_3 t) (hs0_3 t) (ms0_4 t) (hs0_4 t) (ms0_5 t) (hs0_5 t)
    scB (Memref.isWhole_whole _) scS (Memref.isWhole_whole _)

/-- The run at point `t`, on the inputs' blocks, the scale scratch holding `f8`. -/
abbrev runAt (c : Dev nD) (t : Fin cfg0.N) (f8 : Bf (F := F) c scS) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scB (Memref.isWhole_whole _) scS (Memref.isWhole_whole _)
    ((hs0_0 t).unread (iblk m c 0 t)) ((hs0_1 t).unread (iblk m c 1 t)) ((hs0_2 t).unread (iblk m c 2 t)) f8

/-- What the three results' staging buffers hold after point `t`. -/
def out3 (c : Dev nD) (t : Fin cfg0.N) : Vec F S128x768 .i8 := (ms0_3 t).view.read (Elt F) (runAt m c t scS.view.junk).1.1
def out4 (c : Dev nD) (t : Fin cfg0.N) : Vec F S128x96 .fp8e4m3 := (ms0_4 t).view.read (Elt F) (runAt m c t scS.view.junk).1.2.1
def out5 (c : Dev nD) (t : Fin cfg0.N) : Vec F S1536x128 .bf16 := (ms0_5 t).view.read (Elt F) (runAt m c t scS.view.junk).1.2.2

/-! ## The block scales do not depend on what the scale scratch held -/

/-- Of the scale scratch's transpose only the first 96 columns are kept. -/
theorem pay2_congr (v w : Vec F S128x128 .f32) (h : ∀ (g : Fin 128) (l : Fin 128), g.val < 96 → v (ix2 g l) = w (ix2 g l)) :
    k0_pay2 v = k0_pay2 w := by
  have key : ∀ x y, k0_pay2 v (ix2 x y) = k0_pay2 w (ix2 x y) := by
    intro x y
    pointwise [k0_pay2]
    rw [h _ _ (by first | exact y.isLt | (have := y.isLt; simp; omega))]
  exact funext fun i => by
    rw [show i = ix2 (i 0) (i 1) from funext fun a => by fin_cases a <;> rfl]
    exact key _ _

theorem pay2_scratch (c : Dev nD) (arg1 : Memref sig .tc .vmem S1536x128 .bf16) (harg1 : arg1.IsWhole)
    (arg2 : Memref sig .tc .smem S16 .f32) (arg3 : Memref sig .tc .vmem S1x1 .f32) (arg8 : Memref sig .tc .vmem S128x128 .f32)
    (f1 : Bf (F := F) c arg1) (f2 : Bf (F := F) c arg2) (f3 : Bf (F := F) c arg3) (f8 f8' : Bf (F := F) c arg8) :
    k0_pay2 (View.readAt (Elt F) arg8.view (Rect.unit (s := S128x128) ![0, 0] S128x128.size inb_S128x128_S128x128_0_0).toLoadRect
        (arg8.view.writes (Elt F) f8 (kernelRun.sl.H8_12 c arg1 harg1 arg2 arg3 f1 f2 f3)))
      = k0_pay2 (View.readAt (Elt F) arg8.view (Rect.unit (s := S128x128) ![0, 0] S128x128.size inb_S128x128_S128x128_0_0).toLoadRect
        (arg8.view.writes (Elt F) f8' (kernelRun.sl.H8_12 c arg1 harg1 arg2 arg3 f1 f2 f3))) := by
  refine pay2_congr _ _ fun g l hg => ?_
  refine View.read_writes_apply_eq _ _ _ _ _ _ ?_
  rw [show (Rect.unit (s := S128x128) ![0, 0] S128x128.size inb_S128x128_S128x128_0_0).toLoadRect.idx (ix2 g l) = ix2 g l from
    funext fun a => Fin.ext (by fin_cases a <;> simp [LoadRect.idx, Rect.unit])]
  obtain ⟨q, hq, h1, h2⟩ : ∃ q, q < 12 ∧ 8 * q ≤ g.val ∧ g.val < 8 * q + 8 := ⟨g.val / 8, by omega, by omega, by omega⟩
  have hl := l.isLt
  unfold kernelRun.sl.H8_12 kernelRun.sl.H8_11 kernelRun.sl.H8_10 kernelRun.sl.H8_9 kernelRun.sl.H8_8 kernelRun.sl.H8_7
    kernelRun.sl.H8_6 kernelRun.sl.H8_5 kernelRun.sl.H8_4 kernelRun.sl.H8_3 kernelRun.sl.H8_2 kernelRun.sl.H8_1
  simp only [List.mem_cons, List.not_mem_nil, or_false, exists_eq_or_imp, exists_eq_left, Rect.mem_set_unit, Fin.forall_fin_two]
  interval_cases q <;> simp <;> omega

theorem out4_eq (c : Dev nD) (t : Fin cfg0.N) (f8 : Bf (F := F) c scS) :
    (runAt m c t f8).1.2.1 = (runAt m c t scS.view.junk).1.2.1 := by
  unfold runAt kernelRun
  dsimp only
  unfold kernelRun.sl.H5_1
  rw [pay2_scratch]

theorem out3_unread (c : Dev nD) (t : Fin cfg0.N) (f8 : Bf (F := F) c scS) : (hs0_3 t).unread (out3 m c t) = (runAt m c t f8).1.1 := by
  unfold out3; rw [(hs0_3 t).unread_read]; unfold runAt kernelRun; dsimp only
theorem out4_unread (c : Dev nD) (t : Fin cfg0.N) (f8 : Bf (F := F) c scS) : (hs0_4 t).unread (out4 m c t) = (runAt m c t f8).1.2.1 := by
  unfold out4; rw [(hs0_4 t).unread_read, out4_eq m c t f8]
theorem out5_unread (c : Dev nD) (t : Fin cfg0.N) (f8 : Bf (F := F) c scS) : (hs0_5 t).unread (out5 m c t) = (runAt m c t f8).1.2.2 := by
  unfold out5; rw [(hs0_5 t).unread_read]; unfold runAt kernelRun; dsimp only

/-- A whole memref owned at `X` is its buffer held at the contents that read `X`. -/
theorem owns_eq (c : Dev nD) {sp : Space} {S : Shape} {e : EltTy} {M : Memref sig .tc sp S e} (h : M.IsWhole) (X : S.Idx → Elt F e) :
    (owns (c : Thread nD τ) M fullShare X : sProp 𝕄) = pt c M (h.unread X) := by
  obtain ⟨f, rfl⟩ := h.read_bijective.2 X
  rw [h.unread_read]
  obtain ⟨b, hsp, hsh, he, h⟩ := h
  subst hsp hsh he
  cases h
  exact owns_whole _ _ _ _

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => out5 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.QuantX.Body

end
-- ==== Proof.QuantXFrame.lean ====
/-
  The frame of `quant_x`: the run applied at every point, the launch, and the arguments found unchanged at the end.
-/
module

public import proofs.«01_k».proof.Proof.QuantXPoint
public import Idealize.ShloMosaic.Lib.HeldBySlice
public import Idealize.ShloMosaic.Lib.Claim
public import Idealize.ShloMosaic.Lib.Ring
public import Idealize.ShloMosaic.Lib.Pointwise

@[expose] public section

set_option maxRecDepth 16384

noncomputable section

namespace Cert.QuantX.Body

open Cert.QuantX Cert.QuantX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the two scratch buffers are taken out of the invariant, the run is applied, and they are put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5]
  rw [owns_eq c (hs0_0 t), owns_eq c (hs0_1 t), owns_eq c (hs0_2 t), owns_eq c (hs0_3 t), owns_eq c (hs0_4 t), owns_eq c (hs0_5 t)]
  simp only [owns_eq c (hs0_0 t), owns_eq c (hs0_1 t), owns_eq c (hs0_2 t), owns_eq c (hs0_3 t), owns_eq c (hs0_4 t), owns_eq c (hs0_5 t)]
  unfold Pipeline.ΦA
  rw [scopedRest0_eq]
  iintro ⟨⟨⟨⟨%f7, HB⟩, ⟨%f8, HS⟩⟩, Hg⟩, Ho, ⟨%d0, H0⟩, ⟨%d1, H1⟩, ⟨%d2, H2⟩, ⟨%d3, H3⟩, ⟨%d4, H4⟩, ⟨%d5, H5⟩⟩
  have e3 := out3_unread m c t f8
  have e4 := out4_unread m c t f8
  have e5 := out5_unread m c t f8
  rw [e3, e4, e5]
  clear e3 e4 e5
  generalize runAt m c t f8 = w
  obtain ⟨⟨w3, w4, w5⟩, hw⟩ := w
  dsimp only
  unfold bodyAt0
  iapply (hw ((hs0_3 t).unread ((dats m 0 c).before 3 t d3)) ((hs0_4 t).unread ((dats m 0 c).before 4 t d4)) ((hs0_5 t).unread ((dats m 0 c).before 5 t d5)) f7 Set.univ _)
  isplitl [H0]; · iexact H0
  isplitl [H1]; · iexact H1
  isplitl [H2]; · iexact H2
  isplitl [H3]; · iexact H3
  isplitl [H4]; · iexact H4
  isplitl [H5]; · iexact H5
  isplitl [HB]; · iexact HB
  isplitl [HS]; · iexact HS
  iintro ⟨H0, H1, H2, H3, H4, H5, ⟨%f7', HB⟩, ⟨%f8', HS⟩⟩
  isplitl [HB HS Hg]
  · isplitl [HB HS]
    · isplitl [HB]; · iexists f7'; iexact HB
      iexists f8'; iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch: every array ends at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

variable {m ρ}

/-- The three arguments after the run. -/
theorem final_args {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩

variable (m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨final_args h.1, h.2⟩) (run_main_quiescent m ρ)

end Cert.QuantX.Body

end
-- ==== Proof.QuantXIdealBody.lean ====
/-
  The body of `quant_x` run once on whole staging buffers: what it leaves in the codes, the block scales and the decoded
  values, found by the run. The byte scratch is overwritten before it is read; the scale scratch is read whole although
  only its first 96 rows are written, so its entry contents `f8` stay a parameter.
-/
module

public import proofs.«01_k».proof.Proof.Gen.QuantXIdeal.Launch
public import proofs.«01_k».proof.Proof.Gen.QuantXIdeal.Skeleton
public import Idealize.ShloMosaic.Lib.Pipeline.FrameBody
public import Idealize.ShloMosaic.Lib.Tactic

@[expose] public section

set_option maxRecDepth 16384

noncomputable section

namespace Cert.QuantXIdeal.Body

open Cert.QuantXIdeal Cert.QuantXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.stridedRows true
set_option maxHeartbeats 4000000

/-- What the body leaves in its three results, WITH the proof that it runs to its return leaving them so, the inputs as
    they were and the scratch buffers at something. -/
noncomputable def kernelRun (c : Dev nD) (i : grid0.Coords) (arg1 : Memref sig .tc .vmem S1536x128 .bf16) (harg1 : arg1.IsWhole)
    (arg2 : Memref sig .tc .smem S16 .f32) (harg2 : arg2.IsWhole) (arg3 : Memref sig .tc .vmem S1x1 .f32) (harg3 : arg3.IsWhole)
    (arg4 : Memref sig .tc .vmem S128x768 .i8) (harg4 : arg4.IsWhole) (arg5 : Memref sig .tc .vmem S128x96 .fp8e4m3) (harg5 : arg5.IsWhole)
    (arg6 : Memref sig .tc .vmem S1536x128 .bf16) (harg6 : arg6.IsWhole) (arg7 : Memref sig .tc .vmem S768x128 .i32) (harg7 : arg7.IsWhole)
    (arg8 : Memref sig .tc .vmem S128x128 .f32) (harg8 : arg8.IsWhole)
    (f1 : Bf (F := F) c arg1) (f2 : Bf (F := F) c arg2) (f3 : Bf (F := F) c arg3) (f8 : Bf (F := F) c arg8) :
    { W : Bf (F := F) c arg4 × Bf (F := F) c arg5 × Bf (F := F) c arg6 //
      ∀ (f4 : Bf (F := F) c arg4) (f5 : Bf (F := F) c arg5) (f6 : Bf (F := F) c arg6) (f7 : Bf (F := F) c arg7)
        (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8
            ∗ (iprop(pt c arg1 f1 ∗ pt c arg2 f2 ∗ pt c arg3 f3 ∗ pt c arg4 W.1 ∗ pt c arg5 W.2.1 ∗ pt c arg6 W.2.2
                ∗ (∃ f, pt c arg7 f) ∗ (∃ f, pt c arg8 f)) -∗ Q ⟨⟩))
          ⊢ wp frame (wpE (defs₀ (F := F)) Variants.none c none) E
              (cc0_quant_x i arg1 harg1 arg2 harg2 arg3 harg3 arg4 harg4 arg5 harg5 arg6 harg6 arg7 harg7 arg8 harg8) Q } := by
  refine ⟨⟨?_, ?_, ?_⟩, fun f4 f5 f6 f7 E Q => ?run⟩
  case run =>
    iintro ⟨H1, H2, H3, H4, H5, H6, H7, H8, Hk⟩
    rw [cc0_quant_x_eq_skeleton]; unfold cc0_quant_x_skel
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

end Cert.QuantXIdeal.Body

end
-- ==== Proof.QuantXIdealPoint.lean ====
/-
  Towards the frame of `quant_x`: the two reshapes the host does, then the pipeline over 56 slabs of 128 channels. The body's run
  (`Body.kernelRun`) is applied at every point on the blocks of the three inputs; each result's staging buffer holds after a
  point what the run leaves in it, whatever the scratch buffers held before the point.
-/
module

public import proofs.«01_k».proof.Proof.QuantXIdealBody
public import Idealize.ShloMosaic.Lib.HeldBySlice
public import Idealize.ShloMosaic.Lib.Claim
public import Idealize.ShloMosaic.Lib.Ring
public import Idealize.ShloMosaic.Lib.Pointwise

@[expose] public section

set_option maxRecDepth 16384

noncomputable section

namespace Cert.QuantXIdeal.Body

open Cert.QuantXIdeal Cert.QuantXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's reshapes -/

/-- Core `c`'s buffers when the pipeline starts: after the two reshapes. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks and staging buffers -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .vmem S1536x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x768 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x96 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x128 .bf16 := win0_5.stage (cfg0.slots t 5)
abbrev hs0_5 (t : Fin cfg0.N) : (ms0_5 t).IsWhole := hstage0_5 ((cfg0.slots t 5).cast nbuf0_5)
/-- The two scratch buffers, whole. -/
abbrev scB : Memref sig .tc .vmem S768x128 .i32 := Memref.whole cc0_scratch0
abbrev scS : Memref sig .tc .vmem S128x128 .f32 := Memref.whole cc0_scratch1

/-- The body as the pipeline calls it at point `t`. -/
abbrev bodyAt0 (t : Fin cfg0.N) :=
  cc0_quant_x (F := F) (grid0.coords t) (ms0_0 t) (hs0_0 t) (ms0_1 t) (hs0_1 t) (ms0_2 t) (hs0_2 t) (ms0_3 t) (hs0_3 t) (ms0_4 t) (hs0_4 t) (ms0_5 t) (hs0_5 t)
    scB (Memref.isWhole_whole _) scS (Memref.isWhole_whole _)

/-- The run at point `t`, on the inputs' blocks, the scale scratch holding `f8`. -/
abbrev runAt (c : Dev nD) (t : Fin cfg0.N) (f8 : Bf (F := F) c scS) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scB (Memref.isWhole_whole _) scS (Memref.isWhole_whole _)
    ((hs0_0 t).unread (iblk m c 0 t)) ((hs0_1 t).unread (iblk m c 1 t)) ((hs0_2 t).unread (iblk m c 2 t)) f8

/-- What the three results' staging buffers hold after point `t`. -/
def out3 (c : Dev nD) (t : Fin cfg0.N) : Vec F S128x768 .i8 := (ms0_3 t).view.read (Elt F) (runAt m c t scS.view.junk).1.1
def out4 (c : Dev nD) (t : Fin cfg0.N) : Vec F S128x96 .fp8e4m3 := (ms0_4 t).view.read (Elt F) (runAt m c t scS.view.junk).1.2.1
def out5 (c : Dev nD) (t : Fin cfg0.N) : Vec F S1536x128 .bf16 := (ms0_5 t).view.read (Elt F) (runAt m c t scS.view.junk).1.2.2

/-! ## The block scales do not depend on what the scale scratch held -/

/-- Of the scale scratch's transpose only the first 96 columns are kept. -/
theorem pay2_congr (v w : Vec F S128x128 .f32) (h : ∀ (g : Fin 128) (l : Fin 128), g.val < 96 → v (ix2 g l) = w (ix2 g l)) :
    k0_pay2 v = k0_pay2 w := by
  have key : ∀ x y, k0_pay2 v (ix2 x y) = k0_pay2 w (ix2 x y) := by
    intro x y
    pointwise [k0_pay2]
    rw [h _ _ (by first | exact y.isLt | (have := y.isLt; simp; omega))]
  exact funext fun i => by
    rw [show i = ix2 (i 0) (i 1) from funext fun a => by fin_cases a <;> rfl]
    exact key _ _

theorem pay2_scratch (c : Dev nD) (arg1 : Memref sig .tc .vmem S1536x128 .bf16) (harg1 : arg1.IsWhole)
    (arg2 : Memref sig .tc .smem S16 .f32) (arg3 : Memref sig .tc .vmem S1x1 .f32) (arg8 : Memref sig .tc .vmem S128x128 .f32)
    (f1 : Bf (F := F) c arg1) (f2 : Bf (F := F) c arg2) (f3 : Bf (F := F) c arg3) (f8 f8' : Bf (F := F) c arg8) :
    k0_pay2 (View.readAt (Elt F) arg8.view (Rect.unit (s := S128x128) ![0, 0] S128x128.size inb_S128x128_S128x128_0_0).toLoadRect
        (arg8.view.writes (Elt F) f8 (kernelRun.sl.H8_12 c arg1 harg1 arg2 arg3 f1 f2 f3)))
      = k0_pay2 (View.readAt (Elt F) arg8.view (Rect.unit (s := S128x128) ![0, 0] S128x128.size inb_S128x128_S128x128_0_0).toLoadRect
        (arg8.view.writes (Elt F) f8' (kernelRun.sl.H8_12 c arg1 harg1 arg2 arg3 f1 f2 f3))) := by
  refine pay2_congr _ _ fun g l hg => ?_
  refine View.read_writes_apply_eq _ _ _ _ _ _ ?_
  rw [show (Rect.unit (s := S128x128) ![0, 0] S128x128.size inb_S128x128_S128x128_0_0).toLoadRect.idx (ix2 g l) = ix2 g l from
    funext fun a => Fin.ext (by fin_cases a <;> simp [LoadRect.idx, Rect.unit])]
  obtain ⟨q, hq, h1, h2⟩ : ∃ q, q < 12 ∧ 8 * q ≤ g.val ∧ g.val < 8 * q + 8 := ⟨g.val / 8, by omega, by omega, by omega⟩
  have hl := l.isLt
  unfold kernelRun.sl.H8_12 kernelRun.sl.H8_11 kernelRun.sl.H8_10 kernelRun.sl.H8_9 kernelRun.sl.H8_8 kernelRun.sl.H8_7
    kernelRun.sl.H8_6 kernelRun.sl.H8_5 kernelRun.sl.H8_4 kernelRun.sl.H8_3 kernelRun.sl.H8_2 kernelRun.sl.H8_1
  simp only [List.mem_cons, List.not_mem_nil, or_false, exists_eq_or_imp, exists_eq_left, Rect.mem_set_unit, Fin.forall_fin_two]
  interval_cases q <;> simp <;> omega

theorem out4_eq (c : Dev nD) (t : Fin cfg0.N) (f8 : Bf (F := F) c scS) :
    (runAt m c t f8).1.2.1 = (runAt m c t scS.view.junk).1.2.1 := by
  unfold runAt kernelRun
  dsimp only
  unfold kernelRun.sl.H5_1
  rw [pay2_scratch]

theorem out3_unread (c : Dev nD) (t : Fin cfg0.N) (f8 : Bf (F := F) c scS) : (hs0_3 t).unread (out3 m c t) = (runAt m c t f8).1.1 := by
  unfold out3; rw [(hs0_3 t).unread_read]; unfold runAt kernelRun; dsimp only
theorem out4_unread (c : Dev nD) (t : Fin cfg0.N) (f8 : Bf (F := F) c scS) : (hs0_4 t).unread (out4 m c t) = (runAt m c t f8).1.2.1 := by
  unfold out4; rw [(hs0_4 t).unread_read, out4_eq m c t f8]
theorem out5_unread (c : Dev nD) (t : Fin cfg0.N) (f8 : Bf (F := F) c scS) : (hs0_5 t).unread (out5 m c t) = (runAt m c t f8).1.2.2 := by
  unfold out5; rw [(hs0_5 t).unread_read]; unfold runAt kernelRun; dsimp only

/-- A whole memref owned at `X` is its buffer held at the contents that read `X`. -/
theorem owns_eq (c : Dev nD) {sp : Space} {S : Shape} {e : EltTy} {M : Memref sig .tc sp S e} (h : M.IsWhole) (X : S.Idx → Elt F e) :
    (owns (c : Thread nD τ) M fullShare X : sProp 𝕄) = pt c M (h.unread X) := by
  obtain ⟨f, rfl⟩ := h.read_bijective.2 X
  rw [h.unread_read]
  obtain ⟨b, hsp, hsh, he, h⟩ := h
  subst hsp hsh he
  cases h
  exact owns_whole _ _ _ _

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => out5 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.QuantXIdeal.Body

end
-- ==== Proof.QuantXIdealFrame.lean ====
/-
  The frame of `quant_x`: the run applied at every point, the launch, and the arguments found unchanged at the end.
-/
module

public import proofs.«01_k».proof.Proof.QuantXIdealPoint
public import Idealize.ShloMosaic.Lib.HeldBySlice
public import Idealize.ShloMosaic.Lib.Claim
public import Idealize.ShloMosaic.Lib.Ring
public import Idealize.ShloMosaic.Lib.Pointwise

@[expose] public section

set_option maxRecDepth 16384

noncomputable section

namespace Cert.QuantXIdeal.Body

open Cert.QuantXIdeal Cert.QuantXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the two scratch buffers are taken out of the invariant, the run is applied, and they are put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5]
  rw [owns_eq c (hs0_0 t), owns_eq c (hs0_1 t), owns_eq c (hs0_2 t), owns_eq c (hs0_3 t), owns_eq c (hs0_4 t), owns_eq c (hs0_5 t)]
  simp only [owns_eq c (hs0_0 t), owns_eq c (hs0_1 t), owns_eq c (hs0_2 t), owns_eq c (hs0_3 t), owns_eq c (hs0_4 t), owns_eq c (hs0_5 t)]
  unfold Pipeline.ΦA
  rw [scopedRest0_eq]
  iintro ⟨⟨⟨⟨%f7, HB⟩, ⟨%f8, HS⟩⟩, Hg⟩, Ho, ⟨%d0, H0⟩, ⟨%d1, H1⟩, ⟨%d2, H2⟩, ⟨%d3, H3⟩, ⟨%d4, H4⟩, ⟨%d5, H5⟩⟩
  have e3 := out3_unread m c t f8
  have e4 := out4_unread m c t f8
  have e5 := out5_unread m c t f8
  rw [e3, e4, e5]
  clear e3 e4 e5
  generalize runAt m c t f8 = w
  obtain ⟨⟨w3, w4, w5⟩, hw⟩ := w
  dsimp only
  unfold bodyAt0
  iapply (hw ((hs0_3 t).unread ((dats m 0 c).before 3 t d3)) ((hs0_4 t).unread ((dats m 0 c).before 4 t d4)) ((hs0_5 t).unread ((dats m 0 c).before 5 t d5)) f7 Set.univ _)
  isplitl [H0]; · iexact H0
  isplitl [H1]; · iexact H1
  isplitl [H2]; · iexact H2
  isplitl [H3]; · iexact H3
  isplitl [H4]; · iexact H4
  isplitl [H5]; · iexact H5
  isplitl [HB]; · iexact HB
  isplitl [HS]; · iexact HS
  iintro ⟨H0, H1, H2, H3, H4, H5, ⟨%f7', HB⟩, ⟨%f8', HS⟩⟩
  isplitl [HB HS Hg]
  · isplitl [HB HS]
    · isplitl [HB]; · iexists f7'; iexact HB
      iexists f8'; iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch: every array ends at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

variable {m ρ}

/-- The three arguments after the run. -/
theorem final_args {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩

variable (m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨final_args h.1, h.2⟩) (run_main_quiescent m ρ)

end Cert.QuantXIdeal.Body

end
-- ==== Proof.QuantXIdealHalf.lean ====
/-
  One half of the body of `quant_x` as a function: the 16 values of a group of tokens, eight groups and 128 channels at a
  time, go through the butterflies, the block scale and the quantiser to the eight bytes of codes of each group.
-/
module

public import proofs.«01_k».proof.Proof.Gen.QuantXIdeal.Skeleton

@[expose] public section

noncomputable section

namespace Cert.QuantXIdeal.Half

open Cert.QuantXIdeal Cert.QuantXIdeal.Gen
open Idealize.ShloMosaic

/-- Functions of sixteen things, one for each token of a group. -/
abbrev Of16 (α β : Type) : Type :=
  α → α → α → α → α → α → α → α → α → α → α → α → α → α → α → α → β

section
variable {α β : Type} (add sub : α → α → α) (k : Of16 α β)

/-- The butterflies at distance 1, then `k`. -/
def step1 : Of16 α β := fun v0 v1 v2 v3 v4 v5 v6 v7 v8 v9 v10 v11 v12 v13 v14 v15 =>
  k (add v0 v1) (sub v0 v1) (add v2 v3) (sub v2 v3) (add v4 v5) (sub v4 v5) (add v6 v7) (sub v6 v7)
    (add v8 v9) (sub v8 v9) (add v10 v11) (sub v10 v11) (add v12 v13) (sub v12 v13) (add v14 v15) (sub v14 v15)

/-- The butterflies at distance 2, then `k`. -/
def step2 : Of16 α β := fun v0 v1 v2 v3 v4 v5 v6 v7 v8 v9 v10 v11 v12 v13 v14 v15 =>
  k (add v0 v2) (add v1 v3) (sub v0 v2) (sub v1 v3) (add v4 v6) (add v5 v7) (sub v4 v6) (sub v5 v7)
    (add v8 v10) (add v9 v11) (sub v8 v10) (sub v9 v11) (add v12 v14) (add v13 v15) (sub v12 v14) (sub v13 v15)

/-- The butterflies at distance 4, then `k`. -/
def step4 : Of16 α β := fun v0 v1 v2 v3 v4 v5 v6 v7 v8 v9 v10 v11 v12 v13 v14 v15 =>
  k (add v0 v4) (add v1 v5) (add v2 v6) (add v3 v7) (sub v0 v4) (sub v1 v5) (sub v2 v6) (sub v3 v7)
    (add v8 v12) (add v9 v13) (add v10 v14) (add v11 v15) (sub v8 v12) (sub v9 v13) (sub v10 v14) (sub v11 v15)

/-- The butterflies at distance 8, then `k`. -/
def step8 : Of16 α β := fun v0 v1 v2 v3 v4 v5 v6 v7 v8 v9 v10 v11 v12 v13 v14 v15 =>
  k (add v0 v8) (add v1 v9) (add v2 v10) (add v3 v11) (add v4 v12) (add v5 v13) (add v6 v14) (add v7 v15)
    (sub v0 v8) (sub v1 v9) (sub v2 v10) (sub v3 v11) (sub v4 v12) (sub v5 v13) (sub v6 v14) (sub v7 v15)

/-- The four passes of butterflies, then `k`. -/
def rotate : Of16 α β := step1 add sub (step2 add sub (step4 add sub (step8 add sub k)))

/-- The largest of the sixteen, folded from the left. -/
def fold (max : α → α → α) : Of16 α α := fun v0 v1 v2 v3 v4 v5 v6 v7 v8 v9 v10 v11 v12 v13 v14 v15 =>
  max (max (max (max (max (max (max (max (max (max (max (max (max (max (max v0 v1) v2) v3) v4) v5) v6) v7) v8) v9) v10) v11) v12) v13) v14) v15

end

variable {F : FTy → Type} [FloatOps F]

def splat (w : BitVec 32) : FVec F S8x128 .f32 := broadcast S8x128 (Scalar.ofBits .f32 w : F .f32)
def splatB (w : BitVec 16) : FVec F S16x128 .bf16 := broadcast S16x128 (Scalar.ofBits .bf16 w : F .bf16)

/-- The even and the odd rows of a load of eight pairs of rows, as `f32`, each times its sign. -/
def even (raw : Vec F S8x2x128 .bf16) (s : F .f32) : FVec F S8x128 .f32 :=
  mulf (extf .f32 (shapeCast S8x128 (rowsOfParity 0 S8x1x128 raw bitcasts_S8x2x128_w16_S8x1x128_w32) shapeCasts_S8x1x128_S8x128 : FVec F S8x128 .bf16)) (broadcast S8x128 s)
def odd (raw : Vec F S8x2x128 .bf16) (s : F .f32) : FVec F S8x128 .f32 :=
  mulf (extf .f32 (shapeCast S8x128 (rowsOfParity 1 S8x1x128 raw bitcasts_S8x2x128_w16_S8x1x128_w32) shapeCasts_S8x1x128_S8x128 : FVec F S8x128 .bf16)) (broadcast S8x128 s)

/-- The tensor scale, over all the lanes. -/
def scale (amax : Vec F S1x1 .f32) : FVec F S8x128 .f32 :=
  broadcastTo S8x128 (shapeCast S1x1 (select
      (cmpf .ogt (shapeCast S1x1 amax shapeCasts_S1x1_S1x1 : FVec F S1x1 .f32) (broadcast S1x1 (Scalar.ofBits .f32 0x00000000#32 : F .f32)))
      (divf (shapeCast S1x1 amax shapeCasts_S1x1_S1x1 : FVec F S1x1 .f32) (broadcast S1x1 (Scalar.ofBits .f32 0x45280000#32 : F .f32)))
      (broadcast S1x1 (Scalar.ofBits .f32 0x3F800000#32 : F .f32))) shapeCasts_S1x1_S1x1) broadcasts_S1x1_S8x128

/-- The largest magnitude of a group, from sixteen values without their factor 1/4. -/
def amax : Of16 (FVec F S8x128 .f32) (FVec F S8x128 .f32) := fun z0 z1 z2 z3 z4 z5 z6 z7 z8 z9 z10 z11 z12 z13 z14 z15 =>
  mulf (fold maximumf (absf z0) (absf z1) (absf z2) (absf z3) (absf z4) (absf z5) (absf z6) (absf z7) (absf z8) (absf z9) (absf z10) (absf z11) (absf z12) (absf z13) (absf z14) (absf z15)) (splat 0x3E800000#32)

/-- The block scale, from the largest magnitude. -/
def sb (st a : FVec F S8x128 .f32) : FVec F S8x128 .f32 := minimumf (divf a (mulf (splat 0x40C00000#32) st)) (splat 0x43E00000#32)

def q (st a : FVec F S8x128 .f32) : FVec F S8x128 .f32 := mulf (sb st a) st

/-- A quarter of the reciprocal of the block's scale, zero where that is zero. -/
def inv (st a : FVec F S8x128 .f32) : FVec F S8x128 .f32 :=
  mulf (select (cmpf .ogt (q st a) (splat 0x00000000#32))
      (divf (splat 0x3F800000#32) (select (cmpf .ogt (q st a) (splat 0x00000000#32)) (q st a) (splat 0x3F800000#32)))
      (splat 0x00000000#32)) (splat 0x3E800000#32)

/-- The level of a magnitude `m`: the nearest integer of a piecewise linear function of it. -/
def level (m : FVec F S8x128 .f32) : FVec F S8x128 .f32 :=
  roundeven (minimumf (minimumf (addf m m) (addf m (splat 0x40000000#32)))
    (minimumf (addf (mulf m (splat 0x3F000000#32)) (splat 0x40800000#32)) (splat 0x40E00000#32)))

/-- The level with the sign of the value. -/
def signed (z k : FVec F S8x128 .f32) : FVec F S8x128 .f32 := select (cmpf .olt z (splat 0x00000000#32)) (subf (splat 0x00000000#32) k) k

def lev (st a z : FVec F S8x128 .f32) : FVec F S8x128 .f32 := signed z (level (mulf (absf z) (inv st a)))

/-- Two signed levels in the two halves of a word. -/
def pair (a b : FVec F S8x128 .f32) : FVec F S16x128 .bf16 :=
  interleaveRows S16x128 (truncf .bf16 a : FVec F S8x128 .bf16) (truncf .bf16 b : FVec F S8x128 .bf16) bitcasts_S16x128_w16_S8x128_w32

/-- The four-bit code of a signed level, and the byte of two codes. -/
def code (c : FVec F S16x128 .bf16) : FVec F S16x128 .bf16 := select (cmpf .olt c (splatB 0x0000#16)) (subf (splatB 0x4100#16) c) c
def byte (e o : FVec F S16x128 .bf16) : FVec F S16x128 .bf16 := addf (code e) (mulf (splatB 0x4180#16) (code o))

/-- The bytes of the lower and of the upper halves of the words. -/
def low (b : FVec F S16x128 .bf16) : IVec S8x128 32 :=
  fptosi 32 (extf .f32 (rowsOfParity 0 S8x128 b bitcasts_S16x128_w16_S8x128_w32 : FVec F S8x128 .bf16) : FVec F S8x128 .f32)
def high (b : FVec F S16x128 .bf16) : IVec S8x128 32 :=
  fptosi 32 (extf .f32 (rowsOfParity 1 S8x128 b bitcasts_S16x128_w16_S8x128_w32 : FVec F S8x128 .bf16) : FVec F S8x128 .f32)

/-- The bytes of four values `z w` (lower nibbles) and `z' w'` (upper nibbles). -/
def bytes (st a z w z' w' : FVec F S8x128 .f32) : FVec F S16x128 .bf16 := byte (pair (lev st a z) (lev st a w)) (pair (lev st a z') (lev st a w'))

/-- The eight words and the block scale a half stores, from the rotated values. -/
def word0 (st : FVec F S8x128 .f32) : Of16 (FVec F S8x128 .f32) (IVec S8x128 32) := fun z0 z1 z2 z3 z4 z5 z6 z7 z8 z9 z10 z11 z12 z13 z14 z15 =>
  low (bytes st (amax z0 z1 z2 z3 z4 z5 z6 z7 z8 z9 z10 z11 z12 z13 z14 z15) z0 z2 z1 z3)
def word1 (st : FVec F S8x128 .f32) : Of16 (FVec F S8x128 .f32) (IVec S8x128 32) := fun z0 z1 z2 z3 z4 z5 z6 z7 z8 z9 z10 z11 z12 z13 z14 z15 =>
  high (bytes st (amax z0 z1 z2 z3 z4 z5 z6 z7 z8 z9 z10 z11 z12 z13 z14 z15) z0 z2 z1 z3)
def word2 (st : FVec F S8x128 .f32) : Of16 (FVec F S8x128 .f32) (IVec S8x128 32) := fun z0 z1 z2 z3 z4 z5 z6 z7 z8 z9 z10 z11 z12 z13 z14 z15 =>
  low (bytes st (amax z0 z1 z2 z3 z4 z5 z6 z7 z8 z9 z10 z11 z12 z13 z14 z15) z4 z6 z5 z7)
def word3 (st : FVec F S8x128 .f32) : Of16 (FVec F S8x128 .f32) (IVec S8x128 32) := fun z0 z1 z2 z3 z4 z5 z6 z7 z8 z9 z10 z11 z12 z13 z14 z15 =>
  high (bytes st (amax z0 z1 z2 z3 z4 z5 z6 z7 z8 z9 z10 z11 z12 z13 z14 z15) z4 z6 z5 z7)
def word4 (st : FVec F S8x128 .f32) : Of16 (FVec F S8x128 .f32) (IVec S8x128 32) := fun z0 z1 z2 z3 z4 z5 z6 z7 z8 z9 z10 z11 z12 z13 z14 z15 =>
  low (bytes st (amax z0 z1 z2 z3 z4 z5 z6 z7 z8 z9 z10 z11 z12 z13 z14 z15) z8 z10 z9 z11)
def word5 (st : FVec F S8x128 .f32) : Of16 (FVec F S8x128 .f32) (IVec S8x128 32) := fun z0 z1 z2 z3 z4 z5 z6 z7 z8 z9 z10 z11 z12 z13 z14 z15 =>
  high (bytes st (amax z0 z1 z2 z3 z4 z5 z6 z7 z8 z9 z10 z11 z12 z13 z14 z15) z8 z10 z9 z11)
def word6 (st : FVec F S8x128 .f32) : Of16 (FVec F S8x128 .f32) (IVec S8x128 32) := fun z0 z1 z2 z3 z4 z5 z6 z7 z8 z9 z10 z11 z12 z13 z14 z15 =>
  low (bytes st (amax z0 z1 z2 z3 z4 z5 z6 z7 z8 z9 z10 z11 z12 z13 z14 z15) z12 z14 z13 z15)
def word7 (st : FVec F S8x128 .f32) : Of16 (FVec F S8x128 .f32) (IVec S8x128 32) := fun z0 z1 z2 z3 z4 z5 z6 z7 z8 z9 z10 z11 z12 z13 z14 z15 =>
  high (bytes st (amax z0 z1 z2 z3 z4 z5 z6 z7 z8 z9 z10 z11 z12 z13 z14 z15) z12 z14 z13 z15)
def scales (st : FVec F S8x128 .f32) : Of16 (FVec F S8x128 .f32) (FVec F S8x128 .f32) := fun z0 z1 z2 z3 z4 z5 z6 z7 z8 z9 z10 z11 z12 z13 z14 z15 => sb st (amax z0 z1 z2 z3 z4 z5 z6 z7 z8 z9 z10 z11 z12 z13 z14 z15)

end Cert.QuantXIdeal.Half

end
-- ==== Proof.QuantXIdealPieces.lean ====
/-
  What the body of `quant_x` stores in its two scratch buffers: half by half, the eight words and the block scales of
  `Half` on the rows that the half loads.
-/
module

public import proofs.«01_k».proof.Proof.QuantXIdealBody
public import proofs.«01_k».proof.Proof.QuantXIdealHalf

@[expose] public section

set_option maxRecDepth 16384

noncomputable section

namespace Cert.QuantXIdeal.Body

open Cert.QuantXIdeal Cert.QuantXIdeal.Gen Cert.QuantXIdeal.Half
open Idealize.ShloMosaic Idealize.ShloMosaic.TcCoe Idealize.ShloMosaic.Tactic

variable {F : FTy → Type} [FloatOps F]
variable (c : Dev nD) (arg1 : Memref sig .tc .vmem S1536x128 .bf16) (harg1 : arg1.IsWhole)
  (arg2 : Memref sig .tc .smem S16 .f32) (arg3 : Memref sig .tc .vmem S1x1 .f32)
  (f1 : Bf (F := F) c arg1) (f2 : Bf (F := F) c arg2) (f3 : Bf (F := F) c arg3)

/-- Eight pairs of rows, eight pairs apart. -/
def ld (off : ℕ) (h : ∀ a, S8x2x128.size a = 0 ∨ (![off, 0, 0] : Fin 3 → ℕ) a + (![8, 1, 1] : Fin 3 → ℕ) a * (S8x2x128.size a - 1) < S768x2x128.size a) : Vec F S8x2x128 .bf16 :=
  View.readAt (Elt F) (arg1.reshape S768x2x128 reshapes_S1536x128_S768x2x128.1 reshapes_S1536x128_S768x2x128.2 harg1.contiguous).view
    (⟨![off, 0, 0], S8x2x128.size, ![8, 1, 1], h⟩ : LoadRect S768x2x128) f1

/-- A sign. -/
def sg (i : ℕ) (h : ∀ a, (![i] : Fin 1 → ℕ) a + S1.size a ≤ S16.size a) : F .f32 :=
  View.readAt (Elt F) arg2.view (Rect.unit (s := S16) ![i] S1.size h).toLoadRect f2 (Shape.Idx.first (by rw [show (Rect.unit (s := S16) ![i] S1.size h).shape.numel = 1 from numel1_S1]; exact Nat.one_pos))

/-- The tensor scale. -/
def st : FVec F S8x128 .f32 :=
  scale (View.readAt (Elt F) arg3.view (Rect.unit (s := S1x1) ![0, 0] S1x1.size inb_S1x1_S1x1_0_0).toLoadRect f3)

/-- Half 0: the values it loads, each times its sign, rotated, then `k`. -/
def half0 {β : Type} (k : Of16 (FVec F S8x128 .f32) β) : β :=
  rotate addf subf k
    (even (ld c arg1 harg1 f1 0 inb_S768x2x128_S8x2x128_0_0_0_s_8_1_1) (sg c arg2 f2 0 inb_S16_S1_0))
    (odd (ld c arg1 harg1 f1 0 inb_S768x2x128_S8x2x128_0_0_0_s_8_1_1) (sg c arg2 f2 1 inb_S16_S1_1))
    (even (ld c arg1 harg1 f1 1 inb_S768x2x128_S8x2x128_1_0_0_s_8_1_1) (sg c arg2 f2 2 inb_S16_S1_2))
    (odd (ld c arg1 harg1 f1 1 inb_S768x2x128_S8x2x128_1_0_0_s_8_1_1) (sg c arg2 f2 3 inb_S16_S1_3))
    (even (ld c arg1 harg1 f1 2 inb_S768x2x128_S8x2x128_2_0_0_s_8_1_1) (sg c arg2 f2 4 inb_S16_S1_4))
    (odd (ld c arg1 harg1 f1 2 inb_S768x2x128_S8x2x128_2_0_0_s_8_1_1) (sg c arg2 f2 5 inb_S16_S1_5))
    (even (ld c arg1 harg1 f1 3 inb_S768x2x128_S8x2x128_3_0_0_s_8_1_1) (sg c arg2 f2 6 inb_S16_S1_6))
    (odd (ld c arg1 harg1 f1 3 inb_S768x2x128_S8x2x128_3_0_0_s_8_1_1) (sg c arg2 f2 7 inb_S16_S1_7))
    (even (ld c arg1 harg1 f1 4 inb_S768x2x128_S8x2x128_4_0_0_s_8_1_1) (sg c arg2 f2 8 inb_S16_S1_8))
    (odd (ld c arg1 harg1 f1 4 inb_S768x2x128_S8x2x128_4_0_0_s_8_1_1) (sg c arg2 f2 9 inb_S16_S1_9))
    (even (ld c arg1 harg1 f1 5 inb_S768x2x128_S8x2x128_5_0_0_s_8_1_1) (sg c arg2 f2 10 inb_S16_S1_10))
    (odd (ld c arg1 harg1 f1 5 inb_S768x2x128_S8x2x128_5_0_0_s_8_1_1) (sg c arg2 f2 11 inb_S16_S1_11))
    (even (ld c arg1 harg1 f1 6 inb_S768x2x128_S8x2x128_6_0_0_s_8_1_1) (sg c arg2 f2 12 inb_S16_S1_12))
    (odd (ld c arg1 harg1 f1 6 inb_S768x2x128_S8x2x128_6_0_0_s_8_1_1) (sg c arg2 f2 13 inb_S16_S1_13))
    (even (ld c arg1 harg1 f1 7 inb_S768x2x128_S8x2x128_7_0_0_s_8_1_1) (sg c arg2 f2 14 inb_S16_S1_14))
    (odd (ld c arg1 harg1 f1 7 inb_S768x2x128_S8x2x128_7_0_0_s_8_1_1) (sg c arg2 f2 15 inb_S16_S1_15))

/-- Half 1: the values it loads, each times its sign, rotated, then `k`. -/
def half1 {β : Type} (k : Of16 (FVec F S8x128 .f32) β) : β :=
  rotate addf subf k
    (even (ld c arg1 harg1 f1 64 inb_S768x2x128_S8x2x128_64_0_0_s_8_1_1) (sg c arg2 f2 0 inb_S16_S1_0))
    (odd (ld c arg1 harg1 f1 64 inb_S768x2x128_S8x2x128_64_0_0_s_8_1_1) (sg c arg2 f2 1 inb_S16_S1_1))
    (even (ld c arg1 harg1 f1 65 inb_S768x2x128_S8x2x128_65_0_0_s_8_1_1) (sg c arg2 f2 2 inb_S16_S1_2))
    (odd (ld c arg1 harg1 f1 65 inb_S768x2x128_S8x2x128_65_0_0_s_8_1_1) (sg c arg2 f2 3 inb_S16_S1_3))
    (even (ld c arg1 harg1 f1 66 inb_S768x2x128_S8x2x128_66_0_0_s_8_1_1) (sg c arg2 f2 4 inb_S16_S1_4))
    (odd (ld c arg1 harg1 f1 66 inb_S768x2x128_S8x2x128_66_0_0_s_8_1_1) (sg c arg2 f2 5 inb_S16_S1_5))
    (even (ld c arg1 harg1 f1 67 inb_S768x2x128_S8x2x128_67_0_0_s_8_1_1) (sg c arg2 f2 6 inb_S16_S1_6))
    (odd (ld c arg1 harg1 f1 67 inb_S768x2x128_S8x2x128_67_0_0_s_8_1_1) (sg c arg2 f2 7 inb_S16_S1_7))
    (even (ld c arg1 harg1 f1 68 inb_S768x2x128_S8x2x128_68_0_0_s_8_1_1) (sg c arg2 f2 8 inb_S16_S1_8))
    (odd (ld c arg1 harg1 f1 68 inb_S768x2x128_S8x2x128_68_0_0_s_8_1_1) (sg c arg2 f2 9 inb_S16_S1_9))
    (even (ld c arg1 harg1 f1 69 inb_S768x2x128_S8x2x128_69_0_0_s_8_1_1) (sg c arg2 f2 10 inb_S16_S1_10))
    (odd (ld c arg1 harg1 f1 69 inb_S768x2x128_S8x2x128_69_0_0_s_8_1_1) (sg c arg2 f2 11 inb_S16_S1_11))
    (even (ld c arg1 harg1 f1 70 inb_S768x2x128_S8x2x128_70_0_0_s_8_1_1) (sg c arg2 f2 12 inb_S16_S1_12))
    (odd (ld c arg1 harg1 f1 70 inb_S768x2x128_S8x2x128_70_0_0_s_8_1_1) (sg c arg2 f2 13 inb_S16_S1_13))
    (even (ld c arg1 harg1 f1 71 inb_S768x2x128_S8x2x128_71_0_0_s_8_1_1) (sg c arg2 f2 14 inb_S16_S1_14))
    (odd (ld c arg1 harg1 f1 71 inb_S768x2x128_S8x2x128_71_0_0_s_8_1_1) (sg c arg2 f2 15 inb_S16_S1_15))

/-- Half 2: the values it loads, each times its sign, rotated, then `k`. -/
def half2 {β : Type} (k : Of16 (FVec F S8x128 .f32) β) : β :=
  rotate addf subf k
    (even (ld c arg1 harg1 f1 128 inb_S768x2x128_S8x2x128_128_0_0_s_8_1_1) (sg c arg2 f2 0 inb_S16_S1_0))
    (odd (ld c arg1 harg1 f1 128 inb_S768x2x128_S8x2x128_128_0_0_s_8_1_1) (sg c arg2 f2 1 inb_S16_S1_1))
    (even (ld c arg1 harg1 f1 129 inb_S768x2x128_S8x2x128_129_0_0_s_8_1_1) (sg c arg2 f2 2 inb_S16_S1_2))
    (odd (ld c arg1 harg1 f1 129 inb_S768x2x128_S8x2x128_129_0_0_s_8_1_1) (sg c arg2 f2 3 inb_S16_S1_3))
    (even (ld c arg1 harg1 f1 130 inb_S768x2x128_S8x2x128_130_0_0_s_8_1_1) (sg c arg2 f2 4 inb_S16_S1_4))
    (odd (ld c arg1 harg1 f1 130 inb_S768x2x128_S8x2x128_130_0_0_s_8_1_1) (sg c arg2 f2 5 inb_S16_S1_5))
    (even (ld c arg1 harg1 f1 131 inb_S768x2x128_S8x2x128_131_0_0_s_8_1_1) (sg c arg2 f2 6 inb_S16_S1_6))
    (odd (ld c arg1 harg1 f1 131 inb_S768x2x128_S8x2x128_131_0_0_s_8_1_1) (sg c arg2 f2 7 inb_S16_S1_7))
    (even (ld c arg1 harg1 f1 132 inb_S768x2x128_S8x2x128_132_0_0_s_8_1_1) (sg c arg2 f2 8 inb_S16_S1_8))
    (odd (ld c arg1 harg1 f1 132 inb_S768x2x128_S8x2x128_132_0_0_s_8_1_1) (sg c arg2 f2 9 inb_S16_S1_9))
    (even (ld c arg1 harg1 f1 133 inb_S768x2x128_S8x2x128_133_0_0_s_8_1_1) (sg c arg2 f2 10 inb_S16_S1_10))
    (odd (ld c arg1 harg1 f1 133 inb_S768x2x128_S8x2x128_133_0_0_s_8_1_1) (sg c arg2 f2 11 inb_S16_S1_11))
    (even (ld c arg1 harg1 f1 134 inb_S768x2x128_S8x2x128_134_0_0_s_8_1_1) (sg c arg2 f2 12 inb_S16_S1_12))
    (odd (ld c arg1 harg1 f1 134 inb_S768x2x128_S8x2x128_134_0_0_s_8_1_1) (sg c arg2 f2 13 inb_S16_S1_13))
    (even (ld c arg1 harg1 f1 135 inb_S768x2x128_S8x2x128_135_0_0_s_8_1_1) (sg c arg2 f2 14 inb_S16_S1_14))
    (odd (ld c arg1 harg1 f1 135 inb_S768x2x128_S8x2x128_135_0_0_s_8_1_1) (sg c arg2 f2 15 inb_S16_S1_15))

/-- Half 3: the values it loads, each times its sign, rotated, then `k`. -/
def half3 {β : Type} (k : Of16 (FVec F S8x128 .f32) β) : β :=
  rotate addf subf k
    (even (ld c arg1 harg1 f1 192 inb_S768x2x128_S8x2x128_192_0_0_s_8_1_1) (sg c arg2 f2 0 inb_S16_S1_0))
    (odd (ld c arg1 harg1 f1 192 inb_S768x2x128_S8x2x128_192_0_0_s_8_1_1) (sg c arg2 f2 1 inb_S16_S1_1))
    (even (ld c arg1 harg1 f1 193 inb_S768x2x128_S8x2x128_193_0_0_s_8_1_1) (sg c arg2 f2 2 inb_S16_S1_2))
    (odd (ld c arg1 harg1 f1 193 inb_S768x2x128_S8x2x128_193_0_0_s_8_1_1) (sg c arg2 f2 3 inb_S16_S1_3))
    (even (ld c arg1 harg1 f1 194 inb_S768x2x128_S8x2x128_194_0_0_s_8_1_1) (sg c arg2 f2 4 inb_S16_S1_4))
    (odd (ld c arg1 harg1 f1 194 inb_S768x2x128_S8x2x128_194_0_0_s_8_1_1) (sg c arg2 f2 5 inb_S16_S1_5))
    (even (ld c arg1 harg1 f1 195 inb_S768x2x128_S8x2x128_195_0_0_s_8_1_1) (sg c arg2 f2 6 inb_S16_S1_6))
    (odd (ld c arg1 harg1 f1 195 inb_S768x2x128_S8x2x128_195_0_0_s_8_1_1) (sg c arg2 f2 7 inb_S16_S1_7))
    (even (ld c arg1 harg1 f1 196 inb_S768x2x128_S8x2x128_196_0_0_s_8_1_1) (sg c arg2 f2 8 inb_S16_S1_8))
    (odd (ld c arg1 harg1 f1 196 inb_S768x2x128_S8x2x128_196_0_0_s_8_1_1) (sg c arg2 f2 9 inb_S16_S1_9))
    (even (ld c arg1 harg1 f1 197 inb_S768x2x128_S8x2x128_197_0_0_s_8_1_1) (sg c arg2 f2 10 inb_S16_S1_10))
    (odd (ld c arg1 harg1 f1 197 inb_S768x2x128_S8x2x128_197_0_0_s_8_1_1) (sg c arg2 f2 11 inb_S16_S1_11))
    (even (ld c arg1 harg1 f1 198 inb_S768x2x128_S8x2x128_198_0_0_s_8_1_1) (sg c arg2 f2 12 inb_S16_S1_12))
    (odd (ld c arg1 harg1 f1 198 inb_S768x2x128_S8x2x128_198_0_0_s_8_1_1) (sg c arg2 f2 13 inb_S16_S1_13))
    (even (ld c arg1 harg1 f1 199 inb_S768x2x128_S8x2x128_199_0_0_s_8_1_1) (sg c arg2 f2 14 inb_S16_S1_14))
    (odd (ld c arg1 harg1 f1 199 inb_S768x2x128_S8x2x128_199_0_0_s_8_1_1) (sg c arg2 f2 15 inb_S16_S1_15))

/-- Half 4: the values it loads, each times its sign, rotated, then `k`. -/
def half4 {β : Type} (k : Of16 (FVec F S8x128 .f32) β) : β :=
  rotate addf subf k
    (even (ld c arg1 harg1 f1 256 inb_S768x2x128_S8x2x128_256_0_0_s_8_1_1) (sg c arg2 f2 0 inb_S16_S1_0))
    (odd (ld c arg1 harg1 f1 256 inb_S768x2x128_S8x2x128_256_0_0_s_8_1_1) (sg c arg2 f2 1 inb_S16_S1_1))
    (even (ld c arg1 harg1 f1 257 inb_S768x2x128_S8x2x128_257_0_0_s_8_1_1) (sg c arg2 f2 2 inb_S16_S1_2))
    (odd (ld c arg1 harg1 f1 257 inb_S768x2x128_S8x2x128_257_0_0_s_8_1_1) (sg c arg2 f2 3 inb_S16_S1_3))
    (even (ld c arg1 harg1 f1 258 inb_S768x2x128_S8x2x128_258_0_0_s_8_1_1) (sg c arg2 f2 4 inb_S16_S1_4))
    (odd (ld c arg1 harg1 f1 258 inb_S768x2x128_S8x2x128_258_0_0_s_8_1_1) (sg c arg2 f2 5 inb_S16_S1_5))
    (even (ld c arg1 harg1 f1 259 inb_S768x2x128_S8x2x128_259_0_0_s_8_1_1) (sg c arg2 f2 6 inb_S16_S1_6))
    (odd (ld c arg1 harg1 f1 259 inb_S768x2x128_S8x2x128_259_0_0_s_8_1_1) (sg c arg2 f2 7 inb_S16_S1_7))
    (even (ld c arg1 harg1 f1 260 inb_S768x2x128_S8x2x128_260_0_0_s_8_1_1) (sg c arg2 f2 8 inb_S16_S1_8))
    (odd (ld c arg1 harg1 f1 260 inb_S768x2x128_S8x2x128_260_0_0_s_8_1_1) (sg c arg2 f2 9 inb_S16_S1_9))
    (even (ld c arg1 harg1 f1 261 inb_S768x2x128_S8x2x128_261_0_0_s_8_1_1) (sg c arg2 f2 10 inb_S16_S1_10))
    (odd (ld c arg1 harg1 f1 261 inb_S768x2x128_S8x2x128_261_0_0_s_8_1_1) (sg c arg2 f2 11 inb_S16_S1_11))
    (even (ld c arg1 harg1 f1 262 inb_S768x2x128_S8x2x128_262_0_0_s_8_1_1) (sg c arg2 f2 12 inb_S16_S1_12))
    (odd (ld c arg1 harg1 f1 262 inb_S768x2x128_S8x2x128_262_0_0_s_8_1_1) (sg c arg2 f2 13 inb_S16_S1_13))
    (even (ld c arg1 harg1 f1 263 inb_S768x2x128_S8x2x128_263_0_0_s_8_1_1) (sg c arg2 f2 14 inb_S16_S1_14))
    (odd (ld c arg1 harg1 f1 263 inb_S768x2x128_S8x2x128_263_0_0_s_8_1_1) (sg c arg2 f2 15 inb_S16_S1_15))

/-- Half 5: the values it loads, each times its sign, rotated, then `k`. -/
def half5 {β : Type} (k : Of16 (FVec F S8x128 .f32) β) : β :=
  rotate addf subf k
    (even (ld c arg1 harg1 f1 320 inb_S768x2x128_S8x2x128_320_0_0_s_8_1_1) (sg c arg2 f2 0 inb_S16_S1_0))
    (odd (ld c arg1 harg1 f1 320 inb_S768x2x128_S8x2x128_320_0_0_s_8_1_1) (sg c arg2 f2 1 inb_S16_S1_1))
    (even (ld c arg1 harg1 f1 321 inb_S768x2x128_S8x2x128_321_0_0_s_8_1_1) (sg c arg2 f2 2 inb_S16_S1_2))
    (odd (ld c arg1 harg1 f1 321 inb_S768x2x128_S8x2x128_321_0_0_s_8_1_1) (sg c arg2 f2 3 inb_S16_S1_3))
    (even (ld c arg1 harg1 f1 322 inb_S768x2x128_S8x2x128_322_0_0_s_8_1_1) (sg c arg2 f2 4 inb_S16_S1_4))
    (odd (ld c arg1 harg1 f1 322 inb_S768x2x128_S8x2x128_322_0_0_s_8_1_1) (sg c arg2 f2 5 inb_S16_S1_5))
    (even (ld c arg1 harg1 f1 323 inb_S768x2x128_S8x2x128_323_0_0_s_8_1_1) (sg c arg2 f2 6 inb_S16_S1_6))
    (odd (ld c arg1 harg1 f1 323 inb_S768x2x128_S8x2x128_323_0_0_s_8_1_1) (sg c arg2 f2 7 inb_S16_S1_7))
    (even (ld c arg1 harg1 f1 324 inb_S768x2x128_S8x2x128_324_0_0_s_8_1_1) (sg c arg2 f2 8 inb_S16_S1_8))
    (odd (ld c arg1 harg1 f1 324 inb_S768x2x128_S8x2x128_324_0_0_s_8_1_1) (sg c arg2 f2 9 inb_S16_S1_9))
    (even (ld c arg1 harg1 f1 325 inb_S768x2x128_S8x2x128_325_0_0_s_8_1_1) (sg c arg2 f2 10 inb_S16_S1_10))
    (odd (ld c arg1 harg1 f1 325 inb_S768x2x128_S8x2x128_325_0_0_s_8_1_1) (sg c arg2 f2 11 inb_S16_S1_11))
    (even (ld c arg1 harg1 f1 326 inb_S768x2x128_S8x2x128_326_0_0_s_8_1_1) (sg c arg2 f2 12 inb_S16_S1_12))
    (odd (ld c arg1 harg1 f1 326 inb_S768x2x128_S8x2x128_326_0_0_s_8_1_1) (sg c arg2 f2 13 inb_S16_S1_13))
    (even (ld c arg1 harg1 f1 327 inb_S768x2x128_S8x2x128_327_0_0_s_8_1_1) (sg c arg2 f2 14 inb_S16_S1_14))
    (odd (ld c arg1 harg1 f1 327 inb_S768x2x128_S8x2x128_327_0_0_s_8_1_1) (sg c arg2 f2 15 inb_S16_S1_15))

/-- Half 6: the values it loads, each times its sign, rotated, then `k`. -/
def half6 {β : Type} (k : Of16 (FVec F S8x128 .f32) β) : β :=
  rotate addf subf k
    (even (ld c arg1 harg1 f1 384 inb_S768x2x128_S8x2x128_384_0_0_s_8_1_1) (sg c arg2 f2 0 inb_S16_S1_0))
    (odd (ld c arg1 harg1 f1 384 inb_S768x2x128_S8x2x128_384_0_0_s_8_1_1) (sg c arg2 f2 1 inb_S16_S1_1))
    (even (ld c arg1 harg1 f1 385 inb_S768x2x128_S8x2x128_385_0_0_s_8_1_1) (sg c arg2 f2 2 inb_S16_S1_2))
    (odd (ld c arg1 harg1 f1 385 inb_S768x2x128_S8x2x128_385_0_0_s_8_1_1) (sg c arg2 f2 3 inb_S16_S1_3))
    (even (ld c arg1 harg1 f1 386 inb_S768x2x128_S8x2x128_386_0_0_s_8_1_1) (sg c arg2 f2 4 inb_S16_S1_4))
    (odd (ld c arg1 harg1 f1 386 inb_S768x2x128_S8x2x128_386_0_0_s_8_1_1) (sg c arg2 f2 5 inb_S16_S1_5))
    (even (ld c arg1 harg1 f1 387 inb_S768x2x128_S8x2x128_387_0_0_s_8_1_1) (sg c arg2 f2 6 inb_S16_S1_6))
    (odd (ld c arg1 harg1 f1 387 inb_S768x2x128_S8x2x128_387_0_0_s_8_1_1) (sg c arg2 f2 7 inb_S16_S1_7))
    (even (ld c arg1 harg1 f1 388 inb_S768x2x128_S8x2x128_388_0_0_s_8_1_1) (sg c arg2 f2 8 inb_S16_S1_8))
    (odd (ld c arg1 harg1 f1 388 inb_S768x2x128_S8x2x128_388_0_0_s_8_1_1) (sg c arg2 f2 9 inb_S16_S1_9))
    (even (ld c arg1 harg1 f1 389 inb_S768x2x128_S8x2x128_389_0_0_s_8_1_1) (sg c arg2 f2 10 inb_S16_S1_10))
    (odd (ld c arg1 harg1 f1 389 inb_S768x2x128_S8x2x128_389_0_0_s_8_1_1) (sg c arg2 f2 11 inb_S16_S1_11))
    (even (ld c arg1 harg1 f1 390 inb_S768x2x128_S8x2x128_390_0_0_s_8_1_1) (sg c arg2 f2 12 inb_S16_S1_12))
    (odd (ld c arg1 harg1 f1 390 inb_S768x2x128_S8x2x128_390_0_0_s_8_1_1) (sg c arg2 f2 13 inb_S16_S1_13))
    (even (ld c arg1 harg1 f1 391 inb_S768x2x128_S8x2x128_391_0_0_s_8_1_1) (sg c arg2 f2 14 inb_S16_S1_14))
    (odd (ld c arg1 harg1 f1 391 inb_S768x2x128_S8x2x128_391_0_0_s_8_1_1) (sg c arg2 f2 15 inb_S16_S1_15))

/-- Half 7: the values it loads, each times its sign, rotated, then `k`. -/
def half7 {β : Type} (k : Of16 (FVec F S8x128 .f32) β) : β :=
  rotate addf subf k
    (even (ld c arg1 harg1 f1 448 inb_S768x2x128_S8x2x128_448_0_0_s_8_1_1) (sg c arg2 f2 0 inb_S16_S1_0))
    (odd (ld c arg1 harg1 f1 448 inb_S768x2x128_S8x2x128_448_0_0_s_8_1_1) (sg c arg2 f2 1 inb_S16_S1_1))
    (even (ld c arg1 harg1 f1 449 inb_S768x2x128_S8x2x128_449_0_0_s_8_1_1) (sg c arg2 f2 2 inb_S16_S1_2))
    (odd (ld c arg1 harg1 f1 449 inb_S768x2x128_S8x2x128_449_0_0_s_8_1_1) (sg c arg2 f2 3 inb_S16_S1_3))
    (even (ld c arg1 harg1 f1 450 inb_S768x2x128_S8x2x128_450_0_0_s_8_1_1) (sg c arg2 f2 4 inb_S16_S1_4))
    (odd (ld c arg1 harg1 f1 450 inb_S768x2x128_S8x2x128_450_0_0_s_8_1_1) (sg c arg2 f2 5 inb_S16_S1_5))
    (even (ld c arg1 harg1 f1 451 inb_S768x2x128_S8x2x128_451_0_0_s_8_1_1) (sg c arg2 f2 6 inb_S16_S1_6))
    (odd (ld c arg1 harg1 f1 451 inb_S768x2x128_S8x2x128_451_0_0_s_8_1_1) (sg c arg2 f2 7 inb_S16_S1_7))
    (even (ld c arg1 harg1 f1 452 inb_S768x2x128_S8x2x128_452_0_0_s_8_1_1) (sg c arg2 f2 8 inb_S16_S1_8))
    (odd (ld c arg1 harg1 f1 452 inb_S768x2x128_S8x2x128_452_0_0_s_8_1_1) (sg c arg2 f2 9 inb_S16_S1_9))
    (even (ld c arg1 harg1 f1 453 inb_S768x2x128_S8x2x128_453_0_0_s_8_1_1) (sg c arg2 f2 10 inb_S16_S1_10))
    (odd (ld c arg1 harg1 f1 453 inb_S768x2x128_S8x2x128_453_0_0_s_8_1_1) (sg c arg2 f2 11 inb_S16_S1_11))
    (even (ld c arg1 harg1 f1 454 inb_S768x2x128_S8x2x128_454_0_0_s_8_1_1) (sg c arg2 f2 12 inb_S16_S1_12))
    (odd (ld c arg1 harg1 f1 454 inb_S768x2x128_S8x2x128_454_0_0_s_8_1_1) (sg c arg2 f2 13 inb_S16_S1_13))
    (even (ld c arg1 harg1 f1 455 inb_S768x2x128_S8x2x128_455_0_0_s_8_1_1) (sg c arg2 f2 14 inb_S16_S1_14))
    (odd (ld c arg1 harg1 f1 455 inb_S768x2x128_S8x2x128_455_0_0_s_8_1_1) (sg c arg2 f2 15 inb_S16_S1_15))

/-- Half 8: the values it loads, each times its sign, rotated, then `k`. -/
def half8 {β : Type} (k : Of16 (FVec F S8x128 .f32) β) : β :=
  rotate addf subf k
    (even (ld c arg1 harg1 f1 512 inb_S768x2x128_S8x2x128_512_0_0_s_8_1_1) (sg c arg2 f2 0 inb_S16_S1_0))
    (odd (ld c arg1 harg1 f1 512 inb_S768x2x128_S8x2x128_512_0_0_s_8_1_1) (sg c arg2 f2 1 inb_S16_S1_1))
    (even (ld c arg1 harg1 f1 513 inb_S768x2x128_S8x2x128_513_0_0_s_8_1_1) (sg c arg2 f2 2 inb_S16_S1_2))
    (odd (ld c arg1 harg1 f1 513 inb_S768x2x128_S8x2x128_513_0_0_s_8_1_1) (sg c arg2 f2 3 inb_S16_S1_3))
    (even (ld c arg1 harg1 f1 514 inb_S768x2x128_S8x2x128_514_0_0_s_8_1_1) (sg c arg2 f2 4 inb_S16_S1_4))
    (odd (ld c arg1 harg1 f1 514 inb_S768x2x128_S8x2x128_514_0_0_s_8_1_1) (sg c arg2 f2 5 inb_S16_S1_5))
    (even (ld c arg1 harg1 f1 515 inb_S768x2x128_S8x2x128_515_0_0_s_8_1_1) (sg c arg2 f2 6 inb_S16_S1_6))
    (odd (ld c arg1 harg1 f1 515 inb_S768x2x128_S8x2x128_515_0_0_s_8_1_1) (sg c arg2 f2 7 inb_S16_S1_7))
    (even (ld c arg1 harg1 f1 516 inb_S768x2x128_S8x2x128_516_0_0_s_8_1_1) (sg c arg2 f2 8 inb_S16_S1_8))
    (odd (ld c arg1 harg1 f1 516 inb_S768x2x128_S8x2x128_516_0_0_s_8_1_1) (sg c arg2 f2 9 inb_S16_S1_9))
    (even (ld c arg1 harg1 f1 517 inb_S768x2x128_S8x2x128_517_0_0_s_8_1_1) (sg c arg2 f2 10 inb_S16_S1_10))
    (odd (ld c arg1 harg1 f1 517 inb_S768x2x128_S8x2x128_517_0_0_s_8_1_1) (sg c arg2 f2 11 inb_S16_S1_11))
    (even (ld c arg1 harg1 f1 518 inb_S768x2x128_S8x2x128_518_0_0_s_8_1_1) (sg c arg2 f2 12 inb_S16_S1_12))
    (odd (ld c arg1 harg1 f1 518 inb_S768x2x128_S8x2x128_518_0_0_s_8_1_1) (sg c arg2 f2 13 inb_S16_S1_13))
    (even (ld c arg1 harg1 f1 519 inb_S768x2x128_S8x2x128_519_0_0_s_8_1_1) (sg c arg2 f2 14 inb_S16_S1_14))
    (odd (ld c arg1 harg1 f1 519 inb_S768x2x128_S8x2x128_519_0_0_s_8_1_1) (sg c arg2 f2 15 inb_S16_S1_15))

/-- Half 9: the values it loads, each times its sign, rotated, then `k`. -/
def half9 {β : Type} (k : Of16 (FVec F S8x128 .f32) β) : β :=
  rotate addf subf k
    (even (ld c arg1 harg1 f1 576 inb_S768x2x128_S8x2x128_576_0_0_s_8_1_1) (sg c arg2 f2 0 inb_S16_S1_0))
    (odd (ld c arg1 harg1 f1 576 inb_S768x2x128_S8x2x128_576_0_0_s_8_1_1) (sg c arg2 f2 1 inb_S16_S1_1))
    (even (ld c arg1 harg1 f1 577 inb_S768x2x128_S8x2x128_577_0_0_s_8_1_1) (sg c arg2 f2 2 inb_S16_S1_2))
    (odd (ld c arg1 harg1 f1 577 inb_S768x2x128_S8x2x128_577_0_0_s_8_1_1) (sg c arg2 f2 3 inb_S16_S1_3))
    (even (ld c arg1 harg1 f1 578 inb_S768x2x128_S8x2x128_578_0_0_s_8_1_1) (sg c arg2 f2 4 inb_S16_S1_4))
    (odd (ld c arg1 harg1 f1 578 inb_S768x2x128_S8x2x128_578_0_0_s_8_1_1) (sg c arg2 f2 5 inb_S16_S1_5))
    (even (ld c arg1 harg1 f1 579 inb_S768x2x128_S8x2x128_579_0_0_s_8_1_1) (sg c arg2 f2 6 inb_S16_S1_6))
    (odd (ld c arg1 harg1 f1 579 inb_S768x2x128_S8x2x128_579_0_0_s_8_1_1) (sg c arg2 f2 7 inb_S16_S1_7))
    (even (ld c arg1 harg1 f1 580 inb_S768x2x128_S8x2x128_580_0_0_s_8_1_1) (sg c arg2 f2 8 inb_S16_S1_8))
    (odd (ld c arg1 harg1 f1 580 inb_S768x2x128_S8x2x128_580_0_0_s_8_1_1) (sg c arg2 f2 9 inb_S16_S1_9))
    (even (ld c arg1 harg1 f1 581 inb_S768x2x128_S8x2x128_581_0_0_s_8_1_1) (sg c arg2 f2 10 inb_S16_S1_10))
    (odd (ld c arg1 harg1 f1 581 inb_S768x2x128_S8x2x128_581_0_0_s_8_1_1) (sg c arg2 f2 11 inb_S16_S1_11))
    (even (ld c arg1 harg1 f1 582 inb_S768x2x128_S8x2x128_582_0_0_s_8_1_1) (sg c arg2 f2 12 inb_S16_S1_12))
    (odd (ld c arg1 harg1 f1 582 inb_S768x2x128_S8x2x128_582_0_0_s_8_1_1) (sg c arg2 f2 13 inb_S16_S1_13))
    (even (ld c arg1 harg1 f1 583 inb_S768x2x128_S8x2x128_583_0_0_s_8_1_1) (sg c arg2 f2 14 inb_S16_S1_14))
    (odd (ld c arg1 harg1 f1 583 inb_S768x2x128_S8x2x128_583_0_0_s_8_1_1) (sg c arg2 f2 15 inb_S16_S1_15))

/-- Half 10: the values it loads, each times its sign, rotated, then `k`. -/
def half10 {β : Type} (k : Of16 (FVec F S8x128 .f32) β) : β :=
  rotate addf subf k
    (even (ld c arg1 harg1 f1 640 inb_S768x2x128_S8x2x128_640_0_0_s_8_1_1) (sg c arg2 f2 0 inb_S16_S1_0))
    (odd (ld c arg1 harg1 f1 640 inb_S768x2x128_S8x2x128_640_0_0_s_8_1_1) (sg c arg2 f2 1 inb_S16_S1_1))
    (even (ld c arg1 harg1 f1 641 inb_S768x2x128_S8x2x128_641_0_0_s_8_1_1) (sg c arg2 f2 2 inb_S16_S1_2))
    (odd (ld c arg1 harg1 f1 641 inb_S768x2x128_S8x2x128_641_0_0_s_8_1_1) (sg c arg2 f2 3 inb_S16_S1_3))
    (even (ld c arg1 harg1 f1 642 inb_S768x2x128_S8x2x128_642_0_0_s_8_1_1) (sg c arg2 f2 4 inb_S16_S1_4))
    (odd (ld c arg1 harg1 f1 642 inb_S768x2x128_S8x2x128_642_0_0_s_8_1_1) (sg c arg2 f2 5 inb_S16_S1_5))
    (even (ld c arg1 harg1 f1 643 inb_S768x2x128_S8x2x128_643_0_0_s_8_1_1) (sg c arg2 f2 6 inb_S16_S1_6))
    (odd (ld c arg1 harg1 f1 643 inb_S768x2x128_S8x2x128_643_0_0_s_8_1_1) (sg c arg2 f2 7 inb_S16_S1_7))
    (even (ld c arg1 harg1 f1 644 inb_S768x2x128_S8x2x128_644_0_0_s_8_1_1) (sg c arg2 f2 8 inb_S16_S1_8))
    (odd (ld c arg1 harg1 f1 644 inb_S768x2x128_S8x2x128_644_0_0_s_8_1_1) (sg c arg2 f2 9 inb_S16_S1_9))
    (even (ld c arg1 harg1 f1 645 inb_S768x2x128_S8x2x128_645_0_0_s_8_1_1) (sg c arg2 f2 10 inb_S16_S1_10))
    (odd (ld c arg1 harg1 f1 645 inb_S768x2x128_S8x2x128_645_0_0_s_8_1_1) (sg c arg2 f2 11 inb_S16_S1_11))
    (even (ld c arg1 harg1 f1 646 inb_S768x2x128_S8x2x128_646_0_0_s_8_1_1) (sg c arg2 f2 12 inb_S16_S1_12))
    (odd (ld c arg1 harg1 f1 646 inb_S768x2x128_S8x2x128_646_0_0_s_8_1_1) (sg c arg2 f2 13 inb_S16_S1_13))
    (even (ld c arg1 harg1 f1 647 inb_S768x2x128_S8x2x128_647_0_0_s_8_1_1) (sg c arg2 f2 14 inb_S16_S1_14))
    (odd (ld c arg1 harg1 f1 647 inb_S768x2x128_S8x2x128_647_0_0_s_8_1_1) (sg c arg2 f2 15 inb_S16_S1_15))

/-- Half 11: the values it loads, each times its sign, rotated, then `k`. -/
def half11 {β : Type} (k : Of16 (FVec F S8x128 .f32) β) : β :=
  rotate addf subf k
    (even (ld c arg1 harg1 f1 704 inb_S768x2x128_S8x2x128_704_0_0_s_8_1_1) (sg c arg2 f2 0 inb_S16_S1_0))
    (odd (ld c arg1 harg1 f1 704 inb_S768x2x128_S8x2x128_704_0_0_s_8_1_1) (sg c arg2 f2 1 inb_S16_S1_1))
    (even (ld c arg1 harg1 f1 705 inb_S768x2x128_S8x2x128_705_0_0_s_8_1_1) (sg c arg2 f2 2 inb_S16_S1_2))
    (odd (ld c arg1 harg1 f1 705 inb_S768x2x128_S8x2x128_705_0_0_s_8_1_1) (sg c arg2 f2 3 inb_S16_S1_3))
    (even (ld c arg1 harg1 f1 706 inb_S768x2x128_S8x2x128_706_0_0_s_8_1_1) (sg c arg2 f2 4 inb_S16_S1_4))
    (odd (ld c arg1 harg1 f1 706 inb_S768x2x128_S8x2x128_706_0_0_s_8_1_1) (sg c arg2 f2 5 inb_S16_S1_5))
    (even (ld c arg1 harg1 f1 707 inb_S768x2x128_S8x2x128_707_0_0_s_8_1_1) (sg c arg2 f2 6 inb_S16_S1_6))
    (odd (ld c arg1 harg1 f1 707 inb_S768x2x128_S8x2x128_707_0_0_s_8_1_1) (sg c arg2 f2 7 inb_S16_S1_7))
    (even (ld c arg1 harg1 f1 708 inb_S768x2x128_S8x2x128_708_0_0_s_8_1_1) (sg c arg2 f2 8 inb_S16_S1_8))
    (odd (ld c arg1 harg1 f1 708 inb_S768x2x128_S8x2x128_708_0_0_s_8_1_1) (sg c arg2 f2 9 inb_S16_S1_9))
    (even (ld c arg1 harg1 f1 709 inb_S768x2x128_S8x2x128_709_0_0_s_8_1_1) (sg c arg2 f2 10 inb_S16_S1_10))
    (odd (ld c arg1 harg1 f1 709 inb_S768x2x128_S8x2x128_709_0_0_s_8_1_1) (sg c arg2 f2 11 inb_S16_S1_11))
    (even (ld c arg1 harg1 f1 710 inb_S768x2x128_S8x2x128_710_0_0_s_8_1_1) (sg c arg2 f2 12 inb_S16_S1_12))
    (odd (ld c arg1 harg1 f1 710 inb_S768x2x128_S8x2x128_710_0_0_s_8_1_1) (sg c arg2 f2 13 inb_S16_S1_13))
    (even (ld c arg1 harg1 f1 711 inb_S768x2x128_S8x2x128_711_0_0_s_8_1_1) (sg c arg2 f2 14 inb_S16_S1_14))
    (odd (ld c arg1 harg1 f1 711 inb_S768x2x128_S8x2x128_711_0_0_s_8_1_1) (sg c arg2 f2 15 inb_S16_S1_15))

/-- A piece of the byte scratch: every eighth row from `off` on; and of the scale scratch: eight rows. -/
def pieceB (off : ℕ) (h : ∀ a, S8x128.size a = 0 ∨ (![off, 0] : Fin 2 → ℕ) a + (![8, 1] : Fin 2 → ℕ) a * (S8x128.size a - 1) < S768x128.size a)
    (w : IVec S8x128 32) : View.Piece (Elt F) S768x128 .i32 :=
  ⟨{ off := ![off, 0], size := S8x128.size, stride := ![8, 1], inb := h, stride_pos := spos_8_1 }, shapeCast S8x128 w shapeCasts_S8x128_S8x128⟩
def pieceS (off : ℕ) (h : ∀ a, (![off, 0] : Fin 2 → ℕ) a + S8x128.size a ≤ S128x128.size a)
    (w : FVec F S8x128 .f32) : View.Piece (Elt F) S128x128 .f32 :=
  ⟨Rect.unit ![off, 0] S8x128.size h, shapeCast S8x128 w shapeCasts_S8x128_S8x128⟩

theorem words_0 : kernelRun.sl.H7_8 c arg1 harg1 arg2 arg3 f1 f2 f3 =
      pieceB 7 inb_S768x128_S8x128_7_0_s_8_1 (half0 c arg1 harg1 arg2 f1 f2 (word7 (st c arg3 f3))) ::
      pieceB 6 inb_S768x128_S8x128_6_0_s_8_1 (half0 c arg1 harg1 arg2 f1 f2 (word6 (st c arg3 f3))) ::
      pieceB 5 inb_S768x128_S8x128_5_0_s_8_1 (half0 c arg1 harg1 arg2 f1 f2 (word5 (st c arg3 f3))) ::
      pieceB 4 inb_S768x128_S8x128_4_0_s_8_1 (half0 c arg1 harg1 arg2 f1 f2 (word4 (st c arg3 f3))) ::
      pieceB 3 inb_S768x128_S8x128_3_0_s_8_1 (half0 c arg1 harg1 arg2 f1 f2 (word3 (st c arg3 f3))) ::
      pieceB 2 inb_S768x128_S8x128_2_0_s_8_1 (half0 c arg1 harg1 arg2 f1 f2 (word2 (st c arg3 f3))) ::
      pieceB 1 inb_S768x128_S8x128_1_0_s_8_1 (half0 c arg1 harg1 arg2 f1 f2 (word1 (st c arg3 f3))) ::
      pieceB 0 inb_S768x128_S8x128_0_0_s_8_1 (half0 c arg1 harg1 arg2 f1 f2 (word0 (st c arg3 f3))) ::
      [] := by
  sl_kernel_rfl

theorem scales_0 : kernelRun.sl.H8_1 c arg1 harg1 arg2 arg3 f1 f2 f3 =
      pieceS 0 inb_S128x128_S8x128_0_0 (half0 c arg1 harg1 arg2 f1 f2 (scales (st c arg3 f3))) :: [] := by
  sl_kernel_rfl

theorem words_1 : kernelRun.sl.H7_16 c arg1 harg1 arg2 arg3 f1 f2 f3 =
      pieceB 71 inb_S768x128_S8x128_71_0_s_8_1 (half1 c arg1 harg1 arg2 f1 f2 (word7 (st c arg3 f3))) ::
      pieceB 70 inb_S768x128_S8x128_70_0_s_8_1 (half1 c arg1 harg1 arg2 f1 f2 (word6 (st c arg3 f3))) ::
      pieceB 69 inb_S768x128_S8x128_69_0_s_8_1 (half1 c arg1 harg1 arg2 f1 f2 (word5 (st c arg3 f3))) ::
      pieceB 68 inb_S768x128_S8x128_68_0_s_8_1 (half1 c arg1 harg1 arg2 f1 f2 (word4 (st c arg3 f3))) ::
      pieceB 67 inb_S768x128_S8x128_67_0_s_8_1 (half1 c arg1 harg1 arg2 f1 f2 (word3 (st c arg3 f3))) ::
      pieceB 66 inb_S768x128_S8x128_66_0_s_8_1 (half1 c arg1 harg1 arg2 f1 f2 (word2 (st c arg3 f3))) ::
      pieceB 65 inb_S768x128_S8x128_65_0_s_8_1 (half1 c arg1 harg1 arg2 f1 f2 (word1 (st c arg3 f3))) ::
      pieceB 64 inb_S768x128_S8x128_64_0_s_8_1 (half1 c arg1 harg1 arg2 f1 f2 (word0 (st c arg3 f3))) ::
      kernelRun.sl.H7_8 c arg1 harg1 arg2 arg3 f1 f2 f3 := by
  sl_kernel_rfl

theorem scales_1 : kernelRun.sl.H8_2 c arg1 harg1 arg2 arg3 f1 f2 f3 =
      pieceS 8 inb_S128x128_S8x128_8_0 (half1 c arg1 harg1 arg2 f1 f2 (scales (st c arg3 f3))) :: kernelRun.sl.H8_1 c arg1 harg1 arg2 arg3 f1 f2 f3 := by
  sl_kernel_rfl

theorem words_2 : kernelRun.sl.H7_24 c arg1 harg1 arg2 arg3 f1 f2 f3 =
      pieceB 135 inb_S768x128_S8x128_135_0_s_8_1 (half2 c arg1 harg1 arg2 f1 f2 (word7 (st c arg3 f3))) ::
      pieceB 134 inb_S768x128_S8x128_134_0_s_8_1 (half2 c arg1 harg1 arg2 f1 f2 (word6 (st c arg3 f3))) ::
      pieceB 133 inb_S768x128_S8x128_133_0_s_8_1 (half2 c arg1 harg1 arg2 f1 f2 (word5 (st c arg3 f3))) ::
      pieceB 132 inb_S768x128_S8x128_132_0_s_8_1 (half2 c arg1 harg1 arg2 f1 f2 (word4 (st c arg3 f3))) ::
      pieceB 131 inb_S768x128_S8x128_131_0_s_8_1 (half2 c arg1 harg1 arg2 f1 f2 (word3 (st c arg3 f3))) ::
      pieceB 130 inb_S768x128_S8x128_130_0_s_8_1 (half2 c arg1 harg1 arg2 f1 f2 (word2 (st c arg3 f3))) ::
      pieceB 129 inb_S768x128_S8x128_129_0_s_8_1 (half2 c arg1 harg1 arg2 f1 f2 (word1 (st c arg3 f3))) ::
      pieceB 128 inb_S768x128_S8x128_128_0_s_8_1 (half2 c arg1 harg1 arg2 f1 f2 (word0 (st c arg3 f3))) ::
      kernelRun.sl.H7_16 c arg1 harg1 arg2 arg3 f1 f2 f3 := by
  sl_kernel_rfl

theorem scales_2 : kernelRun.sl.H8_3 c arg1 harg1 arg2 arg3 f1 f2 f3 =
      pieceS 16 inb_S128x128_S8x128_16_0 (half2 c arg1 harg1 arg2 f1 f2 (scales (st c arg3 f3))) :: kernelRun.sl.H8_2 c arg1 harg1 arg2 arg3 f1 f2 f3 := by
  sl_kernel_rfl

theorem words_3 : kernelRun.sl.H7_32 c arg1 harg1 arg2 arg3 f1 f2 f3 =
      pieceB 199 inb_S768x128_S8x128_199_0_s_8_1 (half3 c arg1 harg1 arg2 f1 f2 (word7 (st c arg3 f3))) ::
      pieceB 198 inb_S768x128_S8x128_198_0_s_8_1 (half3 c arg1 harg1 arg2 f1 f2 (word6 (st c arg3 f3))) ::
      pieceB 197 inb_S768x128_S8x128_197_0_s_8_1 (half3 c arg1 harg1 arg2 f1 f2 (word5 (st c arg3 f3))) ::
      pieceB 196 inb_S768x128_S8x128_196_0_s_8_1 (half3 c arg1 harg1 arg2 f1 f2 (word4 (st c arg3 f3))) ::
      pieceB 195 inb_S768x128_S8x128_195_0_s_8_1 (half3 c arg1 harg1 arg2 f1 f2 (word3 (st c arg3 f3))) ::
      pieceB 194 inb_S768x128_S8x128_194_0_s_8_1 (half3 c arg1 harg1 arg2 f1 f2 (word2 (st c arg3 f3))) ::
      pieceB 193 inb_S768x128_S8x128_193_0_s_8_1 (half3 c arg1 harg1 arg2 f1 f2 (word1 (st c arg3 f3))) ::
      pieceB 192 inb_S768x128_S8x128_192_0_s_8_1 (half3 c arg1 harg1 arg2 f1 f2 (word0 (st c arg3 f3))) ::
      kernelRun.sl.H7_24 c arg1 harg1 arg2 arg3 f1 f2 f3 := by
  sl_kernel_rfl

theorem scales_3 : kernelRun.sl.H8_4 c arg1 harg1 arg2 arg3 f1 f2 f3 =
      pieceS 24 inb_S128x128_S8x128_24_0 (half3 c arg1 harg1 arg2 f1 f2 (scales (st c arg3 f3))) :: kernelRun.sl.H8_3 c arg1 harg1 arg2 arg3 f1 f2 f3 := by
  sl_kernel_rfl

theorem words_4 : kernelRun.sl.H7_40 c arg1 harg1 arg2 arg3 f1 f2 f3 =
      pieceB 263 inb_S768x128_S8x128_263_0_s_8_1 (half4 c arg1 harg1 arg2 f1 f2 (word7 (st c arg3 f3))) ::
      pieceB 262 inb_S768x128_S8x128_262_0_s_8_1 (half4 c arg1 harg1 arg2 f1 f2 (word6 (st c arg3 f3))) ::
      pieceB 261 inb_S768x128_S8x128_261_0_s_8_1 (half4 c arg1 harg1 arg2 f1 f2 (word5 (st c arg3 f3))) ::
      pieceB 260 inb_S768x128_S8x128_260_0_s_8_1 (half4 c arg1 harg1 arg2 f1 f2 (word4 (st c arg3 f3))) ::
      pieceB 259 inb_S768x128_S8x128_259_0_s_8_1 (half4 c arg1 harg1 arg2 f1 f2 (word3 (st c arg3 f3))) ::
      pieceB 258 inb_S768x128_S8x128_258_0_s_8_1 (half4 c arg1 harg1 arg2 f1 f2 (word2 (st c arg3 f3))) ::
      pieceB 257 inb_S768x128_S8x128_257_0_s_8_1 (half4 c arg1 harg1 arg2 f1 f2 (word1 (st c arg3 f3))) ::
      pieceB 256 inb_S768x128_S8x128_256_0_s_8_1 (half4 c arg1 harg1 arg2 f1 f2 (word0 (st c arg3 f3))) ::
      kernelRun.sl.H7_32 c arg1 harg1 arg2 arg3 f1 f2 f3 := by
  sl_kernel_rfl

theorem scales_4 : kernelRun.sl.H8_5 c arg1 harg1 arg2 arg3 f1 f2 f3 =
      pieceS 32 inb_S128x128_S8x128_32_0 (half4 c arg1 harg1 arg2 f1 f2 (scales (st c arg3 f3))) :: kernelRun.sl.H8_4 c arg1 harg1 arg2 arg3 f1 f2 f3 := by
  sl_kernel_rfl

theorem words_5 : kernelRun.sl.H7_48 c arg1 harg1 arg2 arg3 f1 f2 f3 =
      pieceB 327 inb_S768x128_S8x128_327_0_s_8_1 (half5 c arg1 harg1 arg2 f1 f2 (word7 (st c arg3 f3))) ::
      pieceB 326 inb_S768x128_S8x128_326_0_s_8_1 (half5 c arg1 harg1 arg2 f1 f2 (word6 (st c arg3 f3))) ::
      pieceB 325 inb_S768x128_S8x128_325_0_s_8_1 (half5 c arg1 harg1 arg2 f1 f2 (word5 (st c arg3 f3))) ::
      pieceB 324 inb_S768x128_S8x128_324_0_s_8_1 (half5 c arg1 harg1 arg2 f1 f2 (word4 (st c arg3 f3))) ::
      pieceB 323 inb_S768x128_S8x128_323_0_s_8_1 (half5 c arg1 harg1 arg2 f1 f2 (word3 (st c arg3 f3))) ::
      pieceB 322 inb_S768x128_S8x128_322_0_s_8_1 (half5 c arg1 harg1 arg2 f1 f2 (word2 (st c arg3 f3))) ::
      pieceB 321 inb_S768x128_S8x128_321_0_s_8_1 (half5 c arg1 harg1 arg2 f1 f2 (word1 (st c arg3 f3))) ::
      pieceB 320 inb_S768x128_S8x128_320_0_s_8_1 (half5 c arg1 harg1 arg2 f1 f2 (word0 (st c arg3 f3))) ::
      kernelRun.sl.H7_40 c arg1 harg1 arg2 arg3 f1 f2 f3 := by
  sl_kernel_rfl

theorem scales_5 : kernelRun.sl.H8_6 c arg1 harg1 arg2 arg3 f1 f2 f3 =
      pieceS 40 inb_S128x128_S8x128_40_0 (half5 c arg1 harg1 arg2 f1 f2 (scales (st c arg3 f3))) :: kernelRun.sl.H8_5 c arg1 harg1 arg2 arg3 f1 f2 f3 := by
  sl_kernel_rfl

theorem words_6 : kernelRun.sl.H7_56 c arg1 harg1 arg2 arg3 f1 f2 f3 =
      pieceB 391 inb_S768x128_S8x128_391_0_s_8_1 (half6 c arg1 harg1 arg2 f1 f2 (word7 (st c arg3 f3))) ::
      pieceB 390 inb_S768x128_S8x128_390_0_s_8_1 (half6 c arg1 harg1 arg2 f1 f2 (word6 (st c arg3 f3))) ::
      pieceB 389 inb_S768x128_S8x128_389_0_s_8_1 (half6 c arg1 harg1 arg2 f1 f2 (word5 (st c arg3 f3))) ::
      pieceB 388 inb_S768x128_S8x128_388_0_s_8_1 (half6 c arg1 harg1 arg2 f1 f2 (word4 (st c arg3 f3))) ::
      pieceB 387 inb_S768x128_S8x128_387_0_s_8_1 (half6 c arg1 harg1 arg2 f1 f2 (word3 (st c arg3 f3))) ::
      pieceB 386 inb_S768x128_S8x128_386_0_s_8_1 (half6 c arg1 harg1 arg2 f1 f2 (word2 (st c arg3 f3))) ::
      pieceB 385 inb_S768x128_S8x128_385_0_s_8_1 (half6 c arg1 harg1 arg2 f1 f2 (word1 (st c arg3 f3))) ::
      pieceB 384 inb_S768x128_S8x128_384_0_s_8_1 (half6 c arg1 harg1 arg2 f1 f2 (word0 (st c arg3 f3))) ::
      kernelRun.sl.H7_48 c arg1 harg1 arg2 arg3 f1 f2 f3 := by
  sl_kernel_rfl

theorem scales_6 : kernelRun.sl.H8_7 c arg1 harg1 arg2 arg3 f1 f2 f3 =
      pieceS 48 inb_S128x128_S8x128_48_0 (half6 c arg1 harg1 arg2 f1 f2 (scales (st c arg3 f3))) :: kernelRun.sl.H8_6 c arg1 harg1 arg2 arg3 f1 f2 f3 := by
  sl_kernel_rfl

theorem words_7 : kernelRun.sl.H7_64 c arg1 harg1 arg2 arg3 f1 f2 f3 =
      pieceB 455 inb_S768x128_S8x128_455_0_s_8_1 (half7 c arg1 harg1 arg2 f1 f2 (word7 (st c arg3 f3))) ::
      pieceB 454 inb_S768x128_S8x128_454_0_s_8_1 (half7 c arg1 harg1 arg2 f1 f2 (word6 (st c arg3 f3))) ::
      pieceB 453 inb_S768x128_S8x128_453_0_s_8_1 (half7 c arg1 harg1 arg2 f1 f2 (word5 (st c arg3 f3))) ::
      pieceB 452 inb_S768x128_S8x128_452_0_s_8_1 (half7 c arg1 harg1 arg2 f1 f2 (word4 (st c arg3 f3))) ::
      pieceB 451 inb_S768x128_S8x128_451_0_s_8_1 (half7 c arg1 harg1 arg2 f1 f2 (word3 (st c arg3 f3))) ::
      pieceB 450 inb_S768x128_S8x128_450_0_s_8_1 (half7 c arg1 harg1 arg2 f1 f2 (word2 (st c arg3 f3))) ::
      pieceB 449 inb_S768x128_S8x128_449_0_s_8_1 (half7 c arg1 harg1 arg2 f1 f2 (word1 (st c arg3 f3))) ::
      pieceB 448 inb_S768x128_S8x128_448_0_s_8_1 (half7 c arg1 harg1 arg2 f1 f2 (word0 (st c arg3 f3))) ::
      kernelRun.sl.H7_56 c arg1 harg1 arg2 arg3 f1 f2 f3 := by
  sl_kernel_rfl

theorem scales_7 : kernelRun.sl.H8_8 c arg1 harg1 arg2 arg3 f1 f2 f3 =
      pieceS 56 inb_S128x128_S8x128_56_0 (half7 c arg1 harg1 arg2 f1 f2 (scales (st c arg3 f3))) :: kernelRun.sl.H8_7 c arg1 harg1 arg2 arg3 f1 f2 f3 := by
  sl_kernel_rfl

theorem words_8 : kernelRun.sl.H7_72 c arg1 harg1 arg2 arg3 f1 f2 f3 =
      pieceB 519 inb_S768x128_S8x128_519_0_s_8_1 (half8 c arg1 harg1 arg2 f1 f2 (word7 (st c arg3 f3))) ::
      pieceB 518 inb_S768x128_S8x128_518_0_s_8_1 (half8 c arg1 harg1 arg2 f1 f2 (word6 (st c arg3 f3))) ::
      pieceB 517 inb_S768x128_S8x128_517_0_s_8_1 (half8 c arg1 harg1 arg2 f1 f2 (word5 (st c arg3 f3))) ::
      pieceB 516 inb_S768x128_S8x128_516_0_s_8_1 (half8 c arg1 harg1 arg2 f1 f2 (word4 (st c arg3 f3))) ::
      pieceB 515 inb_S768x128_S8x128_515_0_s_8_1 (half8 c arg1 harg1 arg2 f1 f2 (word3 (st c arg3 f3))) ::
      pieceB 514 inb_S768x128_S8x128_514_0_s_8_1 (half8 c arg1 harg1 arg2 f1 f2 (word2 (st c arg3 f3))) ::
      pieceB 513 inb_S768x128_S8x128_513_0_s_8_1 (half8 c arg1 harg1 arg2 f1 f2 (word1 (st c arg3 f3))) ::
      pieceB 512 inb_S768x128_S8x128_512_0_s_8_1 (half8 c arg1 harg1 arg2 f1 f2 (word0 (st c arg3 f3))) ::
      kernelRun.sl.H7_64 c arg1 harg1 arg2 arg3 f1 f2 f3 := by
  sl_kernel_rfl

theorem scales_8 : kernelRun.sl.H8_9 c arg1 harg1 arg2 arg3 f1 f2 f3 =
      pieceS 64 inb_S128x128_S8x128_64_0 (half8 c arg1 harg1 arg2 f1 f2 (scales (st c arg3 f3))) :: kernelRun.sl.H8_8 c arg1 harg1 arg2 arg3 f1 f2 f3 := by
  sl_kernel_rfl

theorem words_9 : kernelRun.sl.H7_80 c arg1 harg1 arg2 arg3 f1 f2 f3 =
      pieceB 583 inb_S768x128_S8x128_583_0_s_8_1 (half9 c arg1 harg1 arg2 f1 f2 (word7 (st c arg3 f3))) ::
      pieceB 582 inb_S768x128_S8x128_582_0_s_8_1 (half9 c arg1 harg1 arg2 f1 f2 (word6 (st c arg3 f3))) ::
      pieceB 581 inb_S768x128_S8x128_581_0_s_8_1 (half9 c arg1 harg1 arg2 f1 f2 (word5 (st c arg3 f3))) ::
      pieceB 580 inb_S768x128_S8x128_580_0_s_8_1 (half9 c arg1 harg1 arg2 f1 f2 (word4 (st c arg3 f3))) ::
      pieceB 579 inb_S768x128_S8x128_579_0_s_8_1 (half9 c arg1 harg1 arg2 f1 f2 (word3 (st c arg3 f3))) ::
      pieceB 578 inb_S768x128_S8x128_578_0_s_8_1 (half9 c arg1 harg1 arg2 f1 f2 (word2 (st c arg3 f3))) ::
      pieceB 577 inb_S768x128_S8x128_577_0_s_8_1 (half9 c arg1 harg1 arg2 f1 f2 (word1 (st c arg3 f3))) ::
      pieceB 576 inb_S768x128_S8x128_576_0_s_8_1 (half9 c arg1 harg1 arg2 f1 f2 (word0 (st c arg3 f3))) ::
      kernelRun.sl.H7_72 c arg1 harg1 arg2 arg3 f1 f2 f3 := by
  sl_kernel_rfl

theorem scales_9 : kernelRun.sl.H8_10 c arg1 harg1 arg2 arg3 f1 f2 f3 =
      pieceS 72 inb_S128x128_S8x128_72_0 (half9 c arg1 harg1 arg2 f1 f2 (scales (st c arg3 f3))) :: kernelRun.sl.H8_9 c arg1 harg1 arg2 arg3 f1 f2 f3 := by
  sl_kernel_rfl

theorem words_10 : kernelRun.sl.H7_88 c arg1 harg1 arg2 arg3 f1 f2 f3 =
      pieceB 647 inb_S768x128_S8x128_647_0_s_8_1 (half10 c arg1 harg1 arg2 f1 f2 (word7 (st c arg3 f3))) ::
      pieceB 646 inb_S768x128_S8x128_646_0_s_8_1 (half10 c arg1 harg1 arg2 f1 f2 (word6 (st c arg3 f3))) ::
      pieceB 645 inb_S768x128_S8x128_645_0_s_8_1 (half10 c arg1 harg1 arg2 f1 f2 (word5 (st c arg3 f3))) ::
      pieceB 644 inb_S768x128_S8x128_644_0_s_8_1 (half10 c arg1 harg1 arg2 f1 f2 (word4 (st c arg3 f3))) ::
      pieceB 643 inb_S768x128_S8x128_643_0_s_8_1 (half10 c arg1 harg1 arg2 f1 f2 (word3 (st c arg3 f3))) ::
      pieceB 642 inb_S768x128_S8x128_642_0_s_8_1 (half10 c arg1 harg1 arg2 f1 f2 (word2 (st c arg3 f3))) ::
      pieceB 641 inb_S768x128_S8x128_641_0_s_8_1 (half10 c arg1 harg1 arg2 f1 f2 (word1 (st c arg3 f3))) ::
      pieceB 640 inb_S768x128_S8x128_640_0_s_8_1 (half10 c arg1 harg1 arg2 f1 f2 (word0 (st c arg3 f3))) ::
      kernelRun.sl.H7_80 c arg1 harg1 arg2 arg3 f1 f2 f3 := by
  sl_kernel_rfl

theorem scales_10 : kernelRun.sl.H8_11 c arg1 harg1 arg2 arg3 f1 f2 f3 =
      pieceS 80 inb_S128x128_S8x128_80_0 (half10 c arg1 harg1 arg2 f1 f2 (scales (st c arg3 f3))) :: kernelRun.sl.H8_10 c arg1 harg1 arg2 arg3 f1 f2 f3 := by
  sl_kernel_rfl

theorem words_11 : kernelRun.sl.H7_96 c arg1 harg1 arg2 arg3 f1 f2 f3 =
      pieceB 711 inb_S768x128_S8x128_711_0_s_8_1 (half11 c arg1 harg1 arg2 f1 f2 (word7 (st c arg3 f3))) ::
      pieceB 710 inb_S768x128_S8x128_710_0_s_8_1 (half11 c arg1 harg1 arg2 f1 f2 (word6 (st c arg3 f3))) ::
      pieceB 709 inb_S768x128_S8x128_709_0_s_8_1 (half11 c arg1 harg1 arg2 f1 f2 (word5 (st c arg3 f3))) ::
      pieceB 708 inb_S768x128_S8x128_708_0_s_8_1 (half11 c arg1 harg1 arg2 f1 f2 (word4 (st c arg3 f3))) ::
      pieceB 707 inb_S768x128_S8x128_707_0_s_8_1 (half11 c arg1 harg1 arg2 f1 f2 (word3 (st c arg3 f3))) ::
      pieceB 706 inb_S768x128_S8x128_706_0_s_8_1 (half11 c arg1 harg1 arg2 f1 f2 (word2 (st c arg3 f3))) ::
      pieceB 705 inb_S768x128_S8x128_705_0_s_8_1 (half11 c arg1 harg1 arg2 f1 f2 (word1 (st c arg3 f3))) ::
      pieceB 704 inb_S768x128_S8x128_704_0_s_8_1 (half11 c arg1 harg1 arg2 f1 f2 (word0 (st c arg3 f3))) ::
      kernelRun.sl.H7_88 c arg1 harg1 arg2 arg3 f1 f2 f3 := by
  sl_kernel_rfl

theorem scales_11 : kernelRun.sl.H8_12 c arg1 harg1 arg2 arg3 f1 f2 f3 =
      pieceS 88 inb_S128x128_S8x128_88_0 (half11 c arg1 harg1 arg2 f1 f2 (scales (st c arg3 f3))) :: kernelRun.sl.H8_11 c arg1 harg1 arg2 arg3 f1 f2 f3 := by
  sl_kernel_rfl

end Cert.QuantXIdeal.Body

end
-- ==== Proof.QuantXIdealScalar.lean ====
/-
  The quantiser of `quant_x` over the extended reals, one number at a time: the words and the scales of `Half` at an
  index are these functions of the sixteen values there.
-/
module

public import proofs.«01_k».proof.Proof.QuantXIdealHalf
public import Idealize.ShloMosaic.Lib.Pointwise
public import Idealize.ShloMosaic.Lib.Bf16PairInverse

@[expose] public section

noncomputable section

namespace Cert.QuantXIdeal.Scalar

open Cert.QuantXIdeal Cert.QuantXIdeal.Gen Cert.QuantXIdeal.Half
open Idealize.ShloMosaic

/-- The value of a binary32 constant. -/
abbrev lit (w : BitVec 32) : EReal := Ideal.ofBits .f32 w

/-- The tensor scale. -/
def scaleE (a : EReal) : EReal := if 0 < a then Ideal.div a (lit 0x45280000#32) else 1

/-- The sixteen butterflies of sixteen values. -/
def butterfly (v : Fin 16 → EReal) : Fin 16 → EReal :=
  rotate (· + ·) (· - ·) (fun z0 z1 z2 z3 z4 z5 z6 z7 z8 z9 z10 z11 z12 z13 z14 z15 => ![z0, z1, z2, z3, z4, z5, z6, z7, z8, z9, z10, z11, z12, z13, z14, z15])
    (v 0) (v 1) (v 2) (v 3) (v 4) (v 5) (v 6) (v 7) (v 8) (v 9) (v 10) (v 11) (v 12) (v 13) (v 14) (v 15)

/-- A quarter of the largest magnitude of sixteen values. -/
def amaxE (z : Fin 16 → EReal) : EReal :=
  fold max (max (z 0) (-z 0)) (max (z 1) (-z 1)) (max (z 2) (-z 2)) (max (z 3) (-z 3)) (max (z 4) (-z 4)) (max (z 5) (-z 5)) (max (z 6) (-z 6)) (max (z 7) (-z 7)) (max (z 8) (-z 8)) (max (z 9) (-z 9)) (max (z 10) (-z 10)) (max (z 11) (-z 11)) (max (z 12) (-z 12)) (max (z 13) (-z 13)) (max (z 14) (-z 14)) (max (z 15) (-z 15)) * lit 0x3E800000#32

/-- The block scale of a group with largest magnitude `a`. -/
def sbE (st a : EReal) : EReal := min (Ideal.div a (lit 0x40C00000#32 * st)) (lit 0x43E00000#32)

def qE (st a : EReal) : EReal := sbE st a * st

/-- A quarter of the reciprocal of the two scales' product, zero where that is. -/
def invE (st a : EReal) : EReal :=
  (if 0 < qE st a then Ideal.div 1 (if 0 < qE st a then qE st a else 1) else 0) * lit 0x3E800000#32

/-- The level of a magnitude. -/
def levelE (m : EReal) : EReal :=
  Ideal.liftRound Ideal.roundHalfEven
    (min (min (m + m) (m + lit 0x40000000#32)) (min (m * lit 0x3F000000#32 + lit 0x40800000#32) (lit 0x40E00000#32)))

/-- The level with the sign of the value. -/
def levE (st a z : EReal) : EReal :=
  if z < 0 then 0 - levelE (max z (-z) * invE st a) else levelE (max z (-z) * invE st a)

/-- The byte of two signed levels. -/
def byteE (e o : EReal) : EReal :=
  (if e < 0 then Ideal.ofBits .bf16 0x4100#16 - e else e) + Ideal.ofBits .bf16 0x4180#16 * (if o < 0 then Ideal.ofBits .bf16 0x4100#16 - o else o)

/-- The word of two values of a group with largest magnitude `a`. -/
def wordE (st a z z' : EReal) : BitVec 32 := Ideal.fptosi 32 (byteE (levE st a z) (levE st a z'))

variable (st a z w z' w' : FVec Ideal S8x128 .f32) (s : Fin 8) (l : Fin 128)

theorem lev_apply : lev st a z (ix2 s l) = levE (st (ix2 s l)) (a (ix2 s l)) (z (ix2 s l)) := by
  pointwise [lev, signed, level, Half.inv, q, sb, splat]
  rfl

theorem low_bytes : low (bytes st a z w z' w') (ix2 s l) = wordE (st (ix2 s l)) (a (ix2 s l)) (z (ix2 s l)) (z' (ix2 s l)) := by
  have h : low (bytes st a z w z' w') (ix2 s l)
      = Ideal.fptosi 32 (byteE (rowsOfParity 0 S8x128 (pair (lev st a z) (lev st a w)) bitcasts_S16x128_w16_S8x128_w32 (ix2 s l))
          (rowsOfParity 0 S8x128 (pair (lev st a z') (lev st a w')) bitcasts_S16x128_w16_S8x128_w32 (ix2 s l))) := by
    pointwise [low, bytes, byte, code, splatB]
    rfl
  rw [h]
  unfold pair
  rw [rowsOfParity_zero_interleaveRows, rowsOfParity_zero_interleaveRows]
  show Ideal.fptosi 32 (byteE (lev st a z (ix2 s l)) (lev st a z' (ix2 s l))) = _
  rw [lev_apply, lev_apply]
  rfl

theorem high_bytes : high (bytes st a z w z' w') (ix2 s l) = wordE (st (ix2 s l)) (a (ix2 s l)) (w (ix2 s l)) (w' (ix2 s l)) := by
  have h : high (bytes st a z w z' w') (ix2 s l)
      = Ideal.fptosi 32 (byteE (rowsOfParity 1 S8x128 (pair (lev st a z) (lev st a w)) bitcasts_S16x128_w16_S8x128_w32 (ix2 s l))
          (rowsOfParity 1 S8x128 (pair (lev st a z') (lev st a w')) bitcasts_S16x128_w16_S8x128_w32 (ix2 s l))) := by
    pointwise [high, bytes, byte, code, splatB]
    rfl
  rw [h]
  unfold pair
  rw [rowsOfParity_one_interleaveRows, rowsOfParity_one_interleaveRows]
  show Ideal.fptosi 32 (byteE (lev st a w (ix2 s l)) (lev st a w' (ix2 s l))) = _
  rw [lev_apply, lev_apply]
  rfl

theorem scale_apply (a : Vec Ideal S1x1 .f32) : scale a (ix2 s l) = scaleE (a (ix2 0 0)) := by
  pointwise [scale]
  rfl

/-- Word `p` of a group of sixteen rotated values: the values `2 p` and `2 p + 1`. -/
def codeWord (st : EReal) (z : Fin 16 → EReal) (p : Fin 8) : BitVec 32 :=
  wordE st (amaxE z) (z ⟨2 * p.val, by omega⟩) (z ⟨2 * p.val + 1, by omega⟩)

theorem amax_apply (z0 z1 z2 z3 z4 z5 z6 z7 z8 z9 z10 z11 z12 z13 z14 z15 : FVec Ideal S8x128 .f32) :
    amax z0 z1 z2 z3 z4 z5 z6 z7 z8 z9 z10 z11 z12 z13 z14 z15 (ix2 s l) = amaxE ![z0 (ix2 s l), z1 (ix2 s l), z2 (ix2 s l), z3 (ix2 s l), z4 (ix2 s l), z5 (ix2 s l), z6 (ix2 s l), z7 (ix2 s l), z8 (ix2 s l), z9 (ix2 s l), z10 (ix2 s l), z11 (ix2 s l), z12 (ix2 s l), z13 (ix2 s l), z14 (ix2 s l), z15 (ix2 s l)] := by
  pointwise [amax, fold, splat]
  rfl

variable (V : Fin 16 → FVec Ideal S8x128 .f32)

theorem word0_apply : rotate addf subf (word0 st) (V 0) (V 1) (V 2) (V 3) (V 4) (V 5) (V 6) (V 7) (V 8) (V 9) (V 10) (V 11) (V 12) (V 13) (V 14) (V 15) (ix2 s l)
    = codeWord (st (ix2 s l)) (butterfly fun i => V i (ix2 s l)) 0 :=
  (low_bytes _ _ _ _ _ _ s l).trans (by rw [amax_apply]; rfl)

theorem word1_apply : rotate addf subf (word1 st) (V 0) (V 1) (V 2) (V 3) (V 4) (V 5) (V 6) (V 7) (V 8) (V 9) (V 10) (V 11) (V 12) (V 13) (V 14) (V 15) (ix2 s l)
    = codeWord (st (ix2 s l)) (butterfly fun i => V i (ix2 s l)) 1 :=
  (high_bytes _ _ _ _ _ _ s l).trans (by rw [amax_apply]; rfl)

theorem word2_apply : rotate addf subf (word2 st) (V 0) (V 1) (V 2) (V 3) (V 4) (V 5) (V 6) (V 7) (V 8) (V 9) (V 10) (V 11) (V 12) (V 13) (V 14) (V 15) (ix2 s l)
    = codeWord (st (ix2 s l)) (butterfly fun i => V i (ix2 s l)) 2 :=
  (low_bytes _ _ _ _ _ _ s l).trans (by rw [amax_apply]; rfl)

theorem word3_apply : rotate addf subf (word3 st) (V 0) (V 1) (V 2) (V 3) (V 4) (V 5) (V 6) (V 7) (V 8) (V 9) (V 10) (V 11) (V 12) (V 13) (V 14) (V 15) (ix2 s l)
    = codeWord (st (ix2 s l)) (butterfly fun i => V i (ix2 s l)) 3 :=
  (high_bytes _ _ _ _ _ _ s l).trans (by rw [amax_apply]; rfl)

theorem word4_apply : rotate addf subf (word4 st) (V 0) (V 1) (V 2) (V 3) (V 4) (V 5) (V 6) (V 7) (V 8) (V 9) (V 10) (V 11) (V 12) (V 13) (V 14) (V 15) (ix2 s l)
    = codeWord (st (ix2 s l)) (butterfly fun i => V i (ix2 s l)) 4 :=
  (low_bytes _ _ _ _ _ _ s l).trans (by rw [amax_apply]; rfl)

theorem word5_apply : rotate addf subf (word5 st) (V 0) (V 1) (V 2) (V 3) (V 4) (V 5) (V 6) (V 7) (V 8) (V 9) (V 10) (V 11) (V 12) (V 13) (V 14) (V 15) (ix2 s l)
    = codeWord (st (ix2 s l)) (butterfly fun i => V i (ix2 s l)) 5 :=
  (high_bytes _ _ _ _ _ _ s l).trans (by rw [amax_apply]; rfl)

theorem word6_apply : rotate addf subf (word6 st) (V 0) (V 1) (V 2) (V 3) (V 4) (V 5) (V 6) (V 7) (V 8) (V 9) (V 10) (V 11) (V 12) (V 13) (V 14) (V 15) (ix2 s l)
    = codeWord (st (ix2 s l)) (butterfly fun i => V i (ix2 s l)) 6 :=
  (low_bytes _ _ _ _ _ _ s l).trans (by rw [amax_apply]; rfl)

theorem word7_apply : rotate addf subf (word7 st) (V 0) (V 1) (V 2) (V 3) (V 4) (V 5) (V 6) (V 7) (V 8) (V 9) (V 10) (V 11) (V 12) (V 13) (V 14) (V 15) (ix2 s l)
    = codeWord (st (ix2 s l)) (butterfly fun i => V i (ix2 s l)) 7 :=
  (high_bytes _ _ _ _ _ _ s l).trans (by rw [amax_apply]; rfl)

theorem scales_apply : rotate addf subf (scales st) (V 0) (V 1) (V 2) (V 3) (V 4) (V 5) (V 6) (V 7) (V 8) (V 9) (V 10) (V 11) (V 12) (V 13) (V 14) (V 15) (ix2 s l)
    = sbE (st (ix2 s l)) (amaxE (butterfly fun i => V i (ix2 s l))) := by
  have h : ∀ a : FVec Ideal S8x128 .f32, sb st a (ix2 s l) = sbE (st (ix2 s l)) (a (ix2 s l)) := fun a => by
    pointwise [sb, splat]
    rfl
  exact (h _).trans (by rw [amax_apply]; rfl)

end Cert.QuantXIdeal.Scalar

end
-- ==== Proof.QuantXIdealScratch.lean ====
/-
  The two scratch buffers of `quant_x` over the extended reals: after the body, row `r` of the byte scratch holds word
  `r % 8` of group `r / 8`, and row `g` of the scale scratch holds the scale of group `g`.
-/
module

public import proofs.«01_k».proof.Proof.QuantXIdealPieces
public import proofs.«01_k».proof.Proof.QuantXIdealScalar
public import Idealize.ShloMosaic.Lib.WholeRead

@[expose] public section

set_option maxRecDepth 16384

noncomputable section

namespace Cert.QuantXIdeal.Body

open Cert.QuantXIdeal Cert.QuantXIdeal.Gen Cert.QuantXIdeal.Half Cert.QuantXIdeal.Scalar
open Idealize.ShloMosaic Idealize.ShloMosaic.TcCoe Idealize.ShloMosaic.Tactic

section
variable {F : FTy → Type} [FloatOps F]

/-- A load of eight pairs of rows, from `off` on and eight pairs apart, at an index. -/
theorem ld_apply (c : Dev nD) (arg1 : Memref sig .tc .vmem S1536x128 .bf16) (harg1 : arg1.IsWhole) (X : Vec F S1536x128 .bf16)
    (off : ℕ) (h) (s : Fin 8) (e : Fin 2) (l : Fin 128) (r : Fin 1536) (hr : r.val = 2 * (off + 8 * s.val) + e.val) :
    ld c arg1 harg1 (harg1.unread X) off h (ix3 s e l) = X (ix2 r l) := by
  refine (congrFun (harg1.read_unread X) _).trans (congrArg X ?_)
  refine Shape.reshapeEquiv_eq_of_vals _ _ _ (r.val * 128 + l.val) ((off + 8 * s.val) * 256 + (e.val * 128 + l.val)) ?_ ?_ ?_
  · rw [rowMajor_val2 _ 128 rfl]; rfl
  · rw [rowMajor_val3 _ 256 128 rfl rfl]
    show (off + 8 * s.val) * 256 + (0 + 1 * e.val) * 128 + (0 + 1 * l.val) = _
    omega
  · omega

/-- A sign is an element of the array of signs. -/
theorem sg_apply (c : Dev nD) (arg2 : Memref sig .tc .smem S16 .f32) (harg2 : arg2.IsWhole) (X : Vec F S16 .f32)
    (i : ℕ) (h) (hi : i < 16) : sg c arg2 (harg2.unread X) i h = X (ix1 ⟨i, hi⟩) := by
  refine (harg2.readAt_unread X _ _).trans (congrArg X ?_)
  funext a
  match a with
  | ⟨0, _⟩ => rfl

end

theorem even_apply (raw : Vec Ideal S8x2x128 .bf16) (g : EReal) (s : Fin 8) (l : Fin 128) : even raw g (ix2 s l) = raw (ix3 s 0 l) * g := by
  pointwise [even]

theorem odd_apply (raw : Vec Ideal S8x2x128 .bf16) (g : EReal) (s : Fin 8) (l : Fin 128) : odd raw g (ix2 s l) = raw (ix3 s 1 l) * g := by
  pointwise [odd]

/-- The sixteen values of group `g` of channel `l`, each times its sign. -/
def group (X : Vec Ideal S1536x128 .bf16) (S : Vec Ideal S16 .f32) (g : Fin 96) (l : Fin 128) (i : Fin 16) : EReal :=
  X (ix2 ⟨16 * g.val + i.val, by omega⟩ l) * S (ix1 i)

/-- Value `i` of the eight groups of half `h`. -/
def vec (X : Vec Ideal S1536x128 .bf16) (S : Vec Ideal S16 .f32) (h : Fin 12) (i : Fin 16) : FVec Ideal S8x128 .f32 := fun j =>
  group X S ⟨8 * h.val + (j 0).val, by have := (j 0).isLt; have : S8x128.size 0 = 8 := rfl; omega⟩ (j 1) i

variable (c : Dev nD) (arg1 : Memref sig .tc .vmem S1536x128 .bf16) (harg1 : arg1.IsWhole)
  (arg2 : Memref sig .tc .smem S16 .f32) (harg2 : arg2.IsWhole) (arg3 : Memref sig .tc .vmem S1x1 .f32) (harg3 : arg3.IsWhole)
  (X : Vec Ideal S1536x128 .bf16) (S : Vec Ideal S16 .f32) (A : Vec Ideal S1x1 .f32)

theorem even_vec (h : Fin 12) (i : Fin 16) (off : ℕ) (h1 h2) (he : 64 * h.val + i.val / 2 = off) (hi : i.val % 2 = 0) :
    even (ld c arg1 harg1 (harg1.unread X) off h1) (sg c arg2 (harg2.unread S) i.val h2) = vec X S h i := by
  funext j
  obtain ⟨s, l, rfl⟩ : ∃ s l, j = ix2 s l := ⟨j 0, j 1, eq_ix2 j⟩
  rw [even_apply, sg_apply c arg2 harg2 S i.val h2 i.isLt, ld_apply c arg1 harg1 X off h1 s 0 l
    ⟨16 * (8 * h.val + s.val) + i.val, by omega⟩ (by show 16 * (8 * h.val + s.val) + i.val = 2 * (off + 8 * s.val) + 0; omega)]
  rfl

theorem odd_vec (h : Fin 12) (i : Fin 16) (off : ℕ) (h1 h2) (he : 64 * h.val + i.val / 2 = off) (hi : i.val % 2 = 1) :
    odd (ld c arg1 harg1 (harg1.unread X) off h1) (sg c arg2 (harg2.unread S) i.val h2) = vec X S h i := by
  funext j
  obtain ⟨s, l, rfl⟩ : ∃ s l, j = ix2 s l := ⟨j 0, j 1, eq_ix2 j⟩
  rw [odd_apply, sg_apply c arg2 harg2 S i.val h2 i.isLt, ld_apply c arg1 harg1 X off h1 s 1 l
    ⟨16 * (8 * h.val + s.val) + i.val, by omega⟩ (by show 16 * (8 * h.val + s.val) + i.val = 2 * (off + 8 * s.val) + 1; omega)]
  rfl

theorem st_apply (s : Fin 8) (l : Fin 128) : st c arg3 (harg3.unread A) (ix2 s l) = scaleE (A (ix2 0 0)) := by
  refine (scale_apply s l _).trans (congrArg scaleE ?_)
  refine (harg3.readAt_unread A _ _).trans (congrArg A ?_)
  funext a
  match a with
  | ⟨0, _⟩ => rfl
  | ⟨1, _⟩ => rfl

/-- The word at row `r` and lane `l`, and the scale of group `g`. -/
def wordAt (y : S768x128.Idx) : BitVec 32 :=
  codeWord (scaleE (A (ix2 0 0))) (butterfly (group X S ⟨(y 0).val / 8, by have := (y 0).isLt; have : S768x128.size 0 = 768 := rfl; omega⟩ (y 1)))
    ⟨(y 0).val % 8, Nat.mod_lt _ (by decide)⟩
def scaleAt (y : S128x128.Idx) : EReal :=
  sbE (scaleE (A (ix2 0 0))) (amaxE (butterfly (group X S ⟨(y 0).val % 96, Nat.mod_lt _ (by decide)⟩ (y 1))))

theorem pieceB_agrees (h : Fin 12) (p : Fin 8) (off : ℕ) (ho : 64 * h.val + p.val = off) (hin) (w : IVec S8x128 32)
    (hw : ∀ (s : Fin 8) (l : Fin 128), w (ix2 s l)
      = codeWord (st c arg3 (harg3.unread A) (ix2 s l)) (butterfly fun i => vec X S h i (ix2 s l)) p) :
    ∀ x, (pieceB (F := Ideal) off hin w).2 x = wordAt X S A ((pieceB (F := Ideal) off hin w).1.emb x) := by
  intro x
  obtain ⟨s, l, rfl⟩ : ∃ s l, x = ix2 s l := ⟨x 0, x 1, eq_ix2 x⟩
  refine (congrFun (shapeCast_id w _) _).trans ((hw s l).trans ?_)
  rw [st_apply]
  have hl : ((pieceB (F := Ideal) off hin w).1.emb (ix2 s l)) 1 = l := Fin.ext (show 0 + 1 * l.val = l.val by omega)
  unfold wordAt
  rw [hl]
  congr 1
  · congr 1
    funext i
    show group X S _ l i = _
    congr 1
    exact Fin.ext (show 8 * h.val + s.val = (off + 8 * s.val) / 8 by omega)
  · exact Fin.ext (show p.val = (off + 8 * s.val) % 8 by omega)

theorem pieceS_agrees (h : Fin 12) (off : ℕ) (ho : 8 * h.val = off) (hin) (w : FVec Ideal S8x128 .f32)
    (hw : ∀ (s : Fin 8) (l : Fin 128), w (ix2 s l)
      = sbE (st c arg3 (harg3.unread A) (ix2 s l)) (amaxE (butterfly fun i => vec X S h i (ix2 s l)))) :
    ∀ x, (pieceS off hin w).2 x = scaleAt X S A ((pieceS off hin w).1.emb x) := by
  intro x
  obtain ⟨s, l, rfl⟩ : ∃ s l, x = ix2 s l := ⟨x 0, x 1, eq_ix2 x⟩
  refine (congrFun (shapeCast_id w _) _).trans ((hw s l).trans ?_)
  rw [st_apply]
  have hl : ((pieceS off hin w).1.emb (ix2 s l)) 1 = l := Fin.ext (show 0 + 1 * l.val = l.val by omega)
  unfold scaleAt
  rw [hl]
  congr 2
  congr 1
  funext i
  show group X S _ l i = _
  congr 1
  exact Fin.ext (show 8 * h.val + s.val = (off + 1 * s.val) % 96 by omega)

/-- The rows of a piece. -/
theorem mem_pieceB (off : ℕ) (hin) (w : IVec S8x128 32) (y : S768x128.Idx) (k : ℕ) (hk : k < 8) (hy : (y 0).val = off + 8 * k) :
    y ∈ (pieceB (F := Ideal) off hin w).1.set :=
  (LoadRect.mem_set _).2 fun a => match a with
    | ⟨0, _⟩ => ⟨k, hk, hy⟩
    | ⟨1, _⟩ => ⟨(y 1).val, (y 1).isLt, (show (y 1).val = 0 + 1 * (y 1).val by omega)⟩

theorem mem_pieceS (off : ℕ) (hin) (w : FVec Ideal S8x128 .f32) (y : S128x128.Idx) (hy : off ≤ (y 0).val) (hy' : (y 0).val < off + 8) :
    y ∈ (pieceS off hin w).1.set :=
  (Rect.mem_set_unit (inb := hin)).2 fun a => match a with
    | ⟨0, _⟩ => ⟨hy, hy'⟩
    | ⟨1, _⟩ => ⟨Nat.zero_le _, (show (y 1).val < 0 + 128 by have := (y 1).isLt; have : S128x128.size 1 = 128 := rfl; omega)⟩

/-- All of a list's pieces agree with a function, and cover the rows below a bound. -/
def Good {s : Shape} {e : EltTy} (G : s.Idx → Elt Ideal e) (row : s.Idx → ℕ) (n : ℕ) (L : List (View.Piece (Elt Ideal) s e)) : Prop :=
  (∀ p ∈ L, ∀ x : p.1.shape.Idx, p.2 x = G (p.1.emb x)) ∧ ∀ y, row y < n → ∃ p ∈ L, y ∈ p.1.set

theorem congr16 {α β : Type} (f : Of16 α β) {x0 x1 x2 x3 x4 x5 x6 x7 x8 x9 x10 x11 x12 x13 x14 x15 y0 y1 y2 y3 y4 y5 y6 y7 y8 y9 y10 y11 y12 y13 y14 y15 : α} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) :
    f x0 x1 x2 x3 x4 x5 x6 x7 x8 x9 x10 x11 x12 x13 x14 x15 = f y0 y1 y2 y3 y4 y5 y6 y7 y8 y9 y10 y11 y12 y13 y14 y15 := by
  subst h0 h1 h2 h3 h4 h5 h6 h7 h8 h9 h10 h11 h12 h13 h14 h15; rfl

theorem half0_eq {β : Type} (k : Of16 (FVec Ideal S8x128 .f32) β) :
    half0 c arg1 harg1 arg2 (harg1.unread X) (harg2.unread S) k = rotate addf subf k (vec X S 0 0) (vec X S 0 1) (vec X S 0 2) (vec X S 0 3) (vec X S 0 4) (vec X S 0 5) (vec X S 0 6) (vec X S 0 7) (vec X S 0 8) (vec X S 0 9) (vec X S 0 10) (vec X S 0 11) (vec X S 0 12) (vec X S 0 13) (vec X S 0 14) (vec X S 0 15) := by
  have e := fun (i : Fin 16) (off : ℕ) (h1) (h2) (he : 64 * ((0 : Fin 12) : ℕ) + i.val / 2 = off) (hi : i.val % 2 = 0) => even_vec c arg1 harg1 arg2 harg2 X S 0 i off h1 h2 he hi
  have o := fun (i : Fin 16) (off : ℕ) (h1) (h2) (he : 64 * ((0 : Fin 12) : ℕ) + i.val / 2 = off) (hi : i.val % 2 = 1) => odd_vec c arg1 harg1 arg2 harg2 X S 0 i off h1 h2 he hi
  unfold half0
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half1_eq {β : Type} (k : Of16 (FVec Ideal S8x128 .f32) β) :
    half1 c arg1 harg1 arg2 (harg1.unread X) (harg2.unread S) k = rotate addf subf k (vec X S 1 0) (vec X S 1 1) (vec X S 1 2) (vec X S 1 3) (vec X S 1 4) (vec X S 1 5) (vec X S 1 6) (vec X S 1 7) (vec X S 1 8) (vec X S 1 9) (vec X S 1 10) (vec X S 1 11) (vec X S 1 12) (vec X S 1 13) (vec X S 1 14) (vec X S 1 15) := by
  have e := fun (i : Fin 16) (off : ℕ) (h1) (h2) (he : 64 * ((1 : Fin 12) : ℕ) + i.val / 2 = off) (hi : i.val % 2 = 0) => even_vec c arg1 harg1 arg2 harg2 X S 1 i off h1 h2 he hi
  have o := fun (i : Fin 16) (off : ℕ) (h1) (h2) (he : 64 * ((1 : Fin 12) : ℕ) + i.val / 2 = off) (hi : i.val % 2 = 1) => odd_vec c arg1 harg1 arg2 harg2 X S 1 i off h1 h2 he hi
  unfold half1
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half2_eq {β : Type} (k : Of16 (FVec Ideal S8x128 .f32) β) :
    half2 c arg1 harg1 arg2 (harg1.unread X) (harg2.unread S) k = rotate addf subf k (vec X S 2 0) (vec X S 2 1) (vec X S 2 2) (vec X S 2 3) (vec X S 2 4) (vec X S 2 5) (vec X S 2 6) (vec X S 2 7) (vec X S 2 8) (vec X S 2 9) (vec X S 2 10) (vec X S 2 11) (vec X S 2 12) (vec X S 2 13) (vec X S 2 14) (vec X S 2 15) := by
  have e := fun (i : Fin 16) (off : ℕ) (h1) (h2) (he : 64 * ((2 : Fin 12) : ℕ) + i.val / 2 = off) (hi : i.val % 2 = 0) => even_vec c arg1 harg1 arg2 harg2 X S 2 i off h1 h2 he hi
  have o := fun (i : Fin 16) (off : ℕ) (h1) (h2) (he : 64 * ((2 : Fin 12) : ℕ) + i.val / 2 = off) (hi : i.val % 2 = 1) => odd_vec c arg1 harg1 arg2 harg2 X S 2 i off h1 h2 he hi
  unfold half2
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half3_eq {β : Type} (k : Of16 (FVec Ideal S8x128 .f32) β) :
    half3 c arg1 harg1 arg2 (harg1.unread X) (harg2.unread S) k = rotate addf subf k (vec X S 3 0) (vec X S 3 1) (vec X S 3 2) (vec X S 3 3) (vec X S 3 4) (vec X S 3 5) (vec X S 3 6) (vec X S 3 7) (vec X S 3 8) (vec X S 3 9) (vec X S 3 10) (vec X S 3 11) (vec X S 3 12) (vec X S 3 13) (vec X S 3 14) (vec X S 3 15) := by
  have e := fun (i : Fin 16) (off : ℕ) (h1) (h2) (he : 64 * ((3 : Fin 12) : ℕ) + i.val / 2 = off) (hi : i.val % 2 = 0) => even_vec c arg1 harg1 arg2 harg2 X S 3 i off h1 h2 he hi
  have o := fun (i : Fin 16) (off : ℕ) (h1) (h2) (he : 64 * ((3 : Fin 12) : ℕ) + i.val / 2 = off) (hi : i.val % 2 = 1) => odd_vec c arg1 harg1 arg2 harg2 X S 3 i off h1 h2 he hi
  unfold half3
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half4_eq {β : Type} (k : Of16 (FVec Ideal S8x128 .f32) β) :
    half4 c arg1 harg1 arg2 (harg1.unread X) (harg2.unread S) k = rotate addf subf k (vec X S 4 0) (vec X S 4 1) (vec X S 4 2) (vec X S 4 3) (vec X S 4 4) (vec X S 4 5) (vec X S 4 6) (vec X S 4 7) (vec X S 4 8) (vec X S 4 9) (vec X S 4 10) (vec X S 4 11) (vec X S 4 12) (vec X S 4 13) (vec X S 4 14) (vec X S 4 15) := by
  have e := fun (i : Fin 16) (off : ℕ) (h1) (h2) (he : 64 * ((4 : Fin 12) : ℕ) + i.val / 2 = off) (hi : i.val % 2 = 0) => even_vec c arg1 harg1 arg2 harg2 X S 4 i off h1 h2 he hi
  have o := fun (i : Fin 16) (off : ℕ) (h1) (h2) (he : 64 * ((4 : Fin 12) : ℕ) + i.val / 2 = off) (hi : i.val % 2 = 1) => odd_vec c arg1 harg1 arg2 harg2 X S 4 i off h1 h2 he hi
  unfold half4
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half5_eq {β : Type} (k : Of16 (FVec Ideal S8x128 .f32) β) :
    half5 c arg1 harg1 arg2 (harg1.unread X) (harg2.unread S) k = rotate addf subf k (vec X S 5 0) (vec X S 5 1) (vec X S 5 2) (vec X S 5 3) (vec X S 5 4) (vec X S 5 5) (vec X S 5 6) (vec X S 5 7) (vec X S 5 8) (vec X S 5 9) (vec X S 5 10) (vec X S 5 11) (vec X S 5 12) (vec X S 5 13) (vec X S 5 14) (vec X S 5 15) := by
  have e := fun (i : Fin 16) (off : ℕ) (h1) (h2) (he : 64 * ((5 : Fin 12) : ℕ) + i.val / 2 = off) (hi : i.val % 2 = 0) => even_vec c arg1 harg1 arg2 harg2 X S 5 i off h1 h2 he hi
  have o := fun (i : Fin 16) (off : ℕ) (h1) (h2) (he : 64 * ((5 : Fin 12) : ℕ) + i.val / 2 = off) (hi : i.val % 2 = 1) => odd_vec c arg1 harg1 arg2 harg2 X S 5 i off h1 h2 he hi
  unfold half5
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half6_eq {β : Type} (k : Of16 (FVec Ideal S8x128 .f32) β) :
    half6 c arg1 harg1 arg2 (harg1.unread X) (harg2.unread S) k = rotate addf subf k (vec X S 6 0) (vec X S 6 1) (vec X S 6 2) (vec X S 6 3) (vec X S 6 4) (vec X S 6 5) (vec X S 6 6) (vec X S 6 7) (vec X S 6 8) (vec X S 6 9) (vec X S 6 10) (vec X S 6 11) (vec X S 6 12) (vec X S 6 13) (vec X S 6 14) (vec X S 6 15) := by
  have e := fun (i : Fin 16) (off : ℕ) (h1) (h2) (he : 64 * ((6 : Fin 12) : ℕ) + i.val / 2 = off) (hi : i.val % 2 = 0) => even_vec c arg1 harg1 arg2 harg2 X S 6 i off h1 h2 he hi
  have o := fun (i : Fin 16) (off : ℕ) (h1) (h2) (he : 64 * ((6 : Fin 12) : ℕ) + i.val / 2 = off) (hi : i.val % 2 = 1) => odd_vec c arg1 harg1 arg2 harg2 X S 6 i off h1 h2 he hi
  unfold half6
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half7_eq {β : Type} (k : Of16 (FVec Ideal S8x128 .f32) β) :
    half7 c arg1 harg1 arg2 (harg1.unread X) (harg2.unread S) k = rotate addf subf k (vec X S 7 0) (vec X S 7 1) (vec X S 7 2) (vec X S 7 3) (vec X S 7 4) (vec X S 7 5) (vec X S 7 6) (vec X S 7 7) (vec X S 7 8) (vec X S 7 9) (vec X S 7 10) (vec X S 7 11) (vec X S 7 12) (vec X S 7 13) (vec X S 7 14) (vec X S 7 15) := by
  have e := fun (i : Fin 16) (off : ℕ) (h1) (h2) (he : 64 * ((7 : Fin 12) : ℕ) + i.val / 2 = off) (hi : i.val % 2 = 0) => even_vec c arg1 harg1 arg2 harg2 X S 7 i off h1 h2 he hi
  have o := fun (i : Fin 16) (off : ℕ) (h1) (h2) (he : 64 * ((7 : Fin 12) : ℕ) + i.val / 2 = off) (hi : i.val % 2 = 1) => odd_vec c arg1 harg1 arg2 harg2 X S 7 i off h1 h2 he hi
  unfold half7
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half8_eq {β : Type} (k : Of16 (FVec Ideal S8x128 .f32) β) :
    half8 c arg1 harg1 arg2 (harg1.unread X) (harg2.unread S) k = rotate addf subf k (vec X S 8 0) (vec X S 8 1) (vec X S 8 2) (vec X S 8 3) (vec X S 8 4) (vec X S 8 5) (vec X S 8 6) (vec X S 8 7) (vec X S 8 8) (vec X S 8 9) (vec X S 8 10) (vec X S 8 11) (vec X S 8 12) (vec X S 8 13) (vec X S 8 14) (vec X S 8 15) := by
  have e := fun (i : Fin 16) (off : ℕ) (h1) (h2) (he : 64 * ((8 : Fin 12) : ℕ) + i.val / 2 = off) (hi : i.val % 2 = 0) => even_vec c arg1 harg1 arg2 harg2 X S 8 i off h1 h2 he hi
  have o := fun (i : Fin 16) (off : ℕ) (h1) (h2) (he : 64 * ((8 : Fin 12) : ℕ) + i.val / 2 = off) (hi : i.val % 2 = 1) => odd_vec c arg1 harg1 arg2 harg2 X S 8 i off h1 h2 he hi
  unfold half8
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half9_eq {β : Type} (k : Of16 (FVec Ideal S8x128 .f32) β) :
    half9 c arg1 harg1 arg2 (harg1.unread X) (harg2.unread S) k = rotate addf subf k (vec X S 9 0) (vec X S 9 1) (vec X S 9 2) (vec X S 9 3) (vec X S 9 4) (vec X S 9 5) (vec X S 9 6) (vec X S 9 7) (vec X S 9 8) (vec X S 9 9) (vec X S 9 10) (vec X S 9 11) (vec X S 9 12) (vec X S 9 13) (vec X S 9 14) (vec X S 9 15) := by
  have e := fun (i : Fin 16) (off : ℕ) (h1) (h2) (he : 64 * ((9 : Fin 12) : ℕ) + i.val / 2 = off) (hi : i.val % 2 = 0) => even_vec c arg1 harg1 arg2 harg2 X S 9 i off h1 h2 he hi
  have o := fun (i : Fin 16) (off : ℕ) (h1) (h2) (he : 64 * ((9 : Fin 12) : ℕ) + i.val / 2 = off) (hi : i.val % 2 = 1) => odd_vec c arg1 harg1 arg2 harg2 X S 9 i off h1 h2 he hi
  unfold half9
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half10_eq {β : Type} (k : Of16 (FVec Ideal S8x128 .f32) β) :
    half10 c arg1 harg1 arg2 (harg1.unread X) (harg2.unread S) k = rotate addf subf k (vec X S 10 0) (vec X S 10 1) (vec X S 10 2) (vec X S 10 3) (vec X S 10 4) (vec X S 10 5) (vec X S 10 6) (vec X S 10 7) (vec X S 10 8) (vec X S 10 9) (vec X S 10 10) (vec X S 10 11) (vec X S 10 12) (vec X S 10 13) (vec X S 10 14) (vec X S 10 15) := by
  have e := fun (i : Fin 16) (off : ℕ) (h1) (h2) (he : 64 * ((10 : Fin 12) : ℕ) + i.val / 2 = off) (hi : i.val % 2 = 0) => even_vec c arg1 harg1 arg2 harg2 X S 10 i off h1 h2 he hi
  have o := fun (i : Fin 16) (off : ℕ) (h1) (h2) (he : 64 * ((10 : Fin 12) : ℕ) + i.val / 2 = off) (hi : i.val % 2 = 1) => odd_vec c arg1 harg1 arg2 harg2 X S 10 i off h1 h2 he hi
  unfold half10
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half11_eq {β : Type} (k : Of16 (FVec Ideal S8x128 .f32) β) :
    half11 c arg1 harg1 arg2 (harg1.unread X) (harg2.unread S) k = rotate addf subf k (vec X S 11 0) (vec X S 11 1) (vec X S 11 2) (vec X S 11 3) (vec X S 11 4) (vec X S 11 5) (vec X S 11 6) (vec X S 11 7) (vec X S 11 8) (vec X S 11 9) (vec X S 11 10) (vec X S 11 11) (vec X S 11 12) (vec X S 11 13) (vec X S 11 14) (vec X S 11 15) := by
  have e := fun (i : Fin 16) (off : ℕ) (h1) (h2) (he : 64 * ((11 : Fin 12) : ℕ) + i.val / 2 = off) (hi : i.val % 2 = 0) => even_vec c arg1 harg1 arg2 harg2 X S 11 i off h1 h2 he hi
  have o := fun (i : Fin 16) (off : ℕ) (h1) (h2) (he : 64 * ((11 : Fin 12) : ℕ) + i.val / 2 = off) (hi : i.val % 2 = 1) => odd_vec c arg1 harg1 arg2 harg2 X S 11 i off h1 h2 he hi
  unfold half11
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem good_words_0 : Good (wordAt X S A) (fun y => (y 0).val) 64 (kernelRun.sl.H7_8 c arg1 harg1 arg2 arg3 (harg1.unread X) (harg2.unread S) (harg3.unread A)) := by
  rw [words_0]
  constructor
  · refine List.forall_mem_cons.2 ⟨pieceB_agrees c arg3 harg3 X S A 0 7 7 rfl _ _ fun s l => by rw [half0_eq]; exact word7_apply _ s l (vec X S 0), List.forall_mem_cons.2 ⟨pieceB_agrees c arg3 harg3 X S A 0 6 6 rfl _ _ fun s l => by rw [half0_eq]; exact word6_apply _ s l (vec X S 0), List.forall_mem_cons.2 ⟨pieceB_agrees c arg3 harg3 X S A 0 5 5 rfl _ _ fun s l => by rw [half0_eq]; exact word5_apply _ s l (vec X S 0), List.forall_mem_cons.2 ⟨pieceB_agrees c arg3 harg3 X S A 0 4 4 rfl _ _ fun s l => by rw [half0_eq]; exact word4_apply _ s l (vec X S 0), List.forall_mem_cons.2 ⟨pieceB_agrees c arg3 harg3 X S A 0 3 3 rfl _ _ fun s l => by rw [half0_eq]; exact word3_apply _ s l (vec X S 0), List.forall_mem_cons.2 ⟨pieceB_agrees c arg3 harg3 X S A 0 2 2 rfl _ _ fun s l => by rw [half0_eq]; exact word2_apply _ s l (vec X S 0), List.forall_mem_cons.2 ⟨pieceB_agrees c arg3 harg3 X S A 0 1 1 rfl _ _ fun s l => by rw [half0_eq]; exact word1_apply _ s l (vec X S 0), List.forall_mem_cons.2 ⟨pieceB_agrees c arg3 harg3 X S A 0 0 0 rfl _ _ fun s l => by rw [half0_eq]; exact word0_apply _ s l (vec X S 0), fun p hp => absurd hp List.not_mem_nil⟩⟩⟩⟩⟩⟩⟩⟩
  · intro y hy
    have hge : 0 ≤ (y 0).val := Nat.zero_le _
    obtain ⟨q, hq⟩ : ∃ q : ℕ, (y 0).val % 8 = q := ⟨_, rfl⟩
    have hq8 : q < 8 := hq ▸ Nat.mod_lt _ (by decide)
    have hy : (y 0).val < 64 := hy
    interval_cases q
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 0 _ _ y (((y 0).val - 0) / 8) (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), mem_pieceB 1 _ _ y (((y 0).val - 0) / 8) (by omega) (by omega)⟩
    · exact ⟨_, List.mem_cons_of_mem _ (List.mem_cons_of_mem _ (List.mem_cons_of_mem _ (List.mem_cons_of_mem _ (List.mem_cons_of_mem _ (List.mem_cons_self))))), mem_pieceB 2 _ _ y (((y 0).val - 0) / 8) (by omega) (by omega)⟩
    · exact ⟨_, List.mem_cons_of_mem _ (List.mem_cons_of_mem _ (List.mem_cons_of_mem _ (List.mem_cons_of_mem _ (List.mem_cons_self)))), mem_pieceB 3 _ _ y (((y 0).val - 0) / 8) (by omega) (by omega)⟩
    · exact ⟨_, List.mem_cons_of_mem _ (List.mem_cons_of_mem _ (List.mem_cons_of_mem _ (List.mem_cons_self))), mem_pieceB 4 _ _ y (((y 0).val - 0) / 8) (by omega) (by omega)⟩
    · exact ⟨_, List.mem_cons_of_mem _ (List.mem_cons_of_mem _ (List.mem_cons_self)), mem_pieceB 5 _ _ y (((y 0).val - 0) / 8) (by omega) (by omega)⟩
    · exact ⟨_, List.mem_cons_of_mem _ (List.mem_cons_self), mem_pieceB 6 _ _ y (((y 0).val - 0) / 8) (by omega) (by omega)⟩
    · exact ⟨_, List.mem_cons_self, mem_pieceB 7 _ _ y (((y 0).val - 0) / 8) (by omega) (by omega)⟩

theorem good_scales_0 : Good (scaleAt X S A) (fun y => (y 0).val) 8 (kernelRun.sl.H8_1 c arg1 harg1 arg2 arg3 (harg1.unread X) (harg2.unread S) (harg3.unread A)) := by
  rw [scales_0]
  constructor
  · refine List.forall_mem_cons.2 ⟨pieceS_agrees c arg3 harg3 X S A 0 0 rfl _ _ fun s l => by rw [half0_eq]; exact scales_apply _ s l (vec X S 0), fun p hp => absurd hp List.not_mem_nil⟩
  · intro y hy
    have hy : (y 0).val < 8 := hy
    exact ⟨_, List.mem_cons_self, mem_pieceS 0 _ _ y (Nat.zero_le _) (by omega)⟩

theorem good_words_1 : Good (wordAt X S A) (fun y => (y 0).val) 128 (kernelRun.sl.H7_16 c arg1 harg1 arg2 arg3 (harg1.unread X) (harg2.unread S) (harg3.unread A)) := by
  have ih := good_words_0 c arg1 harg1 arg2 harg2 arg3 harg3 X S A
  rw [words_1]
  constructor
  · refine List.forall_mem_cons.2 ⟨pieceB_agrees c arg3 harg3 X S A 1 7 71 rfl _ _ fun s l => by rw [half1_eq]; exact word7_apply _ s l (vec X S 1), List.forall_mem_cons.2 ⟨pieceB_agrees c arg3 harg3 X S A 1 6 70 rfl _ _ fun s l => by rw [half1_eq]; exact word6_apply _ s l (vec X S 1), List.forall_mem_cons.2 ⟨pieceB_agrees c arg3 harg3 X S A 1 5 69 rfl _ _ fun s l => by rw [half1_eq]; exact word5_apply _ s l (vec X S 1), List.forall_mem_cons.2 ⟨pieceB_agrees c arg3 harg3 X S A 1 4 68 rfl _ _ fun s l => by rw [half1_eq]; exact word4_apply _ s l (vec X S 1), List.forall_mem_cons.2 ⟨pieceB_agrees c arg3 harg3 X S A 1 3 67 rfl _ _ fun s l => by rw [half1_eq]; exact word3_apply _ s l (vec X S 1), List.forall_mem_cons.2 ⟨pieceB_agrees c arg3 harg3 X S A 1 2 66 rfl _ _ fun s l => by rw [half1_eq]; exact word2_apply _ s l (vec X S 1), List.forall_mem_cons.2 ⟨pieceB_agrees c arg3 harg3 X S A 1 1 65 rfl _ _ fun s l => by rw [half1_eq]; exact word1_apply _ s l (vec X S 1), List.forall_mem_cons.2 ⟨pieceB_agrees c arg3 harg3 X S A 1 0 64 rfl _ _ fun s l => by rw [half1_eq]; exact word0_apply _ s l (vec X S 1), ih.1⟩⟩⟩⟩⟩⟩⟩⟩
  · intro y hy
    rcases Nat.lt_or_ge (y 0).val 64 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 128 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 64 _ _ y (((y 0).val - 64) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 65 _ _ y (((y 0).val - 64) / 8) (by omega) (by omega)⟩
      · exact ⟨_, List.mem_cons_of_mem _ (List.mem_cons_of_mem _ (List.mem_cons_of_mem _ (List.mem_cons_of_mem _ (List.mem_cons_of_mem _ (List.mem_cons_self))))), mem_pieceB 66 _ _ y (((y 0).val - 64) / 8) (by omega) (by omega)⟩
      · exact ⟨_, List.mem_cons_of_mem _ (List.mem_cons_of_mem _ (List.mem_cons_of_mem _ (List.mem_cons_of_mem _ (List.mem_cons_self)))), mem_pieceB 67 _ _ y (((y 0).val - 64) / 8) (by omega) (by omega)⟩
      · exact ⟨_, List.mem_cons_of_mem _ (List.mem_cons_of_mem _ (List.mem_cons_of_mem _ (List.mem_cons_self))), mem_pieceB 68 _ _ y (((y 0).val - 64) / 8) (by omega) (by omega)⟩
      · exact ⟨_, List.mem_cons_of_mem _ (List.mem_cons_of_mem _ (List.mem_cons_self)), mem_pieceB 69 _ _ y (((y 0).val - 64) / 8) (by omega) (by omega)⟩
      · exact ⟨_, List.mem_cons_of_mem _ (List.mem_cons_self), mem_pieceB 70 _ _ y (((y 0).val - 64) / 8) (by omega) (by omega)⟩
      · exact ⟨_, List.mem_cons_self, mem_pieceB 71 _ _ y (((y 0).val - 64) / 8) (by omega) (by omega)⟩

theorem good_scales_1 : Good (scaleAt X S A) (fun y => (y 0).val) 16 (kernelRun.sl.H8_2 c arg1 harg1 arg2 arg3 (harg1.unread X) (harg2.unread S) (harg3.unread A)) := by
  have ih := good_scales_0 c arg1 harg1 arg2 harg2 arg3 harg3 X S A
  rw [scales_1]
  constructor
  · refine List.forall_mem_cons.2 ⟨pieceS_agrees c arg3 harg3 X S A 1 8 rfl _ _ fun s l => by rw [half1_eq]; exact scales_apply _ s l (vec X S 1), ih.1⟩
  · intro y hy
    have hy : (y 0).val < 16 := hy
    rcases Nat.lt_or_ge (y 0).val 8 with hlt | hge
    · obtain ⟨p, hp, hy⟩ := ih.2 y hlt
      exact ⟨p, List.mem_cons_of_mem _ hp, hy⟩
    · exact ⟨_, List.mem_cons_self, mem_pieceS 8 _ _ y hge (by omega)⟩

theorem good_words_2 : Good (wordAt X S A) (fun y => (y 0).val) 192 (kernelRun.sl.H7_24 c arg1 harg1 arg2 arg3 (harg1.unread X) (harg2.unread S) (harg3.unread A)) := by
  have ih := good_words_1 c arg1 harg1 arg2 harg2 arg3 harg3 X S A
  rw [words_2]
  constructor
  · refine List.forall_mem_cons.2 ⟨pieceB_agrees c arg3 harg3 X S A 2 7 135 rfl _ _ fun s l => by rw [half2_eq]; exact word7_apply _ s l (vec X S 2), List.forall_mem_cons.2 ⟨pieceB_agrees c arg3 harg3 X S A 2 6 134 rfl _ _ fun s l => by rw [half2_eq]; exact word6_apply _ s l (vec X S 2), List.forall_mem_cons.2 ⟨pieceB_agrees c arg3 harg3 X S A 2 5 133 rfl _ _ fun s l => by rw [half2_eq]; exact word5_apply _ s l (vec X S 2), List.forall_mem_cons.2 ⟨pieceB_agrees c arg3 harg3 X S A 2 4 132 rfl _ _ fun s l => by rw [half2_eq]; exact word4_apply _ s l (vec X S 2), List.forall_mem_cons.2 ⟨pieceB_agrees c arg3 harg3 X S A 2 3 131 rfl _ _ fun s l => by rw [half2_eq]; exact word3_apply _ s l (vec X S 2), List.forall_mem_cons.2 ⟨pieceB_agrees c arg3 harg3 X S A 2 2 130 rfl _ _ fun s l => by rw [half2_eq]; exact word2_apply _ s l (vec X S 2), List.forall_mem_cons.2 ⟨pieceB_agrees c arg3 harg3 X S A 2 1 129 rfl _ _ fun s l => by rw [half2_eq]; exact word1_apply _ s l (vec X S 2), List.forall_mem_cons.2 ⟨pieceB_agrees c arg3 harg3 X S A 2 0 128 rfl _ _ fun s l => by rw [half2_eq]; exact word0_apply _ s l (vec X S 2), ih.1⟩⟩⟩⟩⟩⟩⟩⟩
  · intro y hy
    rcases Nat.lt_or_ge (y 0).val 128 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 192 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 128 _ _ y (((y 0).val - 128) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 129 _ _ y (((y 0).val - 128) / 8) (by omega) (by omega)⟩
      · exact ⟨_, List.mem_cons_of_mem _ (List.mem_cons_of_mem _ (List.mem_cons_of_mem _ (List.mem_cons_of_mem _ (List.mem_cons_of_mem _ (List.mem_cons_self))))), mem_pieceB 130 _ _ y (((y 0).val - 128) / 8) (by omega) (by omega)⟩
      · exact ⟨_, List.mem_cons_of_mem _ (List.mem_cons_of_mem _ (List.mem_cons_of_mem _ (List.mem_cons_of_mem _ (List.mem_cons_self)))), mem_pieceB 131 _ _ y (((y 0).val - 128) / 8) (by omega) (by omega)⟩
      · exact ⟨_, List.mem_cons_of_mem _ (List.mem_cons_of_mem _ (List.mem_cons_of_mem _ (List.mem_cons_self))), mem_pieceB 132 _ _ y (((y 0).val - 128) / 8) (by omega) (by omega)⟩
      · exact ⟨_, List.mem_cons_of_mem _ (List.mem_cons_of_mem _ (List.mem_cons_self)), mem_pieceB 133 _ _ y (((y 0).val - 128) / 8) (by omega) (by omega)⟩
      · exact ⟨_, List.mem_cons_of_mem _ (List.mem_cons_self), mem_pieceB 134 _ _ y (((y 0).val - 128) / 8) (by omega) (by omega)⟩
      · exact ⟨_, List.mem_cons_self, mem_pieceB 135 _ _ y (((y 0).val - 128) / 8) (by omega) (by omega)⟩

theorem good_scales_2 : Good (scaleAt X S A) (fun y => (y 0).val) 24 (kernelRun.sl.H8_3 c arg1 harg1 arg2 arg3 (harg1.unread X) (harg2.unread S) (harg3.unread A)) := by
  have ih := good_scales_1 c arg1 harg1 arg2 harg2 arg3 harg3 X S A
  rw [scales_2]
  constructor
  · refine List.forall_mem_cons.2 ⟨pieceS_agrees c arg3 harg3 X S A 2 16 rfl _ _ fun s l => by rw [half2_eq]; exact scales_apply _ s l (vec X S 2), ih.1⟩
  · intro y hy
    have hy : (y 0).val < 24 := hy
    rcases Nat.lt_or_ge (y 0).val 16 with hlt | hge
    · obtain ⟨p, hp, hy⟩ := ih.2 y hlt
      exact ⟨p, List.mem_cons_of_mem _ hp, hy⟩
    · exact ⟨_, List.mem_cons_self, mem_pieceS 16 _ _ y hge (by omega)⟩

theorem good_words_3 : Good (wordAt X S A) (fun y => (y 0).val) 256 (kernelRun.sl.H7_32 c arg1 harg1 arg2 arg3 (harg1.unread X) (harg2.unread S) (harg3.unread A)) := by
  have ih := good_words_2 c arg1 harg1 arg2 harg2 arg3 harg3 X S A
  rw [words_3]
  constructor
  · refine List.forall_mem_cons.2 ⟨pieceB_agrees c arg3 harg3 X S A 3 7 199 rfl _ _ fun s l => by rw [half3_eq]; exact word7_apply _ s l (vec X S 3), List.forall_mem_cons.2 ⟨pieceB_agrees c arg3 harg3 X S A 3 6 198 rfl _ _ fun s l => by rw [half3_eq]; exact word6_apply _ s l (vec X S 3), List.forall_mem_cons.2 ⟨pieceB_agrees c arg3 harg3 X S A 3 5 197 rfl _ _ fun s l => by rw [half3_eq]; exact word5_apply _ s l (vec X S 3), List.forall_mem_cons.2 ⟨pieceB_agrees c arg3 harg3 X S A 3 4 196 rfl _ _ fun s l => by rw [half3_eq]; exact word4_apply _ s l (vec X S 3), List.forall_mem_cons.2 ⟨pieceB_agrees c arg3 harg3 X S A 3 3 195 rfl _ _ fun s l => by rw [half3_eq]; exact word3_apply _ s l (vec X S 3), List.forall_mem_cons.2 ⟨pieceB_agrees c arg3 harg3 X S A 3 2 194 rfl _ _ fun s l => by rw [half3_eq]; exact word2_apply _ s l (vec X S 3), List.forall_mem_cons.2 ⟨pieceB_agrees c arg3 harg3 X S A 3 1 193 rfl _ _ fun s l => by rw [half3_eq]; exact word1_apply _ s l (vec X S 3), List.forall_mem_cons.2 ⟨pieceB_agrees c arg3 harg3 X S A 3 0 192 rfl _ _ fun s l => by rw [half3_eq]; exact word0_apply _ s l (vec X S 3), ih.1⟩⟩⟩⟩⟩⟩⟩⟩
  · intro y hy
    rcases Nat.lt_or_ge (y 0).val 192 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 256 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 192 _ _ y (((y 0).val - 192) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 193 _ _ y (((y 0).val - 192) / 8) (by omega) (by omega)⟩
      · exact ⟨_, List.mem_cons_of_mem _ (List.mem_cons_of_mem _ (List.mem_cons_of_mem _ (List.mem_cons_of_mem _ (List.mem_cons_of_mem _ (List.mem_cons_self))))), mem_pieceB 194 _ _ y (((y 0).val - 192) / 8) (by omega) (by omega)⟩
      · exact ⟨_, List.mem_cons_of_mem _ (List.mem_cons_of_mem _ (List.mem_cons_of_mem _ (List.mem_cons_of_mem _ (List.mem_cons_self)))), mem_pieceB 195 _ _ y (((y 0).val - 192) / 8) (by omega) (by omega)⟩
      · exact ⟨_, List.mem_cons_of_mem _ (List.mem_cons_of_mem _ (List.mem_cons_of_mem _ (List.mem_cons_self))), mem_pieceB 196 _ _ y (((y 0).val - 192) / 8) (by omega) (by omega)⟩
      · exact ⟨_, List.mem_cons_of_mem _ (List.mem_cons_of_mem _ (List.mem_cons_self)), mem_pieceB 197 _ _ y (((y 0).val - 192) / 8) (by omega) (by omega)⟩
      · exact ⟨_, List.mem_cons_of_mem _ (List.mem_cons_self), mem_pieceB 198 _ _ y (((y 0).val - 192) / 8) (by omega) (by omega)⟩
      · exact ⟨_, List.mem_cons_self, mem_pieceB 199 _ _ y (((y 0).val - 192) / 8) (by omega) (by omega)⟩

theorem good_scales_3 : Good (scaleAt X S A) (fun y => (y 0).val) 32 (kernelRun.sl.H8_4 c arg1 harg1 arg2 arg3 (harg1.unread X) (harg2.unread S) (harg3.unread A)) := by
  have ih := good_scales_2 c arg1 harg1 arg2 harg2 arg3 harg3 X S A
  rw [scales_3]
  constructor
  · refine List.forall_mem_cons.2 ⟨pieceS_agrees c arg3 harg3 X S A 3 24 rfl _ _ fun s l => by rw [half3_eq]; exact scales_apply _ s l (vec X S 3), ih.1⟩
  · intro y hy
    have hy : (y 0).val < 32 := hy
    rcases Nat.lt_or_ge (y 0).val 24 with hlt | hge
    · obtain ⟨p, hp, hy⟩ := ih.2 y hlt
      exact ⟨p, List.mem_cons_of_mem _ hp, hy⟩
    · exact ⟨_, List.mem_cons_self, mem_pieceS 24 _ _ y hge (by omega)⟩

theorem good_words_4 : Good (wordAt X S A) (fun y => (y 0).val) 320 (kernelRun.sl.H7_40 c arg1 harg1 arg2 arg3 (harg1.unread X) (harg2.unread S) (harg3.unread A)) := by
  have ih := good_words_3 c arg1 harg1 arg2 harg2 arg3 harg3 X S A
  rw [words_4]
  constructor
  · refine List.forall_mem_cons.2 ⟨pieceB_agrees c arg3 harg3 X S A 4 7 263 rfl _ _ fun s l => by rw [half4_eq]; exact word7_apply _ s l (vec X S 4), List.forall_mem_cons.2 ⟨pieceB_agrees c arg3 harg3 X S A 4 6 262 rfl _ _ fun s l => by rw [half4_eq]; exact word6_apply _ s l (vec X S 4), List.forall_mem_cons.2 ⟨pieceB_agrees c arg3 harg3 X S A 4 5 261 rfl _ _ fun s l => by rw [half4_eq]; exact word5_apply _ s l (vec X S 4), List.forall_mem_cons.2 ⟨pieceB_agrees c arg3 harg3 X S A 4 4 260 rfl _ _ fun s l => by rw [half4_eq]; exact word4_apply _ s l (vec X S 4), List.forall_mem_cons.2 ⟨pieceB_agrees c arg3 harg3 X S A 4 3 259 rfl _ _ fun s l => by rw [half4_eq]; exact word3_apply _ s l (vec X S 4), List.forall_mem_cons.2 ⟨pieceB_agrees c arg3 harg3 X S A 4 2 258 rfl _ _ fun s l => by rw [half4_eq]; exact word2_apply _ s l (vec X S 4), List.forall_mem_cons.2 ⟨pieceB_agrees c arg3 harg3 X S A 4 1 257 rfl _ _ fun s l => by rw [half4_eq]; exact word1_apply _ s l (vec X S 4), List.forall_mem_cons.2 ⟨pieceB_agrees c arg3 harg3 X S A 4 0 256 rfl _ _ fun s l => by rw [half4_eq]; exact word0_apply _ s l (vec X S 4), ih.1⟩⟩⟩⟩⟩⟩⟩⟩
  · intro y hy
    rcases Nat.lt_or_ge (y 0).val 256 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 320 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 256 _ _ y (((y 0).val - 256) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 257 _ _ y (((y 0).val - 256) / 8) (by omega) (by omega)⟩
      · exact ⟨_, List.mem_cons_of_mem _ (List.mem_cons_of_mem _ (List.mem_cons_of_mem _ (List.mem_cons_of_mem _ (List.mem_cons_of_mem _ (List.mem_cons_self))))), mem_pieceB 258 _ _ y (((y 0).val - 256) / 8) (by omega) (by omega)⟩
      · exact ⟨_, List.mem_cons_of_mem _ (List.mem_cons_of_mem _ (List.mem_cons_of_mem _ (List.mem_cons_of_mem _ (List.mem_cons_self)))), mem_pieceB 259 _ _ y (((y 0).val - 256) / 8) (by omega) (by omega)⟩
      · exact ⟨_, List.mem_cons_of_mem _ (List.mem_cons_of_mem _ (List.mem_cons_of_mem _ (List.mem_cons_self))), mem_pieceB 260 _ _ y (((y 0).val - 256) / 8) (by omega) (by omega)⟩
      · exact ⟨_, List.mem_cons_of_mem _ (List.mem_cons_of_mem _ (List.mem_cons_self)), mem_pieceB 261 _ _ y (((y 0).val - 256) / 8) (by omega) (by omega)⟩
      · exact ⟨_, List.mem_cons_of_mem _ (List.mem_cons_self), mem_pieceB 262 _ _ y (((y 0).val - 256) / 8) (by omega) (by omega)⟩
      · exact ⟨_, List.mem_cons_self, mem_pieceB 263 _ _ y (((y 0).val - 256) / 8) (by omega) (by omega)⟩

theorem good_scales_4 : Good (scaleAt X S A) (fun y => (y 0).val) 40 (kernelRun.sl.H8_5 c arg1 harg1 arg2 arg3 (harg1.unread X) (harg2.unread S) (harg3.unread A)) := by
  have ih := good_scales_3 c arg1 harg1 arg2 harg2 arg3 harg3 X S A
  rw [scales_4]
  constructor
  · refine List.forall_mem_cons.2 ⟨pieceS_agrees c arg3 harg3 X S A 4 32 rfl _ _ fun s l => by rw [half4_eq]; exact scales_apply _ s l (vec X S 4), ih.1⟩
  · intro y hy
    have hy : (y 0).val < 40 := hy
    rcases Nat.lt_or_ge (y 0).val 32 with hlt | hge
    · obtain ⟨p, hp, hy⟩ := ih.2 y hlt
      exact ⟨p, List.mem_cons_of_mem _ hp, hy⟩
    · exact ⟨_, List.mem_cons_self, mem_pieceS 32 _ _ y hge (by omega)⟩

theorem good_words_5 : Good (wordAt X S A) (fun y => (y 0).val) 384 (kernelRun.sl.H7_48 c arg1 harg1 arg2 arg3 (harg1.unread X) (harg2.unread S) (harg3.unread A)) := by
  have ih := good_words_4 c arg1 harg1 arg2 harg2 arg3 harg3 X S A
  rw [words_5]
  constructor
  · refine List.forall_mem_cons.2 ⟨pieceB_agrees c arg3 harg3 X S A 5 7 327 rfl _ _ fun s l => by rw [half5_eq]; exact word7_apply _ s l (vec X S 5), List.forall_mem_cons.2 ⟨pieceB_agrees c arg3 harg3 X S A 5 6 326 rfl _ _ fun s l => by rw [half5_eq]; exact word6_apply _ s l (vec X S 5), List.forall_mem_cons.2 ⟨pieceB_agrees c arg3 harg3 X S A 5 5 325 rfl _ _ fun s l => by rw [half5_eq]; exact word5_apply _ s l (vec X S 5), List.forall_mem_cons.2 ⟨pieceB_agrees c arg3 harg3 X S A 5 4 324 rfl _ _ fun s l => by rw [half5_eq]; exact word4_apply _ s l (vec X S 5), List.forall_mem_cons.2 ⟨pieceB_agrees c arg3 harg3 X S A 5 3 323 rfl _ _ fun s l => by rw [half5_eq]; exact word3_apply _ s l (vec X S 5), List.forall_mem_cons.2 ⟨pieceB_agrees c arg3 harg3 X S A 5 2 322 rfl _ _ fun s l => by rw [half5_eq]; exact word2_apply _ s l (vec X S 5), List.forall_mem_cons.2 ⟨pieceB_agrees c arg3 harg3 X S A 5 1 321 rfl _ _ fun s l => by rw [half5_eq]; exact word1_apply _ s l (vec X S 5), List.forall_mem_cons.2 ⟨pieceB_agrees c arg3 harg3 X S A 5 0 320 rfl _ _ fun s l => by rw [half5_eq]; exact word0_apply _ s l (vec X S 5), ih.1⟩⟩⟩⟩⟩⟩⟩⟩
  · intro y hy
    rcases Nat.lt_or_ge (y 0).val 320 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 384 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 320 _ _ y (((y 0).val - 320) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 321 _ _ y (((y 0).val - 320) / 8) (by omega) (by omega)⟩
      · exact ⟨_, List.mem_cons_of_mem _ (List.mem_cons_of_mem _ (List.mem_cons_of_mem _ (List.mem_cons_of_mem _ (List.mem_cons_of_mem _ (List.mem_cons_self))))), mem_pieceB 322 _ _ y (((y 0).val - 320) / 8) (by omega) (by omega)⟩
      · exact ⟨_, List.mem_cons_of_mem _ (List.mem_cons_of_mem _ (List.mem_cons_of_mem _ (List.mem_cons_of_mem _ (List.mem_cons_self)))), mem_pieceB 323 _ _ y (((y 0).val - 320) / 8) (by omega) (by omega)⟩
      · exact ⟨_, List.mem_cons_of_mem _ (List.mem_cons_of_mem _ (List.mem_cons_of_mem _ (List.mem_cons_self))), mem_pieceB 324 _ _ y (((y 0).val - 320) / 8) (by omega) (by omega)⟩
      · exact ⟨_, List.mem_cons_of_mem _ (List.mem_cons_of_mem _ (List.mem_cons_self)), mem_pieceB 325 _ _ y (((y 0).val - 320) / 8) (by omega) (by omega)⟩
      · exact ⟨_, List.mem_cons_of_mem _ (List.mem_cons_self), mem_pieceB 326 _ _ y (((y 0).val - 320) / 8) (by omega) (by omega)⟩
      · exact ⟨_, List.mem_cons_self, mem_pieceB 327 _ _ y (((y 0).val - 320) / 8) (by omega) (by omega)⟩

theorem good_scales_5 : Good (scaleAt X S A) (fun y => (y 0).val) 48 (kernelRun.sl.H8_6 c arg1 harg1 arg2 arg3 (harg1.unread X) (harg2.unread S) (harg3.unread A)) := by
  have ih := good_scales_4 c arg1 harg1 arg2 harg2 arg3 harg3 X S A
  rw [scales_5]
  constructor
  · refine List.forall_mem_cons.2 ⟨pieceS_agrees c arg3 harg3 X S A 5 40 rfl _ _ fun s l => by rw [half5_eq]; exact scales_apply _ s l (vec X S 5), ih.1⟩
  · intro y hy
    have hy : (y 0).val < 48 := hy
    rcases Nat.lt_or_ge (y 0).val 40 with hlt | hge
    · obtain ⟨p, hp, hy⟩ := ih.2 y hlt
      exact ⟨p, List.mem_cons_of_mem _ hp, hy⟩
    · exact ⟨_, List.mem_cons_self, mem_pieceS 40 _ _ y hge (by omega)⟩

theorem good_words_6 : Good (wordAt X S A) (fun y => (y 0).val) 448 (kernelRun.sl.H7_56 c arg1 harg1 arg2 arg3 (harg1.unread X) (harg2.unread S) (harg3.unread A)) := by
  have ih := good_words_5 c arg1 harg1 arg2 harg2 arg3 harg3 X S A
  rw [words_6]
  constructor
  · refine List.forall_mem_cons.2 ⟨pieceB_agrees c arg3 harg3 X S A 6 7 391 rfl _ _ fun s l => by rw [half6_eq]; exact word7_apply _ s l (vec X S 6), List.forall_mem_cons.2 ⟨pieceB_agrees c arg3 harg3 X S A 6 6 390 rfl _ _ fun s l => by rw [half6_eq]; exact word6_apply _ s l (vec X S 6), List.forall_mem_cons.2 ⟨pieceB_agrees c arg3 harg3 X S A 6 5 389 rfl _ _ fun s l => by rw [half6_eq]; exact word5_apply _ s l (vec X S 6), List.forall_mem_cons.2 ⟨pieceB_agrees c arg3 harg3 X S A 6 4 388 rfl _ _ fun s l => by rw [half6_eq]; exact word4_apply _ s l (vec X S 6), List.forall_mem_cons.2 ⟨pieceB_agrees c arg3 harg3 X S A 6 3 387 rfl _ _ fun s l => by rw [half6_eq]; exact word3_apply _ s l (vec X S 6), List.forall_mem_cons.2 ⟨pieceB_agrees c arg3 harg3 X S A 6 2 386 rfl _ _ fun s l => by rw [half6_eq]; exact word2_apply _ s l (vec X S 6), List.forall_mem_cons.2 ⟨pieceB_agrees c arg3 harg3 X S A 6 1 385 rfl _ _ fun s l => by rw [half6_eq]; exact word1_apply _ s l (vec X S 6), List.forall_mem_cons.2 ⟨pieceB_agrees c arg3 harg3 X S A 6 0 384 rfl _ _ fun s l => by rw [half6_eq]; exact word0_apply _ s l (vec X S 6), ih.1⟩⟩⟩⟩⟩⟩⟩⟩
  · intro y hy
    rcases Nat.lt_or_ge (y 0).val 384 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 448 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 384 _ _ y (((y 0).val - 384) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 385 _ _ y (((y 0).val - 384) / 8) (by omega) (by omega)⟩
      · exact ⟨_, List.mem_cons_of_mem _ (List.mem_cons_of_mem _ (List.mem_cons_of_mem _ (List.mem_cons_of_mem _ (List.mem_cons_of_mem _ (List.mem_cons_self))))), mem_pieceB 386 _ _ y (((y 0).val - 384) / 8) (by omega) (by omega)⟩
      · exact ⟨_, List.mem_cons_of_mem _ (List.mem_cons_of_mem _ (List.mem_cons_of_mem _ (List.mem_cons_of_mem _ (List.mem_cons_self)))), mem_pieceB 387 _ _ y (((y 0).val - 384) / 8) (by omega) (by omega)⟩
      · exact ⟨_, List.mem_cons_of_mem _ (List.mem_cons_of_mem _ (List.mem_cons_of_mem _ (List.mem_cons_self))), mem_pieceB 388 _ _ y (((y 0).val - 384) / 8) (by omega) (by omega)⟩
      · exact ⟨_, List.mem_cons_of_mem _ (List.mem_cons_of_mem _ (List.mem_cons_self)), mem_pieceB 389 _ _ y (((y 0).val - 384) / 8) (by omega) (by omega)⟩
      · exact ⟨_, List.mem_cons_of_mem _ (List.mem_cons_self), mem_pieceB 390 _ _ y (((y 0).val - 384) / 8) (by omega) (by omega)⟩
      · exact ⟨_, List.mem_cons_self, mem_pieceB 391 _ _ y (((y 0).val - 384) / 8) (by omega) (by omega)⟩

theorem good_scales_6 : Good (scaleAt X S A) (fun y => (y 0).val) 56 (kernelRun.sl.H8_7 c arg1 harg1 arg2 arg3 (harg1.unread X) (harg2.unread S) (harg3.unread A)) := by
  have ih := good_scales_5 c arg1 harg1 arg2 harg2 arg3 harg3 X S A
  rw [scales_6]
  constructor
  · refine List.forall_mem_cons.2 ⟨pieceS_agrees c arg3 harg3 X S A 6 48 rfl _ _ fun s l => by rw [half6_eq]; exact scales_apply _ s l (vec X S 6), ih.1⟩
  · intro y hy
    have hy : (y 0).val < 56 := hy
    rcases Nat.lt_or_ge (y 0).val 48 with hlt | hge
    · obtain ⟨p, hp, hy⟩ := ih.2 y hlt
      exact ⟨p, List.mem_cons_of_mem _ hp, hy⟩
    · exact ⟨_, List.mem_cons_self, mem_pieceS 48 _ _ y hge (by omega)⟩

theorem good_words_7 : Good (wordAt X S A) (fun y => (y 0).val) 512 (kernelRun.sl.H7_64 c arg1 harg1 arg2 arg3 (harg1.unread X) (harg2.unread S) (harg3.unread A)) := by
  have ih := good_words_6 c arg1 harg1 arg2 harg2 arg3 harg3 X S A
  rw [words_7]
  constructor
  · refine List.forall_mem_cons.2 ⟨pieceB_agrees c arg3 harg3 X S A 7 7 455 rfl _ _ fun s l => by rw [half7_eq]; exact word7_apply _ s l (vec X S 7), List.forall_mem_cons.2 ⟨pieceB_agrees c arg3 harg3 X S A 7 6 454 rfl _ _ fun s l => by rw [half7_eq]; exact word6_apply _ s l (vec X S 7), List.forall_mem_cons.2 ⟨pieceB_agrees c arg3 harg3 X S A 7 5 453 rfl _ _ fun s l => by rw [half7_eq]; exact word5_apply _ s l (vec X S 7), List.forall_mem_cons.2 ⟨pieceB_agrees c arg3 harg3 X S A 7 4 452 rfl _ _ fun s l => by rw [half7_eq]; exact word4_apply _ s l (vec X S 7), List.forall_mem_cons.2 ⟨pieceB_agrees c arg3 harg3 X S A 7 3 451 rfl _ _ fun s l => by rw [half7_eq]; exact word3_apply _ s l (vec X S 7), List.forall_mem_cons.2 ⟨pieceB_agrees c arg3 harg3 X S A 7 2 450 rfl _ _ fun s l => by rw [half7_eq]; exact word2_apply _ s l (vec X S 7), List.forall_mem_cons.2 ⟨pieceB_agrees c arg3 harg3 X S A 7 1 449 rfl _ _ fun s l => by rw [half7_eq]; exact word1_apply _ s l (vec X S 7), List.forall_mem_cons.2 ⟨pieceB_agrees c arg3 harg3 X S A 7 0 448 rfl _ _ fun s l => by rw [half7_eq]; exact word0_apply _ s l (vec X S 7), ih.1⟩⟩⟩⟩⟩⟩⟩⟩
  · intro y hy
    rcases Nat.lt_or_ge (y 0).val 448 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 512 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 448 _ _ y (((y 0).val - 448) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 449 _ _ y (((y 0).val - 448) / 8) (by omega) (by omega)⟩
      · exact ⟨_, List.mem_cons_of_mem _ (List.mem_cons_of_mem _ (List.mem_cons_of_mem _ (List.mem_cons_of_mem _ (List.mem_cons_of_mem _ (List.mem_cons_self))))), mem_pieceB 450 _ _ y (((y 0).val - 448) / 8) (by omega) (by omega)⟩
      · exact ⟨_, List.mem_cons_of_mem _ (List.mem_cons_of_mem _ (List.mem_cons_of_mem _ (List.mem_cons_of_mem _ (List.mem_cons_self)))), mem_pieceB 451 _ _ y (((y 0).val - 448) / 8) (by omega) (by omega)⟩
      · exact ⟨_, List.mem_cons_of_mem _ (List.mem_cons_of_mem _ (List.mem_cons_of_mem _ (List.mem_cons_self))), mem_pieceB 452 _ _ y (((y 0).val - 448) / 8) (by omega) (by omega)⟩
      · exact ⟨_, List.mem_cons_of_mem _ (List.mem_cons_of_mem _ (List.mem_cons_self)), mem_pieceB 453 _ _ y (((y 0).val - 448) / 8) (by omega) (by omega)⟩
      · exact ⟨_, List.mem_cons_of_mem _ (List.mem_cons_self), mem_pieceB 454 _ _ y (((y 0).val - 448) / 8) (by omega) (by omega)⟩
      · exact ⟨_, List.mem_cons_self, mem_pieceB 455 _ _ y (((y 0).val - 448) / 8) (by omega) (by omega)⟩

theorem good_scales_7 : Good (scaleAt X S A) (fun y => (y 0).val) 64 (kernelRun.sl.H8_8 c arg1 harg1 arg2 arg3 (harg1.unread X) (harg2.unread S) (harg3.unread A)) := by
  have ih := good_scales_6 c arg1 harg1 arg2 harg2 arg3 harg3 X S A
  rw [scales_7]
  constructor
  · refine List.forall_mem_cons.2 ⟨pieceS_agrees c arg3 harg3 X S A 7 56 rfl _ _ fun s l => by rw [half7_eq]; exact scales_apply _ s l (vec X S 7), ih.1⟩
  · intro y hy
    have hy : (y 0).val < 64 := hy
    rcases Nat.lt_or_ge (y 0).val 56 with hlt | hge
    · obtain ⟨p, hp, hy⟩ := ih.2 y hlt
      exact ⟨p, List.mem_cons_of_mem _ hp, hy⟩
    · exact ⟨_, List.mem_cons_self, mem_pieceS 56 _ _ y hge (by omega)⟩

theorem good_words_8 : Good (wordAt X S A) (fun y => (y 0).val) 576 (kernelRun.sl.H7_72 c arg1 harg1 arg2 arg3 (harg1.unread X) (harg2.unread S) (harg3.unread A)) := by
  have ih := good_words_7 c arg1 harg1 arg2 harg2 arg3 harg3 X S A
  rw [words_8]
  constructor
  · refine List.forall_mem_cons.2 ⟨pieceB_agrees c arg3 harg3 X S A 8 7 519 rfl _ _ fun s l => by rw [half8_eq]; exact word7_apply _ s l (vec X S 8), List.forall_mem_cons.2 ⟨pieceB_agrees c arg3 harg3 X S A 8 6 518 rfl _ _ fun s l => by rw [half8_eq]; exact word6_apply _ s l (vec X S 8), List.forall_mem_cons.2 ⟨pieceB_agrees c arg3 harg3 X S A 8 5 517 rfl _ _ fun s l => by rw [half8_eq]; exact word5_apply _ s l (vec X S 8), List.forall_mem_cons.2 ⟨pieceB_agrees c arg3 harg3 X S A 8 4 516 rfl _ _ fun s l => by rw [half8_eq]; exact word4_apply _ s l (vec X S 8), List.forall_mem_cons.2 ⟨pieceB_agrees c arg3 harg3 X S A 8 3 515 rfl _ _ fun s l => by rw [half8_eq]; exact word3_apply _ s l (vec X S 8), List.forall_mem_cons.2 ⟨pieceB_agrees c arg3 harg3 X S A 8 2 514 rfl _ _ fun s l => by rw [half8_eq]; exact word2_apply _ s l (vec X S 8), List.forall_mem_cons.2 ⟨pieceB_agrees c arg3 harg3 X S A 8 1 513 rfl _ _ fun s l => by rw [half8_eq]; exact word1_apply _ s l (vec X S 8), List.forall_mem_cons.2 ⟨pieceB_agrees c arg3 harg3 X S A 8 0 512 rfl _ _ fun s l => by rw [half8_eq]; exact word0_apply _ s l (vec X S 8), ih.1⟩⟩⟩⟩⟩⟩⟩⟩
  · intro y hy
    rcases Nat.lt_or_ge (y 0).val 512 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 576 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 512 _ _ y (((y 0).val - 512) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 513 _ _ y (((y 0).val - 512) / 8) (by omega) (by omega)⟩
      · exact ⟨_, List.mem_cons_of_mem _ (List.mem_cons_of_mem _ (List.mem_cons_of_mem _ (List.mem_cons_of_mem _ (List.mem_cons_of_mem _ (List.mem_cons_self))))), mem_pieceB 514 _ _ y (((y 0).val - 512) / 8) (by omega) (by omega)⟩
      · exact ⟨_, List.mem_cons_of_mem _ (List.mem_cons_of_mem _ (List.mem_cons_of_mem _ (List.mem_cons_of_mem _ (List.mem_cons_self)))), mem_pieceB 515 _ _ y (((y 0).val - 512) / 8) (by omega) (by omega)⟩
      · exact ⟨_, List.mem_cons_of_mem _ (List.mem_cons_of_mem _ (List.mem_cons_of_mem _ (List.mem_cons_self))), mem_pieceB 516 _ _ y (((y 0).val - 512) / 8) (by omega) (by omega)⟩
      · exact ⟨_, List.mem_cons_of_mem _ (List.mem_cons_of_mem _ (List.mem_cons_self)), mem_pieceB 517 _ _ y (((y 0).val - 512) / 8) (by omega) (by omega)⟩
      · exact ⟨_, List.mem_cons_of_mem _ (List.mem_cons_self), mem_pieceB 518 _ _ y (((y 0).val - 512) / 8) (by omega) (by omega)⟩
      · exact ⟨_, List.mem_cons_self, mem_pieceB 519 _ _ y (((y 0).val - 512) / 8) (by omega) (by omega)⟩

theorem good_scales_8 : Good (scaleAt X S A) (fun y => (y 0).val) 72 (kernelRun.sl.H8_9 c arg1 harg1 arg2 arg3 (harg1.unread X) (harg2.unread S) (harg3.unread A)) := by
  have ih := good_scales_7 c arg1 harg1 arg2 harg2 arg3 harg3 X S A
  rw [scales_8]
  constructor
  · refine List.forall_mem_cons.2 ⟨pieceS_agrees c arg3 harg3 X S A 8 64 rfl _ _ fun s l => by rw [half8_eq]; exact scales_apply _ s l (vec X S 8), ih.1⟩
  · intro y hy
    have hy : (y 0).val < 72 := hy
    rcases Nat.lt_or_ge (y 0).val 64 with hlt | hge
    · obtain ⟨p, hp, hy⟩ := ih.2 y hlt
      exact ⟨p, List.mem_cons_of_mem _ hp, hy⟩
    · exact ⟨_, List.mem_cons_self, mem_pieceS 64 _ _ y hge (by omega)⟩

theorem good_words_9 : Good (wordAt X S A) (fun y => (y 0).val) 640 (kernelRun.sl.H7_80 c arg1 harg1 arg2 arg3 (harg1.unread X) (harg2.unread S) (harg3.unread A)) := by
  have ih := good_words_8 c arg1 harg1 arg2 harg2 arg3 harg3 X S A
  rw [words_9]
  constructor
  · refine List.forall_mem_cons.2 ⟨pieceB_agrees c arg3 harg3 X S A 9 7 583 rfl _ _ fun s l => by rw [half9_eq]; exact word7_apply _ s l (vec X S 9), List.forall_mem_cons.2 ⟨pieceB_agrees c arg3 harg3 X S A 9 6 582 rfl _ _ fun s l => by rw [half9_eq]; exact word6_apply _ s l (vec X S 9), List.forall_mem_cons.2 ⟨pieceB_agrees c arg3 harg3 X S A 9 5 581 rfl _ _ fun s l => by rw [half9_eq]; exact word5_apply _ s l (vec X S 9), List.forall_mem_cons.2 ⟨pieceB_agrees c arg3 harg3 X S A 9 4 580 rfl _ _ fun s l => by rw [half9_eq]; exact word4_apply _ s l (vec X S 9), List.forall_mem_cons.2 ⟨pieceB_agrees c arg3 harg3 X S A 9 3 579 rfl _ _ fun s l => by rw [half9_eq]; exact word3_apply _ s l (vec X S 9), List.forall_mem_cons.2 ⟨pieceB_agrees c arg3 harg3 X S A 9 2 578 rfl _ _ fun s l => by rw [half9_eq]; exact word2_apply _ s l (vec X S 9), List.forall_mem_cons.2 ⟨pieceB_agrees c arg3 harg3 X S A 9 1 577 rfl _ _ fun s l => by rw [half9_eq]; exact word1_apply _ s l (vec X S 9), List.forall_mem_cons.2 ⟨pieceB_agrees c arg3 harg3 X S A 9 0 576 rfl _ _ fun s l => by rw [half9_eq]; exact word0_apply _ s l (vec X S 9), ih.1⟩⟩⟩⟩⟩⟩⟩⟩
  · intro y hy
    rcases Nat.lt_or_ge (y 0).val 576 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 640 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 576 _ _ y (((y 0).val - 576) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 577 _ _ y (((y 0).val - 576) / 8) (by omega) (by omega)⟩
      · exact ⟨_, List.mem_cons_of_mem _ (List.mem_cons_of_mem _ (List.mem_cons_of_mem _ (List.mem_cons_of_mem _ (List.mem_cons_of_mem _ (List.mem_cons_self))))), mem_pieceB 578 _ _ y (((y 0).val - 576) / 8) (by omega) (by omega)⟩
      · exact ⟨_, List.mem_cons_of_mem _ (List.mem_cons_of_mem _ (List.mem_cons_of_mem _ (List.mem_cons_of_mem _ (List.mem_cons_self)))), mem_pieceB 579 _ _ y (((y 0).val - 576) / 8) (by omega) (by omega)⟩
      · exact ⟨_, List.mem_cons_of_mem _ (List.mem_cons_of_mem _ (List.mem_cons_of_mem _ (List.mem_cons_self))), mem_pieceB 580 _ _ y (((y 0).val - 576) / 8) (by omega) (by omega)⟩
      · exact ⟨_, List.mem_cons_of_mem _ (List.mem_cons_of_mem _ (List.mem_cons_self)), mem_pieceB 581 _ _ y (((y 0).val - 576) / 8) (by omega) (by omega)⟩
      · exact ⟨_, List.mem_cons_of_mem _ (List.mem_cons_self), mem_pieceB 582 _ _ y (((y 0).val - 576) / 8) (by omega) (by omega)⟩
      · exact ⟨_, List.mem_cons_self, mem_pieceB 583 _ _ y (((y 0).val - 576) / 8) (by omega) (by omega)⟩

theorem good_scales_9 : Good (scaleAt X S A) (fun y => (y 0).val) 80 (kernelRun.sl.H8_10 c arg1 harg1 arg2 arg3 (harg1.unread X) (harg2.unread S) (harg3.unread A)) := by
  have ih := good_scales_8 c arg1 harg1 arg2 harg2 arg3 harg3 X S A
  rw [scales_9]
  constructor
  · refine List.forall_mem_cons.2 ⟨pieceS_agrees c arg3 harg3 X S A 9 72 rfl _ _ fun s l => by rw [half9_eq]; exact scales_apply _ s l (vec X S 9), ih.1⟩
  · intro y hy
    have hy : (y 0).val < 80 := hy
    rcases Nat.lt_or_ge (y 0).val 72 with hlt | hge
    · obtain ⟨p, hp, hy⟩ := ih.2 y hlt
      exact ⟨p, List.mem_cons_of_mem _ hp, hy⟩
    · exact ⟨_, List.mem_cons_self, mem_pieceS 72 _ _ y hge (by omega)⟩

theorem good_words_10 : Good (wordAt X S A) (fun y => (y 0).val) 704 (kernelRun.sl.H7_88 c arg1 harg1 arg2 arg3 (harg1.unread X) (harg2.unread S) (harg3.unread A)) := by
  have ih := good_words_9 c arg1 harg1 arg2 harg2 arg3 harg3 X S A
  rw [words_10]
  constructor
  · refine List.forall_mem_cons.2 ⟨pieceB_agrees c arg3 harg3 X S A 10 7 647 rfl _ _ fun s l => by rw [half10_eq]; exact word7_apply _ s l (vec X S 10), List.forall_mem_cons.2 ⟨pieceB_agrees c arg3 harg3 X S A 10 6 646 rfl _ _ fun s l => by rw [half10_eq]; exact word6_apply _ s l (vec X S 10), List.forall_mem_cons.2 ⟨pieceB_agrees c arg3 harg3 X S A 10 5 645 rfl _ _ fun s l => by rw [half10_eq]; exact word5_apply _ s l (vec X S 10), List.forall_mem_cons.2 ⟨pieceB_agrees c arg3 harg3 X S A 10 4 644 rfl _ _ fun s l => by rw [half10_eq]; exact word4_apply _ s l (vec X S 10), List.forall_mem_cons.2 ⟨pieceB_agrees c arg3 harg3 X S A 10 3 643 rfl _ _ fun s l => by rw [half10_eq]; exact word3_apply _ s l (vec X S 10), List.forall_mem_cons.2 ⟨pieceB_agrees c arg3 harg3 X S A 10 2 642 rfl _ _ fun s l => by rw [half10_eq]; exact word2_apply _ s l (vec X S 10), List.forall_mem_cons.2 ⟨pieceB_agrees c arg3 harg3 X S A 10 1 641 rfl _ _ fun s l => by rw [half10_eq]; exact word1_apply _ s l (vec X S 10), List.forall_mem_cons.2 ⟨pieceB_agrees c arg3 harg3 X S A 10 0 640 rfl _ _ fun s l => by rw [half10_eq]; exact word0_apply _ s l (vec X S 10), ih.1⟩⟩⟩⟩⟩⟩⟩⟩
  · intro y hy
    rcases Nat.lt_or_ge (y 0).val 640 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 704 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 640 _ _ y (((y 0).val - 640) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 641 _ _ y (((y 0).val - 640) / 8) (by omega) (by omega)⟩
      · exact ⟨_, List.mem_cons_of_mem _ (List.mem_cons_of_mem _ (List.mem_cons_of_mem _ (List.mem_cons_of_mem _ (List.mem_cons_of_mem _ (List.mem_cons_self))))), mem_pieceB 642 _ _ y (((y 0).val - 640) / 8) (by omega) (by omega)⟩
      · exact ⟨_, List.mem_cons_of_mem _ (List.mem_cons_of_mem _ (List.mem_cons_of_mem _ (List.mem_cons_of_mem _ (List.mem_cons_self)))), mem_pieceB 643 _ _ y (((y 0).val - 640) / 8) (by omega) (by omega)⟩
      · exact ⟨_, List.mem_cons_of_mem _ (List.mem_cons_of_mem _ (List.mem_cons_of_mem _ (List.mem_cons_self))), mem_pieceB 644 _ _ y (((y 0).val - 640) / 8) (by omega) (by omega)⟩
      · exact ⟨_, List.mem_cons_of_mem _ (List.mem_cons_of_mem _ (List.mem_cons_self)), mem_pieceB 645 _ _ y (((y 0).val - 640) / 8) (by omega) (by omega)⟩
      · exact ⟨_, List.mem_cons_of_mem _ (List.mem_cons_self), mem_pieceB 646 _ _ y (((y 0).val - 640) / 8) (by omega) (by omega)⟩
      · exact ⟨_, List.mem_cons_self, mem_pieceB 647 _ _ y (((y 0).val - 640) / 8) (by omega) (by omega)⟩

theorem good_scales_10 : Good (scaleAt X S A) (fun y => (y 0).val) 88 (kernelRun.sl.H8_11 c arg1 harg1 arg2 arg3 (harg1.unread X) (harg2.unread S) (harg3.unread A)) := by
  have ih := good_scales_9 c arg1 harg1 arg2 harg2 arg3 harg3 X S A
  rw [scales_10]
  constructor
  · refine List.forall_mem_cons.2 ⟨pieceS_agrees c arg3 harg3 X S A 10 80 rfl _ _ fun s l => by rw [half10_eq]; exact scales_apply _ s l (vec X S 10), ih.1⟩
  · intro y hy
    have hy : (y 0).val < 88 := hy
    rcases Nat.lt_or_ge (y 0).val 80 with hlt | hge
    · obtain ⟨p, hp, hy⟩ := ih.2 y hlt
      exact ⟨p, List.mem_cons_of_mem _ hp, hy⟩
    · exact ⟨_, List.mem_cons_self, mem_pieceS 80 _ _ y hge (by omega)⟩

theorem good_words_11 : Good (wordAt X S A) (fun y => (y 0).val) 768 (kernelRun.sl.H7_96 c arg1 harg1 arg2 arg3 (harg1.unread X) (harg2.unread S) (harg3.unread A)) := by
  have ih := good_words_10 c arg1 harg1 arg2 harg2 arg3 harg3 X S A
  rw [words_11]
  constructor
  · refine List.forall_mem_cons.2 ⟨pieceB_agrees c arg3 harg3 X S A 11 7 711 rfl _ _ fun s l => by rw [half11_eq]; exact word7_apply _ s l (vec X S 11), List.forall_mem_cons.2 ⟨pieceB_agrees c arg3 harg3 X S A 11 6 710 rfl _ _ fun s l => by rw [half11_eq]; exact word6_apply _ s l (vec X S 11), List.forall_mem_cons.2 ⟨pieceB_agrees c arg3 harg3 X S A 11 5 709 rfl _ _ fun s l => by rw [half11_eq]; exact word5_apply _ s l (vec X S 11), List.forall_mem_cons.2 ⟨pieceB_agrees c arg3 harg3 X S A 11 4 708 rfl _ _ fun s l => by rw [half11_eq]; exact word4_apply _ s l (vec X S 11), List.forall_mem_cons.2 ⟨pieceB_agrees c arg3 harg3 X S A 11 3 707 rfl _ _ fun s l => by rw [half11_eq]; exact word3_apply _ s l (vec X S 11), List.forall_mem_cons.2 ⟨pieceB_agrees c arg3 harg3 X S A 11 2 706 rfl _ _ fun s l => by rw [half11_eq]; exact word2_apply _ s l (vec X S 11), List.forall_mem_cons.2 ⟨pieceB_agrees c arg3 harg3 X S A 11 1 705 rfl _ _ fun s l => by rw [half11_eq]; exact word1_apply _ s l (vec X S 11), List.forall_mem_cons.2 ⟨pieceB_agrees c arg3 harg3 X S A 11 0 704 rfl _ _ fun s l => by rw [half11_eq]; exact word0_apply _ s l (vec X S 11), ih.1⟩⟩⟩⟩⟩⟩⟩⟩
  · intro y hy
    rcases Nat.lt_or_ge (y 0).val 704 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 768 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 704 _ _ y (((y 0).val - 704) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 705 _ _ y (((y 0).val - 704) / 8) (by omega) (by omega)⟩
      · exact ⟨_, List.mem_cons_of_mem _ (List.mem_cons_of_mem _ (List.mem_cons_of_mem _ (List.mem_cons_of_mem _ (List.mem_cons_of_mem _ (List.mem_cons_self))))), mem_pieceB 706 _ _ y (((y 0).val - 704) / 8) (by omega) (by omega)⟩
      · exact ⟨_, List.mem_cons_of_mem _ (List.mem_cons_of_mem _ (List.mem_cons_of_mem _ (List.mem_cons_of_mem _ (List.mem_cons_self)))), mem_pieceB 707 _ _ y (((y 0).val - 704) / 8) (by omega) (by omega)⟩
      · exact ⟨_, List.mem_cons_of_mem _ (List.mem_cons_of_mem _ (List.mem_cons_of_mem _ (List.mem_cons_self))), mem_pieceB 708 _ _ y (((y 0).val - 704) / 8) (by omega) (by omega)⟩
      · exact ⟨_, List.mem_cons_of_mem _ (List.mem_cons_of_mem _ (List.mem_cons_self)), mem_pieceB 709 _ _ y (((y 0).val - 704) / 8) (by omega) (by omega)⟩
      · exact ⟨_, List.mem_cons_of_mem _ (List.mem_cons_self), mem_pieceB 710 _ _ y (((y 0).val - 704) / 8) (by omega) (by omega)⟩
      · exact ⟨_, List.mem_cons_self, mem_pieceB 711 _ _ y (((y 0).val - 704) / 8) (by omega) (by omega)⟩

theorem good_scales_11 : Good (scaleAt X S A) (fun y => (y 0).val) 96 (kernelRun.sl.H8_12 c arg1 harg1 arg2 arg3 (harg1.unread X) (harg2.unread S) (harg3.unread A)) := by
  have ih := good_scales_10 c arg1 harg1 arg2 harg2 arg3 harg3 X S A
  rw [scales_11]
  constructor
  · refine List.forall_mem_cons.2 ⟨pieceS_agrees c arg3 harg3 X S A 11 88 rfl _ _ fun s l => by rw [half11_eq]; exact scales_apply _ s l (vec X S 11), ih.1⟩
  · intro y hy
    have hy : (y 0).val < 96 := hy
    rcases Nat.lt_or_ge (y 0).val 88 with hlt | hge
    · obtain ⟨p, hp, hy⟩ := ih.2 y hlt
      exact ⟨p, List.mem_cons_of_mem _ hp, hy⟩
    · exact ⟨_, List.mem_cons_self, mem_pieceS 88 _ _ y hge (by omega)⟩

end Cert.QuantXIdeal.Body

end
-- ==== Proof.QuantXIdealBlock.lean ====
/-
  What the body of `quant_x` leaves at one point, over the extended reals: the codes are the low bytes of the words, the
  byte scratch transposed; the scales are the scale scratch transposed.
-/
module

public import proofs.«01_k».proof.Proof.QuantXIdealScratch
public import proofs.«01_k».proof.Proof.QuantXIdealPoint

@[expose] public section

set_option maxRecDepth 16384

noncomputable section

namespace Cert.QuantXIdeal.Body

open Cert.QuantXIdeal Cert.QuantXIdeal.Gen Cert.QuantXIdeal.Half Cert.QuantXIdeal.Scalar
open Idealize.ShloMosaic Idealize.ShloMosaic.TcCoe Idealize.ShloMosaic.Tactic

section
variable {F : FTy → Type} [FloatOps F]

/-- A block of 128 columns of codes: 128 rows of the byte scratch. -/
def pieceC (off : ℕ) (h : ∀ a, (![0, off] : Fin 2 → ℕ) a + S128x128.size a ≤ S128x768.size a)
    (h' : ∀ a, (![off, 0] : Fin 2 → ℕ) a + S128x128.size a ≤ S768x128.size a)
    (arg7 : Memref sig .tc .vmem S768x128 .i32) (L : List (View.Piece (Elt F) S768x128 .i32)) : View.Piece (Elt F) S128x768 .i8 :=
  ⟨Rect.unit ![0, off] S128x128.size h, k0_pay1 (arg7.view.readCov L (Rect.unit (s := S768x128) ![off, 0] S128x128.size h').toLoadRect)⟩

theorem codes_list (c : Dev nD) (arg1 : Memref sig .tc .vmem S1536x128 .bf16) (harg1 : arg1.IsWhole)
    (arg2 : Memref sig .tc .smem S16 .f32) (arg3 : Memref sig .tc .vmem S1x1 .f32) (arg7 : Memref sig .tc .vmem S768x128 .i32)
    (f1 : Bf (F := F) c arg1) (f2 : Bf (F := F) c arg2) (f3 : Bf (F := F) c arg3) :
    kernelRun.sl.H4_6 c arg1 harg1 arg2 arg3 arg7 f1 f2 f3 = [
      pieceC 640 inb_S128x768_S128x128_0_640 inb_S768x128_S128x128_640_0 arg7 (kernelRun.sl.H7_96 c arg1 harg1 arg2 arg3 f1 f2 f3),
      pieceC 512 inb_S128x768_S128x128_0_512 inb_S768x128_S128x128_512_0 arg7 (kernelRun.sl.H7_96 c arg1 harg1 arg2 arg3 f1 f2 f3),
      pieceC 384 inb_S128x768_S128x128_0_384 inb_S768x128_S128x128_384_0 arg7 (kernelRun.sl.H7_96 c arg1 harg1 arg2 arg3 f1 f2 f3),
      pieceC 256 inb_S128x768_S128x128_0_256 inb_S768x128_S128x128_256_0 arg7 (kernelRun.sl.H7_96 c arg1 harg1 arg2 arg3 f1 f2 f3),
      pieceC 128 inb_S128x768_S128x128_0_128 inb_S768x128_S128x128_128_0 arg7 (kernelRun.sl.H7_96 c arg1 harg1 arg2 arg3 f1 f2 f3),
      pieceC 0 inb_S128x768_S128x128_0_0 inb_S768x128_S128x128_0_0 arg7 (kernelRun.sl.H7_96 c arg1 harg1 arg2 arg3 f1 f2 f3)] := by
  sl_kernel_rfl

end

variable (X : Vec Ideal S1536x128 .bf16) (S : Vec Ideal S16 .f32) (A : Vec Ideal S1x1 .f32)

/-- The code byte at lane `y 0` and column `y 1`, and the scale at lane `y 0` and group `y 1`. -/
def codeAt (y : S128x768.Idx) : BitVec 8 := (wordAt X S A (ix2 (y 1) (y 0))).setWidth 8
def blockScaleAt (y : S128x96.Idx) : EReal :=
  sbE (scaleE (A (ix2 0 0))) (amaxE (butterfly (group X S (y 1) (y 0))))

theorem scaleAt_eq (y : S128x128.Idx) (z : S128x96.Idx) (h0 : (y 0).val = (z 1).val) (h1 : (y 1).val = (z 0).val) :
    scaleAt X S A y = blockScaleAt X S A z := by
  have hz : (z 1).val < 96 := (z 1).isLt
  have e1 : (⟨(y 0).val % 96, Nat.mod_lt _ (by decide)⟩ : Fin 96) = z 1 := Fin.ext (show (y 0).val % 96 = (z 1).val by omega)
  have e0 : y 1 = z 0 := Fin.ext h1
  unfold scaleAt blockScaleAt
  rw [e1, e0]

theorem pay1_apply (v : Vec Ideal S128x128 .i32) (x y : Fin 128) : k0_pay1 (F := Ideal) v (ix2 x y) = (v (ix2 y x)).setWidth 8 := by
  pointwise [k0_pay1]

theorem pay2_apply (v : Vec Ideal S128x128 .f32) (x : Fin 128) (y : Fin 96) :
    k0_pay2 (F := Ideal) v (ix2 x y) = v (ix2 ⟨y.val, by omega⟩ x) := by
  pointwise [k0_pay2]

theorem pieceC_agrees (off : ℕ) (ho : off ≤ 640) (h h') (arg7 : Memref sig .tc .vmem S768x128 .i32) (L : List (View.Piece (Elt Ideal) S768x128 .i32))
    (hL : Good (wordAt X S A) (fun y => (y 0).val) 768 L) :
    ∀ x, (pieceC off h h' arg7 L).2 x = codeAt X S A ((pieceC off h h' arg7 L).1.emb x) := by
  intro x
  obtain ⟨s, l, rfl⟩ : ∃ s l, x = ix2 s l := ⟨x 0, x 1, eq_ix2 x⟩
  refine (pay1_apply _ s l).trans (congrArg (BitVec.setWidth 8) ?_)
  refine (View.read_writes_apply_of_pieces _ _ (wordAt X S A) L hL.1 _ (hL.2 _ ?_)).trans (congrArg (wordAt X S A) ?_)
  · show off + 1 * l.val < 768
    have hl : l.val < 128 := l.isLt
    omega
  · funext a
    match a with
    | ⟨0, _⟩ => rfl
    | ⟨1, _⟩ => rfl

theorem mem_pieceC (off : ℕ) (h h') (arg7 : Memref sig .tc .vmem S768x128 .i32) (L : List (View.Piece (Elt Ideal) S768x128 .i32))
    (y : S128x768.Idx) (hy : off ≤ (y 1).val) (hy' : (y 1).val < off + 128) : y ∈ (pieceC off h h' arg7 L).1.set :=
  (Rect.mem_set_unit (inb := h)).2 fun a => match a with
    | ⟨0, _⟩ => ⟨Nat.zero_le _, (show (y 0).val < 0 + 128 by have := (y 0).isLt; have : S128x768.size 0 = 128 := rfl; omega)⟩
    | ⟨1, _⟩ => ⟨hy, hy'⟩

variable (m : (ℓ : Loc nD τ sig) → Buf (Elt Ideal) ℓ)

/-- The codes after point `t`. -/
theorem out3_apply (c : Dev nD) (t : Fin cfg0.N) (y : S128x768.Idx) :
    out3 m c t y = codeAt (iblk m c 0 t) (iblk m c 1 t) (iblk m c 2 t) y := by
  have hw := good_words_11 c (ms0_0 t) (hs0_0 t) (ms0_1 t) (hs0_1 t) (ms0_2 t) (hs0_2 t) (iblk m c 0 t) (iblk m c 1 t) (iblk m c 2 t)
  unfold out3 runAt kernelRun
  dsimp only
  rw [codes_list]
  refine View.read_writes_apply_of_pieces (Val := Elt Ideal) (e := .i8) _ _ (codeAt (iblk m c 0 t) (iblk m c 1 t) (iblk m c 2 t)) _ ?_ y ?_
  · refine List.forall_mem_cons.2 ⟨pieceC_agrees _ _ _ 640 (by decide) _ _ _ _ hw, List.forall_mem_cons.2 ⟨pieceC_agrees _ _ _ 512 (by decide) _ _ _ _ hw, List.forall_mem_cons.2 ⟨pieceC_agrees _ _ _ 384 (by decide) _ _ _ _ hw, List.forall_mem_cons.2 ⟨pieceC_agrees _ _ _ 256 (by decide) _ _ _ _ hw, List.forall_mem_cons.2 ⟨pieceC_agrees _ _ _ 128 (by decide) _ _ _ _ hw, List.forall_mem_cons.2 ⟨pieceC_agrees _ _ _ 0 (by decide) _ _ _ _ hw, fun p hp => absurd hp List.not_mem_nil⟩⟩⟩⟩⟩⟩
  · have hy : (y 1).val < 768 := (y 1).isLt
    obtain ⟨q, hq⟩ : ∃ q : ℕ, (y 1).val / 128 = q := ⟨_, rfl⟩
    have hq6 : q < 6 := by omega
    interval_cases q
    · exact ⟨_, List.mem_cons_of_mem _ (List.mem_cons_of_mem _ (List.mem_cons_of_mem _ (List.mem_cons_of_mem _ (List.mem_cons_of_mem _ (List.mem_cons_self))))), mem_pieceC 0 _ _ _ _ y (by omega) (by omega)⟩
    · exact ⟨_, List.mem_cons_of_mem _ (List.mem_cons_of_mem _ (List.mem_cons_of_mem _ (List.mem_cons_of_mem _ (List.mem_cons_self)))), mem_pieceC 128 _ _ _ _ y (by omega) (by omega)⟩
    · exact ⟨_, List.mem_cons_of_mem _ (List.mem_cons_of_mem _ (List.mem_cons_of_mem _ (List.mem_cons_self))), mem_pieceC 256 _ _ _ _ y (by omega) (by omega)⟩
    · exact ⟨_, List.mem_cons_of_mem _ (List.mem_cons_of_mem _ (List.mem_cons_self)), mem_pieceC 384 _ _ _ _ y (by omega) (by omega)⟩
    · exact ⟨_, List.mem_cons_of_mem _ (List.mem_cons_self), mem_pieceC 512 _ _ _ _ y (by omega) (by omega)⟩
    · exact ⟨_, List.mem_cons_self, mem_pieceC 640 _ _ _ _ y (by omega) (by omega)⟩

/-- The scales after point `t`. -/
theorem out4_apply (c : Dev nD) (t : Fin cfg0.N) (y : S128x96.Idx) :
    out4 m c t y = blockScaleAt (iblk m c 0 t) (iblk m c 1 t) (iblk m c 2 t) y := by
  have hw := good_scales_11 c (ms0_0 t) (hs0_0 t) (ms0_1 t) (hs0_1 t) (ms0_2 t) (hs0_2 t) (iblk m c 0 t) (iblk m c 1 t) (iblk m c 2 t)
  unfold out4 runAt kernelRun
  dsimp only
  unfold kernelRun.sl.H5_1
  refine View.read_writes_apply_of_pieces (Val := Elt Ideal) (e := .fp8e4m3) _ _ (blockScaleAt (iblk m c 0 t) (iblk m c 1 t) (iblk m c 2 t)) _ ?_ y
    ⟨_, List.mem_cons_self, (Rect.mem_set_unit (inb := inb_S128x96_S128x96_0_0)).2 fun a => match a with
      | ⟨0, _⟩ => ⟨Nat.zero_le _, (show (y 0).val < 0 + 128 by have := (y 0).isLt; have : S128x96.size 0 = 128 := rfl; omega)⟩
      | ⟨1, _⟩ => ⟨Nat.zero_le _, (show (y 1).val < 0 + 96 by have := (y 1).isLt; have : S128x96.size 1 = 96 := rfl; omega)⟩⟩
  refine List.forall_mem_cons.2 ⟨fun x => ?_, fun p hp => absurd hp List.not_mem_nil⟩
  obtain ⟨s, l, rfl⟩ : ∃ s l, x = ix2 s l := ⟨x 0, x 1, eq_ix2 x⟩
  have hl : l.val < 96 := l.isLt
  refine (pay2_apply _ s ⟨l.val, hl⟩).trans ?_
  refine (View.read_writes_apply_of_pieces (Val := Elt Ideal) (e := .f32) scS.view _ (scaleAt (iblk m c 0 t) (iblk m c 1 t) (iblk m c 2 t)) _ hw.1 _ (hw.2 _ ?_)).trans ?_
  · show 0 + 1 * l.val < 96
    omega
  · exact scaleAt_eq _ _ _ _ _ (show 0 + 1 * l.val = 0 + 1 * l.val from rfl) (show 0 + 1 * s.val = 0 + 1 * s.val from rfl)

end Cert.QuantXIdeal.Body

end
-- ==== Proof.QuantXIdealRun.lean ====
/-
  The whole program of `quant_x` over the extended reals: each channel's groups of sixteen tokens, rotated, give the code
  bytes and the block scales.
-/
module

public import proofs.«01_k».proof.Proof.QuantXIdealBlock
public import proofs.«01_k».proof.Proof.QuantXIdealFrame
public import Idealize.ShloMosaic.Lib.Pipeline.ValueKit

@[expose] public section

set_option maxRecDepth 16384

noncomputable section

namespace Cert.QuantXIdeal.Body

open Cert.QuantXIdeal Cert.QuantXIdeal.Gen Cert.QuantXIdeal.Scalar
open Idealize.ShloMosaic Idealize.ShloMosaic.TcCoe Idealize.SL.Sem
open Idealize.ShloMosaic.Pipeline (Dat)

/-- The sixteen values of group `g` of channel `l`, each times its sign. -/
def tokens (X : Vec Ideal S1536x7168 .bf16) (S : Vec Ideal S16 .f32) (g : Fin 96) (l : Fin 7168) (i : Fin 16) : EReal :=
  X (ix2 ⟨16 * g.val + i.val, by omega⟩ l) * S (ix1 i)

/-- Byte `k` of a channel whose groups are `z`: word `k % 8` of group `k / 8`. -/
def codeByte (st : EReal) (z : Fin 96 → Fin 16 → EReal) (k : Fin 768) : BitVec 8 :=
  (codeWord st (butterfly (z ⟨k.val / 8, by omega⟩)) ⟨k.val % 8, Nat.mod_lt _ (by decide)⟩).setWidth 8

/-- The code bytes of every channel. -/
def CODES (X : Vec Ideal S1536x7168 .bf16) (S : Vec Ideal S16 .f32) (A : Vec Ideal S1x1 .f32) : Vec Ideal S7168x768 .i8 := fun y =>
  codeByte (scaleE (A (ix2 0 0))) (fun g => tokens X S g (y 0)) (y 1)

/-- The block scales. -/
def SCALES (X : Vec Ideal S1536x7168 .bf16) (S : Vec Ideal S16 .f32) (A : Vec Ideal S1x1 .f32) : Vec Ideal S7168x96 .fp8e4m3 := fun y =>
  sbE (scaleE (A (ix2 0 0))) (amaxE (butterfly (tokens X S (y 1) (y 0))))

variable (m : (ℓ : Loc nD τ sig) → Buf (Elt Ideal) ℓ)

/-- The block index of every window at point `t`. -/
theorem idx : ∀ t : Fin cfg0.N, win0_0.index t = ![0, t.val] ∧ win0_1.index t = ![0]
    ∧ win0_2.index t = ![0, 0] ∧ win0_3.index t = ![t.val, 0] ∧ win0_4.index t = ![t.val, 0] :=
  (by decide +kernel : ∀ t : Fin grid0.N, _)

/-- The three operands' blocks at a point, at an index: 128 channels of the values, and the whole of the other two. -/
theorem x_apply (c : Dev nD) (t : Fin cfg0.N) (r : Fin 1536) (l : Fin 128) (l' : Fin 7168) (hl : l'.val = t.val * 128 + l.val) :
    iblk m c 0 t (ix2 r l) = (V m c main_v0 : Vec Ideal S1536x7168 .bf16) (ix2 r l') := by
  blk_simp [iblk]
  refine congrArg (V m c main_v0 : Vec Ideal S1536x7168 .bf16) (funext fun a => Fin.ext ?_)
  match a with
  | ⟨0, _⟩ => blk_simp [(idx t).1]
  | ⟨1, _⟩ => blk_simp [(idx t).1]; exact hl.symm

theorem sign_apply (c : Dev nD) (t : Fin cfg0.N) (i : Fin 16) :
    iblk m c 1 t (ix1 i) = (V m c main_arg1 : Vec Ideal S16 .f32) (ix1 i) := by
  blk_simp [iblk]
  refine congrArg (V m c main_arg1 : Vec Ideal S16 .f32) (funext fun a => Fin.ext ?_)
  match a with
  | ⟨0, _⟩ => blk_simp [(idx t).2.1]

theorem amax_apply' (c : Dev nD) (t : Fin cfg0.N) :
    iblk m c 2 t (ix2 0 0) = (V m c main_v1 : Vec Ideal S1x1 .f32) (ix2 0 0) := by
  blk_simp [iblk]
  refine congrArg (V m c main_v1 : Vec Ideal S1x1 .f32) (funext fun a => Fin.ext ?_)
  match a with
  | ⟨0, _⟩ => blk_simp [(idx t).2.2.1]
  | ⟨1, _⟩ => blk_simp [(idx t).2.2.1]

theorem group_eq (c : Dev nD) (t : Fin cfg0.N) (g g' : Fin 96) (hg : g.val = g'.val) (l : Fin 128) (l' : Fin 7168) (hl : l'.val = t.val * 128 + l.val) :
    group (iblk m c 0 t) (iblk m c 1 t) g l = tokens (V m c main_v0) (V m c main_arg1) g' l' := by
  obtain rfl := Fin.ext hg
  funext i
  unfold group tokens
  rw [x_apply m c t _ l l' hl, sign_apply]

theorem codeByte_congr {st st' : EReal} {z z' : Fin 96 → Fin 16 → EReal} {k k' : Fin 768} (h : st = st') (hz : z = z') (hk : k = k') :
    codeByte st z k = codeByte st' z' k' := by
  rw [h, hz, hk]

theorem codeAt_eq (X : Vec Ideal S1536x128 .bf16) (S : Vec Ideal S16 .f32) (A : Vec Ideal S1x1 .f32) (y : S128x768.Idx) :
    codeAt X S A y = codeByte (scaleE (A (ix2 0 0))) (fun g => group X S g (y 0)) (y 1) := rfl

/-- The array of codes after the launch. -/
theorem final3 (c : Dev nD) : (dats m 0 c).arrAt 3 cfg0.N = CODES (V m c main_v0) (V m c main_arg1) (V m c main_v1) := by
  refine (dats m 0 c).arrAt_eq_of_covers 3 _ (by decide +kernel) fun t _ y => ?_
  blk_simp
  rw [after0_3]
  refine (out3_apply m c t y).trans ((codeAt_eq _ _ _ y).trans ?_)
  have e3 := (idx t).2.2.2.1
  have h0 : ((((cfg0.win 3).blk t).view.emb y) 0 : Nat) = t.val * 128 + (y 0).val := by blk_simp [e3]
  have h1 : ((((cfg0.win 3).blk t).view.emb y) 1 : Nat) = (y 1).val := by blk_simp [e3]
  show _ = codeByte (scaleE ((V m c main_v1 : Vec Ideal S1x1 .f32) (ix2 0 0))) (fun g => tokens (V m c main_v0) (V m c main_arg1) g ((((cfg0.win 3).blk t).view.emb y) 0)) ((((cfg0.win 3).blk t).view.emb y) 1)
  exact codeByte_congr (congrArg scaleE (amax_apply' m c t)) (funext fun g => group_eq m c t g g rfl _ _ h0) (Fin.ext h1.symm)

/-- The array of block scales after the launch. -/
theorem final4 (c : Dev nD) : (dats m 0 c).arrAt 4 cfg0.N = SCALES (V m c main_v0) (V m c main_arg1) (V m c main_v1) := by
  refine (dats m 0 c).arrAt_eq_of_covers 4 _ (by decide +kernel) fun t _ y => ?_
  blk_simp
  rw [after0_4]
  refine (out4_apply m c t y).trans ?_
  have e4 := (idx t).2.2.2.2
  have h0 : ((((cfg0.win 4).blk t).view.emb y) 0 : Nat) = t.val * 128 + (y 0).val := by blk_simp [e4]
  have h1 : ((((cfg0.win 4).blk t).view.emb y) 1 : Nat) = (y 1).val := by blk_simp [e4]
  exact congr (congrArg sbE (congrArg scaleE (amax_apply' m c t))) (congrArg (fun z => amaxE (butterfly z)) (group_eq m c t _ _ h1.symm _ _ h0))

/-- What the launch finds in the two reshaped arguments' buffers. -/
theorem entry_x (c : Dev nD) : (V m c main_v0 : Vec Ideal S1536x7168 .bf16) = shapeCast S1536x7168 (m ((c : Thread nD τ).loc main_arg0) : Vec Ideal S2x768x7168 .bf16) shapeCasts_S2x768x7168_S1536x7168 := by
  unfold V
  simp only [hostOps0, List.flatten_cons, List.flatten_nil,
    List.append_nil, List.cons_append, List.nil_append, StableHlo.TRef.ternary, StableHlo.TRef.unary, StableHlo.TRef.toBuf,
    StableHlo.TRef.ofBuf, cast_eq]
  after_results
  rfl
theorem entry_amax (c : Dev nD) : (V m c main_v1 : Vec Ideal S1x1 .f32) = shapeCast S1x1 (m ((c : Thread nD τ).loc main_arg2) : Vec Ideal S1 .f32) shapeCasts_S1_S1x1 := by
  unfold V
  simp only [hostOps0, List.flatten_cons, List.flatten_nil,
    List.append_nil, List.cons_append, List.nil_append, StableHlo.TRef.ternary, StableHlo.TRef.unary, StableHlo.TRef.toBuf,
    StableHlo.TRef.ofBuf, cast_eq]
  after_results
  rfl

variable (ρ : Dev nD → PrngReg)

/-- The program's run: the codes and the block scales; the arguments stay. -/
theorem run : θ_run defs (onTc (τ := τ) (main (F := Ideal))) ⟨m, fun _ => 0, ρ⟩ fun r => ∀ c : Dev nD,
      r.2.mem ((c.tc : Thread nD τ).loc main_v2_0) = CODES (V m c main_v0) (m ((c : Thread nD τ).loc main_arg1)) (V m c main_v1)
      ∧ r.2.mem ((c.tc : Thread nD τ).loc main_v2_1) = SCALES (V m c main_v0) (m ((c : Thread nD τ).loc main_arg1)) (V m c main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans ((final3 m c).trans (by rw [V_main_arg1])),
      ((h c).1 4).trans ((final4 m c).trans (by rw [V_main_arg1])), final_args h c⟩)
    (run_main m ρ)

end Cert.QuantXIdeal.Body

end
-- ==== Proof.QuantXReferenceRead.lean ====
/-
  The reference of `quant_x` at an index: the Hadamard sums of a group of sixteen tokens, the block scale of the group, and
  the byte of two codes, each a function of the sixteen values and the sixteen signs there.
-/
module

public import proofs.«01_k».proof.Proof.Gen.QuantXReferenceIdeal.Run
public import Idealize.ShloMosaic.Lib.Pointwise

@[expose] public section

set_option maxRecDepth 16384

noncomputable section

namespace Cert.QuantXReferenceIdeal.Final

open Cert.QuantXReferenceIdeal Cert.QuantXReferenceIdeal.Gen Cert.QuantXReferenceIdeal.Value
open Idealize.ShloMosaic Idealize.ShloMosaic.TcCoe Idealize.SL.Sem Idealize.ShloMosaic.StableHlo

/-- The value of a binary32 constant. -/
abbrev lit (w : BitVec 32) : EReal := Ideal.ofBits .f32 w

/-- Whether the Hadamard matrix has a one at `i`, `j`: an even number of common bits. -/
def even (i j : Fin 16) : Bool := (i.val &&& j.val).testBit 0 ^^ ((i.val &&& j.val).testBit 1 ^^ ((i.val &&& j.val).testBit 2 ^^ ((i.val &&& j.val).testBit 3 ^^ true)))

/-- The Hadamard transform of sixteen values with signs, a quarter of the sums. -/
def rotateR (x s : Fin 16 → EReal) (i : Fin 16) : EReal := ∑ j, x j * ((if even i j then 1 else lit 0xBF800000#32) * s j * lit 0x3E800000#32)

/-- The tensor scale. -/
def scaleR (a : EReal) : EReal := if 0 < a then Ideal.div a (lit 0x45280000#32) else 1

/-- The largest magnitude of sixteen values. -/
def amaxR (z : Fin 16 → EReal) : EReal := Finset.univ.fold max (lit 0xFF800000#32) (fun i => max (z i) (-(z i)))

/-- The block scale. -/
def sbR (st a : EReal) : EReal := min (Ideal.div a (lit 0x40C00000#32 * st)) (lit 0x43E00000#32)

def qR (st a : EReal) : EReal := sbR st a * st

/-- A value over the two scales' product, zero where that is. -/
def ratioR (q z : EReal) : EReal := if 0 < q then Ideal.div z (if 0 < q then q else 1) else 0

def magR (u : EReal) : EReal := min (max u (-u)) (lit 0x40C00000#32)

/-- One where a comparison holds. -/
def one (b : Bool) : BitVec 32 := (BitVec.ofBool b).setWidth 32

/-- The number of thresholds a magnitude passes. -/
def levelR (m : EReal) : BitVec 32 :=
  one (decide (lit 0x3E800000#32 < m)) + one (decide (lit 0x3F400000#32 ≤ m)) + one (decide (lit 0x3FA00000#32 < m)) + one (decide (lit 0x3FE00000#32 ≤ m))
    + one (decide (lit 0x40200000#32 < m)) + one (decide (lit 0x40600000#32 ≤ m)) + one (decide (lit 0x40A00000#32 < m))

/-- The code: the level, with the sign bit where the value is negative and the level is not zero. -/
def codeOf (neg : Bool) (k : BitVec 32) : BitVec 32 :=
  IntOp.ori (IntOp.shli .host ((IntOp.andi (BitVec.ofBool neg) (IntOp.cmpi .sgt k 0#32)).setWidth 32) 3#32) k

def codeR (q z : EReal) : BitVec 32 := codeOf (decide (ratioR q z < 0)) (levelR (magR (ratioR q z)))

/-- The byte of two codes. -/
def byteR (e o : BitVec 32) : BitVec 8 := (IntOp.ori e (IntOp.shli .host o 4#32)).setWidth 8

variable (V0 : Valuation τ sig (Elt Ideal))

/-- The reference's Hadamard matrix, and its condition. -/
def cond : IVec S16x16 1 :=
  cmpi .eq (select (andi (cmpi .ne (cmpi .slt (res_main_call0_v4 V0) (broadcastInDim S16x16 ![] bcast_S_S16x16 (constantI S_ 32 0#32))) (broadcastInDim S16x16 ![] bcast_S_S16x16 (cmpi .slt (res_main_call0_v2 V0) (constantI S_ 32 0#32)))) (cmpi .ne (res_main_call0_v4 V0) (broadcastInDim S16x16 ![] bcast_S_S16x16 (constantI S_ 32 0#32)))) (addi (res_main_call0_v4 V0) (broadcastInDim S16x16 ![] bcast_S_S16x16 (res_main_call0_v2 V0))) (res_main_call0_v4 V0)) (broadcastInDim S16x16 ![] bcast_S_S16x16 (constantI S_ 32 0#32))

def had : FVec Ideal S16x16 .f32 :=
  id (select (cond V0) (broadcastInDim S16x16 ![] bcast_S_S16x16 (constant S_ .f32 0x3F800000#32)) (broadcastInDim S16x16 ![] bcast_S_S16x16 (constant S_ .f32 0xBF800000#32)))

theorem cond_apply (i j : Fin 16) : cond V0 (ix2 i j) = BitVec.ofBool (even i j) := by
  pointwise [cond, res_main_call0_v4, res_main_call0_v2, res_main_call0_v0, res_main_v5, res_main_v0, id]
  clear cond_apply
  clear V0
  revert i j
  decide +kernel

theorem had_apply (i j : Fin 16) : had V0 (ix2 i j) = if even i j then 1 else lit 0xBF800000#32 := by
  unfold had
  simp only [id]
  pointwise
  rw [cond_apply]
  cases even i j <;> simp [Scalar.select]

/-- The argument arrays, as arrays. -/
abbrev argX : FVec Ideal S2x768x7168 .bf16 := V0 (Proc.devRef .tc main_arg0)
abbrev argS : FVec Ideal S16 .f32 := V0 (Proc.devRef .tc main_arg1)
abbrev argA : FVec Ideal S1 .f32 := V0 (Proc.devRef .tc main_arg2)

/-- The sixteen tokens of group `g` on channel `c`. -/
def group (c : Fin 7168) (g : Fin 96) (i : Fin 16) : EReal := argX V0 (ix3 ⟨g.val / 48, by omega⟩ ⟨g.val % 48 * 16 + i.val, by omega⟩ c)

def sgns (i : Fin 16) : EReal := argS V0 (ix1 i)

def zR (c : Fin 7168) (g : Fin 96) : Fin 16 → EReal := rotateR (group V0 c g) (sgns V0)

def stR : EReal := scaleR (argA V0 (ix1 0))

theorem v40 (c : Fin 7168) (g : Fin 96) (i : Fin 16) : (res_main_v40 V0 : FVec Ideal S7168x96x16 .f32) (ix3 c g i) = zR V0 c g i := by
  pointwise [res_main_v40]
  exact congrArg (fun h : Fin 16 → EReal => ∑ j, group V0 c g j * (h j * sgns V0 j * lit 0x3E800000#32)) (funext fun j => had_apply V0 i j)

theorem v45 : (res_main_v45 V0 : FVec Ideal S1 .f32) (ix1 0) = stR V0 := by
  pointwise [res_main_v45, id]
  rfl

/-- The largest magnitude over the last axis is that of the sixteen values there. -/
theorem fold_drop (f : S7168x96x16.Idx → EReal) (b : EReal) (c : Fin 7168) (g : Fin 96) :
    Finset.fold max b f {i | reducesTo_S7168x96x16_S7168x96_d2.drop i = ix2 c g} = Finset.univ.fold max b (fun i : Fin 16 => f (ix3 c g i)) := by
  apply le_antisymm
  · rw [Finset.fold_max_le]
    refine ⟨(Finset.le_fold_max _).2 (Or.inl le_rfl), fun x hx => (Finset.le_fold_max _).2 (Or.inr ⟨x 2, Finset.mem_univ _, le_of_eq ?_⟩)⟩
    have h := (Finset.mem_filter.1 hx).2
    congr 1
    funext d
    fin_cases d
    · exact congrFun h 0
    · exact congrFun h 1
    · rfl
  · rw [Finset.fold_max_le]
    refine ⟨(Finset.le_fold_max _).2 (Or.inl le_rfl), fun x _ => (Finset.le_fold_max _).2 (Or.inr ⟨ix3 c g x, Finset.mem_filter.2 ⟨Finset.mem_univ _, ?_⟩, le_rfl⟩)⟩
    funext d
    fin_cases d <;> rfl

theorem v54 (c : Fin 7168) (g : Fin 96) : (res_main_v54 V0 : FVec Ideal S7168x96 .f32) (ix2 c g) = sbR (stR V0) (amaxR (zR V0 c g)) := by
  pointwise [res_main_v54]
  refine (congrArg (fun t => min (Ideal.div t _) _) (fold_drop (fun x => (FloatOps.absf ((res_main_v40 V0 : FVec Ideal S7168x96x16 .f32) x) : Ideal .f32)) _ c g)).trans ?_
  exact congrArg₂ (fun (f : Fin 16 → EReal) (s : EReal) =>
    min (Ideal.div (Finset.univ.fold max (lit 0xFF800000#32) (fun i => max (f i) (-(f i)))) (lit 0x40C00000#32 * s)) (lit 0x43E00000#32))
    (funext (v40 V0 c g)) (v45 V0)

theorem v58 (c : Fin 7168) (g : Fin 96) : (res_main_v58 V0 : FVec Ideal S7168x96x1 .f32) (ix3 c g 0) = qR (stR V0) (amaxR (zR V0 c g)) := by
  have h1 := v54 V0 c g
  have h2 := v45 V0
  unfold qR
  rw [← h1, ← h2]
  pointwise [res_main_v58]

theorem v66 (c : Fin 7168) (g : Fin 96) (i : Fin 16) :
    (res_main_v66 V0 : FVec Ideal S7168x96x16 .f32) (ix3 c g i) = ratioR (qR (stR V0) (amaxR (zR V0 c g))) (zR V0 c g i) := by
  have h1 := v58 V0 c g
  have h2 := v40 V0 c g i
  unfold ratioR
  rw [← h1, ← h2]
  pointwise [res_main_v66, id]

theorem v69 (c : Fin 7168) (g : Fin 96) (i : Fin 16) :
    (res_main_v69 V0 : FVec Ideal S7168x96x16 .f32) (ix3 c g i) = magR (ratioR (qR (stR V0) (amaxR (zR V0 c g))) (zR V0 c g i)) := by
  rw [← v66 V0 c g i]
  pointwise [res_main_v69]
  rfl

theorem v96 (c : Fin 7168) (g : Fin 96) (i : Fin 16) :
    (res_main_v96 V0 : IVec S7168x96x16 32) (ix3 c g i) = levelR (magR (ratioR (qR (stR V0) (amaxR (zR V0 c g))) (zR V0 c g i))) := by
  rw [← v69 V0 c g i]
  pointwise [res_main_v96]
  rfl

theorem v106 (c : Fin 7168) (k : Fin 768) (e : Fin 2) :
    (res_main_v106 V0 : IVec S7168x768x2 32) (ix3 c k e)
      = codeR (qR (stR V0) (amaxR (zR V0 c ⟨k.val / 8, by omega⟩))) (zR V0 c ⟨k.val / 8, by omega⟩ ⟨k.val % 8 * 2 + e.val, by omega⟩) := by
  unfold codeR codeOf
  rw [← v96, ← v66]
  pointwise [res_main_v106, res_main_v101]

/-- The codes of the reference. -/
theorem codes (c : Fin 7168) (k : Fin 768) :
    (trunci 8 (ori (shapeCast _ (extractStridedSlice S7168x768x1 ![0, 0, 0] (res_main_v106 V0) slices_S7168x768x2_S7168x768x1_0_0_0) shapeCasts_S7168x768x1_S7168x768) (Host.shli (shapeCast _ (extractStridedSlice S7168x768x1 ![0, 0, 1] (res_main_v106 V0) slices_S7168x768x2_S7168x768x1_0_0_1) shapeCasts_S7168x768x1_S7168x768) (broadcastInDim S7168x768 ![] bcast_S_S7168x768 (constantI S_ 32 4#32)))) natLt_8_32 : IVec S7168x768 8) (ix2 c k)
      = byteR (codeR (qR (stR V0) (amaxR (zR V0 c ⟨k.val / 8, by omega⟩))) (zR V0 c ⟨k.val / 8, by omega⟩ ⟨k.val % 8 * 2 + 0, by omega⟩))
          (codeR (qR (stR V0) (amaxR (zR V0 c ⟨k.val / 8, by omega⟩))) (zR V0 c ⟨k.val / 8, by omega⟩ ⟨k.val % 8 * 2 + 1, by omega⟩)) := by
  have h0 := v106 V0 c k 0
  have h1 := v106 V0 c k 1
  unfold byteR
  refine Eq.trans ?_ (congrArg₂ (fun a b => BitVec.setWidth 8 (IntOp.ori a (IntOp.shli .host b 4#32))) h0 h1)
  pointwise

end Cert.QuantXReferenceIdeal.Final

end
-- ==== Proof.QuantXNumbers.lean ====
/-
  The level of a magnitude, two ways: rounding the least of four lines half to even, and counting thresholds.
-/
module

public import Idealize.ShloMosaic.Lib.Pointwise

@[expose] public section

noncomputable section

namespace Cert.QuantXNumbers

open Idealize.ShloMosaic

/-- A number rounds to `n` when it is within a half of it, or at a half of it and `n` is even. -/
theorem roundHalfEven_eq {r : ℝ} {n : ℤ} (h : ((n : ℝ) - 1 / 2 < r ∧ r < n + 1 / 2) ∨ (Even n ∧ (n : ℝ) - 1 / 2 ≤ r ∧ r ≤ n + 1 / 2)) :
    Ideal.roundHalfEven r = n := by
  have hb : (n : ℝ) - 1 / 2 ≤ r ∧ r ≤ n + 1 / 2 := by
    rcases h with h | h
    · exact ⟨h.1.le, h.2.le⟩
    · exact h.2
  unfold Ideal.roundHalfEven
  by_cases hr : (n : ℝ) ≤ r
  · have hf : ⌊r⌋ = n := Int.floor_eq_iff.2 ⟨hr, by linarith [hb.2]⟩
    simp only [hf]
    rcases h with h | h
    · rw [if_pos (by linarith [h.2])]
    · rcases lt_or_eq_of_le hb.2 with h2 | h2
      · rw [if_pos (by linarith)]
      · rw [if_neg (by linarith), if_neg (by linarith), if_pos h.1]
  · have hf : ⌊r⌋ = n - 1 := Int.floor_eq_iff.2 ⟨by push_cast; linarith [hb.1], by push_cast; linarith [not_le.1 hr]⟩
    simp only [hf]
    push_cast
    rcases lt_or_eq_of_le hb.1 with h2 | h2
    · rw [if_neg (by linarith), if_pos (by linarith)]; ring
    · rcases h with h | h
      · linarith [h.1]
      · rw [if_neg (by linarith), if_neg (by linarith), if_neg]
        · ring
        · intro he
          have := h.1
          rw [Int.even_sub_one] at he
          exact he this

/-- The least of the four lines. -/
def lines (m : ℝ) : ℝ := min (min (m + m) (m + 2)) (min (m * (1 / 2) + 4) 7)

/-- The thresholds passed. -/
def passed (m : ℝ) : Fin 8 :=
  if 5 < m then 7 else if 7 / 2 ≤ m then 6 else if 5 / 2 < m then 5 else if 7 / 4 ≤ m then 4 else if 5 / 4 < m then 3
  else if 3 / 4 ≤ m then 2 else if 1 / 4 < m then 1 else 0

theorem round_lines {m : ℝ} (hm : 0 ≤ m) : Ideal.roundHalfEven (lines m) = ((passed m : ℕ) : ℤ) := by
  unfold lines passed
  split_ifs with h1 h2 h3 h4 h5 h6 h7
  · refine (roundHalfEven_eq (n := 7) (Or.inl ?_)).trans rfl
    simp only [lt_min_iff, min_lt_iff]; push_cast
    exact ⟨⟨⟨by linarith, by linarith⟩, by linarith, by norm_num⟩, by right; right; norm_num⟩
  · refine (roundHalfEven_eq (n := 6) (Or.inr ⟨by decide, ?_⟩)).trans rfl
    simp only [le_min_iff, min_le_iff]; push_cast
    exact ⟨⟨⟨by linarith, by linarith⟩, by linarith, by norm_num⟩, by right; left; linarith⟩
  · refine (roundHalfEven_eq (n := 5) (Or.inl ?_)).trans rfl
    simp only [lt_min_iff, min_lt_iff]; push_cast
    exact ⟨⟨⟨by linarith, by linarith⟩, by linarith, by norm_num⟩, by left; right; linarith⟩
  · refine (roundHalfEven_eq (n := 4) (Or.inr ⟨by decide, ?_⟩)).trans rfl
    simp only [le_min_iff, min_le_iff]; push_cast
    exact ⟨⟨⟨by linarith, by linarith⟩, by linarith, by norm_num⟩, by left; right; linarith⟩
  · refine (roundHalfEven_eq (n := 3) (Or.inl ?_)).trans rfl
    simp only [lt_min_iff, min_lt_iff]; push_cast
    exact ⟨⟨⟨by linarith, by linarith⟩, by linarith, by norm_num⟩, by left; left; linarith⟩
  · refine (roundHalfEven_eq (n := 2) (Or.inr ⟨by decide, ?_⟩)).trans rfl
    simp only [le_min_iff, min_le_iff]; push_cast
    exact ⟨⟨⟨by linarith, by linarith⟩, by linarith, by norm_num⟩, by left; left; linarith⟩
  · refine (roundHalfEven_eq (n := 1) (Or.inl ?_)).trans rfl
    simp only [lt_min_iff, min_lt_iff]; push_cast
    exact ⟨⟨⟨by linarith, by linarith⟩, by linarith, by norm_num⟩, by left; left; linarith⟩
  · refine (roundHalfEven_eq (n := 0) (Or.inr ⟨by decide, ?_⟩)).trans rfl
    simp only [le_min_iff, min_le_iff]; push_cast
    exact ⟨⟨⟨by norm_num; linarith, by norm_num; linarith⟩, by norm_num; linarith, by norm_num⟩, by left; left; norm_num; linarith⟩

end Cert.QuantXNumbers

end
-- ==== Proof.QuantXLevels.lean ====
/-
  The code of one value, the two ways: the kernel's level from lines and rounding, its sign and its offset of eight, and the
  reference's thresholds with a sign bit, are the same four-bit number; and so are the bytes of two of them.
-/
module

public import proofs.«01_k».proof.Proof.QuantXNumbers
public import proofs.«01_k».proof.Proof.QuantXIdealScalar
public import proofs.«01_k».proof.Proof.QuantXReferenceRead

@[expose] public section

noncomputable section

namespace Cert.QuantXLevels

open Cert.QuantXNumbers Cert.QuantXIdeal.Scalar
open Cert.QuantXReferenceIdeal.Final (ratioR magR one levelR codeOf codeR byteR qR)
open Idealize.ShloMosaic

theorem lit_quarter : lit 0x3E800000#32 = ((1 / 4 : ℝ) : EReal) := by simp [lit, Ideal.ofBits, Ideal.ieee, -EReal.coe_mul]; norm_num
theorem lit_half : lit 0x3F000000#32 = ((1 / 2 : ℝ) : EReal) := by simp [lit, Ideal.ofBits, Ideal.ieee, -EReal.coe_mul]; norm_num
theorem lit_2 : lit 0x40000000#32 = ((2 : ℝ) : EReal) := by simp [lit, Ideal.ofBits, Ideal.ieee, -EReal.coe_mul]; norm_num
theorem lit_4 : lit 0x40800000#32 = ((4 : ℝ) : EReal) := by simp [lit, Ideal.ofBits, Ideal.ieee, -EReal.coe_mul]; norm_num
theorem lit_6 : lit 0x40C00000#32 = ((6 : ℝ) : EReal) := by simp [lit, Ideal.ofBits, Ideal.ieee, -EReal.coe_mul]; norm_num
theorem lit_7 : lit 0x40E00000#32 = ((7 : ℝ) : EReal) := by simp [lit, Ideal.ofBits, Ideal.ieee, -EReal.coe_mul]; norm_num
theorem lit_448 : lit 0x43E00000#32 = ((448 : ℝ) : EReal) := by simp [lit, Ideal.ofBits, Ideal.ieee, -EReal.coe_mul]; norm_num
theorem lit_2688 : lit 0x45280000#32 = ((2688 : ℝ) : EReal) := by simp [lit, Ideal.ofBits, Ideal.ieee, -EReal.coe_mul]; norm_num
theorem lit_t2 : lit 0x3F400000#32 = ((3 / 4 : ℝ) : EReal) := by simp [lit, Ideal.ofBits, Ideal.ieee, -EReal.coe_mul]; norm_num
theorem lit_t3 : lit 0x3FA00000#32 = ((5 / 4 : ℝ) : EReal) := by simp [lit, Ideal.ofBits, Ideal.ieee, -EReal.coe_mul]; norm_num
theorem lit_t4 : lit 0x3FE00000#32 = ((7 / 4 : ℝ) : EReal) := by simp [lit, Ideal.ofBits, Ideal.ieee, -EReal.coe_mul]; norm_num
theorem lit_t5 : lit 0x40200000#32 = ((5 / 2 : ℝ) : EReal) := by simp [lit, Ideal.ofBits, Ideal.ieee, -EReal.coe_mul]; norm_num
theorem lit_t6 : lit 0x40600000#32 = ((7 / 2 : ℝ) : EReal) := by simp [lit, Ideal.ofBits, Ideal.ieee, -EReal.coe_mul]; norm_num
theorem lit_t7 : lit 0x40A00000#32 = ((5 : ℝ) : EReal) := by simp [lit, Ideal.ofBits, Ideal.ieee, -EReal.coe_mul]; norm_num
theorem lit_neg_one : lit 0xBF800000#32 = ((-1 : ℝ) : EReal) := by simp [lit, Ideal.ofBits, Ideal.ieee, -EReal.coe_mul, -EReal.coe_neg]; norm_num
theorem lit_bot : lit 0xFF800000#32 = ⊥ := by simp [lit, Ideal.ofBits, Ideal.ieee]
theorem bf16_8 : Ideal.ofBits .bf16 0x4100#16 = ((8 : ℝ) : EReal) := by simp [Ideal.ofBits, Ideal.ieee, -EReal.coe_mul]; norm_num
theorem bf16_16 : Ideal.ofBits .bf16 0x4180#16 = ((16 : ℝ) : EReal) := by simp [Ideal.ofBits, Ideal.ieee, -EReal.coe_mul]; norm_num

theorem coe_min (a b : ℝ) : ((min a b : ℝ) : EReal) = min (a : EReal) b := EReal.coe_strictMono.monotone.map_min
theorem coe_max (a b : ℝ) : ((max a b : ℝ) : EReal) = max (a : EReal) b := EReal.coe_strictMono.monotone.map_max
theorem coe_abs (a : ℝ) : ((|a| : ℝ) : EReal) = max (a : EReal) (-a) := by rw [abs_eq_max_neg, coe_max, EReal.coe_neg]

/-- The kernel's level of a magnitude. -/
theorem levelE_coe {m : ℝ} (hm : 0 ≤ m) : levelE (m : EReal) = (((passed m : ℕ) : ℝ) : EReal) := by
  unfold levelE
  rw [lit_2, lit_half, lit_4, lit_7, ← EReal.coe_add, ← EReal.coe_add, ← EReal.coe_mul, ← EReal.coe_add, ← coe_min, ← coe_min, ← coe_min]
  show Ideal.liftRound Ideal.roundHalfEven ((lines m : ℝ) : EReal) = _
  rw [Ideal.liftRound_coe, round_lines hm]
  norm_cast

theorem one_true {p : Prop} [Decidable p] (h : p) : one (decide p) = 1#32 := by rw [decide_eq_true h]; rfl
theorem one_false {p : Prop} [Decidable p] (h : ¬p) : one (decide p) = 0#32 := by rw [decide_eq_false h]; rfl

/-- The reference's level of a value. -/
theorem levelR_coe (u : ℝ) : levelR (magR (u : EReal)) = BitVec.ofNat 32 (passed |u|).val := by
  have hm : magR (u : EReal) = ((min |u| 6 : ℝ) : EReal) := by
    unfold magR
    rw [coe_min, coe_abs, ← lit_6]
  rw [hm]
  unfold levelR
  have e1 : Cert.QuantXReferenceIdeal.Final.lit 0x3E800000#32 = _ := lit_quarter
  have e2 : Cert.QuantXReferenceIdeal.Final.lit 0x3F400000#32 = _ := lit_t2
  have e3 : Cert.QuantXReferenceIdeal.Final.lit 0x3FA00000#32 = _ := lit_t3
  have e4 : Cert.QuantXReferenceIdeal.Final.lit 0x3FE00000#32 = _ := lit_t4
  have e5 : Cert.QuantXReferenceIdeal.Final.lit 0x40200000#32 = _ := lit_t5
  have e6 : Cert.QuantXReferenceIdeal.Final.lit 0x40600000#32 = _ := lit_t6
  have e7 : Cert.QuantXReferenceIdeal.Final.lit 0x40A00000#32 = _ := lit_t7
  rw [e1, e2, e3, e4, e5, e6, e7]
  simp only [EReal.coe_lt_coe_iff, EReal.coe_le_coe_iff, lt_min_iff, le_min_iff]
  unfold passed
  split_ifs with h7 h6 h5 h4 h3 h2 h1
  · rw [one_true ⟨by linarith, by norm_num⟩, one_true ⟨by linarith, by norm_num⟩, one_true ⟨by linarith, by norm_num⟩, one_true ⟨by linarith, by norm_num⟩, one_true ⟨by linarith, by norm_num⟩, one_true ⟨by linarith, by norm_num⟩, one_true ⟨by linarith, by norm_num⟩]; rfl
  · rw [one_true ⟨by linarith, by norm_num⟩, one_true ⟨by linarith, by norm_num⟩, one_true ⟨by linarith, by norm_num⟩, one_true ⟨by linarith, by norm_num⟩, one_true ⟨by linarith, by norm_num⟩, one_true ⟨by linarith, by norm_num⟩, one_false (fun h => by linarith [h.1])]; rfl
  · rw [one_true ⟨by linarith, by norm_num⟩, one_true ⟨by linarith, by norm_num⟩, one_true ⟨by linarith, by norm_num⟩, one_true ⟨by linarith, by norm_num⟩, one_true ⟨by linarith, by norm_num⟩, one_false (fun h => by linarith [h.1]), one_false (fun h => by linarith [h.1])]; rfl
  · rw [one_true ⟨by linarith, by norm_num⟩, one_true ⟨by linarith, by norm_num⟩, one_true ⟨by linarith, by norm_num⟩, one_true ⟨by linarith, by norm_num⟩, one_false (fun h => by linarith [h.1]), one_false (fun h => by linarith [h.1]), one_false (fun h => by linarith [h.1])]; rfl
  · rw [one_true ⟨by linarith, by norm_num⟩, one_true ⟨by linarith, by norm_num⟩, one_true ⟨by linarith, by norm_num⟩, one_false (fun h => by linarith [h.1]), one_false (fun h => by linarith [h.1]), one_false (fun h => by linarith [h.1]), one_false (fun h => by linarith [h.1])]; rfl
  · rw [one_true ⟨by linarith, by norm_num⟩, one_true ⟨by linarith, by norm_num⟩, one_false (fun h => by linarith [h.1]), one_false (fun h => by linarith [h.1]), one_false (fun h => by linarith [h.1]), one_false (fun h => by linarith [h.1]), one_false (fun h => by linarith [h.1])]; rfl
  · rw [one_true ⟨by linarith, by norm_num⟩, one_false (fun h => by linarith [h.1]), one_false (fun h => by linarith [h.1]), one_false (fun h => by linarith [h.1]), one_false (fun h => by linarith [h.1]), one_false (fun h => by linarith [h.1]), one_false (fun h => by linarith [h.1])]; rfl
  · rw [one_false (fun h => by linarith [h.1]), one_false (fun h => by linarith [h.1]), one_false (fun h => by linarith [h.1]), one_false (fun h => by linarith [h.1]), one_false (fun h => by linarith [h.1]), one_false (fun h => by linarith [h.1]), one_false (fun h => by linarith [h.1])]; rfl

theorem codeOf_levels : ∀ (neg : Bool) (p : Fin 8), codeOf neg (BitVec.ofNat 32 p.val) = BitVec.ofNat 32 (if neg = true ∧ 0 < p.val then 8 + p.val else p.val) := by
  decide +kernel

/-- A signed level as a code. -/
def offset (e : EReal) : EReal := if e < 0 then Ideal.ofBits .bf16 0x4100#16 - e else e

theorem offset_nat (p : ℕ) : offset ((p : ℝ) : EReal) = ((p : ℝ) : EReal) := by
  unfold offset
  rw [if_neg]
  rw [← EReal.coe_zero, EReal.coe_lt_coe_iff]
  exact not_lt.2 (Nat.cast_nonneg p)

theorem offset_neg {p : ℕ} (h : 0 < p) : offset (0 - ((p : ℝ) : EReal)) = (((8 + p : ℕ) : ℝ) : EReal) := by
  unfold offset
  rw [bf16_8, ← EReal.coe_zero, ← EReal.coe_sub, if_pos, ← EReal.coe_sub]
  · congr 1; push_cast; ring
  · rw [EReal.coe_lt_coe_iff]
    have : (0 : ℝ) < p := Nat.cast_pos.2 h
    linarith

/-- The code of a value `z` whose sums are four times it, in the two ways. -/
theorem code_eq {st a : EReal} {Q : ℝ} (hQ : 0 ≤ Q) (hq : qE st a = Q) (z : ℝ) :
    ∃ n : Fin 16, offset (levE st a (z : EReal)) = (((n.val : ℕ) : ℝ) : EReal) ∧ codeR (Q : EReal) ((z * (1 / 4) : ℝ) : EReal) = BitVec.ofNat 32 n.val := by
  have hz : ((z : EReal) < 0) ↔ z < 0 := by rw [← EReal.coe_zero, EReal.coe_lt_coe_iff]
  rcases lt_or_eq_of_le hQ with h | h
  · have hinv : invE st a = ((1 * Q⁻¹ * (1 / 4) : ℝ) : EReal) := by
      unfold invE
      rw [hq, if_pos (by rw [← EReal.coe_zero, EReal.coe_lt_coe_iff]; exact h), if_pos (by rw [← EReal.coe_zero, EReal.coe_lt_coe_iff]; exact h)]
      unfold Ideal.div
      rw [if_neg (by rw [← EReal.coe_zero, EReal.coe_eq_coe_iff]; exact h.ne'), lit_quarter, ← EReal.coe_inv, ← EReal.coe_one, ← EReal.coe_mul, ← EReal.coe_mul]
    have hu : ratioR (Q : EReal) ((z * (1 / 4) : ℝ) : EReal) = ((z * (1 / 4) * Q⁻¹ : ℝ) : EReal) := by
      unfold ratioR
      rw [if_pos (by rw [← EReal.coe_zero, EReal.coe_lt_coe_iff]; exact h), if_pos (by rw [← EReal.coe_zero, EReal.coe_lt_coe_iff]; exact h)]
      unfold Ideal.div
      rw [if_neg (by rw [← EReal.coe_zero, EReal.coe_eq_coe_iff]; exact h.ne'), ← EReal.coe_inv, ← EReal.coe_mul]
    have hm : |z * (1 / 4) * Q⁻¹| = |z| * (1 * Q⁻¹ * (1 / 4)) := by
      rw [abs_mul, abs_mul, abs_of_pos (inv_pos.2 h), abs_of_pos (by norm_num : (0 : ℝ) < 1 / 4)]; ring
    have hneg : (((z * (1 / 4) * Q⁻¹ : ℝ) : EReal) < 0) ↔ z < 0 := by
      rw [← EReal.coe_zero, EReal.coe_lt_coe_iff]
      have := inv_pos.2 h
      constructor
      · intro h1
        by_contra h2
        have : 0 ≤ z * (1 / 4) * Q⁻¹ := by have := not_lt.1 h2; positivity
        linarith
      · intro h1
        have : 0 < -z * (1 / 4) * Q⁻¹ := by have : 0 < -z := by linarith
                                            positivity
        nlinarith
    have hl : levelE (max (z : EReal) (-z) * invE st a) = (((passed |z * (1 / 4) * Q⁻¹| : ℕ) : ℝ) : EReal) := by
      rw [hinv, ← coe_abs, ← EReal.coe_mul, ← hm, levelE_coe (abs_nonneg _)]
    unfold codeR levE
    rw [hl, hu, levelR_coe, codeOf_levels]
    generalize passed |z * (1 / 4) * Q⁻¹| = p
    simp only [decide_eq_true_eq, hneg, hz]
    by_cases h1 : z < 0
    · rw [if_pos h1]
      by_cases h2 : 0 < p.val
      · exact ⟨⟨8 + p.val, by omega⟩, offset_neg h2, by rw [if_pos ⟨h1, h2⟩]⟩
      · have h3 : p.val = 0 := by omega
        refine ⟨0, ?_, by rw [if_neg (fun h => h2 h.2), h3]; rfl⟩
        rw [h3]
        have := offset_nat 0
        simpa using this
    · rw [if_neg h1]
      exact ⟨⟨p.val, by omega⟩, offset_nat _, by rw [if_neg (fun h => h1 h.1)]⟩
  · subst h
    have hinv : invE st a = 0 := by
      unfold invE
      rw [hq]
      simp
    refine ⟨0, ?_, ?_⟩
    · unfold levE
      have hl : levelE (max (z : EReal) (-z) * invE st a) = 0 := by
        have := levelE_coe (le_refl (0 : ℝ))
        rw [hinv, mul_zero]
        have hp : passed 0 = 0 := by unfold passed; norm_num
        rw [hp] at this
        simpa using this
      rw [hl]
      have := offset_nat 0
      simpa using this
    · have hu : ratioR ((0 : ℝ) : EReal) ((z * (1 / 4) : ℝ) : EReal) = ((0 : ℝ) : EReal) := by
        unfold ratioR
        simp
      unfold codeR
      rw [hu, levelR_coe, codeOf_levels]
      have hp : passed |0| = 0 := by unfold passed; norm_num
      rw [hp]
      simp

theorem byte_bits : ∀ n m : Fin 16, (BitVec.ofInt 32 ((n.val + 16 * m.val : ℕ) : ℤ)).setWidth 8 = byteR (BitVec.ofNat 32 n.val) (BitVec.ofNat 32 m.val) := by
  decide +kernel

theorem fptosi_nat (n : ℕ) (h : n < 256) : Ideal.fptosi 32 (((n : ℕ) : ℝ) : EReal) = BitVec.ofInt 32 (n : ℤ) := by
  show BitVec.ofInt 32 (max _ (min _ (if (0 : ℝ) ≤ (n : ℝ) then ⌊(n : ℝ)⌋ else ⌈(n : ℝ)⌉))) = _
  rw [if_pos (Nat.cast_nonneg n), Int.floor_natCast]
  congr 1
  rw [min_eq_right (by norm_num; omega), max_eq_right (by norm_num)]

/-- The byte of two values. -/
theorem byte_eq {st a : EReal} {Q : ℝ} (hQ : 0 ≤ Q) (hq : qE st a = Q) (z z' : ℝ) :
    (wordE st a (z : EReal) (z' : EReal)).setWidth 8 = byteR (codeR (Q : EReal) ((z * (1 / 4) : ℝ) : EReal)) (codeR (Q : EReal) ((z' * (1 / 4) : ℝ) : EReal)) := by
  obtain ⟨n, hn, hn'⟩ := code_eq hQ hq z
  obtain ⟨k, hk, hk'⟩ := code_eq hQ hq z'
  rw [hn', hk', ← byte_bits]
  congr 1
  show Ideal.fptosi 32 (offset (levE st a z) + Ideal.ofBits .bf16 0x4180#16 * offset (levE st a z')) = _
  rw [hn, hk, bf16_16, ← EReal.coe_mul, ← EReal.coe_add, ← fptosi_nat _ (by omega)]
  congr 2
  push_cast
  rfl

end Cert.QuantXLevels

end
-- ==== Proof.QuantXEquation.lean ====
/-
  The kernel's numbers and the reference's for a group of sixteen finite values with finite signs: the butterflies are four
  times the Hadamard sums, a quarter of their largest magnitude is the largest of the reference's, and the block scale and the
  codes agree.
-/
module

public import proofs.«01_k».proof.Proof.QuantXLevels

@[expose] public section

noncomputable section

namespace Cert.QuantXEquation

open Cert.QuantXLevels Cert.QuantXIdeal.Scalar
open Cert.QuantXIdeal.Half (rotate step1 step2 step4 step8 fold)
open Cert.QuantXReferenceIdeal.Final (ratioR magR codeR byteR qR sbR scaleR amaxR rotateR even)
open Idealize.ShloMosaic

/-- The sign of the Hadamard matrix. -/
def sgn (i j : Fin 16) : ℝ := if even i j then 1 else -1

/-- The Hadamard sums of real numbers. -/
def sums (r : Fin 16 → ℝ) (i : Fin 16) : ℝ := ∑ j, sgn i j * r j

/-- The butterflies of real numbers. -/
def butterflyReal (v : Fin 16 → ℝ) : Fin 16 → ℝ :=
  rotate (· + ·) (· - ·) (fun z0 z1 z2 z3 z4 z5 z6 z7 z8 z9 z10 z11 z12 z13 z14 z15 => ![z0, z1, z2, z3, z4, z5, z6, z7, z8, z9, z10, z11, z12, z13, z14, z15])
    (v 0) (v 1) (v 2) (v 3) (v 4) (v 5) (v 6) (v 7) (v 8) (v 9) (v 10) (v 11) (v 12) (v 13) (v 14) (v 15)

theorem butterflyReal_eq (v : Fin 16 → ℝ) (i : Fin 16) : butterflyReal v i = sums v i := by
  unfold sums
  simp only [Fin.sum_univ_succ, Fin.sum_univ_zero]
  fin_cases i <;>
  · simp +decide [butterflyReal, rotate, step1, step2, step4, step8, sgn, even]
    ring

theorem butterfly_coe (v : Fin 16 → ℝ) (i : Fin 16) : butterfly (fun j => (v j : EReal)) i = ((sums v i : ℝ) : EReal) := by
  rw [← butterflyReal_eq]
  simp only [butterfly, butterflyReal, rotate, step1, step2, step4, step8, ← EReal.coe_add, ← EReal.coe_sub]
  fin_cases i <;> rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The reference's transform is a quarter of the sums. -/
theorem rotateR_coe (x s : Fin 16 → ℝ) (i : Fin 16) :
    rotateR (fun j => (x j : EReal)) (fun j => (s j : EReal)) i = ((sums (fun j => x j * s j) i * (1 / 4) : ℝ) : EReal) := by
  have e : Cert.QuantXReferenceIdeal.Final.lit 0x3E800000#32 = _ := lit_quarter
  have e' : Cert.QuantXReferenceIdeal.Final.lit 0xBF800000#32 = _ := lit_neg_one
  unfold rotateR sums
  rw [e, e', Finset.sum_mul, ← coe_sum]
  refine Finset.sum_congr rfl (fun j _ => ?_)
  unfold sgn
  have h : (if even i j = true then (1 : EReal) else ((-1 : ℝ) : EReal)) = ((if even i j = true then (1 : ℝ) else -1 : ℝ) : EReal) := by
    split_ifs <;> simp
  rw [h, ← EReal.coe_mul, ← EReal.coe_mul, ← EReal.coe_mul]
  congr 1
  ring

/-- The fold of the sixteen from the left is their maximum over the index. -/
theorem fold_eq (f : Fin 16 → EReal) :
    fold max (f 0) (f 1) (f 2) (f 3) (f 4) (f 5) (f 6) (f 7) (f 8) (f 9) (f 10) (f 11) (f 12) (f 13) (f 14) (f 15) = Finset.univ.fold max ⊥ f := by
  apply le_antisymm
  · have h : ∀ i, f i ≤ Finset.univ.fold max ⊥ f := fun i => (Finset.le_fold_max _).2 (Or.inr ⟨i, Finset.mem_univ i, le_rfl⟩)
    simp only [fold, max_le_iff, h, and_self]
  · rw [Finset.fold_max_le]
    refine ⟨bot_le, fun i _ => ?_⟩
    unfold fold
    fin_cases i <;> simp [le_max_iff]

/-- A quarter of the largest of sixteen magnitudes is the largest of the quarters. -/
theorem amax_eq (z : Fin 16 → ℝ) : amaxE (fun i => (z i : EReal)) = amaxR (fun i => ((z i * (1 / 4) : ℝ) : EReal)) := by
  have hm : Monotone (fun t : EReal => t * ((1 / 4 : ℝ) : EReal)) := fun a b h => by
    have h4 : (0 : EReal) ≤ ((1 / 4 : ℝ) : EReal) := by rw [← EReal.coe_zero, EReal.coe_le_coe_iff]; norm_num
    exact mul_le_mul_of_nonneg_right h h4
  have hmax : ∀ a b : EReal, max a b * ((1 / 4 : ℝ) : EReal) = max (a * ((1 / 4 : ℝ) : EReal)) (b * ((1 / 4 : ℝ) : EReal)) := fun a b => hm.map_max
  have hz : ∀ i, (z i : EReal) * ((1 / 4 : ℝ) : EReal) = ((z i * (1 / 4) : ℝ) : EReal) := fun i => (EReal.coe_mul _ _).symm
  have hz' : ∀ i, -(z i : EReal) * ((1 / 4 : ℝ) : EReal) = -((z i * (1 / 4) : ℝ) : EReal) := fun i => by rw [EReal.neg_mul, hz]
  have e : Cert.QuantXReferenceIdeal.Final.lit 0xFF800000#32 = _ := lit_bot
  unfold amaxR
  rw [e, ← fold_eq]
  unfold amaxE fold
  rw [lit_quarter]
  simp only [hmax, hz, hz']

/-- The largest magnitude is a real number, not negative. -/
theorem amax_real (z : Fin 16 → ℝ) : ∃ a : ℝ, 0 ≤ a ∧ amaxE (fun i => (z i : EReal)) = (a : EReal) := by
  unfold amaxE fold
  rw [lit_quarter]
  simp only [← coe_abs, ← coe_max, ← EReal.coe_mul]
  refine ⟨_, ?_, rfl⟩
  refine mul_nonneg ?_ (by norm_num)
  simp only [le_max_iff, abs_nonneg, or_true, true_or]

theorem scaleE_pos (A : EReal) : 0 < scaleE A := by
  unfold scaleE
  split_ifs with h
  · unfold Ideal.div
    rw [lit_2688, if_neg (by rw [← EReal.coe_zero, EReal.coe_eq_coe_iff]; norm_num), ← EReal.coe_inv]
    exact EReal.mul_pos h (by rw [← EReal.coe_zero, EReal.coe_lt_coe_iff]; norm_num)
  · exact zero_lt_one

/-- The product of the two scales is a real number, not negative. -/
theorem q_real {st : EReal} (hst : 0 < st) {a : ℝ} (ha : 0 ≤ a) : ∃ Q : ℝ, 0 ≤ Q ∧ qE st (a : EReal) = (Q : EReal) := by
  induction st using EReal.rec with
  | bot => exact absurd hst (by simp)
  | top =>
    refine ⟨0, le_rfl, ?_⟩
    have h : sbE ⊤ (a : EReal) = 0 := by
      unfold sbE Ideal.div
      rw [lit_6, lit_448, EReal.coe_mul_top_of_pos (by norm_num), if_neg (by simp), EReal.inv_top, mul_zero, min_eq_left]
      rw [← EReal.coe_zero, EReal.coe_le_coe_iff]; norm_num
    unfold qE
    rw [h, zero_mul, EReal.coe_zero]
  | coe s =>
    have hs : 0 < s := by rwa [← EReal.coe_zero, EReal.coe_lt_coe_iff] at hst
    refine ⟨min (a * (6 * s)⁻¹) 448 * s, by positivity, ?_⟩
    unfold qE sbE Ideal.div
    rw [lit_6, lit_448, ← EReal.coe_mul, if_neg (by rw [← EReal.coe_zero, EReal.coe_eq_coe_iff]; positivity), ← EReal.coe_inv, ← EReal.coe_mul,
      ← coe_min, ← EReal.coe_mul]

/-- The block scales agree. -/
theorem scale_eq (A : EReal) (x s : Fin 16 → ℝ) :
    sbE (scaleE A) (amaxE (butterfly fun j => (x j : EReal) * (s j : EReal)))
      = sbR (scaleR A) (amaxR (rotateR (fun j => (x j : EReal)) (fun j => (s j : EReal)))) := by
  have h : (butterfly fun j => (x j : EReal) * (s j : EReal)) = fun i => ((sums (fun j => x j * s j) i : ℝ) : EReal) := by
    simp only [← EReal.coe_mul]
    exact funext (butterfly_coe _)
  rw [h, amax_eq, funext (rotateR_coe x s)]
  rfl

/-- The bytes of codes agree. -/
theorem code_eq (A : EReal) (x s : Fin 16 → ℝ) (p : Fin 8) :
    (codeWord (scaleE A) (butterfly fun j => (x j : EReal) * (s j : EReal)) p).setWidth 8
      = byteR (codeR (qR (scaleR A) (amaxR (rotateR (fun j => (x j : EReal)) (fun j => (s j : EReal))))) (rotateR (fun j => (x j : EReal)) (fun j => (s j : EReal)) ⟨p.val * 2 + 0, by omega⟩))
          (codeR (qR (scaleR A) (amaxR (rotateR (fun j => (x j : EReal)) (fun j => (s j : EReal))))) (rotateR (fun j => (x j : EReal)) (fun j => (s j : EReal)) ⟨p.val * 2 + 1, by omega⟩)) := by
  have h : (butterfly fun j => (x j : EReal) * (s j : EReal)) = fun i => ((sums (fun j => x j * s j) i : ℝ) : EReal) := by
    simp only [← EReal.coe_mul]
    exact funext (butterfly_coe _)
  rw [h, funext (rotateR_coe x s), ← amax_eq]
  generalize sums (fun j => x j * s j) = z
  obtain ⟨a, ha, ha'⟩ := amax_real z
  obtain ⟨Q, hQ, hq⟩ := q_real (scaleE_pos A) ha
  have hq' : qR (scaleR A) (a : EReal) = (Q : EReal) := hq
  unfold codeWord
  rw [ha', hq', byte_eq hQ hq]
  have h0 : (⟨2 * p.val, by omega⟩ : Fin 16) = ⟨p.val * 2 + 0, by omega⟩ := Fin.ext (show 2 * p.val = p.val * 2 + 0 by omega)
  have h1 : (⟨2 * p.val + 1, by omega⟩ : Fin 16) = ⟨p.val * 2 + 1, by omega⟩ := Fin.ext (show 2 * p.val + 1 = p.val * 2 + 1 by omega)
  rw [h0, h1]

end Cert.QuantXEquation

end
-- ==== Proof.QuantXFinite.lean ====
/-
  The precondition: every activation and every sign is a real number.
-/
module

public import proofs.«01_k».proof.Pre_finite
public import Idealize.ShloMosaic.Lib.Pointwise

@[expose] public section

noncomputable section

namespace Cert.Pre_finite

open Idealize.ShloMosaic

theorem facts : Facts where
  bitsLt_bf16_f32 := by decide
  bcast_S_S2x768x7168 := by decide
  bcast_S_S16 := by decide

/-- A number whose magnitude is below the infinity is real. -/
theorem real_of_lt {e : EReal} (h : BitVec.ofBool (decide (max e (-e) < Ideal.ofBits .f32 0x7F800000#32)) = 1#1) : e = ((e.toReal : ℝ) : EReal) := by
  have htop : Ideal.ofBits .f32 0x7F800000#32 = ⊤ := by simp [Ideal.ofBits, Ideal.ieee]
  rw [htop] at h
  have h' : max e (-e) < ⊤ := by
    by_contra hc
    rw [decide_eq_false hc] at h
    exact absurd h (by decide)
  rw [max_lt_iff] at h'
  refine (EReal.coe_toReal h'.1.ne ?_).symm
  intro hb
  rw [hb] at h'
  exact absurd h'.2 (by simp)

variable [Facts] (x : FVec Ideal S2x768x7168 .bf16) (s : FVec Ideal S16 .f32) (a : FVec Ideal S1 .f32)

theorem real_x (h : (fn (F := Ideal) x s a).1 = fun _ => 1#1) (y : S2x768x7168.Idx) : x y = ((EReal.toReal (x y) : ℝ) : EReal) := by
  refine real_of_lt ?_
  have h' := congrFun h y
  refine Eq.trans ?_ h'
  rw [eq_ix3 y]
  unfold fn
  pointwise
  rfl

theorem real_s (h : (fn (F := Ideal) x s a).2 = fun _ => 1#1) (i : Fin 16) : s (ix1 i) = ((EReal.toReal (s (ix1 i)) : ℝ) : EReal) := by
  refine real_of_lt ?_
  have h' := congrFun h (ix1 i)
  refine Eq.trans ?_ h'
  unfold fn
  pointwise
  rfl

end Cert.Pre_finite

end
-- ==== Proof.QuantXClaims.lean ====
/- The claims about the quantiser of the activations and its reference. -/
module

public import proofs.«01_k».proof.Defs
public import proofs.«01_k».proof.Proof.QuantXFrame
public import proofs.«01_k».proof.Proof.QuantXIdealFrame
public import proofs.«01_k».proof.Proof.QuantXIdealRun
public import proofs.«01_k».proof.Proof.QuantXReferenceRead
public import proofs.«01_k».proof.Proof.QuantXEquation
public import proofs.«01_k».proof.Proof.QuantXFinite

@[expose] public section

noncomputable section

open Idealize.ShloMosaic Idealize.ShloMosaic.TcCoe Idealize.SL.Sem

namespace Cert.Proof.QuantXClaims

open Cert.QuantXIdeal (S2x768x7168 S1536x7168 S16 S1 S1x1 S7168x768 S7168x96)
open Cert.QuantXIdeal.Gen (shapeCasts_S2x768x7168_S1536x7168 shapeCasts_S1_S1x1)
open Cert.QuantXIdeal.Body (CODES SCALES tokens codeByte)
open Cert.QuantXIdeal.Scalar (sbE scaleE amaxE butterfly codeWord)

theorem frame_p : Cert.quiescent_QuantX := fun m ρ _ => Cert.QuantX.Body.frame m ρ
theorem frame_pi : Cert.quiescent_QuantXIdeal := fun m ρ _ => Cert.QuantXIdeal.Body.frame m ρ
theorem frame_pi_finite : Cert.quiescent_QuantXIdeal_pre_finite (hPre_finite := Cert.Pre_finite.facts) := fun m ρ _ => Cert.QuantXIdeal.Body.frame m ρ
theorem frame_ri : Cert.quiescent_QuantXReferenceIdeal := fun m ρ _ =>
  (θ_run Cert.QuantXReferenceIdeal.defs _ _).mono (fun r h => ⟨fun c => (h c).2.2,
      sem_eq_zero_of_no_sems (by decide) r.2⟩)
    (Cert.QuantXReferenceIdeal.Value.run (F := Ideal) m ρ)
theorem frame_ri_finite : Cert.quiescent_QuantXReferenceIdeal_pre_finite (hPre_finite := Cert.Pre_finite.facts) := fun m ρ _ => frame_ri m ρ trivial

/-- The four identities the idealized kernel rests on. -/
theorem preserves : Cert.preserves_QuantX_QuantXIdeal :=
  ⟨IdealRules.bf16_pair.statement Cert.QuantXIdeal.S8x2x128 Cert.QuantXIdeal.S8x1x128,
    IdealRules.bf16_pair.statement Cert.QuantXIdeal.S16x128 Cert.QuantXIdeal.S8x128,
    IdealRules.truncf_extf.statement Cert.QuantXIdeal.S8x128 .f32 .fp8e4m3,
    IdealRules.bf16_pair.packStatement Cert.QuantXIdeal.S8x128⟩

variable (V0 : Valuation Cert.QuantXReferenceIdeal.τ Cert.QuantXReferenceIdeal.sig (Elt Ideal))

/-- The tokens of a group as the kernel reads them, out of the reshaped activations, are those of the reference. -/
theorem tokens_eq (x : FVec Ideal S2x768x7168 .bf16) (s : FVec Ideal S16 .f32) (hx : x = Cert.QuantXReferenceIdeal.Final.argX V0) (hs : s = Cert.QuantXReferenceIdeal.Final.argS V0)
    (g : Fin 96) (l : Fin 7168) :
    tokens (shapeCast S1536x7168 x shapeCasts_S2x768x7168_S1536x7168) s g l
      = fun i => Cert.QuantXReferenceIdeal.Final.group V0 l g i * Cert.QuantXReferenceIdeal.Final.sgns V0 i := by
  subst hx hs
  funext i
  have h : (shapeCast S1536x7168 (Cert.QuantXReferenceIdeal.Final.argX V0) shapeCasts_S2x768x7168_S1536x7168 : FVec Ideal S1536x7168 .bf16) (ix2 ⟨16 * g.val + i.val, by omega⟩ l)
      = Cert.QuantXReferenceIdeal.Final.group V0 l g i := by
    unfold Cert.QuantXReferenceIdeal.Final.group
    pointwise
    congr 1
    funext a
    fin_cases a
    · exact Fin.ext (by show _ = g.val / 48; simp; omega)
    · exact Fin.ext (by show _ = g.val % 48 * 16 + i.val; simp; omega)
    · rfl
  exact congrArg (fun e : EReal => e * Cert.QuantXReferenceIdeal.Final.sgns V0 i) h

theorem amax_at (a : FVec Ideal S1 .f32) : (shapeCast S1x1 a shapeCasts_S1_S1x1 : FVec Ideal S1x1 .f32) (ix2 0 0) = a (ix1 0) := by
  pointwise

section

variable (x : FVec Ideal S2x768x7168 .bf16) (s : FVec Ideal S16 .f32) (a : FVec Ideal S1 .f32)
  (hx : x = Cert.QuantXReferenceIdeal.Final.argX V0) (hs : s = Cert.QuantXReferenceIdeal.Final.argS V0) (ha : a = Cert.QuantXReferenceIdeal.Final.argA V0)
  (fx : ∀ y, x y = ((EReal.toReal (x y) : ℝ) : EReal)) (fs : ∀ i, s (ix1 i) = ((EReal.toReal (s (ix1 i)) : ℝ) : EReal))

include hx hs ha fx fs

/-- The group and the signs are real numbers. -/
theorem group_real (l : Fin 7168) (g : Fin 96) : ∃ r t : Fin 16 → ℝ,
    Cert.QuantXReferenceIdeal.Final.group V0 l g = (fun j => (r j : EReal)) ∧ Cert.QuantXReferenceIdeal.Final.sgns V0 = fun j => (t j : EReal) := by
  subst hx hs
  exact ⟨fun j => EReal.toReal (Cert.QuantXReferenceIdeal.Final.group V0 l g j), fun j => EReal.toReal (Cert.QuantXReferenceIdeal.Final.sgns V0 j),
    funext fun j => fx _, funext fun j => fs _⟩

/-- The codes of the kernel are those of the reference. -/
theorem codes_eq (l : Fin 7168) (k : Fin 768) :
    CODES (shapeCast S1536x7168 x shapeCasts_S2x768x7168_S1536x7168) s (shapeCast S1x1 a shapeCasts_S1_S1x1) (ix2 l k)
      = Cert.QuantXReferenceIdeal.Final.byteR (Cert.QuantXReferenceIdeal.Final.codeR (Cert.QuantXReferenceIdeal.Final.qR (Cert.QuantXReferenceIdeal.Final.stR V0) (Cert.QuantXReferenceIdeal.Final.amaxR (Cert.QuantXReferenceIdeal.Final.zR V0 l ⟨k.val / 8, by omega⟩))) (Cert.QuantXReferenceIdeal.Final.zR V0 l ⟨k.val / 8, by omega⟩ ⟨k.val % 8 * 2 + 0, by omega⟩))
          (Cert.QuantXReferenceIdeal.Final.codeR (Cert.QuantXReferenceIdeal.Final.qR (Cert.QuantXReferenceIdeal.Final.stR V0) (Cert.QuantXReferenceIdeal.Final.amaxR (Cert.QuantXReferenceIdeal.Final.zR V0 l ⟨k.val / 8, by omega⟩))) (Cert.QuantXReferenceIdeal.Final.zR V0 l ⟨k.val / 8, by omega⟩ ⟨k.val % 8 * 2 + 1, by omega⟩)) := by
  obtain ⟨r, t, hr, ht⟩ := group_real V0 x s a hx hs ha fx fs l ⟨k.val / 8, by omega⟩
  show (codeWord (scaleE ((shapeCast S1x1 a shapeCasts_S1_S1x1 : FVec Ideal S1x1 .f32) (ix2 0 0)))
    (butterfly (tokens (shapeCast S1536x7168 x shapeCasts_S2x768x7168_S1536x7168) s ⟨k.val / 8, by omega⟩ l)) ⟨k.val % 8, by omega⟩).setWidth 8 = _
  rw [amax_at, tokens_eq V0 x s hx hs]
  unfold Cert.QuantXReferenceIdeal.Final.zR Cert.QuantXReferenceIdeal.Final.stR
  rw [hr, ht, ← ha]
  exact Cert.QuantXEquation.code_eq (a (ix1 0)) r t ⟨k.val % 8, by omega⟩

/-- The block scales of the kernel are those of the reference. -/
theorem scales_eq (l : Fin 7168) (g : Fin 96) :
    SCALES (shapeCast S1536x7168 x shapeCasts_S2x768x7168_S1536x7168) s (shapeCast S1x1 a shapeCasts_S1_S1x1) (ix2 l g)
      = Cert.QuantXReferenceIdeal.Final.sbR (Cert.QuantXReferenceIdeal.Final.stR V0) (Cert.QuantXReferenceIdeal.Final.amaxR (Cert.QuantXReferenceIdeal.Final.zR V0 l g)) := by
  obtain ⟨r, t, hr, ht⟩ := group_real V0 x s a hx hs ha fx fs l g
  show sbE (scaleE ((shapeCast S1x1 a shapeCasts_S1_S1x1 : FVec Ideal S1x1 .f32) (ix2 0 0)))
    (amaxE (butterfly (tokens (shapeCast S1536x7168 x shapeCasts_S2x768x7168_S1536x7168) s g l))) = _
  rw [amax_at, tokens_eq V0 x s hx hs]
  unfold Cert.QuantXReferenceIdeal.Final.zR Cert.QuantXReferenceIdeal.Final.stR
  rw [hr, ht, ← ha]
  exact Cert.QuantXEquation.scale_eq (a (ix1 0)) r t

end

/-- The kernel and the reference end with the same codes and the same block scales. -/
theorem algebraic : Cert.algebraic_QuantXIdeal_QuantXReferenceIdeal_pre_finite (hPre_finite := Cert.Pre_finite.facts) := by
  intro m ρ m' ρ' hpre hagree
  refine ⟨_, _, Cert.QuantXIdeal.Body.run m ρ, ?_⟩
  refine (θ_run Cert.QuantXReferenceIdeal.defs _ _).mono
    (fun _ h c => ⟨(h c).1.trans ?_, (h c).2.1.trans ?_, (h c).2.2⟩)
    (Cert.QuantXReferenceIdeal.Value.run (F := Ideal) m' ρ')
  · rw [Cert.QuantXIdeal.Body.entry_x, Cert.QuantXIdeal.Body.entry_amax]
    have fx := @Cert.Pre_finite.real_x Cert.Pre_finite.facts _ _ _ (hpre c).1
    have fs := @Cert.Pre_finite.real_s Cert.Pre_finite.facts _ _ _ (hpre c).2
    rw [← (hagree c).1] at fx ⊢
    rw [← (hagree c).2.1] at fs ⊢
    rw [← (hagree c).2.2]
    funext y
    rw [eq_ix2 y]
    exact (Cert.QuantXReferenceIdeal.Final.codes _ _ _).trans (codes_eq (StableHlo.launchContents m' c) _ _ _ rfl rfl rfl fx fs _ _).symm
  · rw [Cert.QuantXIdeal.Body.entry_x, Cert.QuantXIdeal.Body.entry_amax]
    have fx := @Cert.Pre_finite.real_x Cert.Pre_finite.facts _ _ _ (hpre c).1
    have fs := @Cert.Pre_finite.real_s Cert.Pre_finite.facts _ _ _ (hpre c).2
    rw [← (hagree c).1] at fx ⊢
    rw [← (hagree c).2.1] at fs ⊢
    rw [← (hagree c).2.2]
    funext y
    rw [eq_ix2 y]
    exact (Cert.QuantXReferenceIdeal.Final.v54 _ _ _).trans (scales_eq (StableHlo.launchContents m' c) _ _ _ rfl rfl rfl fx fs _ _).symm

end Cert.Proof.QuantXClaims

end
-- ==== Proof.QuantDyBody.lean ====
/-
  The body of `quant_dy` run once on whole staging buffers: what it leaves in the codes, the block scales and the decoded
  values, found by the run. The byte scratch is overwritten before it is read; the scale scratch is read whole although
  only its first 96 rows are written, so its entry contents `f9` stay a parameter.
-/
module

public import proofs.«01_k».proof.Proof.Gen.QuantDy.Launch
public import proofs.«01_k».proof.Proof.Gen.QuantDy.Skeleton
public import Idealize.ShloMosaic.Lib.Pipeline.FrameBody
public import Idealize.ShloMosaic.Lib.Tactic

@[expose] public section

set_option maxRecDepth 16384

noncomputable section

namespace Cert.QuantDy.Body

open Cert.QuantDy Cert.QuantDy.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- A memref's buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.stridedRows true
set_option maxHeartbeats 4000000

/-- What the body leaves in its three results, WITH the proof that it runs to its return leaving them so, the inputs as
    they were and the scratch buffers at something. -/
noncomputable def kernelRun (c : Dev nD) (i : grid0.Coords) (arg1 : Memref sig .tc .vmem S1536x128 .bf16) (harg1 : arg1.IsWhole)
    (arg2 : Memref sig .tc .vmem S1536x128 .i8) (harg2 : arg2.IsWhole)
    (arg3 : Memref sig .tc .smem S16 .f32) (harg3 : arg3.IsWhole) (arg4 : Memref sig .tc .vmem S1x1 .f32) (harg4 : arg4.IsWhole)
    (arg5 : Memref sig .tc .vmem S128x768 .i8) (harg5 : arg5.IsWhole) (arg6 : Memref sig .tc .vmem S128x96 .fp8e4m3) (harg6 : arg6.IsWhole)
    (arg7 : Memref sig .tc .vmem S128x1536 .bf16) (harg7 : arg7.IsWhole) (arg8 : Memref sig .tc .vmem S768x128 .i32) (harg8 : arg8.IsWhole)
    (arg9 : Memref sig .tc .vmem S128x128 .f32) (harg9 : arg9.IsWhole)
    (f1 : Bf (F := F) c arg1) (f2 : Bf (F := F) c arg2) (f3 : Bf (F := F) c arg3) (f4 : Bf (F := F) c arg4) (f9 : Bf (F := F) c arg9) :
    { W : Bf (F := F) c arg5 × Bf (F := F) c arg6 × Bf (F := F) c arg7 //
      ∀ (f5 : Bf (F := F) c arg5) (f6 : Bf (F := F) c arg6) (f7 : Bf (F := F) c arg7) (f8 : Bf (F := F) c arg8)
        (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
            ∗ (iprop(pt c arg1 f1 ∗ pt c arg2 f2 ∗ pt c arg3 f3 ∗ pt c arg4 f4 ∗ pt c arg5 W.1 ∗ pt c arg6 W.2.1 ∗ pt c arg7 W.2.2
                ∗ (∃ f, pt c arg8 f) ∗ (∃ f, pt c arg9 f)) -∗ Q ⟨⟩))
          ⊢ wp frame (wpE (defs₀ (F := F)) Variants.none c none) E
              (cc0_quant_dy i arg1 harg1 arg2 harg2 arg3 harg3 arg4 harg4 arg5 harg5 arg6 harg6 arg7 harg7 arg8 harg8 arg9 harg9) Q } := by
  refine ⟨⟨?_, ?_, ?_⟩, fun f5 f6 f7 f8 E Q => ?run⟩
  case run =>
    iintro ⟨H1, H2, H3, H4, H5, H6, H7, H8, H9, Hk⟩
    rw [cc0_quant_dy_eq_skeleton]; unfold cc0_quant_dy_skel
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

end Cert.QuantDy.Body

end
-- ==== Proof.QuantDyPoint.lean ====
/-
  Towards the frame of `quant_dy`: the three reshapes the host does, then the pipeline over 144 slabs of 128 channels. The body's run
  (`Body.kernelRun`) is applied at every point on the blocks of the four inputs; each result's staging buffer holds after a
  point what the run leaves in it, whatever the scratch buffers held before the point.
-/
module

public import proofs.«01_k».proof.Proof.QuantDyBody
public import Idealize.ShloMosaic.Lib.HeldBySlice
public import Idealize.ShloMosaic.Lib.Claim
public import Idealize.ShloMosaic.Lib.Ring
public import Idealize.ShloMosaic.Lib.Pointwise

@[expose] public section

set_option maxRecDepth 16384

noncomputable section

namespace Cert.QuantDy.Body

open Cert.QuantDy Cert.QuantDy.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The host's reshapes -/

/-- Core `c`'s buffers when the pipeline starts: after the three reshapes. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks and staging buffers -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .vmem S1536x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x768 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x96 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1536 .bf16 := win0_6.stage (cfg0.slots t 6)
abbrev hs0_6 (t : Fin cfg0.N) : (ms0_6 t).IsWhole := hstage0_6 ((cfg0.slots t 6).cast nbuf0_6)
/-- The two scratch buffers, whole. -/
abbrev scB : Memref sig .tc .vmem S768x128 .i32 := Memref.whole cc0_scratch0
abbrev scS : Memref sig .tc .vmem S128x128 .f32 := Memref.whole cc0_scratch1

/-- The body as the pipeline calls it at point `t`. -/
abbrev bodyAt0 (t : Fin cfg0.N) :=
  cc0_quant_dy (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scB (Memref.isWhole_whole _) scS (Memref.isWhole_whole _)

/-- The run at point `t`, on the inputs' blocks, the scale scratch holding `f9`. -/
abbrev runAt (c : Dev nD) (t : Fin cfg0.N) (f9 : Bf (F := F) c scS) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scB (Memref.isWhole_whole _) scS (Memref.isWhole_whole _)
    ((hs0_0 t).unread (iblk m c 0 t)) ((hs0_1 t).unread (iblk m c 1 t)) ((hs0_2 t).unread (iblk m c 2 t)) ((hs0_3 t).unread (iblk m c 3 t)) f9

/-- What the three results' staging buffers hold after point `t`. -/
def out4 (c : Dev nD) (t : Fin cfg0.N) : Vec F S128x768 .i8 := (ms0_4 t).view.read (Elt F) (runAt m c t scS.view.junk).1.1
def out5 (c : Dev nD) (t : Fin cfg0.N) : Vec F S128x96 .fp8e4m3 := (ms0_5 t).view.read (Elt F) (runAt m c t scS.view.junk).1.2.1
def out6 (c : Dev nD) (t : Fin cfg0.N) : Vec F S128x1536 .bf16 := (ms0_6 t).view.read (Elt F) (runAt m c t scS.view.junk).1.2.2

/-! ## The block scales do not depend on what the scale scratch held -/

/-- Of the scale scratch's transpose only the first 96 columns are kept. -/
theorem pay4_congr (v w : Vec F S128x128 .f32) (h : ∀ (g : Fin 128) (l : Fin 128), g.val < 96 → v (ix2 g l) = w (ix2 g l)) :
    k0_pay4 v = k0_pay4 w := by
  have key : ∀ x y, k0_pay4 v (ix2 x y) = k0_pay4 w (ix2 x y) := by
    intro x y
    pointwise [k0_pay4]
    rw [h _ _ (by first | exact y.isLt | (have := y.isLt; simp; omega))]
  exact funext fun i => by
    rw [show i = ix2 (i 0) (i 1) from funext fun a => by fin_cases a <;> rfl]
    exact key _ _

theorem pay4_scratch (c : Dev nD) (arg1 : Memref sig .tc .vmem S1536x128 .bf16) (harg1 : arg1.IsWhole)
    (arg3 : Memref sig .tc .smem S16 .f32) (arg4 : Memref sig .tc .vmem S1x1 .f32) (arg9 : Memref sig .tc .vmem S128x128 .f32)
    (f1 : Bf (F := F) c arg1) (f3 : Bf (F := F) c arg3) (f4 : Bf (F := F) c arg4) (f9 f9' : Bf (F := F) c arg9) :
    k0_pay4 (View.readAt (Elt F) arg9.view (Rect.unit (s := S128x128) ![0, 0] S128x128.size inb_S128x128_S128x128_0_0).toLoadRect
        (arg9.view.writes (Elt F) f9 (kernelRun.sl.H9_12 c arg1 harg1 arg3 arg4 f1 f3 f4)))
      = k0_pay4 (View.readAt (Elt F) arg9.view (Rect.unit (s := S128x128) ![0, 0] S128x128.size inb_S128x128_S128x128_0_0).toLoadRect
        (arg9.view.writes (Elt F) f9' (kernelRun.sl.H9_12 c arg1 harg1 arg3 arg4 f1 f3 f4))) := by
  refine pay4_congr _ _ fun g l hg => ?_
  refine View.read_writes_apply_eq _ _ _ _ _ _ ?_
  rw [show (Rect.unit (s := S128x128) ![0, 0] S128x128.size inb_S128x128_S128x128_0_0).toLoadRect.idx (ix2 g l) = ix2 g l from
    funext fun a => Fin.ext (by fin_cases a <;> simp [LoadRect.idx, Rect.unit])]
  obtain ⟨q, hq, h1, h2⟩ : ∃ q, q < 12 ∧ 8 * q ≤ g.val ∧ g.val < 8 * q + 8 := ⟨g.val / 8, by omega, by omega, by omega⟩
  have hl := l.isLt
  unfold kernelRun.sl.H9_12 kernelRun.sl.H9_11 kernelRun.sl.H9_10 kernelRun.sl.H9_9 kernelRun.sl.H9_8 kernelRun.sl.H9_7
    kernelRun.sl.H9_6 kernelRun.sl.H9_5 kernelRun.sl.H9_4 kernelRun.sl.H9_3 kernelRun.sl.H9_2 kernelRun.sl.H9_1
  simp only [List.mem_cons, List.not_mem_nil, or_false, exists_eq_or_imp, exists_eq_left, Rect.mem_set_unit, Fin.forall_fin_two]
  interval_cases q <;> simp <;> omega

theorem out5_eq (c : Dev nD) (t : Fin cfg0.N) (f9 : Bf (F := F) c scS) :
    (runAt m c t f9).1.2.1 = (runAt m c t scS.view.junk).1.2.1 := by
  unfold runAt kernelRun
  dsimp only
  unfold kernelRun.sl.H6_1
  rw [pay4_scratch]

theorem out4_unread (c : Dev nD) (t : Fin cfg0.N) (f9 : Bf (F := F) c scS) : (hs0_4 t).unread (out4 m c t) = (runAt m c t f9).1.1 := by
  unfold out4; rw [(hs0_4 t).unread_read]; unfold runAt kernelRun; dsimp only
theorem out5_unread (c : Dev nD) (t : Fin cfg0.N) (f9 : Bf (F := F) c scS) : (hs0_5 t).unread (out5 m c t) = (runAt m c t f9).1.2.1 := by
  unfold out5; rw [(hs0_5 t).unread_read, out5_eq m c t f9]
theorem out6_unread (c : Dev nD) (t : Fin cfg0.N) (f9 : Bf (F := F) c scS) : (hs0_6 t).unread (out6 m c t) = (runAt m c t f9).1.2.2 := by
  unfold out6; rw [(hs0_6 t).unread_read]; unfold runAt kernelRun; dsimp only

/-- A whole memref owned at `X` is its buffer held at the contents that read `X`. -/
theorem owns_eq (c : Dev nD) {sp : Space} {S : Shape} {e : EltTy} {M : Memref sig .tc sp S e} (h : M.IsWhole) (X : S.Idx → Elt F e) :
    (owns (c : Thread nD τ) M fullShare X : sProp 𝕄) = pt c M (h.unread X) := by
  obtain ⟨f, rfl⟩ := h.read_bijective.2 X
  rw [h.unread_read]
  obtain ⟨b, hsp, hsh, he, h⟩ := h
  subst hsp hsh he
  cases h
  exact owns_whole _ _ _ _

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.QuantDy.Body

end
-- ==== Proof.QuantDyFrame.lean ====
/-
  The frame of `quant_dy`: the run applied at every point, the launch, and the arguments found unchanged at the end.
-/
module

public import proofs.«01_k».proof.Proof.QuantDyPoint
public import Idealize.ShloMosaic.Lib.HeldBySlice
public import Idealize.ShloMosaic.Lib.Claim
public import Idealize.ShloMosaic.Lib.Ring
public import Idealize.ShloMosaic.Lib.Pointwise

@[expose] public section

set_option maxRecDepth 16384

noncomputable section

namespace Cert.QuantDy.Body

open Cert.QuantDy Cert.QuantDy.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the two scratch buffers are taken out of the invariant, the run is applied, and they are put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6]
  rw [owns_eq c (hs0_0 t), owns_eq c (hs0_1 t), owns_eq c (hs0_2 t), owns_eq c (hs0_3 t), owns_eq c (hs0_4 t), owns_eq c (hs0_5 t), owns_eq c (hs0_6 t)]
  simp only [owns_eq c (hs0_0 t), owns_eq c (hs0_1 t), owns_eq c (hs0_2 t), owns_eq c (hs0_3 t), owns_eq c (hs0_4 t), owns_eq c (hs0_5 t), owns_eq c (hs0_6 t)]
  unfold Pipeline.ΦA
  rw [scopedRest0_eq]
  iintro ⟨⟨⟨⟨%f8, HB⟩, ⟨%f9, HS⟩⟩, Hg⟩, Ho, ⟨%d0, H0⟩, ⟨%d1, H1⟩, ⟨%d2, H2⟩, ⟨%d3, H3⟩, ⟨%d4, H4⟩, ⟨%d5, H5⟩, ⟨%d6, H6⟩⟩
  have e4 := out4_unread m c t f9
  have e5 := out5_unread m c t f9
  have e6 := out6_unread m c t f9
  rw [e4, e5, e6]
  clear e4 e5 e6
  generalize runAt m c t f9 = w
  obtain ⟨⟨w4, w5, w6⟩, hw⟩ := w
  dsimp only
  unfold bodyAt0
  iapply (hw ((hs0_4 t).unread ((dats m 0 c).before 4 t d4)) ((hs0_5 t).unread ((dats m 0 c).before 5 t d5)) ((hs0_6 t).unread ((dats m 0 c).before 6 t d6)) f8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HB]; · iexact HB
  isplitl [HS]; · iexact HS
  iintro ⟨H0, H1, H2, H3, H4, H5, H6, ⟨%f8', HB⟩, ⟨%f9', HS⟩⟩
  isplitl [HB HS Hg]
  · isplitl [HB HS]
    · isplitl [HB]; · iexists f8'; iexact HB
      iexists f9'; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch: every array ends at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

variable {m ρ}

/-- The four arguments after the run. -/
theorem final_args {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩

variable (m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨final_args h.1, h.2⟩) (run_main_quiescent m ρ)

end Cert.QuantDy.Body

end
-- ==== Proof.QuantDyIdealBody.lean ====
/-
  The body of `quant_dy` run once on whole staging buffers: what it leaves in the codes, the block scales and the decoded
  values, found by the run. The byte scratch is overwritten before it is read; the scale scratch is read whole although
  only its first 96 rows are written, so its entry contents `f9` stay a parameter.
-/
module

public import proofs.«01_k».proof.Proof.Gen.QuantDyIdeal.Launch
public import proofs.«01_k».proof.Proof.Gen.QuantDyIdeal.Skeleton
public import Idealize.ShloMosaic.Lib.Pipeline.FrameBody
public import Idealize.ShloMosaic.Lib.Tactic

@[expose] public section

set_option maxRecDepth 16384

noncomputable section

namespace Cert.QuantDyIdeal.Body

open Cert.QuantDyIdeal Cert.QuantDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.stridedRows true
set_option maxHeartbeats 4000000

/-- What the body leaves in its three results, WITH the proof that it runs to its return leaving them so, the inputs as
    they were and the scratch buffers at something. -/
noncomputable def kernelRun (c : Dev nD) (i : grid0.Coords) (arg1 : Memref sig .tc .vmem S1536x128 .bf16) (harg1 : arg1.IsWhole)
    (arg2 : Memref sig .tc .vmem S1536x128 .i8) (harg2 : arg2.IsWhole)
    (arg3 : Memref sig .tc .smem S16 .f32) (harg3 : arg3.IsWhole) (arg4 : Memref sig .tc .vmem S1x1 .f32) (harg4 : arg4.IsWhole)
    (arg5 : Memref sig .tc .vmem S128x768 .i8) (harg5 : arg5.IsWhole) (arg6 : Memref sig .tc .vmem S128x96 .fp8e4m3) (harg6 : arg6.IsWhole)
    (arg7 : Memref sig .tc .vmem S128x1536 .bf16) (harg7 : arg7.IsWhole) (arg8 : Memref sig .tc .vmem S768x128 .i32) (harg8 : arg8.IsWhole)
    (arg9 : Memref sig .tc .vmem S128x128 .f32) (harg9 : arg9.IsWhole)
    (f1 : Bf (F := F) c arg1) (f2 : Bf (F := F) c arg2) (f3 : Bf (F := F) c arg3) (f4 : Bf (F := F) c arg4) (f9 : Bf (F := F) c arg9) :
    { W : Bf (F := F) c arg5 × Bf (F := F) c arg6 × Bf (F := F) c arg7 //
      ∀ (f5 : Bf (F := F) c arg5) (f6 : Bf (F := F) c arg6) (f7 : Bf (F := F) c arg7) (f8 : Bf (F := F) c arg8)
        (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
            ∗ (iprop(pt c arg1 f1 ∗ pt c arg2 f2 ∗ pt c arg3 f3 ∗ pt c arg4 f4 ∗ pt c arg5 W.1 ∗ pt c arg6 W.2.1 ∗ pt c arg7 W.2.2
                ∗ (∃ f, pt c arg8 f) ∗ (∃ f, pt c arg9 f)) -∗ Q ⟨⟩))
          ⊢ wp frame (wpE (defs₀ (F := F)) Variants.none c none) E
              (cc0_quant_dy i arg1 harg1 arg2 harg2 arg3 harg3 arg4 harg4 arg5 harg5 arg6 harg6 arg7 harg7 arg8 harg8 arg9 harg9) Q } := by
  refine ⟨⟨?_, ?_, ?_⟩, fun f5 f6 f7 f8 E Q => ?run⟩
  case run =>
    iintro ⟨H1, H2, H3, H4, H5, H6, H7, H8, H9, Hk⟩
    rw [cc0_quant_dy_eq_skeleton]; unfold cc0_quant_dy_skel
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

end Cert.QuantDyIdeal.Body

end
-- ==== Proof.QuantDyIdealPoint.lean ====
/-
  Towards the frame of `quant_dy`: the three reshapes the host does, then the pipeline over 144 slabs of 128 channels. The body's run
  (`Body.kernelRun`) is applied at every point on the blocks of the four inputs; each result's staging buffer holds after a
  point what the run leaves in it, whatever the scratch buffers held before the point.
-/
module

public import proofs.«01_k».proof.Proof.QuantDyIdealBody
public import Idealize.ShloMosaic.Lib.HeldBySlice
public import Idealize.ShloMosaic.Lib.Claim
public import Idealize.ShloMosaic.Lib.Ring
public import Idealize.ShloMosaic.Lib.Pointwise

@[expose] public section

set_option maxRecDepth 16384

noncomputable section

namespace Cert.QuantDyIdeal.Body

open Cert.QuantDyIdeal Cert.QuantDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's reshapes -/

/-- Core `c`'s buffers when the pipeline starts: after the three reshapes. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks and staging buffers -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .vmem S1536x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x768 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x96 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1536 .bf16 := win0_6.stage (cfg0.slots t 6)
abbrev hs0_6 (t : Fin cfg0.N) : (ms0_6 t).IsWhole := hstage0_6 ((cfg0.slots t 6).cast nbuf0_6)
/-- The two scratch buffers, whole. -/
abbrev scB : Memref sig .tc .vmem S768x128 .i32 := Memref.whole cc0_scratch0
abbrev scS : Memref sig .tc .vmem S128x128 .f32 := Memref.whole cc0_scratch1

/-- The body as the pipeline calls it at point `t`. -/
abbrev bodyAt0 (t : Fin cfg0.N) :=
  cc0_quant_dy (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scB (Memref.isWhole_whole _) scS (Memref.isWhole_whole _)

/-- The run at point `t`, on the inputs' blocks, the scale scratch holding `f9`. -/
abbrev runAt (c : Dev nD) (t : Fin cfg0.N) (f9 : Bf (F := F) c scS) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scB (Memref.isWhole_whole _) scS (Memref.isWhole_whole _)
    ((hs0_0 t).unread (iblk m c 0 t)) ((hs0_1 t).unread (iblk m c 1 t)) ((hs0_2 t).unread (iblk m c 2 t)) ((hs0_3 t).unread (iblk m c 3 t)) f9

/-- What the three results' staging buffers hold after point `t`. -/
def out4 (c : Dev nD) (t : Fin cfg0.N) : Vec F S128x768 .i8 := (ms0_4 t).view.read (Elt F) (runAt m c t scS.view.junk).1.1
def out5 (c : Dev nD) (t : Fin cfg0.N) : Vec F S128x96 .fp8e4m3 := (ms0_5 t).view.read (Elt F) (runAt m c t scS.view.junk).1.2.1
def out6 (c : Dev nD) (t : Fin cfg0.N) : Vec F S128x1536 .bf16 := (ms0_6 t).view.read (Elt F) (runAt m c t scS.view.junk).1.2.2

/-! ## The block scales do not depend on what the scale scratch held -/

/-- Of the scale scratch's transpose only the first 96 columns are kept. -/
theorem pay4_congr (v w : Vec F S128x128 .f32) (h : ∀ (g : Fin 128) (l : Fin 128), g.val < 96 → v (ix2 g l) = w (ix2 g l)) :
    k0_pay4 v = k0_pay4 w := by
  have key : ∀ x y, k0_pay4 v (ix2 x y) = k0_pay4 w (ix2 x y) := by
    intro x y
    pointwise [k0_pay4]
    rw [h _ _ (by first | exact y.isLt | (have := y.isLt; simp; omega))]
  exact funext fun i => by
    rw [show i = ix2 (i 0) (i 1) from funext fun a => by fin_cases a <;> rfl]
    exact key _ _

theorem pay4_scratch (c : Dev nD) (arg1 : Memref sig .tc .vmem S1536x128 .bf16) (harg1 : arg1.IsWhole)
    (arg3 : Memref sig .tc .smem S16 .f32) (arg4 : Memref sig .tc .vmem S1x1 .f32) (arg9 : Memref sig .tc .vmem S128x128 .f32)
    (f1 : Bf (F := F) c arg1) (f3 : Bf (F := F) c arg3) (f4 : Bf (F := F) c arg4) (f9 f9' : Bf (F := F) c arg9) :
    k0_pay4 (View.readAt (Elt F) arg9.view (Rect.unit (s := S128x128) ![0, 0] S128x128.size inb_S128x128_S128x128_0_0).toLoadRect
        (arg9.view.writes (Elt F) f9 (kernelRun.sl.H9_12 c arg1 harg1 arg3 arg4 f1 f3 f4)))
      = k0_pay4 (View.readAt (Elt F) arg9.view (Rect.unit (s := S128x128) ![0, 0] S128x128.size inb_S128x128_S128x128_0_0).toLoadRect
        (arg9.view.writes (Elt F) f9' (kernelRun.sl.H9_12 c arg1 harg1 arg3 arg4 f1 f3 f4))) := by
  refine pay4_congr _ _ fun g l hg => ?_
  refine View.read_writes_apply_eq _ _ _ _ _ _ ?_
  rw [show (Rect.unit (s := S128x128) ![0, 0] S128x128.size inb_S128x128_S128x128_0_0).toLoadRect.idx (ix2 g l) = ix2 g l from
    funext fun a => Fin.ext (by fin_cases a <;> simp [LoadRect.idx, Rect.unit])]
  obtain ⟨q, hq, h1, h2⟩ : ∃ q, q < 12 ∧ 8 * q ≤ g.val ∧ g.val < 8 * q + 8 := ⟨g.val / 8, by omega, by omega, by omega⟩
  have hl := l.isLt
  unfold kernelRun.sl.H9_12 kernelRun.sl.H9_11 kernelRun.sl.H9_10 kernelRun.sl.H9_9 kernelRun.sl.H9_8 kernelRun.sl.H9_7
    kernelRun.sl.H9_6 kernelRun.sl.H9_5 kernelRun.sl.H9_4 kernelRun.sl.H9_3 kernelRun.sl.H9_2 kernelRun.sl.H9_1
  simp only [List.mem_cons, List.not_mem_nil, or_false, exists_eq_or_imp, exists_eq_left, Rect.mem_set_unit, Fin.forall_fin_two]
  interval_cases q <;> simp <;> omega

theorem out5_eq (c : Dev nD) (t : Fin cfg0.N) (f9 : Bf (F := F) c scS) :
    (runAt m c t f9).1.2.1 = (runAt m c t scS.view.junk).1.2.1 := by
  unfold runAt kernelRun
  dsimp only
  unfold kernelRun.sl.H6_1
  rw [pay4_scratch]

theorem out4_unread (c : Dev nD) (t : Fin cfg0.N) (f9 : Bf (F := F) c scS) : (hs0_4 t).unread (out4 m c t) = (runAt m c t f9).1.1 := by
  unfold out4; rw [(hs0_4 t).unread_read]; unfold runAt kernelRun; dsimp only
theorem out5_unread (c : Dev nD) (t : Fin cfg0.N) (f9 : Bf (F := F) c scS) : (hs0_5 t).unread (out5 m c t) = (runAt m c t f9).1.2.1 := by
  unfold out5; rw [(hs0_5 t).unread_read, out5_eq m c t f9]
theorem out6_unread (c : Dev nD) (t : Fin cfg0.N) (f9 : Bf (F := F) c scS) : (hs0_6 t).unread (out6 m c t) = (runAt m c t f9).1.2.2 := by
  unfold out6; rw [(hs0_6 t).unread_read]; unfold runAt kernelRun; dsimp only

/-- A whole memref owned at `X` is its buffer held at the contents that read `X`. -/
theorem owns_eq (c : Dev nD) {sp : Space} {S : Shape} {e : EltTy} {M : Memref sig .tc sp S e} (h : M.IsWhole) (X : S.Idx → Elt F e) :
    (owns (c : Thread nD τ) M fullShare X : sProp 𝕄) = pt c M (h.unread X) := by
  obtain ⟨f, rfl⟩ := h.read_bijective.2 X
  rw [h.unread_read]
  obtain ⟨b, hsp, hsh, he, h⟩ := h
  subst hsp hsh he
  cases h
  exact owns_whole _ _ _ _

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.QuantDyIdeal.Body

end
-- ==== Proof.QuantDyIdealFrame.lean ====
/-
  The frame of `quant_dy`: the run applied at every point, the launch, and the arguments found unchanged at the end.
-/
module

public import proofs.«01_k».proof.Proof.QuantDyIdealPoint
public import Idealize.ShloMosaic.Lib.HeldBySlice
public import Idealize.ShloMosaic.Lib.Claim
public import Idealize.ShloMosaic.Lib.Ring
public import Idealize.ShloMosaic.Lib.Pointwise

@[expose] public section

set_option maxRecDepth 16384

noncomputable section

namespace Cert.QuantDyIdeal.Body

open Cert.QuantDyIdeal Cert.QuantDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the two scratch buffers are taken out of the invariant, the run is applied, and they are put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6]
  rw [owns_eq c (hs0_0 t), owns_eq c (hs0_1 t), owns_eq c (hs0_2 t), owns_eq c (hs0_3 t), owns_eq c (hs0_4 t), owns_eq c (hs0_5 t), owns_eq c (hs0_6 t)]
  simp only [owns_eq c (hs0_0 t), owns_eq c (hs0_1 t), owns_eq c (hs0_2 t), owns_eq c (hs0_3 t), owns_eq c (hs0_4 t), owns_eq c (hs0_5 t), owns_eq c (hs0_6 t)]
  unfold Pipeline.ΦA
  rw [scopedRest0_eq]
  iintro ⟨⟨⟨⟨%f8, HB⟩, ⟨%f9, HS⟩⟩, Hg⟩, Ho, ⟨%d0, H0⟩, ⟨%d1, H1⟩, ⟨%d2, H2⟩, ⟨%d3, H3⟩, ⟨%d4, H4⟩, ⟨%d5, H5⟩, ⟨%d6, H6⟩⟩
  have e4 := out4_unread m c t f9
  have e5 := out5_unread m c t f9
  have e6 := out6_unread m c t f9
  rw [e4, e5, e6]
  clear e4 e5 e6
  generalize runAt m c t f9 = w
  obtain ⟨⟨w4, w5, w6⟩, hw⟩ := w
  dsimp only
  unfold bodyAt0
  iapply (hw ((hs0_4 t).unread ((dats m 0 c).before 4 t d4)) ((hs0_5 t).unread ((dats m 0 c).before 5 t d5)) ((hs0_6 t).unread ((dats m 0 c).before 6 t d6)) f8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HB]; · iexact HB
  isplitl [HS]; · iexact HS
  iintro ⟨H0, H1, H2, H3, H4, H5, H6, ⟨%f8', HB⟩, ⟨%f9', HS⟩⟩
  isplitl [HB HS Hg]
  · isplitl [HB HS]
    · isplitl [HB]; · iexists f8'; iexact HB
      iexists f9'; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch: every array ends at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

variable {m ρ}

/-- The four arguments after the run. -/
theorem final_args {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩

variable (m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨final_args h.1, h.2⟩) (run_main_quiescent m ρ)

end Cert.QuantDyIdeal.Body

end
-- ==== Proof.QuantDyIdealHalf.lean ====
/-
  One half of the body of `quant_dy` as a function: it is that of `quant_x`, but a level is rounded by a uniform number
  made of a byte of random bits. A word of random bits has the bytes of four tokens.
-/
module

public import proofs.«01_k».proof.Proof.QuantXIdealHalf

@[expose] public section

noncomputable section

namespace Cert.QuantDyIdeal.Half

open Cert.QuantXIdeal Cert.QuantXIdeal.Half
open Idealize.ShloMosaic

variable {F : FTy → Type} [FloatOps F]

/-- The uniform numbers of the bits at the place of a byte in the fraction of a word. -/
def uniform (w : IVec S8x128 32) : FVec F S8x128 .f32 :=
  subf (bitcastToFloat .f32 (ori (andi w (broadcast S8x128 8355840#32)) (broadcast S8x128 1065369600#32))) (splat 0x3F800000#32)

/-- The four uniform numbers of a word. -/
def uniform0 (w : IVec S8x128 32) : FVec F S8x128 .f32 := uniform (shli w (broadcast S8x128 15#32))
def uniform1 (w : IVec S8x128 32) : FVec F S8x128 .f32 := uniform (shli w (broadcast S8x128 7#32))
def uniform2 (w : IVec S8x128 32) : FVec F S8x128 .f32 := uniform (shrui w (broadcast S8x128 1#32))
def uniform3 (w : IVec S8x128 32) : FVec F S8x128 .f32 := uniform (shrui w (broadcast S8x128 9#32))

/-- The level of a magnitude `m`: the ceiling of a piecewise linear function of it less a uniform number. -/
def level (m r : FVec F S8x128 .f32) : FVec F S8x128 .f32 :=
  ceil (subf (minimumf (minimumf (addf m m) (addf m (splat 0x40000000#32)))
    (minimumf (addf (mulf m (splat 0x3F000000#32)) (splat 0x40800000#32)) (splat 0x40E00000#32))) r)

def lev (st a z r : FVec F S8x128 .f32) : FVec F S8x128 .f32 := signed z (level (mulf (absf z) (inv st a)) r)

/-- The bytes of four values `z v` (lower nibbles) and `z' v'` (upper nibbles) with the word `w` of random bits. -/
def bytes (st a z v z' v' : FVec F S8x128 .f32) (w : IVec S8x128 32) : FVec F S16x128 .bf16 :=
  byte (pair (lev st a z (uniform0 w)) (lev st a v (uniform2 w))) (pair (lev st a z' (uniform1 w)) (lev st a v' (uniform3 w)))

/-- The eight words a half stores, from the rotated values and the word of random bits of the four tokens. -/
def word0 (st : FVec F S8x128 .f32) (w : IVec S8x128 32) : Of16 (FVec F S8x128 .f32) (IVec S8x128 32) := fun z0 z1 z2 z3 z4 z5 z6 z7 z8 z9 z10 z11 z12 z13 z14 z15 =>
  low (bytes st (amax z0 z1 z2 z3 z4 z5 z6 z7 z8 z9 z10 z11 z12 z13 z14 z15) z0 z2 z1 z3 w)
def word1 (st : FVec F S8x128 .f32) (w : IVec S8x128 32) : Of16 (FVec F S8x128 .f32) (IVec S8x128 32) := fun z0 z1 z2 z3 z4 z5 z6 z7 z8 z9 z10 z11 z12 z13 z14 z15 =>
  high (bytes st (amax z0 z1 z2 z3 z4 z5 z6 z7 z8 z9 z10 z11 z12 z13 z14 z15) z0 z2 z1 z3 w)
def word2 (st : FVec F S8x128 .f32) (w : IVec S8x128 32) : Of16 (FVec F S8x128 .f32) (IVec S8x128 32) := fun z0 z1 z2 z3 z4 z5 z6 z7 z8 z9 z10 z11 z12 z13 z14 z15 =>
  low (bytes st (amax z0 z1 z2 z3 z4 z5 z6 z7 z8 z9 z10 z11 z12 z13 z14 z15) z4 z6 z5 z7 w)
def word3 (st : FVec F S8x128 .f32) (w : IVec S8x128 32) : Of16 (FVec F S8x128 .f32) (IVec S8x128 32) := fun z0 z1 z2 z3 z4 z5 z6 z7 z8 z9 z10 z11 z12 z13 z14 z15 =>
  high (bytes st (amax z0 z1 z2 z3 z4 z5 z6 z7 z8 z9 z10 z11 z12 z13 z14 z15) z4 z6 z5 z7 w)
def word4 (st : FVec F S8x128 .f32) (w : IVec S8x128 32) : Of16 (FVec F S8x128 .f32) (IVec S8x128 32) := fun z0 z1 z2 z3 z4 z5 z6 z7 z8 z9 z10 z11 z12 z13 z14 z15 =>
  low (bytes st (amax z0 z1 z2 z3 z4 z5 z6 z7 z8 z9 z10 z11 z12 z13 z14 z15) z8 z10 z9 z11 w)
def word5 (st : FVec F S8x128 .f32) (w : IVec S8x128 32) : Of16 (FVec F S8x128 .f32) (IVec S8x128 32) := fun z0 z1 z2 z3 z4 z5 z6 z7 z8 z9 z10 z11 z12 z13 z14 z15 =>
  high (bytes st (amax z0 z1 z2 z3 z4 z5 z6 z7 z8 z9 z10 z11 z12 z13 z14 z15) z8 z10 z9 z11 w)
def word6 (st : FVec F S8x128 .f32) (w : IVec S8x128 32) : Of16 (FVec F S8x128 .f32) (IVec S8x128 32) := fun z0 z1 z2 z3 z4 z5 z6 z7 z8 z9 z10 z11 z12 z13 z14 z15 =>
  low (bytes st (amax z0 z1 z2 z3 z4 z5 z6 z7 z8 z9 z10 z11 z12 z13 z14 z15) z12 z14 z13 z15 w)
def word7 (st : FVec F S8x128 .f32) (w : IVec S8x128 32) : Of16 (FVec F S8x128 .f32) (IVec S8x128 32) := fun z0 z1 z2 z3 z4 z5 z6 z7 z8 z9 z10 z11 z12 z13 z14 z15 =>
  high (bytes st (amax z0 z1 z2 z3 z4 z5 z6 z7 z8 z9 z10 z11 z12 z13 z14 z15) z12 z14 z13 z15 w)

end Cert.QuantDyIdeal.Half

end
-- ==== Proof.QuantDyIdealPieces.lean ====
/-
  What the body of `quant_dy` stores in its two scratch buffers: half by half, the eight words and the block scales of
  `Half` on the rows that the half loads.
-/
module

public import proofs.«01_k».proof.Proof.QuantDyIdealBody
public import proofs.«01_k».proof.Proof.QuantDyIdealHalf
public import proofs.«01_k».proof.Proof.QuantXIdealPieces

@[expose] public section

set_option maxRecDepth 16384

noncomputable section

namespace Cert.QuantDyIdeal.Body

open Cert.QuantDyIdeal Cert.QuantDyIdeal.Gen Cert.QuantDyIdeal.Half
open Cert.QuantXIdeal.Half (Of16 rotate even odd scale scales)
open Cert.QuantXIdeal.Body (pieceB pieceS)
open Idealize.ShloMosaic Idealize.ShloMosaic.TcCoe Idealize.ShloMosaic.Tactic

variable {F : FTy → Type} [FloatOps F]
variable (c : Dev nD) (arg1 : Memref sig .tc .vmem S1536x128 .bf16) (harg1 : arg1.IsWhole)
  (arg2 : Memref sig .tc .vmem S1536x128 .i8) (arg3 : Memref sig .tc .smem S16 .f32) (arg4 : Memref sig .tc .vmem S1x1 .f32)
  (f1 : Bf (F := F) c arg1) (f2 : Bf (F := F) c arg2) (f3 : Bf (F := F) c arg3) (f4 : Bf (F := F) c arg4)

/-- Eight pairs of rows, eight pairs apart. -/
def ld (off : ℕ) (h : ∀ a, S8x2x128.size a = 0 ∨ (![off, 0, 0] : Fin 3 → ℕ) a + (![8, 1, 1] : Fin 3 → ℕ) a * (S8x2x128.size a - 1) < S768x2x128.size a) : Vec F S8x2x128 .bf16 :=
  View.readAt (Elt F) (arg1.reshape S768x2x128 reshapes_S1536x128_S768x2x128.1 reshapes_S1536x128_S768x2x128.2 harg1.contiguous).view
    (⟨![off, 0, 0], S8x2x128.size, ![8, 1, 1], h⟩ : LoadRect S768x2x128) f1

/-- The words of random bits of the tokens `4 j` to `4 j + 3` of eight groups, the first of which has its words at `off`. -/
def bits (off j : ℕ) (h : S384x128.Slices ![off, 0] S32x128) (h' : S8x4x128.Slices ![0, j, 0] S8x1x128) : IVec S8x128 32 :=
  shapeCast S8x128 (extractStridedSlice S8x1x128 ![0, j, 0] (shapeCast S8x4x128 (extractStridedSlice S32x128 ![off, 0]
    (bitcast S384x128 32 (shapeCast S1536x128 (View.readAt (Elt F) arg2.view (Rect.unit (s := S1536x128) ![0, 0] S1536x128.size inb_S1536x128_S1536x128_0_0).toLoadRect f2 : IVec S1536x128 8)
      shapeCasts_S1536x128_S1536x128) bitcasts_S1536x128_w8_S384x128_w32) h) shapeCasts_S32x128_S8x4x128) h') shapeCasts_S8x1x128_S8x128

/-- A sign. -/
def sg (i : ℕ) (h : ∀ a, (![i] : Fin 1 → ℕ) a + S1.size a ≤ S16.size a) : F .f32 :=
  View.readAt (Elt F) arg3.view (Rect.unit (s := S16) ![i] S1.size h).toLoadRect f3 (Shape.Idx.first (by rw [show (Rect.unit (s := S16) ![i] S1.size h).shape.numel = 1 from numel1_S1]; exact Nat.one_pos))

/-- The tensor scale. -/
def st : FVec F S8x128 .f32 :=
  scale (View.readAt (Elt F) arg4.view (Rect.unit (s := S1x1) ![0, 0] S1x1.size inb_S1x1_S1x1_0_0).toLoadRect f4)

/-- Half 0: the values it loads, each times its sign, rotated, then `k`. -/
def half0 {β : Type} (k : Of16 (FVec F S8x128 .f32) β) : β :=
  rotate addf subf k
    (even (ld c arg1 harg1 f1 0 inb_S768x2x128_S8x2x128_0_0_0_s_8_1_1) (sg c arg3 f3 0 inb_S16_S1_0))
    (odd (ld c arg1 harg1 f1 0 inb_S768x2x128_S8x2x128_0_0_0_s_8_1_1) (sg c arg3 f3 1 inb_S16_S1_1))
    (even (ld c arg1 harg1 f1 1 inb_S768x2x128_S8x2x128_1_0_0_s_8_1_1) (sg c arg3 f3 2 inb_S16_S1_2))
    (odd (ld c arg1 harg1 f1 1 inb_S768x2x128_S8x2x128_1_0_0_s_8_1_1) (sg c arg3 f3 3 inb_S16_S1_3))
    (even (ld c arg1 harg1 f1 2 inb_S768x2x128_S8x2x128_2_0_0_s_8_1_1) (sg c arg3 f3 4 inb_S16_S1_4))
    (odd (ld c arg1 harg1 f1 2 inb_S768x2x128_S8x2x128_2_0_0_s_8_1_1) (sg c arg3 f3 5 inb_S16_S1_5))
    (even (ld c arg1 harg1 f1 3 inb_S768x2x128_S8x2x128_3_0_0_s_8_1_1) (sg c arg3 f3 6 inb_S16_S1_6))
    (odd (ld c arg1 harg1 f1 3 inb_S768x2x128_S8x2x128_3_0_0_s_8_1_1) (sg c arg3 f3 7 inb_S16_S1_7))
    (even (ld c arg1 harg1 f1 4 inb_S768x2x128_S8x2x128_4_0_0_s_8_1_1) (sg c arg3 f3 8 inb_S16_S1_8))
    (odd (ld c arg1 harg1 f1 4 inb_S768x2x128_S8x2x128_4_0_0_s_8_1_1) (sg c arg3 f3 9 inb_S16_S1_9))
    (even (ld c arg1 harg1 f1 5 inb_S768x2x128_S8x2x128_5_0_0_s_8_1_1) (sg c arg3 f3 10 inb_S16_S1_10))
    (odd (ld c arg1 harg1 f1 5 inb_S768x2x128_S8x2x128_5_0_0_s_8_1_1) (sg c arg3 f3 11 inb_S16_S1_11))
    (even (ld c arg1 harg1 f1 6 inb_S768x2x128_S8x2x128_6_0_0_s_8_1_1) (sg c arg3 f3 12 inb_S16_S1_12))
    (odd (ld c arg1 harg1 f1 6 inb_S768x2x128_S8x2x128_6_0_0_s_8_1_1) (sg c arg3 f3 13 inb_S16_S1_13))
    (even (ld c arg1 harg1 f1 7 inb_S768x2x128_S8x2x128_7_0_0_s_8_1_1) (sg c arg3 f3 14 inb_S16_S1_14))
    (odd (ld c arg1 harg1 f1 7 inb_S768x2x128_S8x2x128_7_0_0_s_8_1_1) (sg c arg3 f3 15 inb_S16_S1_15))

/-- Half 1: the values it loads, each times its sign, rotated, then `k`. -/
def half1 {β : Type} (k : Of16 (FVec F S8x128 .f32) β) : β :=
  rotate addf subf k
    (even (ld c arg1 harg1 f1 64 inb_S768x2x128_S8x2x128_64_0_0_s_8_1_1) (sg c arg3 f3 0 inb_S16_S1_0))
    (odd (ld c arg1 harg1 f1 64 inb_S768x2x128_S8x2x128_64_0_0_s_8_1_1) (sg c arg3 f3 1 inb_S16_S1_1))
    (even (ld c arg1 harg1 f1 65 inb_S768x2x128_S8x2x128_65_0_0_s_8_1_1) (sg c arg3 f3 2 inb_S16_S1_2))
    (odd (ld c arg1 harg1 f1 65 inb_S768x2x128_S8x2x128_65_0_0_s_8_1_1) (sg c arg3 f3 3 inb_S16_S1_3))
    (even (ld c arg1 harg1 f1 66 inb_S768x2x128_S8x2x128_66_0_0_s_8_1_1) (sg c arg3 f3 4 inb_S16_S1_4))
    (odd (ld c arg1 harg1 f1 66 inb_S768x2x128_S8x2x128_66_0_0_s_8_1_1) (sg c arg3 f3 5 inb_S16_S1_5))
    (even (ld c arg1 harg1 f1 67 inb_S768x2x128_S8x2x128_67_0_0_s_8_1_1) (sg c arg3 f3 6 inb_S16_S1_6))
    (odd (ld c arg1 harg1 f1 67 inb_S768x2x128_S8x2x128_67_0_0_s_8_1_1) (sg c arg3 f3 7 inb_S16_S1_7))
    (even (ld c arg1 harg1 f1 68 inb_S768x2x128_S8x2x128_68_0_0_s_8_1_1) (sg c arg3 f3 8 inb_S16_S1_8))
    (odd (ld c arg1 harg1 f1 68 inb_S768x2x128_S8x2x128_68_0_0_s_8_1_1) (sg c arg3 f3 9 inb_S16_S1_9))
    (even (ld c arg1 harg1 f1 69 inb_S768x2x128_S8x2x128_69_0_0_s_8_1_1) (sg c arg3 f3 10 inb_S16_S1_10))
    (odd (ld c arg1 harg1 f1 69 inb_S768x2x128_S8x2x128_69_0_0_s_8_1_1) (sg c arg3 f3 11 inb_S16_S1_11))
    (even (ld c arg1 harg1 f1 70 inb_S768x2x128_S8x2x128_70_0_0_s_8_1_1) (sg c arg3 f3 12 inb_S16_S1_12))
    (odd (ld c arg1 harg1 f1 70 inb_S768x2x128_S8x2x128_70_0_0_s_8_1_1) (sg c arg3 f3 13 inb_S16_S1_13))
    (even (ld c arg1 harg1 f1 71 inb_S768x2x128_S8x2x128_71_0_0_s_8_1_1) (sg c arg3 f3 14 inb_S16_S1_14))
    (odd (ld c arg1 harg1 f1 71 inb_S768x2x128_S8x2x128_71_0_0_s_8_1_1) (sg c arg3 f3 15 inb_S16_S1_15))

/-- Half 2: the values it loads, each times its sign, rotated, then `k`. -/
def half2 {β : Type} (k : Of16 (FVec F S8x128 .f32) β) : β :=
  rotate addf subf k
    (even (ld c arg1 harg1 f1 128 inb_S768x2x128_S8x2x128_128_0_0_s_8_1_1) (sg c arg3 f3 0 inb_S16_S1_0))
    (odd (ld c arg1 harg1 f1 128 inb_S768x2x128_S8x2x128_128_0_0_s_8_1_1) (sg c arg3 f3 1 inb_S16_S1_1))
    (even (ld c arg1 harg1 f1 129 inb_S768x2x128_S8x2x128_129_0_0_s_8_1_1) (sg c arg3 f3 2 inb_S16_S1_2))
    (odd (ld c arg1 harg1 f1 129 inb_S768x2x128_S8x2x128_129_0_0_s_8_1_1) (sg c arg3 f3 3 inb_S16_S1_3))
    (even (ld c arg1 harg1 f1 130 inb_S768x2x128_S8x2x128_130_0_0_s_8_1_1) (sg c arg3 f3 4 inb_S16_S1_4))
    (odd (ld c arg1 harg1 f1 130 inb_S768x2x128_S8x2x128_130_0_0_s_8_1_1) (sg c arg3 f3 5 inb_S16_S1_5))
    (even (ld c arg1 harg1 f1 131 inb_S768x2x128_S8x2x128_131_0_0_s_8_1_1) (sg c arg3 f3 6 inb_S16_S1_6))
    (odd (ld c arg1 harg1 f1 131 inb_S768x2x128_S8x2x128_131_0_0_s_8_1_1) (sg c arg3 f3 7 inb_S16_S1_7))
    (even (ld c arg1 harg1 f1 132 inb_S768x2x128_S8x2x128_132_0_0_s_8_1_1) (sg c arg3 f3 8 inb_S16_S1_8))
    (odd (ld c arg1 harg1 f1 132 inb_S768x2x128_S8x2x128_132_0_0_s_8_1_1) (sg c arg3 f3 9 inb_S16_S1_9))
    (even (ld c arg1 harg1 f1 133 inb_S768x2x128_S8x2x128_133_0_0_s_8_1_1) (sg c arg3 f3 10 inb_S16_S1_10))
    (odd (ld c arg1 harg1 f1 133 inb_S768x2x128_S8x2x128_133_0_0_s_8_1_1) (sg c arg3 f3 11 inb_S16_S1_11))
    (even (ld c arg1 harg1 f1 134 inb_S768x2x128_S8x2x128_134_0_0_s_8_1_1) (sg c arg3 f3 12 inb_S16_S1_12))
    (odd (ld c arg1 harg1 f1 134 inb_S768x2x128_S8x2x128_134_0_0_s_8_1_1) (sg c arg3 f3 13 inb_S16_S1_13))
    (even (ld c arg1 harg1 f1 135 inb_S768x2x128_S8x2x128_135_0_0_s_8_1_1) (sg c arg3 f3 14 inb_S16_S1_14))
    (odd (ld c arg1 harg1 f1 135 inb_S768x2x128_S8x2x128_135_0_0_s_8_1_1) (sg c arg3 f3 15 inb_S16_S1_15))

/-- Half 3: the values it loads, each times its sign, rotated, then `k`. -/
def half3 {β : Type} (k : Of16 (FVec F S8x128 .f32) β) : β :=
  rotate addf subf k
    (even (ld c arg1 harg1 f1 192 inb_S768x2x128_S8x2x128_192_0_0_s_8_1_1) (sg c arg3 f3 0 inb_S16_S1_0))
    (odd (ld c arg1 harg1 f1 192 inb_S768x2x128_S8x2x128_192_0_0_s_8_1_1) (sg c arg3 f3 1 inb_S16_S1_1))
    (even (ld c arg1 harg1 f1 193 inb_S768x2x128_S8x2x128_193_0_0_s_8_1_1) (sg c arg3 f3 2 inb_S16_S1_2))
    (odd (ld c arg1 harg1 f1 193 inb_S768x2x128_S8x2x128_193_0_0_s_8_1_1) (sg c arg3 f3 3 inb_S16_S1_3))
    (even (ld c arg1 harg1 f1 194 inb_S768x2x128_S8x2x128_194_0_0_s_8_1_1) (sg c arg3 f3 4 inb_S16_S1_4))
    (odd (ld c arg1 harg1 f1 194 inb_S768x2x128_S8x2x128_194_0_0_s_8_1_1) (sg c arg3 f3 5 inb_S16_S1_5))
    (even (ld c arg1 harg1 f1 195 inb_S768x2x128_S8x2x128_195_0_0_s_8_1_1) (sg c arg3 f3 6 inb_S16_S1_6))
    (odd (ld c arg1 harg1 f1 195 inb_S768x2x128_S8x2x128_195_0_0_s_8_1_1) (sg c arg3 f3 7 inb_S16_S1_7))
    (even (ld c arg1 harg1 f1 196 inb_S768x2x128_S8x2x128_196_0_0_s_8_1_1) (sg c arg3 f3 8 inb_S16_S1_8))
    (odd (ld c arg1 harg1 f1 196 inb_S768x2x128_S8x2x128_196_0_0_s_8_1_1) (sg c arg3 f3 9 inb_S16_S1_9))
    (even (ld c arg1 harg1 f1 197 inb_S768x2x128_S8x2x128_197_0_0_s_8_1_1) (sg c arg3 f3 10 inb_S16_S1_10))
    (odd (ld c arg1 harg1 f1 197 inb_S768x2x128_S8x2x128_197_0_0_s_8_1_1) (sg c arg3 f3 11 inb_S16_S1_11))
    (even (ld c arg1 harg1 f1 198 inb_S768x2x128_S8x2x128_198_0_0_s_8_1_1) (sg c arg3 f3 12 inb_S16_S1_12))
    (odd (ld c arg1 harg1 f1 198 inb_S768x2x128_S8x2x128_198_0_0_s_8_1_1) (sg c arg3 f3 13 inb_S16_S1_13))
    (even (ld c arg1 harg1 f1 199 inb_S768x2x128_S8x2x128_199_0_0_s_8_1_1) (sg c arg3 f3 14 inb_S16_S1_14))
    (odd (ld c arg1 harg1 f1 199 inb_S768x2x128_S8x2x128_199_0_0_s_8_1_1) (sg c arg3 f3 15 inb_S16_S1_15))

/-- Half 4: the values it loads, each times its sign, rotated, then `k`. -/
def half4 {β : Type} (k : Of16 (FVec F S8x128 .f32) β) : β :=
  rotate addf subf k
    (even (ld c arg1 harg1 f1 256 inb_S768x2x128_S8x2x128_256_0_0_s_8_1_1) (sg c arg3 f3 0 inb_S16_S1_0))
    (odd (ld c arg1 harg1 f1 256 inb_S768x2x128_S8x2x128_256_0_0_s_8_1_1) (sg c arg3 f3 1 inb_S16_S1_1))
    (even (ld c arg1 harg1 f1 257 inb_S768x2x128_S8x2x128_257_0_0_s_8_1_1) (sg c arg3 f3 2 inb_S16_S1_2))
    (odd (ld c arg1 harg1 f1 257 inb_S768x2x128_S8x2x128_257_0_0_s_8_1_1) (sg c arg3 f3 3 inb_S16_S1_3))
    (even (ld c arg1 harg1 f1 258 inb_S768x2x128_S8x2x128_258_0_0_s_8_1_1) (sg c arg3 f3 4 inb_S16_S1_4))
    (odd (ld c arg1 harg1 f1 258 inb_S768x2x128_S8x2x128_258_0_0_s_8_1_1) (sg c arg3 f3 5 inb_S16_S1_5))
    (even (ld c arg1 harg1 f1 259 inb_S768x2x128_S8x2x128_259_0_0_s_8_1_1) (sg c arg3 f3 6 inb_S16_S1_6))
    (odd (ld c arg1 harg1 f1 259 inb_S768x2x128_S8x2x128_259_0_0_s_8_1_1) (sg c arg3 f3 7 inb_S16_S1_7))
    (even (ld c arg1 harg1 f1 260 inb_S768x2x128_S8x2x128_260_0_0_s_8_1_1) (sg c arg3 f3 8 inb_S16_S1_8))
    (odd (ld c arg1 harg1 f1 260 inb_S768x2x128_S8x2x128_260_0_0_s_8_1_1) (sg c arg3 f3 9 inb_S16_S1_9))
    (even (ld c arg1 harg1 f1 261 inb_S768x2x128_S8x2x128_261_0_0_s_8_1_1) (sg c arg3 f3 10 inb_S16_S1_10))
    (odd (ld c arg1 harg1 f1 261 inb_S768x2x128_S8x2x128_261_0_0_s_8_1_1) (sg c arg3 f3 11 inb_S16_S1_11))
    (even (ld c arg1 harg1 f1 262 inb_S768x2x128_S8x2x128_262_0_0_s_8_1_1) (sg c arg3 f3 12 inb_S16_S1_12))
    (odd (ld c arg1 harg1 f1 262 inb_S768x2x128_S8x2x128_262_0_0_s_8_1_1) (sg c arg3 f3 13 inb_S16_S1_13))
    (even (ld c arg1 harg1 f1 263 inb_S768x2x128_S8x2x128_263_0_0_s_8_1_1) (sg c arg3 f3 14 inb_S16_S1_14))
    (odd (ld c arg1 harg1 f1 263 inb_S768x2x128_S8x2x128_263_0_0_s_8_1_1) (sg c arg3 f3 15 inb_S16_S1_15))

/-- Half 5: the values it loads, each times its sign, rotated, then `k`. -/
def half5 {β : Type} (k : Of16 (FVec F S8x128 .f32) β) : β :=
  rotate addf subf k
    (even (ld c arg1 harg1 f1 320 inb_S768x2x128_S8x2x128_320_0_0_s_8_1_1) (sg c arg3 f3 0 inb_S16_S1_0))
    (odd (ld c arg1 harg1 f1 320 inb_S768x2x128_S8x2x128_320_0_0_s_8_1_1) (sg c arg3 f3 1 inb_S16_S1_1))
    (even (ld c arg1 harg1 f1 321 inb_S768x2x128_S8x2x128_321_0_0_s_8_1_1) (sg c arg3 f3 2 inb_S16_S1_2))
    (odd (ld c arg1 harg1 f1 321 inb_S768x2x128_S8x2x128_321_0_0_s_8_1_1) (sg c arg3 f3 3 inb_S16_S1_3))
    (even (ld c arg1 harg1 f1 322 inb_S768x2x128_S8x2x128_322_0_0_s_8_1_1) (sg c arg3 f3 4 inb_S16_S1_4))
    (odd (ld c arg1 harg1 f1 322 inb_S768x2x128_S8x2x128_322_0_0_s_8_1_1) (sg c arg3 f3 5 inb_S16_S1_5))
    (even (ld c arg1 harg1 f1 323 inb_S768x2x128_S8x2x128_323_0_0_s_8_1_1) (sg c arg3 f3 6 inb_S16_S1_6))
    (odd (ld c arg1 harg1 f1 323 inb_S768x2x128_S8x2x128_323_0_0_s_8_1_1) (sg c arg3 f3 7 inb_S16_S1_7))
    (even (ld c arg1 harg1 f1 324 inb_S768x2x128_S8x2x128_324_0_0_s_8_1_1) (sg c arg3 f3 8 inb_S16_S1_8))
    (odd (ld c arg1 harg1 f1 324 inb_S768x2x128_S8x2x128_324_0_0_s_8_1_1) (sg c arg3 f3 9 inb_S16_S1_9))
    (even (ld c arg1 harg1 f1 325 inb_S768x2x128_S8x2x128_325_0_0_s_8_1_1) (sg c arg3 f3 10 inb_S16_S1_10))
    (odd (ld c arg1 harg1 f1 325 inb_S768x2x128_S8x2x128_325_0_0_s_8_1_1) (sg c arg3 f3 11 inb_S16_S1_11))
    (even (ld c arg1 harg1 f1 326 inb_S768x2x128_S8x2x128_326_0_0_s_8_1_1) (sg c arg3 f3 12 inb_S16_S1_12))
    (odd (ld c arg1 harg1 f1 326 inb_S768x2x128_S8x2x128_326_0_0_s_8_1_1) (sg c arg3 f3 13 inb_S16_S1_13))
    (even (ld c arg1 harg1 f1 327 inb_S768x2x128_S8x2x128_327_0_0_s_8_1_1) (sg c arg3 f3 14 inb_S16_S1_14))
    (odd (ld c arg1 harg1 f1 327 inb_S768x2x128_S8x2x128_327_0_0_s_8_1_1) (sg c arg3 f3 15 inb_S16_S1_15))

/-- Half 6: the values it loads, each times its sign, rotated, then `k`. -/
def half6 {β : Type} (k : Of16 (FVec F S8x128 .f32) β) : β :=
  rotate addf subf k
    (even (ld c arg1 harg1 f1 384 inb_S768x2x128_S8x2x128_384_0_0_s_8_1_1) (sg c arg3 f3 0 inb_S16_S1_0))
    (odd (ld c arg1 harg1 f1 384 inb_S768x2x128_S8x2x128_384_0_0_s_8_1_1) (sg c arg3 f3 1 inb_S16_S1_1))
    (even (ld c arg1 harg1 f1 385 inb_S768x2x128_S8x2x128_385_0_0_s_8_1_1) (sg c arg3 f3 2 inb_S16_S1_2))
    (odd (ld c arg1 harg1 f1 385 inb_S768x2x128_S8x2x128_385_0_0_s_8_1_1) (sg c arg3 f3 3 inb_S16_S1_3))
    (even (ld c arg1 harg1 f1 386 inb_S768x2x128_S8x2x128_386_0_0_s_8_1_1) (sg c arg3 f3 4 inb_S16_S1_4))
    (odd (ld c arg1 harg1 f1 386 inb_S768x2x128_S8x2x128_386_0_0_s_8_1_1) (sg c arg3 f3 5 inb_S16_S1_5))
    (even (ld c arg1 harg1 f1 387 inb_S768x2x128_S8x2x128_387_0_0_s_8_1_1) (sg c arg3 f3 6 inb_S16_S1_6))
    (odd (ld c arg1 harg1 f1 387 inb_S768x2x128_S8x2x128_387_0_0_s_8_1_1) (sg c arg3 f3 7 inb_S16_S1_7))
    (even (ld c arg1 harg1 f1 388 inb_S768x2x128_S8x2x128_388_0_0_s_8_1_1) (sg c arg3 f3 8 inb_S16_S1_8))
    (odd (ld c arg1 harg1 f1 388 inb_S768x2x128_S8x2x128_388_0_0_s_8_1_1) (sg c arg3 f3 9 inb_S16_S1_9))
    (even (ld c arg1 harg1 f1 389 inb_S768x2x128_S8x2x128_389_0_0_s_8_1_1) (sg c arg3 f3 10 inb_S16_S1_10))
    (odd (ld c arg1 harg1 f1 389 inb_S768x2x128_S8x2x128_389_0_0_s_8_1_1) (sg c arg3 f3 11 inb_S16_S1_11))
    (even (ld c arg1 harg1 f1 390 inb_S768x2x128_S8x2x128_390_0_0_s_8_1_1) (sg c arg3 f3 12 inb_S16_S1_12))
    (odd (ld c arg1 harg1 f1 390 inb_S768x2x128_S8x2x128_390_0_0_s_8_1_1) (sg c arg3 f3 13 inb_S16_S1_13))
    (even (ld c arg1 harg1 f1 391 inb_S768x2x128_S8x2x128_391_0_0_s_8_1_1) (sg c arg3 f3 14 inb_S16_S1_14))
    (odd (ld c arg1 harg1 f1 391 inb_S768x2x128_S8x2x128_391_0_0_s_8_1_1) (sg c arg3 f3 15 inb_S16_S1_15))

/-- Half 7: the values it loads, each times its sign, rotated, then `k`. -/
def half7 {β : Type} (k : Of16 (FVec F S8x128 .f32) β) : β :=
  rotate addf subf k
    (even (ld c arg1 harg1 f1 448 inb_S768x2x128_S8x2x128_448_0_0_s_8_1_1) (sg c arg3 f3 0 inb_S16_S1_0))
    (odd (ld c arg1 harg1 f1 448 inb_S768x2x128_S8x2x128_448_0_0_s_8_1_1) (sg c arg3 f3 1 inb_S16_S1_1))
    (even (ld c arg1 harg1 f1 449 inb_S768x2x128_S8x2x128_449_0_0_s_8_1_1) (sg c arg3 f3 2 inb_S16_S1_2))
    (odd (ld c arg1 harg1 f1 449 inb_S768x2x128_S8x2x128_449_0_0_s_8_1_1) (sg c arg3 f3 3 inb_S16_S1_3))
    (even (ld c arg1 harg1 f1 450 inb_S768x2x128_S8x2x128_450_0_0_s_8_1_1) (sg c arg3 f3 4 inb_S16_S1_4))
    (odd (ld c arg1 harg1 f1 450 inb_S768x2x128_S8x2x128_450_0_0_s_8_1_1) (sg c arg3 f3 5 inb_S16_S1_5))
    (even (ld c arg1 harg1 f1 451 inb_S768x2x128_S8x2x128_451_0_0_s_8_1_1) (sg c arg3 f3 6 inb_S16_S1_6))
    (odd (ld c arg1 harg1 f1 451 inb_S768x2x128_S8x2x128_451_0_0_s_8_1_1) (sg c arg3 f3 7 inb_S16_S1_7))
    (even (ld c arg1 harg1 f1 452 inb_S768x2x128_S8x2x128_452_0_0_s_8_1_1) (sg c arg3 f3 8 inb_S16_S1_8))
    (odd (ld c arg1 harg1 f1 452 inb_S768x2x128_S8x2x128_452_0_0_s_8_1_1) (sg c arg3 f3 9 inb_S16_S1_9))
    (even (ld c arg1 harg1 f1 453 inb_S768x2x128_S8x2x128_453_0_0_s_8_1_1) (sg c arg3 f3 10 inb_S16_S1_10))
    (odd (ld c arg1 harg1 f1 453 inb_S768x2x128_S8x2x128_453_0_0_s_8_1_1) (sg c arg3 f3 11 inb_S16_S1_11))
    (even (ld c arg1 harg1 f1 454 inb_S768x2x128_S8x2x128_454_0_0_s_8_1_1) (sg c arg3 f3 12 inb_S16_S1_12))
    (odd (ld c arg1 harg1 f1 454 inb_S768x2x128_S8x2x128_454_0_0_s_8_1_1) (sg c arg3 f3 13 inb_S16_S1_13))
    (even (ld c arg1 harg1 f1 455 inb_S768x2x128_S8x2x128_455_0_0_s_8_1_1) (sg c arg3 f3 14 inb_S16_S1_14))
    (odd (ld c arg1 harg1 f1 455 inb_S768x2x128_S8x2x128_455_0_0_s_8_1_1) (sg c arg3 f3 15 inb_S16_S1_15))

/-- Half 8: the values it loads, each times its sign, rotated, then `k`. -/
def half8 {β : Type} (k : Of16 (FVec F S8x128 .f32) β) : β :=
  rotate addf subf k
    (even (ld c arg1 harg1 f1 512 inb_S768x2x128_S8x2x128_512_0_0_s_8_1_1) (sg c arg3 f3 0 inb_S16_S1_0))
    (odd (ld c arg1 harg1 f1 512 inb_S768x2x128_S8x2x128_512_0_0_s_8_1_1) (sg c arg3 f3 1 inb_S16_S1_1))
    (even (ld c arg1 harg1 f1 513 inb_S768x2x128_S8x2x128_513_0_0_s_8_1_1) (sg c arg3 f3 2 inb_S16_S1_2))
    (odd (ld c arg1 harg1 f1 513 inb_S768x2x128_S8x2x128_513_0_0_s_8_1_1) (sg c arg3 f3 3 inb_S16_S1_3))
    (even (ld c arg1 harg1 f1 514 inb_S768x2x128_S8x2x128_514_0_0_s_8_1_1) (sg c arg3 f3 4 inb_S16_S1_4))
    (odd (ld c arg1 harg1 f1 514 inb_S768x2x128_S8x2x128_514_0_0_s_8_1_1) (sg c arg3 f3 5 inb_S16_S1_5))
    (even (ld c arg1 harg1 f1 515 inb_S768x2x128_S8x2x128_515_0_0_s_8_1_1) (sg c arg3 f3 6 inb_S16_S1_6))
    (odd (ld c arg1 harg1 f1 515 inb_S768x2x128_S8x2x128_515_0_0_s_8_1_1) (sg c arg3 f3 7 inb_S16_S1_7))
    (even (ld c arg1 harg1 f1 516 inb_S768x2x128_S8x2x128_516_0_0_s_8_1_1) (sg c arg3 f3 8 inb_S16_S1_8))
    (odd (ld c arg1 harg1 f1 516 inb_S768x2x128_S8x2x128_516_0_0_s_8_1_1) (sg c arg3 f3 9 inb_S16_S1_9))
    (even (ld c arg1 harg1 f1 517 inb_S768x2x128_S8x2x128_517_0_0_s_8_1_1) (sg c arg3 f3 10 inb_S16_S1_10))
    (odd (ld c arg1 harg1 f1 517 inb_S768x2x128_S8x2x128_517_0_0_s_8_1_1) (sg c arg3 f3 11 inb_S16_S1_11))
    (even (ld c arg1 harg1 f1 518 inb_S768x2x128_S8x2x128_518_0_0_s_8_1_1) (sg c arg3 f3 12 inb_S16_S1_12))
    (odd (ld c arg1 harg1 f1 518 inb_S768x2x128_S8x2x128_518_0_0_s_8_1_1) (sg c arg3 f3 13 inb_S16_S1_13))
    (even (ld c arg1 harg1 f1 519 inb_S768x2x128_S8x2x128_519_0_0_s_8_1_1) (sg c arg3 f3 14 inb_S16_S1_14))
    (odd (ld c arg1 harg1 f1 519 inb_S768x2x128_S8x2x128_519_0_0_s_8_1_1) (sg c arg3 f3 15 inb_S16_S1_15))

/-- Half 9: the values it loads, each times its sign, rotated, then `k`. -/
def half9 {β : Type} (k : Of16 (FVec F S8x128 .f32) β) : β :=
  rotate addf subf k
    (even (ld c arg1 harg1 f1 576 inb_S768x2x128_S8x2x128_576_0_0_s_8_1_1) (sg c arg3 f3 0 inb_S16_S1_0))
    (odd (ld c arg1 harg1 f1 576 inb_S768x2x128_S8x2x128_576_0_0_s_8_1_1) (sg c arg3 f3 1 inb_S16_S1_1))
    (even (ld c arg1 harg1 f1 577 inb_S768x2x128_S8x2x128_577_0_0_s_8_1_1) (sg c arg3 f3 2 inb_S16_S1_2))
    (odd (ld c arg1 harg1 f1 577 inb_S768x2x128_S8x2x128_577_0_0_s_8_1_1) (sg c arg3 f3 3 inb_S16_S1_3))
    (even (ld c arg1 harg1 f1 578 inb_S768x2x128_S8x2x128_578_0_0_s_8_1_1) (sg c arg3 f3 4 inb_S16_S1_4))
    (odd (ld c arg1 harg1 f1 578 inb_S768x2x128_S8x2x128_578_0_0_s_8_1_1) (sg c arg3 f3 5 inb_S16_S1_5))
    (even (ld c arg1 harg1 f1 579 inb_S768x2x128_S8x2x128_579_0_0_s_8_1_1) (sg c arg3 f3 6 inb_S16_S1_6))
    (odd (ld c arg1 harg1 f1 579 inb_S768x2x128_S8x2x128_579_0_0_s_8_1_1) (sg c arg3 f3 7 inb_S16_S1_7))
    (even (ld c arg1 harg1 f1 580 inb_S768x2x128_S8x2x128_580_0_0_s_8_1_1) (sg c arg3 f3 8 inb_S16_S1_8))
    (odd (ld c arg1 harg1 f1 580 inb_S768x2x128_S8x2x128_580_0_0_s_8_1_1) (sg c arg3 f3 9 inb_S16_S1_9))
    (even (ld c arg1 harg1 f1 581 inb_S768x2x128_S8x2x128_581_0_0_s_8_1_1) (sg c arg3 f3 10 inb_S16_S1_10))
    (odd (ld c arg1 harg1 f1 581 inb_S768x2x128_S8x2x128_581_0_0_s_8_1_1) (sg c arg3 f3 11 inb_S16_S1_11))
    (even (ld c arg1 harg1 f1 582 inb_S768x2x128_S8x2x128_582_0_0_s_8_1_1) (sg c arg3 f3 12 inb_S16_S1_12))
    (odd (ld c arg1 harg1 f1 582 inb_S768x2x128_S8x2x128_582_0_0_s_8_1_1) (sg c arg3 f3 13 inb_S16_S1_13))
    (even (ld c arg1 harg1 f1 583 inb_S768x2x128_S8x2x128_583_0_0_s_8_1_1) (sg c arg3 f3 14 inb_S16_S1_14))
    (odd (ld c arg1 harg1 f1 583 inb_S768x2x128_S8x2x128_583_0_0_s_8_1_1) (sg c arg3 f3 15 inb_S16_S1_15))

/-- Half 10: the values it loads, each times its sign, rotated, then `k`. -/
def half10 {β : Type} (k : Of16 (FVec F S8x128 .f32) β) : β :=
  rotate addf subf k
    (even (ld c arg1 harg1 f1 640 inb_S768x2x128_S8x2x128_640_0_0_s_8_1_1) (sg c arg3 f3 0 inb_S16_S1_0))
    (odd (ld c arg1 harg1 f1 640 inb_S768x2x128_S8x2x128_640_0_0_s_8_1_1) (sg c arg3 f3 1 inb_S16_S1_1))
    (even (ld c arg1 harg1 f1 641 inb_S768x2x128_S8x2x128_641_0_0_s_8_1_1) (sg c arg3 f3 2 inb_S16_S1_2))
    (odd (ld c arg1 harg1 f1 641 inb_S768x2x128_S8x2x128_641_0_0_s_8_1_1) (sg c arg3 f3 3 inb_S16_S1_3))
    (even (ld c arg1 harg1 f1 642 inb_S768x2x128_S8x2x128_642_0_0_s_8_1_1) (sg c arg3 f3 4 inb_S16_S1_4))
    (odd (ld c arg1 harg1 f1 642 inb_S768x2x128_S8x2x128_642_0_0_s_8_1_1) (sg c arg3 f3 5 inb_S16_S1_5))
    (even (ld c arg1 harg1 f1 643 inb_S768x2x128_S8x2x128_643_0_0_s_8_1_1) (sg c arg3 f3 6 inb_S16_S1_6))
    (odd (ld c arg1 harg1 f1 643 inb_S768x2x128_S8x2x128_643_0_0_s_8_1_1) (sg c arg3 f3 7 inb_S16_S1_7))
    (even (ld c arg1 harg1 f1 644 inb_S768x2x128_S8x2x128_644_0_0_s_8_1_1) (sg c arg3 f3 8 inb_S16_S1_8))
    (odd (ld c arg1 harg1 f1 644 inb_S768x2x128_S8x2x128_644_0_0_s_8_1_1) (sg c arg3 f3 9 inb_S16_S1_9))
    (even (ld c arg1 harg1 f1 645 inb_S768x2x128_S8x2x128_645_0_0_s_8_1_1) (sg c arg3 f3 10 inb_S16_S1_10))
    (odd (ld c arg1 harg1 f1 645 inb_S768x2x128_S8x2x128_645_0_0_s_8_1_1) (sg c arg3 f3 11 inb_S16_S1_11))
    (even (ld c arg1 harg1 f1 646 inb_S768x2x128_S8x2x128_646_0_0_s_8_1_1) (sg c arg3 f3 12 inb_S16_S1_12))
    (odd (ld c arg1 harg1 f1 646 inb_S768x2x128_S8x2x128_646_0_0_s_8_1_1) (sg c arg3 f3 13 inb_S16_S1_13))
    (even (ld c arg1 harg1 f1 647 inb_S768x2x128_S8x2x128_647_0_0_s_8_1_1) (sg c arg3 f3 14 inb_S16_S1_14))
    (odd (ld c arg1 harg1 f1 647 inb_S768x2x128_S8x2x128_647_0_0_s_8_1_1) (sg c arg3 f3 15 inb_S16_S1_15))

/-- Half 11: the values it loads, each times its sign, rotated, then `k`. -/
def half11 {β : Type} (k : Of16 (FVec F S8x128 .f32) β) : β :=
  rotate addf subf k
    (even (ld c arg1 harg1 f1 704 inb_S768x2x128_S8x2x128_704_0_0_s_8_1_1) (sg c arg3 f3 0 inb_S16_S1_0))
    (odd (ld c arg1 harg1 f1 704 inb_S768x2x128_S8x2x128_704_0_0_s_8_1_1) (sg c arg3 f3 1 inb_S16_S1_1))
    (even (ld c arg1 harg1 f1 705 inb_S768x2x128_S8x2x128_705_0_0_s_8_1_1) (sg c arg3 f3 2 inb_S16_S1_2))
    (odd (ld c arg1 harg1 f1 705 inb_S768x2x128_S8x2x128_705_0_0_s_8_1_1) (sg c arg3 f3 3 inb_S16_S1_3))
    (even (ld c arg1 harg1 f1 706 inb_S768x2x128_S8x2x128_706_0_0_s_8_1_1) (sg c arg3 f3 4 inb_S16_S1_4))
    (odd (ld c arg1 harg1 f1 706 inb_S768x2x128_S8x2x128_706_0_0_s_8_1_1) (sg c arg3 f3 5 inb_S16_S1_5))
    (even (ld c arg1 harg1 f1 707 inb_S768x2x128_S8x2x128_707_0_0_s_8_1_1) (sg c arg3 f3 6 inb_S16_S1_6))
    (odd (ld c arg1 harg1 f1 707 inb_S768x2x128_S8x2x128_707_0_0_s_8_1_1) (sg c arg3 f3 7 inb_S16_S1_7))
    (even (ld c arg1 harg1 f1 708 inb_S768x2x128_S8x2x128_708_0_0_s_8_1_1) (sg c arg3 f3 8 inb_S16_S1_8))
    (odd (ld c arg1 harg1 f1 708 inb_S768x2x128_S8x2x128_708_0_0_s_8_1_1) (sg c arg3 f3 9 inb_S16_S1_9))
    (even (ld c arg1 harg1 f1 709 inb_S768x2x128_S8x2x128_709_0_0_s_8_1_1) (sg c arg3 f3 10 inb_S16_S1_10))
    (odd (ld c arg1 harg1 f1 709 inb_S768x2x128_S8x2x128_709_0_0_s_8_1_1) (sg c arg3 f3 11 inb_S16_S1_11))
    (even (ld c arg1 harg1 f1 710 inb_S768x2x128_S8x2x128_710_0_0_s_8_1_1) (sg c arg3 f3 12 inb_S16_S1_12))
    (odd (ld c arg1 harg1 f1 710 inb_S768x2x128_S8x2x128_710_0_0_s_8_1_1) (sg c arg3 f3 13 inb_S16_S1_13))
    (even (ld c arg1 harg1 f1 711 inb_S768x2x128_S8x2x128_711_0_0_s_8_1_1) (sg c arg3 f3 14 inb_S16_S1_14))
    (odd (ld c arg1 harg1 f1 711 inb_S768x2x128_S8x2x128_711_0_0_s_8_1_1) (sg c arg3 f3 15 inb_S16_S1_15))

theorem words_0 : kernelRun.sl.H8_8 c arg1 harg1 arg2 arg3 arg4 f1 f2 f3 f4 =
      pieceB 7 inb_S768x128_S8x128_7_0_s_8_1 (half0 c arg1 harg1 arg3 f1 f3 (word7 (st c arg4 f4) (bits c arg2 f2 0 3 slices_S384x128_o0_0_S32x128 slices_S8x4x128_o0_3_0_S8x1x128))) ::
      pieceB 6 inb_S768x128_S8x128_6_0_s_8_1 (half0 c arg1 harg1 arg3 f1 f3 (word6 (st c arg4 f4) (bits c arg2 f2 0 3 slices_S384x128_o0_0_S32x128 slices_S8x4x128_o0_3_0_S8x1x128))) ::
      pieceB 5 inb_S768x128_S8x128_5_0_s_8_1 (half0 c arg1 harg1 arg3 f1 f3 (word5 (st c arg4 f4) (bits c arg2 f2 0 2 slices_S384x128_o0_0_S32x128 slices_S8x4x128_o0_2_0_S8x1x128))) ::
      pieceB 4 inb_S768x128_S8x128_4_0_s_8_1 (half0 c arg1 harg1 arg3 f1 f3 (word4 (st c arg4 f4) (bits c arg2 f2 0 2 slices_S384x128_o0_0_S32x128 slices_S8x4x128_o0_2_0_S8x1x128))) ::
      pieceB 3 inb_S768x128_S8x128_3_0_s_8_1 (half0 c arg1 harg1 arg3 f1 f3 (word3 (st c arg4 f4) (bits c arg2 f2 0 1 slices_S384x128_o0_0_S32x128 slices_S8x4x128_o0_1_0_S8x1x128))) ::
      pieceB 2 inb_S768x128_S8x128_2_0_s_8_1 (half0 c arg1 harg1 arg3 f1 f3 (word2 (st c arg4 f4) (bits c arg2 f2 0 1 slices_S384x128_o0_0_S32x128 slices_S8x4x128_o0_1_0_S8x1x128))) ::
      pieceB 1 inb_S768x128_S8x128_1_0_s_8_1 (half0 c arg1 harg1 arg3 f1 f3 (word1 (st c arg4 f4) (bits c arg2 f2 0 0 slices_S384x128_o0_0_S32x128 slices_S8x4x128_o0_0_0_S8x1x128))) ::
      pieceB 0 inb_S768x128_S8x128_0_0_s_8_1 (half0 c arg1 harg1 arg3 f1 f3 (word0 (st c arg4 f4) (bits c arg2 f2 0 0 slices_S384x128_o0_0_S32x128 slices_S8x4x128_o0_0_0_S8x1x128))) ::
      [] := by
  sl_kernel_rfl

theorem scales_0 : kernelRun.sl.H9_1 c arg1 harg1 arg3 arg4 f1 f3 f4 =
      pieceS 0 inb_S128x128_S8x128_0_0 (half0 c arg1 harg1 arg3 f1 f3 (scales (st c arg4 f4))) :: [] := by
  sl_kernel_rfl

theorem words_1 : kernelRun.sl.H8_16 c arg1 harg1 arg2 arg3 arg4 f1 f2 f3 f4 =
      pieceB 71 inb_S768x128_S8x128_71_0_s_8_1 (half1 c arg1 harg1 arg3 f1 f3 (word7 (st c arg4 f4) (bits c arg2 f2 32 3 slices_S384x128_o32_0_S32x128 slices_S8x4x128_o0_3_0_S8x1x128))) ::
      pieceB 70 inb_S768x128_S8x128_70_0_s_8_1 (half1 c arg1 harg1 arg3 f1 f3 (word6 (st c arg4 f4) (bits c arg2 f2 32 3 slices_S384x128_o32_0_S32x128 slices_S8x4x128_o0_3_0_S8x1x128))) ::
      pieceB 69 inb_S768x128_S8x128_69_0_s_8_1 (half1 c arg1 harg1 arg3 f1 f3 (word5 (st c arg4 f4) (bits c arg2 f2 32 2 slices_S384x128_o32_0_S32x128 slices_S8x4x128_o0_2_0_S8x1x128))) ::
      pieceB 68 inb_S768x128_S8x128_68_0_s_8_1 (half1 c arg1 harg1 arg3 f1 f3 (word4 (st c arg4 f4) (bits c arg2 f2 32 2 slices_S384x128_o32_0_S32x128 slices_S8x4x128_o0_2_0_S8x1x128))) ::
      pieceB 67 inb_S768x128_S8x128_67_0_s_8_1 (half1 c arg1 harg1 arg3 f1 f3 (word3 (st c arg4 f4) (bits c arg2 f2 32 1 slices_S384x128_o32_0_S32x128 slices_S8x4x128_o0_1_0_S8x1x128))) ::
      pieceB 66 inb_S768x128_S8x128_66_0_s_8_1 (half1 c arg1 harg1 arg3 f1 f3 (word2 (st c arg4 f4) (bits c arg2 f2 32 1 slices_S384x128_o32_0_S32x128 slices_S8x4x128_o0_1_0_S8x1x128))) ::
      pieceB 65 inb_S768x128_S8x128_65_0_s_8_1 (half1 c arg1 harg1 arg3 f1 f3 (word1 (st c arg4 f4) (bits c arg2 f2 32 0 slices_S384x128_o32_0_S32x128 slices_S8x4x128_o0_0_0_S8x1x128))) ::
      pieceB 64 inb_S768x128_S8x128_64_0_s_8_1 (half1 c arg1 harg1 arg3 f1 f3 (word0 (st c arg4 f4) (bits c arg2 f2 32 0 slices_S384x128_o32_0_S32x128 slices_S8x4x128_o0_0_0_S8x1x128))) ::
      kernelRun.sl.H8_8 c arg1 harg1 arg2 arg3 arg4 f1 f2 f3 f4 := by
  sl_kernel_rfl

theorem scales_1 : kernelRun.sl.H9_2 c arg1 harg1 arg3 arg4 f1 f3 f4 =
      pieceS 8 inb_S128x128_S8x128_8_0 (half1 c arg1 harg1 arg3 f1 f3 (scales (st c arg4 f4))) :: kernelRun.sl.H9_1 c arg1 harg1 arg3 arg4 f1 f3 f4 := by
  sl_kernel_rfl

theorem words_2 : kernelRun.sl.H8_24 c arg1 harg1 arg2 arg3 arg4 f1 f2 f3 f4 =
      pieceB 135 inb_S768x128_S8x128_135_0_s_8_1 (half2 c arg1 harg1 arg3 f1 f3 (word7 (st c arg4 f4) (bits c arg2 f2 64 3 slices_S384x128_o64_0_S32x128 slices_S8x4x128_o0_3_0_S8x1x128))) ::
      pieceB 134 inb_S768x128_S8x128_134_0_s_8_1 (half2 c arg1 harg1 arg3 f1 f3 (word6 (st c arg4 f4) (bits c arg2 f2 64 3 slices_S384x128_o64_0_S32x128 slices_S8x4x128_o0_3_0_S8x1x128))) ::
      pieceB 133 inb_S768x128_S8x128_133_0_s_8_1 (half2 c arg1 harg1 arg3 f1 f3 (word5 (st c arg4 f4) (bits c arg2 f2 64 2 slices_S384x128_o64_0_S32x128 slices_S8x4x128_o0_2_0_S8x1x128))) ::
      pieceB 132 inb_S768x128_S8x128_132_0_s_8_1 (half2 c arg1 harg1 arg3 f1 f3 (word4 (st c arg4 f4) (bits c arg2 f2 64 2 slices_S384x128_o64_0_S32x128 slices_S8x4x128_o0_2_0_S8x1x128))) ::
      pieceB 131 inb_S768x128_S8x128_131_0_s_8_1 (half2 c arg1 harg1 arg3 f1 f3 (word3 (st c arg4 f4) (bits c arg2 f2 64 1 slices_S384x128_o64_0_S32x128 slices_S8x4x128_o0_1_0_S8x1x128))) ::
      pieceB 130 inb_S768x128_S8x128_130_0_s_8_1 (half2 c arg1 harg1 arg3 f1 f3 (word2 (st c arg4 f4) (bits c arg2 f2 64 1 slices_S384x128_o64_0_S32x128 slices_S8x4x128_o0_1_0_S8x1x128))) ::
      pieceB 129 inb_S768x128_S8x128_129_0_s_8_1 (half2 c arg1 harg1 arg3 f1 f3 (word1 (st c arg4 f4) (bits c arg2 f2 64 0 slices_S384x128_o64_0_S32x128 slices_S8x4x128_o0_0_0_S8x1x128))) ::
      pieceB 128 inb_S768x128_S8x128_128_0_s_8_1 (half2 c arg1 harg1 arg3 f1 f3 (word0 (st c arg4 f4) (bits c arg2 f2 64 0 slices_S384x128_o64_0_S32x128 slices_S8x4x128_o0_0_0_S8x1x128))) ::
      kernelRun.sl.H8_16 c arg1 harg1 arg2 arg3 arg4 f1 f2 f3 f4 := by
  sl_kernel_rfl

theorem scales_2 : kernelRun.sl.H9_3 c arg1 harg1 arg3 arg4 f1 f3 f4 =
      pieceS 16 inb_S128x128_S8x128_16_0 (half2 c arg1 harg1 arg3 f1 f3 (scales (st c arg4 f4))) :: kernelRun.sl.H9_2 c arg1 harg1 arg3 arg4 f1 f3 f4 := by
  sl_kernel_rfl

theorem words_3 : kernelRun.sl.H8_32 c arg1 harg1 arg2 arg3 arg4 f1 f2 f3 f4 =
      pieceB 199 inb_S768x128_S8x128_199_0_s_8_1 (half3 c arg1 harg1 arg3 f1 f3 (word7 (st c arg4 f4) (bits c arg2 f2 96 3 slices_S384x128_o96_0_S32x128 slices_S8x4x128_o0_3_0_S8x1x128))) ::
      pieceB 198 inb_S768x128_S8x128_198_0_s_8_1 (half3 c arg1 harg1 arg3 f1 f3 (word6 (st c arg4 f4) (bits c arg2 f2 96 3 slices_S384x128_o96_0_S32x128 slices_S8x4x128_o0_3_0_S8x1x128))) ::
      pieceB 197 inb_S768x128_S8x128_197_0_s_8_1 (half3 c arg1 harg1 arg3 f1 f3 (word5 (st c arg4 f4) (bits c arg2 f2 96 2 slices_S384x128_o96_0_S32x128 slices_S8x4x128_o0_2_0_S8x1x128))) ::
      pieceB 196 inb_S768x128_S8x128_196_0_s_8_1 (half3 c arg1 harg1 arg3 f1 f3 (word4 (st c arg4 f4) (bits c arg2 f2 96 2 slices_S384x128_o96_0_S32x128 slices_S8x4x128_o0_2_0_S8x1x128))) ::
      pieceB 195 inb_S768x128_S8x128_195_0_s_8_1 (half3 c arg1 harg1 arg3 f1 f3 (word3 (st c arg4 f4) (bits c arg2 f2 96 1 slices_S384x128_o96_0_S32x128 slices_S8x4x128_o0_1_0_S8x1x128))) ::
      pieceB 194 inb_S768x128_S8x128_194_0_s_8_1 (half3 c arg1 harg1 arg3 f1 f3 (word2 (st c arg4 f4) (bits c arg2 f2 96 1 slices_S384x128_o96_0_S32x128 slices_S8x4x128_o0_1_0_S8x1x128))) ::
      pieceB 193 inb_S768x128_S8x128_193_0_s_8_1 (half3 c arg1 harg1 arg3 f1 f3 (word1 (st c arg4 f4) (bits c arg2 f2 96 0 slices_S384x128_o96_0_S32x128 slices_S8x4x128_o0_0_0_S8x1x128))) ::
      pieceB 192 inb_S768x128_S8x128_192_0_s_8_1 (half3 c arg1 harg1 arg3 f1 f3 (word0 (st c arg4 f4) (bits c arg2 f2 96 0 slices_S384x128_o96_0_S32x128 slices_S8x4x128_o0_0_0_S8x1x128))) ::
      kernelRun.sl.H8_24 c arg1 harg1 arg2 arg3 arg4 f1 f2 f3 f4 := by
  sl_kernel_rfl

theorem scales_3 : kernelRun.sl.H9_4 c arg1 harg1 arg3 arg4 f1 f3 f4 =
      pieceS 24 inb_S128x128_S8x128_24_0 (half3 c arg1 harg1 arg3 f1 f3 (scales (st c arg4 f4))) :: kernelRun.sl.H9_3 c arg1 harg1 arg3 arg4 f1 f3 f4 := by
  sl_kernel_rfl

theorem words_4 : kernelRun.sl.H8_40 c arg1 harg1 arg2 arg3 arg4 f1 f2 f3 f4 =
      pieceB 263 inb_S768x128_S8x128_263_0_s_8_1 (half4 c arg1 harg1 arg3 f1 f3 (word7 (st c arg4 f4) (bits c arg2 f2 128 3 slices_S384x128_o128_0_S32x128 slices_S8x4x128_o0_3_0_S8x1x128))) ::
      pieceB 262 inb_S768x128_S8x128_262_0_s_8_1 (half4 c arg1 harg1 arg3 f1 f3 (word6 (st c arg4 f4) (bits c arg2 f2 128 3 slices_S384x128_o128_0_S32x128 slices_S8x4x128_o0_3_0_S8x1x128))) ::
      pieceB 261 inb_S768x128_S8x128_261_0_s_8_1 (half4 c arg1 harg1 arg3 f1 f3 (word5 (st c arg4 f4) (bits c arg2 f2 128 2 slices_S384x128_o128_0_S32x128 slices_S8x4x128_o0_2_0_S8x1x128))) ::
      pieceB 260 inb_S768x128_S8x128_260_0_s_8_1 (half4 c arg1 harg1 arg3 f1 f3 (word4 (st c arg4 f4) (bits c arg2 f2 128 2 slices_S384x128_o128_0_S32x128 slices_S8x4x128_o0_2_0_S8x1x128))) ::
      pieceB 259 inb_S768x128_S8x128_259_0_s_8_1 (half4 c arg1 harg1 arg3 f1 f3 (word3 (st c arg4 f4) (bits c arg2 f2 128 1 slices_S384x128_o128_0_S32x128 slices_S8x4x128_o0_1_0_S8x1x128))) ::
      pieceB 258 inb_S768x128_S8x128_258_0_s_8_1 (half4 c arg1 harg1 arg3 f1 f3 (word2 (st c arg4 f4) (bits c arg2 f2 128 1 slices_S384x128_o128_0_S32x128 slices_S8x4x128_o0_1_0_S8x1x128))) ::
      pieceB 257 inb_S768x128_S8x128_257_0_s_8_1 (half4 c arg1 harg1 arg3 f1 f3 (word1 (st c arg4 f4) (bits c arg2 f2 128 0 slices_S384x128_o128_0_S32x128 slices_S8x4x128_o0_0_0_S8x1x128))) ::
      pieceB 256 inb_S768x128_S8x128_256_0_s_8_1 (half4 c arg1 harg1 arg3 f1 f3 (word0 (st c arg4 f4) (bits c arg2 f2 128 0 slices_S384x128_o128_0_S32x128 slices_S8x4x128_o0_0_0_S8x1x128))) ::
      kernelRun.sl.H8_32 c arg1 harg1 arg2 arg3 arg4 f1 f2 f3 f4 := by
  sl_kernel_rfl

theorem scales_4 : kernelRun.sl.H9_5 c arg1 harg1 arg3 arg4 f1 f3 f4 =
      pieceS 32 inb_S128x128_S8x128_32_0 (half4 c arg1 harg1 arg3 f1 f3 (scales (st c arg4 f4))) :: kernelRun.sl.H9_4 c arg1 harg1 arg3 arg4 f1 f3 f4 := by
  sl_kernel_rfl

theorem words_5 : kernelRun.sl.H8_48 c arg1 harg1 arg2 arg3 arg4 f1 f2 f3 f4 =
      pieceB 327 inb_S768x128_S8x128_327_0_s_8_1 (half5 c arg1 harg1 arg3 f1 f3 (word7 (st c arg4 f4) (bits c arg2 f2 160 3 slices_S384x128_o160_0_S32x128 slices_S8x4x128_o0_3_0_S8x1x128))) ::
      pieceB 326 inb_S768x128_S8x128_326_0_s_8_1 (half5 c arg1 harg1 arg3 f1 f3 (word6 (st c arg4 f4) (bits c arg2 f2 160 3 slices_S384x128_o160_0_S32x128 slices_S8x4x128_o0_3_0_S8x1x128))) ::
      pieceB 325 inb_S768x128_S8x128_325_0_s_8_1 (half5 c arg1 harg1 arg3 f1 f3 (word5 (st c arg4 f4) (bits c arg2 f2 160 2 slices_S384x128_o160_0_S32x128 slices_S8x4x128_o0_2_0_S8x1x128))) ::
      pieceB 324 inb_S768x128_S8x128_324_0_s_8_1 (half5 c arg1 harg1 arg3 f1 f3 (word4 (st c arg4 f4) (bits c arg2 f2 160 2 slices_S384x128_o160_0_S32x128 slices_S8x4x128_o0_2_0_S8x1x128))) ::
      pieceB 323 inb_S768x128_S8x128_323_0_s_8_1 (half5 c arg1 harg1 arg3 f1 f3 (word3 (st c arg4 f4) (bits c arg2 f2 160 1 slices_S384x128_o160_0_S32x128 slices_S8x4x128_o0_1_0_S8x1x128))) ::
      pieceB 322 inb_S768x128_S8x128_322_0_s_8_1 (half5 c arg1 harg1 arg3 f1 f3 (word2 (st c arg4 f4) (bits c arg2 f2 160 1 slices_S384x128_o160_0_S32x128 slices_S8x4x128_o0_1_0_S8x1x128))) ::
      pieceB 321 inb_S768x128_S8x128_321_0_s_8_1 (half5 c arg1 harg1 arg3 f1 f3 (word1 (st c arg4 f4) (bits c arg2 f2 160 0 slices_S384x128_o160_0_S32x128 slices_S8x4x128_o0_0_0_S8x1x128))) ::
      pieceB 320 inb_S768x128_S8x128_320_0_s_8_1 (half5 c arg1 harg1 arg3 f1 f3 (word0 (st c arg4 f4) (bits c arg2 f2 160 0 slices_S384x128_o160_0_S32x128 slices_S8x4x128_o0_0_0_S8x1x128))) ::
      kernelRun.sl.H8_40 c arg1 harg1 arg2 arg3 arg4 f1 f2 f3 f4 := by
  sl_kernel_rfl

theorem scales_5 : kernelRun.sl.H9_6 c arg1 harg1 arg3 arg4 f1 f3 f4 =
      pieceS 40 inb_S128x128_S8x128_40_0 (half5 c arg1 harg1 arg3 f1 f3 (scales (st c arg4 f4))) :: kernelRun.sl.H9_5 c arg1 harg1 arg3 arg4 f1 f3 f4 := by
  sl_kernel_rfl

theorem words_6 : kernelRun.sl.H8_56 c arg1 harg1 arg2 arg3 arg4 f1 f2 f3 f4 =
      pieceB 391 inb_S768x128_S8x128_391_0_s_8_1 (half6 c arg1 harg1 arg3 f1 f3 (word7 (st c arg4 f4) (bits c arg2 f2 192 3 slices_S384x128_o192_0_S32x128 slices_S8x4x128_o0_3_0_S8x1x128))) ::
      pieceB 390 inb_S768x128_S8x128_390_0_s_8_1 (half6 c arg1 harg1 arg3 f1 f3 (word6 (st c arg4 f4) (bits c arg2 f2 192 3 slices_S384x128_o192_0_S32x128 slices_S8x4x128_o0_3_0_S8x1x128))) ::
      pieceB 389 inb_S768x128_S8x128_389_0_s_8_1 (half6 c arg1 harg1 arg3 f1 f3 (word5 (st c arg4 f4) (bits c arg2 f2 192 2 slices_S384x128_o192_0_S32x128 slices_S8x4x128_o0_2_0_S8x1x128))) ::
      pieceB 388 inb_S768x128_S8x128_388_0_s_8_1 (half6 c arg1 harg1 arg3 f1 f3 (word4 (st c arg4 f4) (bits c arg2 f2 192 2 slices_S384x128_o192_0_S32x128 slices_S8x4x128_o0_2_0_S8x1x128))) ::
      pieceB 387 inb_S768x128_S8x128_387_0_s_8_1 (half6 c arg1 harg1 arg3 f1 f3 (word3 (st c arg4 f4) (bits c arg2 f2 192 1 slices_S384x128_o192_0_S32x128 slices_S8x4x128_o0_1_0_S8x1x128))) ::
      pieceB 386 inb_S768x128_S8x128_386_0_s_8_1 (half6 c arg1 harg1 arg3 f1 f3 (word2 (st c arg4 f4) (bits c arg2 f2 192 1 slices_S384x128_o192_0_S32x128 slices_S8x4x128_o0_1_0_S8x1x128))) ::
      pieceB 385 inb_S768x128_S8x128_385_0_s_8_1 (half6 c arg1 harg1 arg3 f1 f3 (word1 (st c arg4 f4) (bits c arg2 f2 192 0 slices_S384x128_o192_0_S32x128 slices_S8x4x128_o0_0_0_S8x1x128))) ::
      pieceB 384 inb_S768x128_S8x128_384_0_s_8_1 (half6 c arg1 harg1 arg3 f1 f3 (word0 (st c arg4 f4) (bits c arg2 f2 192 0 slices_S384x128_o192_0_S32x128 slices_S8x4x128_o0_0_0_S8x1x128))) ::
      kernelRun.sl.H8_48 c arg1 harg1 arg2 arg3 arg4 f1 f2 f3 f4 := by
  sl_kernel_rfl

theorem scales_6 : kernelRun.sl.H9_7 c arg1 harg1 arg3 arg4 f1 f3 f4 =
      pieceS 48 inb_S128x128_S8x128_48_0 (half6 c arg1 harg1 arg3 f1 f3 (scales (st c arg4 f4))) :: kernelRun.sl.H9_6 c arg1 harg1 arg3 arg4 f1 f3 f4 := by
  sl_kernel_rfl

theorem words_7 : kernelRun.sl.H8_64 c arg1 harg1 arg2 arg3 arg4 f1 f2 f3 f4 =
      pieceB 455 inb_S768x128_S8x128_455_0_s_8_1 (half7 c arg1 harg1 arg3 f1 f3 (word7 (st c arg4 f4) (bits c arg2 f2 224 3 slices_S384x128_o224_0_S32x128 slices_S8x4x128_o0_3_0_S8x1x128))) ::
      pieceB 454 inb_S768x128_S8x128_454_0_s_8_1 (half7 c arg1 harg1 arg3 f1 f3 (word6 (st c arg4 f4) (bits c arg2 f2 224 3 slices_S384x128_o224_0_S32x128 slices_S8x4x128_o0_3_0_S8x1x128))) ::
      pieceB 453 inb_S768x128_S8x128_453_0_s_8_1 (half7 c arg1 harg1 arg3 f1 f3 (word5 (st c arg4 f4) (bits c arg2 f2 224 2 slices_S384x128_o224_0_S32x128 slices_S8x4x128_o0_2_0_S8x1x128))) ::
      pieceB 452 inb_S768x128_S8x128_452_0_s_8_1 (half7 c arg1 harg1 arg3 f1 f3 (word4 (st c arg4 f4) (bits c arg2 f2 224 2 slices_S384x128_o224_0_S32x128 slices_S8x4x128_o0_2_0_S8x1x128))) ::
      pieceB 451 inb_S768x128_S8x128_451_0_s_8_1 (half7 c arg1 harg1 arg3 f1 f3 (word3 (st c arg4 f4) (bits c arg2 f2 224 1 slices_S384x128_o224_0_S32x128 slices_S8x4x128_o0_1_0_S8x1x128))) ::
      pieceB 450 inb_S768x128_S8x128_450_0_s_8_1 (half7 c arg1 harg1 arg3 f1 f3 (word2 (st c arg4 f4) (bits c arg2 f2 224 1 slices_S384x128_o224_0_S32x128 slices_S8x4x128_o0_1_0_S8x1x128))) ::
      pieceB 449 inb_S768x128_S8x128_449_0_s_8_1 (half7 c arg1 harg1 arg3 f1 f3 (word1 (st c arg4 f4) (bits c arg2 f2 224 0 slices_S384x128_o224_0_S32x128 slices_S8x4x128_o0_0_0_S8x1x128))) ::
      pieceB 448 inb_S768x128_S8x128_448_0_s_8_1 (half7 c arg1 harg1 arg3 f1 f3 (word0 (st c arg4 f4) (bits c arg2 f2 224 0 slices_S384x128_o224_0_S32x128 slices_S8x4x128_o0_0_0_S8x1x128))) ::
      kernelRun.sl.H8_56 c arg1 harg1 arg2 arg3 arg4 f1 f2 f3 f4 := by
  sl_kernel_rfl

theorem scales_7 : kernelRun.sl.H9_8 c arg1 harg1 arg3 arg4 f1 f3 f4 =
      pieceS 56 inb_S128x128_S8x128_56_0 (half7 c arg1 harg1 arg3 f1 f3 (scales (st c arg4 f4))) :: kernelRun.sl.H9_7 c arg1 harg1 arg3 arg4 f1 f3 f4 := by
  sl_kernel_rfl

theorem words_8 : kernelRun.sl.H8_72 c arg1 harg1 arg2 arg3 arg4 f1 f2 f3 f4 =
      pieceB 519 inb_S768x128_S8x128_519_0_s_8_1 (half8 c arg1 harg1 arg3 f1 f3 (word7 (st c arg4 f4) (bits c arg2 f2 256 3 slices_S384x128_o256_0_S32x128 slices_S8x4x128_o0_3_0_S8x1x128))) ::
      pieceB 518 inb_S768x128_S8x128_518_0_s_8_1 (half8 c arg1 harg1 arg3 f1 f3 (word6 (st c arg4 f4) (bits c arg2 f2 256 3 slices_S384x128_o256_0_S32x128 slices_S8x4x128_o0_3_0_S8x1x128))) ::
      pieceB 517 inb_S768x128_S8x128_517_0_s_8_1 (half8 c arg1 harg1 arg3 f1 f3 (word5 (st c arg4 f4) (bits c arg2 f2 256 2 slices_S384x128_o256_0_S32x128 slices_S8x4x128_o0_2_0_S8x1x128))) ::
      pieceB 516 inb_S768x128_S8x128_516_0_s_8_1 (half8 c arg1 harg1 arg3 f1 f3 (word4 (st c arg4 f4) (bits c arg2 f2 256 2 slices_S384x128_o256_0_S32x128 slices_S8x4x128_o0_2_0_S8x1x128))) ::
      pieceB 515 inb_S768x128_S8x128_515_0_s_8_1 (half8 c arg1 harg1 arg3 f1 f3 (word3 (st c arg4 f4) (bits c arg2 f2 256 1 slices_S384x128_o256_0_S32x128 slices_S8x4x128_o0_1_0_S8x1x128))) ::
      pieceB 514 inb_S768x128_S8x128_514_0_s_8_1 (half8 c arg1 harg1 arg3 f1 f3 (word2 (st c arg4 f4) (bits c arg2 f2 256 1 slices_S384x128_o256_0_S32x128 slices_S8x4x128_o0_1_0_S8x1x128))) ::
      pieceB 513 inb_S768x128_S8x128_513_0_s_8_1 (half8 c arg1 harg1 arg3 f1 f3 (word1 (st c arg4 f4) (bits c arg2 f2 256 0 slices_S384x128_o256_0_S32x128 slices_S8x4x128_o0_0_0_S8x1x128))) ::
      pieceB 512 inb_S768x128_S8x128_512_0_s_8_1 (half8 c arg1 harg1 arg3 f1 f3 (word0 (st c arg4 f4) (bits c arg2 f2 256 0 slices_S384x128_o256_0_S32x128 slices_S8x4x128_o0_0_0_S8x1x128))) ::
      kernelRun.sl.H8_64 c arg1 harg1 arg2 arg3 arg4 f1 f2 f3 f4 := by
  sl_kernel_rfl

theorem scales_8 : kernelRun.sl.H9_9 c arg1 harg1 arg3 arg4 f1 f3 f4 =
      pieceS 64 inb_S128x128_S8x128_64_0 (half8 c arg1 harg1 arg3 f1 f3 (scales (st c arg4 f4))) :: kernelRun.sl.H9_8 c arg1 harg1 arg3 arg4 f1 f3 f4 := by
  sl_kernel_rfl

theorem words_9 : kernelRun.sl.H8_80 c arg1 harg1 arg2 arg3 arg4 f1 f2 f3 f4 =
      pieceB 583 inb_S768x128_S8x128_583_0_s_8_1 (half9 c arg1 harg1 arg3 f1 f3 (word7 (st c arg4 f4) (bits c arg2 f2 288 3 slices_S384x128_o288_0_S32x128 slices_S8x4x128_o0_3_0_S8x1x128))) ::
      pieceB 582 inb_S768x128_S8x128_582_0_s_8_1 (half9 c arg1 harg1 arg3 f1 f3 (word6 (st c arg4 f4) (bits c arg2 f2 288 3 slices_S384x128_o288_0_S32x128 slices_S8x4x128_o0_3_0_S8x1x128))) ::
      pieceB 581 inb_S768x128_S8x128_581_0_s_8_1 (half9 c arg1 harg1 arg3 f1 f3 (word5 (st c arg4 f4) (bits c arg2 f2 288 2 slices_S384x128_o288_0_S32x128 slices_S8x4x128_o0_2_0_S8x1x128))) ::
      pieceB 580 inb_S768x128_S8x128_580_0_s_8_1 (half9 c arg1 harg1 arg3 f1 f3 (word4 (st c arg4 f4) (bits c arg2 f2 288 2 slices_S384x128_o288_0_S32x128 slices_S8x4x128_o0_2_0_S8x1x128))) ::
      pieceB 579 inb_S768x128_S8x128_579_0_s_8_1 (half9 c arg1 harg1 arg3 f1 f3 (word3 (st c arg4 f4) (bits c arg2 f2 288 1 slices_S384x128_o288_0_S32x128 slices_S8x4x128_o0_1_0_S8x1x128))) ::
      pieceB 578 inb_S768x128_S8x128_578_0_s_8_1 (half9 c arg1 harg1 arg3 f1 f3 (word2 (st c arg4 f4) (bits c arg2 f2 288 1 slices_S384x128_o288_0_S32x128 slices_S8x4x128_o0_1_0_S8x1x128))) ::
      pieceB 577 inb_S768x128_S8x128_577_0_s_8_1 (half9 c arg1 harg1 arg3 f1 f3 (word1 (st c arg4 f4) (bits c arg2 f2 288 0 slices_S384x128_o288_0_S32x128 slices_S8x4x128_o0_0_0_S8x1x128))) ::
      pieceB 576 inb_S768x128_S8x128_576_0_s_8_1 (half9 c arg1 harg1 arg3 f1 f3 (word0 (st c arg4 f4) (bits c arg2 f2 288 0 slices_S384x128_o288_0_S32x128 slices_S8x4x128_o0_0_0_S8x1x128))) ::
      kernelRun.sl.H8_72 c arg1 harg1 arg2 arg3 arg4 f1 f2 f3 f4 := by
  sl_kernel_rfl

theorem scales_9 : kernelRun.sl.H9_10 c arg1 harg1 arg3 arg4 f1 f3 f4 =
      pieceS 72 inb_S128x128_S8x128_72_0 (half9 c arg1 harg1 arg3 f1 f3 (scales (st c arg4 f4))) :: kernelRun.sl.H9_9 c arg1 harg1 arg3 arg4 f1 f3 f4 := by
  sl_kernel_rfl

theorem words_10 : kernelRun.sl.H8_88 c arg1 harg1 arg2 arg3 arg4 f1 f2 f3 f4 =
      pieceB 647 inb_S768x128_S8x128_647_0_s_8_1 (half10 c arg1 harg1 arg3 f1 f3 (word7 (st c arg4 f4) (bits c arg2 f2 320 3 slices_S384x128_o320_0_S32x128 slices_S8x4x128_o0_3_0_S8x1x128))) ::
      pieceB 646 inb_S768x128_S8x128_646_0_s_8_1 (half10 c arg1 harg1 arg3 f1 f3 (word6 (st c arg4 f4) (bits c arg2 f2 320 3 slices_S384x128_o320_0_S32x128 slices_S8x4x128_o0_3_0_S8x1x128))) ::
      pieceB 645 inb_S768x128_S8x128_645_0_s_8_1 (half10 c arg1 harg1 arg3 f1 f3 (word5 (st c arg4 f4) (bits c arg2 f2 320 2 slices_S384x128_o320_0_S32x128 slices_S8x4x128_o0_2_0_S8x1x128))) ::
      pieceB 644 inb_S768x128_S8x128_644_0_s_8_1 (half10 c arg1 harg1 arg3 f1 f3 (word4 (st c arg4 f4) (bits c arg2 f2 320 2 slices_S384x128_o320_0_S32x128 slices_S8x4x128_o0_2_0_S8x1x128))) ::
      pieceB 643 inb_S768x128_S8x128_643_0_s_8_1 (half10 c arg1 harg1 arg3 f1 f3 (word3 (st c arg4 f4) (bits c arg2 f2 320 1 slices_S384x128_o320_0_S32x128 slices_S8x4x128_o0_1_0_S8x1x128))) ::
      pieceB 642 inb_S768x128_S8x128_642_0_s_8_1 (half10 c arg1 harg1 arg3 f1 f3 (word2 (st c arg4 f4) (bits c arg2 f2 320 1 slices_S384x128_o320_0_S32x128 slices_S8x4x128_o0_1_0_S8x1x128))) ::
      pieceB 641 inb_S768x128_S8x128_641_0_s_8_1 (half10 c arg1 harg1 arg3 f1 f3 (word1 (st c arg4 f4) (bits c arg2 f2 320 0 slices_S384x128_o320_0_S32x128 slices_S8x4x128_o0_0_0_S8x1x128))) ::
      pieceB 640 inb_S768x128_S8x128_640_0_s_8_1 (half10 c arg1 harg1 arg3 f1 f3 (word0 (st c arg4 f4) (bits c arg2 f2 320 0 slices_S384x128_o320_0_S32x128 slices_S8x4x128_o0_0_0_S8x1x128))) ::
      kernelRun.sl.H8_80 c arg1 harg1 arg2 arg3 arg4 f1 f2 f3 f4 := by
  sl_kernel_rfl

theorem scales_10 : kernelRun.sl.H9_11 c arg1 harg1 arg3 arg4 f1 f3 f4 =
      pieceS 80 inb_S128x128_S8x128_80_0 (half10 c arg1 harg1 arg3 f1 f3 (scales (st c arg4 f4))) :: kernelRun.sl.H9_10 c arg1 harg1 arg3 arg4 f1 f3 f4 := by
  sl_kernel_rfl

theorem words_11 : kernelRun.sl.H8_96 c arg1 harg1 arg2 arg3 arg4 f1 f2 f3 f4 =
      pieceB 711 inb_S768x128_S8x128_711_0_s_8_1 (half11 c arg1 harg1 arg3 f1 f3 (word7 (st c arg4 f4) (bits c arg2 f2 352 3 slices_S384x128_o352_0_S32x128 slices_S8x4x128_o0_3_0_S8x1x128))) ::
      pieceB 710 inb_S768x128_S8x128_710_0_s_8_1 (half11 c arg1 harg1 arg3 f1 f3 (word6 (st c arg4 f4) (bits c arg2 f2 352 3 slices_S384x128_o352_0_S32x128 slices_S8x4x128_o0_3_0_S8x1x128))) ::
      pieceB 709 inb_S768x128_S8x128_709_0_s_8_1 (half11 c arg1 harg1 arg3 f1 f3 (word5 (st c arg4 f4) (bits c arg2 f2 352 2 slices_S384x128_o352_0_S32x128 slices_S8x4x128_o0_2_0_S8x1x128))) ::
      pieceB 708 inb_S768x128_S8x128_708_0_s_8_1 (half11 c arg1 harg1 arg3 f1 f3 (word4 (st c arg4 f4) (bits c arg2 f2 352 2 slices_S384x128_o352_0_S32x128 slices_S8x4x128_o0_2_0_S8x1x128))) ::
      pieceB 707 inb_S768x128_S8x128_707_0_s_8_1 (half11 c arg1 harg1 arg3 f1 f3 (word3 (st c arg4 f4) (bits c arg2 f2 352 1 slices_S384x128_o352_0_S32x128 slices_S8x4x128_o0_1_0_S8x1x128))) ::
      pieceB 706 inb_S768x128_S8x128_706_0_s_8_1 (half11 c arg1 harg1 arg3 f1 f3 (word2 (st c arg4 f4) (bits c arg2 f2 352 1 slices_S384x128_o352_0_S32x128 slices_S8x4x128_o0_1_0_S8x1x128))) ::
      pieceB 705 inb_S768x128_S8x128_705_0_s_8_1 (half11 c arg1 harg1 arg3 f1 f3 (word1 (st c arg4 f4) (bits c arg2 f2 352 0 slices_S384x128_o352_0_S32x128 slices_S8x4x128_o0_0_0_S8x1x128))) ::
      pieceB 704 inb_S768x128_S8x128_704_0_s_8_1 (half11 c arg1 harg1 arg3 f1 f3 (word0 (st c arg4 f4) (bits c arg2 f2 352 0 slices_S384x128_o352_0_S32x128 slices_S8x4x128_o0_0_0_S8x1x128))) ::
      kernelRun.sl.H8_88 c arg1 harg1 arg2 arg3 arg4 f1 f2 f3 f4 := by
  sl_kernel_rfl

theorem scales_11 : kernelRun.sl.H9_12 c arg1 harg1 arg3 arg4 f1 f3 f4 =
      pieceS 88 inb_S128x128_S8x128_88_0 (half11 c arg1 harg1 arg3 f1 f3 (scales (st c arg4 f4))) :: kernelRun.sl.H9_11 c arg1 harg1 arg3 arg4 f1 f3 f4 := by
  sl_kernel_rfl

end Cert.QuantDyIdeal.Body

end
-- ==== Proof.QuantDyLevels.lean ====
/-
  The code of one value rounded stochastically, the two ways: the kernel takes the ceiling of a least of four lines less a
  uniform number, the reference counts thresholds and adds one where the uniform number is below the fraction of the way to
  the next level; the four-bit codes are the same, and so are the bytes of two of them.
-/
module

public import proofs.«01_k».proof.Proof.QuantXLevels

@[expose] public section

noncomputable section

namespace Cert.QuantDyLevels

open Cert.QuantXNumbers Cert.QuantXIdeal.Scalar Cert.QuantXLevels
open Cert.QuantXReferenceIdeal.Final (ratioR magR one codeOf byteR qR)
open Idealize.ShloMosaic

/-! ## The uniform number of a random byte -/

/-- The word of a random byte: a one, the byte in the top of the fraction, and half of the byte's last place. -/
def uniformWord (b : BitVec 8) : BitVec 32 := (b.setWidth 32 <<< 15) ||| 1065369600#32

/-- The kernel's uniform number. -/
def uniformE (b : BitVec 8) : EReal := lit (uniformWord b) - lit 0x3F800000#32

/-- The middle of the byte's interval among 256. -/
def uniform (b : BitVec 8) : ℝ := ((b.toNat : ℝ) + 1 / 2) * (1 / 256)

theorem uniform_pos (b : BitVec 8) : 0 < uniform b := by unfold uniform; positivity
theorem uniform_lt (b : BitVec 8) : uniform b < 1 := by
  have h : (b.toNat : ℝ) ≤ 255 := by exact_mod_cast (by have := b.isLt; omega : b.toNat ≤ 255)
  unfold uniform
  linarith

theorem uniformWord_fields : ∀ b : BitVec 8, (uniformWord b).extractLsb' 31 1 = 0#1 ∧ ((uniformWord b).extractLsb' 23 8).toNat = 127
    ∧ ((uniformWord b).extractLsb' 0 23).toNat = b.toNat * 32768 + 16384 := by
  decide +kernel

theorem uniformE_coe (b : BitVec 8) : uniformE b = ((uniform b : ℝ) : EReal) := by
  obtain ⟨h1, h2, h3⟩ := uniformWord_fields b
  have h : lit (uniformWord b) = ((1 + uniform b : ℝ) : EReal) := by
    show Ideal.ieee 8 23 (uniformWord b) = _
    unfold Ideal.ieee
    rw [h1, h2, h3, if_neg (by decide), if_neg (by decide)]
    congr 1
    unfold uniform
    push_cast
    simp
    norm_num
    ring
  unfold uniformE
  rw [h, show lit 0x3F800000#32 = ((1 : ℝ) : EReal) by simp [lit, Ideal.ofBits, Ideal.ieee, -EReal.coe_mul]; norm_num, ← EReal.coe_sub]
  congr 1
  ring

/-! ## The level -/

/-- The kernel's level of a magnitude `m` with a uniform number `r`. -/
def levelE (m r : EReal) : EReal :=
  Ideal.liftRound Int.ceil
    (min (min (m + m) (m + lit 0x40000000#32)) (min (m * lit 0x3F000000#32 + lit 0x40800000#32) (lit 0x40E00000#32)) - r)

/-- The level with the sign of the value. -/
def levE (st a z r : EReal) : EReal :=
  if z < 0 then 0 - levelE (max z (-z) * invE st a) r else levelE (max z (-z) * invE st a) r

/-- The word of two values of a group with largest magnitude `a`. -/
def wordE (st a z z' r r' : EReal) : BitVec 32 := Ideal.fptosi 32 (byteE (levE st a z r) (levE st a z' r'))

/-- The value of a level, by its bits. -/
def valueR (k : BitVec 32) : EReal :=
  if IntOp.andi k 4#32 ≠ 0#32 then
    (if IntOp.andi k 2#32 ≠ 0#32 then (if IntOp.andi k 1#32 ≠ 0#32 then lit 0x40C00000#32 else lit 0x40800000#32)
      else (if IntOp.andi k 1#32 ≠ 0#32 then lit 0x40400000#32 else lit 0x40000000#32))
  else
    (if IntOp.andi k 2#32 ≠ 0#32 then (if IntOp.andi k 1#32 ≠ 0#32 then lit 0x3FC00000#32 else lit 0x3F800000#32)
      else (if IntOp.andi k 1#32 ≠ 0#32 then lit 0x3F000000#32 else lit 0x00000000#32))

/-- The number of levels a magnitude reaches. -/
def lowR (m : EReal) : BitVec 32 :=
  one (decide (lit 0x3F000000#32 ≤ m)) + one (decide (lit 0x3F800000#32 ≤ m)) + one (decide (lit 0x3FC00000#32 ≤ m)) + one (decide (lit 0x40000000#32 ≤ m))
    + one (decide (lit 0x40400000#32 ≤ m)) + one (decide (lit 0x40800000#32 ≤ m)) + one (decide (lit 0x40C00000#32 ≤ m))

/-- The fraction of the way from the level `k` to the next. -/
def fracR (m : EReal) (k : BitVec 32) : EReal :=
  if 0 < valueR (IntOp.minsi (k + 1#32) 7#32) - valueR k then
    Ideal.div (m - valueR k) (if 0 < valueR (IntOp.minsi (k + 1#32) 7#32) - valueR k then valueR (IntOp.minsi (k + 1#32) 7#32) - valueR k else 1) else 0

/-- The reference's uniform number. -/
def uniformR (b : BitVec 8) : EReal := (((b.setWidth 32).toInt : ℝ) + lit 0x3F000000#32) * lit 0x3B800000#32

/-- The reference's level. -/
def levelR (m r : EReal) : BitVec 32 := lowR m + one (decide (r < fracR m (lowR m)))

/-- The reference's code. -/
def codeR (q z r : EReal) : BitVec 32 := codeOf (decide (ratioR q z < 0)) (levelR (magR (ratioR q z)) r)

/-- The level chosen, and the level below and its fraction. -/
def low (m : ℝ) : Fin 8 :=
  if 6 ≤ m then 7 else if 4 ≤ m then 6 else if 3 ≤ m then 5 else if 2 ≤ m then 4 else if 3 / 2 ≤ m then 3
  else if 1 ≤ m then 2 else if 1 / 2 ≤ m then 1 else 0

def frac (m : ℝ) : ℝ :=
  if 6 ≤ m then 0 else if 4 ≤ m then (m - 4) / 2 else if 3 ≤ m then m - 3 else if 2 ≤ m then m - 2 else if 3 / 2 ≤ m then (m - 3 / 2) * 2
  else if 1 ≤ m then (m - 1) * 2 else if 1 / 2 ≤ m then (m - 1 / 2) * 2 else m * 2

def chosen (m r : ℝ) : Fin 8 := if r < frac m then low m + 1 else low m

theorem uniformR_coe (b : BitVec 8) : uniformR b = ((uniform b : ℝ) : EReal) := by
  have h : (b.setWidth 32).toInt = (b.toNat : ℤ) := by
    rw [BitVec.toInt_eq_toNat_of_lt] <;> rw [BitVec.toNat_setWidth_of_le (by decide)]
    have := b.isLt
    omega
  have e : lit 0x3B800000#32 = ((1 / 256 : ℝ) : EReal) := by simp [lit, Ideal.ofBits, Ideal.ieee, -EReal.coe_mul]; norm_num
  unfold uniformR uniform
  rw [h, lit_half, e, Int.cast_natCast, ← EReal.coe_add, ← EReal.coe_mul]

/-- The four lines give the level below and the fraction. -/
theorem lines_eq {m : ℝ} (hm : 0 ≤ m) : lines m = ((low m : ℕ) : ℝ) + frac m := by
  unfold lines low frac
  split_ifs <;> simp only [min_def] <;> split_ifs <;> norm_num at * <;> linarith

theorem frac_bounds {m : ℝ} (hm : 0 ≤ m) : 0 ≤ frac m ∧ frac m < 1 := by
  unfold frac
  split_ifs <;> constructor <;> linarith

/-- Below the top level there is a next one. -/
theorem low_lt {m r : ℝ} (hr : 0 < r) (h : r < frac m) : (low m).val < 7 := by
  unfold low
  unfold frac at h
  split_ifs at h ⊢ <;> first | decide | linarith

theorem chosen_zero {r : ℝ} (hr : 0 < r) : chosen 0 r = 0 := by
  have h : frac 0 = 0 := by unfold frac; norm_num
  have h' : low 0 = 0 := by unfold low; norm_num
  unfold chosen
  rw [h, h', if_neg (not_lt.2 hr.le)]

/-- The ceiling of the lines less a number between zero and one. -/
theorem ceil_lines {m r : ℝ} (hm : 0 ≤ m) (hr : 0 < r) (hr' : r < 1) : ⌈lines m - r⌉ = ((chosen m r : ℕ) : ℤ) := by
  obtain ⟨h0, h1⟩ := frac_bounds hm
  rw [lines_eq hm]
  unfold chosen
  split_ifs with h
  · have hl := low_lt hr h
    have hv : ((low m + 1 : Fin 8) : ℕ) = (low m).val + 1 := Fin.val_add_one_of_lt (by rw [Fin.lt_def]; exact hl)
    rw [hv, Int.ceil_eq_iff]
    push_cast
    constructor <;> linarith
  · rw [Int.ceil_eq_iff]
    push_cast
    constructor <;> linarith

theorem levelE_coe {m r : ℝ} (hm : 0 ≤ m) (hr : 0 < r) (hr' : r < 1) : levelE (m : EReal) (r : EReal) = (((chosen m r : ℕ) : ℝ) : EReal) := by
  unfold levelE
  rw [lit_2, lit_half, lit_4, lit_7, ← EReal.coe_add, ← EReal.coe_add, ← EReal.coe_mul, ← EReal.coe_add, ← coe_min, ← coe_min, ← coe_min, ← EReal.coe_sub]
  show Ideal.liftRound Int.ceil ((lines m - r : ℝ) : EReal) = _
  rw [Ideal.liftRound_coe, ceil_lines hm hr hr']
  norm_cast

/-! ## The reference's level -/

theorem lit_one : lit 0x3F800000#32 = ((1 : ℝ) : EReal) := by simp [lit, Ideal.ofBits, Ideal.ieee, -EReal.coe_mul]; norm_num
theorem lit_3_2 : lit 0x3FC00000#32 = ((3 / 2 : ℝ) : EReal) := by simp [lit, Ideal.ofBits, Ideal.ieee, -EReal.coe_mul]; norm_num
theorem lit_3 : lit 0x40400000#32 = ((3 : ℝ) : EReal) := by simp [lit, Ideal.ofBits, Ideal.ieee, -EReal.coe_mul]; norm_num
theorem lit_0 : lit 0x00000000#32 = ((0 : ℝ) : EReal) := by simp [lit, Ideal.ofBits, Ideal.ieee, -EReal.coe_mul]

/-- The values of the eight levels. -/
def value (p : Fin 8) : ℝ := ![0, 1 / 2, 1, 3 / 2, 2, 3, 4, 6] p

theorem valueR_coe (p : Fin 8) : valueR (BitVec.ofNat 32 p.val) = ((value p : ℝ) : EReal) := by
  unfold valueR value
  rw [lit_6, lit_4, lit_3, lit_2, lit_3_2, lit_one, lit_half, lit_0]
  fin_cases p <;> rfl

theorem next_eq : ∀ p : Fin 8, IntOp.minsi (BitVec.ofNat 32 p.val + 1#32) 7#32 = BitVec.ofNat 32 (if p.val < 7 then p + 1 else 7 : Fin 8).val := by
  decide +kernel

theorem lowR_coe (m : ℝ) : lowR (m : EReal) = BitVec.ofNat 32 (low m).val := by
  unfold lowR low
  rw [lit_6, lit_4, lit_3, lit_2, lit_3_2, lit_one, lit_half]
  simp only [EReal.coe_le_coe_iff]
  split_ifs with h1 h2 h3 h4 h5 h6 h7
  · rw [one_true (by linarith), one_true (by linarith), one_true (by linarith), one_true (by linarith), one_true (by linarith), one_true (by linarith), one_true (by linarith)]; rfl
  · rw [one_true (by linarith), one_true (by linarith), one_true (by linarith), one_true (by linarith), one_true (by linarith), one_true (by linarith), one_false (by linarith)]; rfl
  · rw [one_true (by linarith), one_true (by linarith), one_true (by linarith), one_true (by linarith), one_true (by linarith), one_false (by linarith), one_false (by linarith)]; rfl
  · rw [one_true (by linarith), one_true (by linarith), one_true (by linarith), one_true (by linarith), one_false (by linarith), one_false (by linarith), one_false (by linarith)]; rfl
  · rw [one_true (by linarith), one_true (by linarith), one_true (by linarith), one_false (by linarith), one_false (by linarith), one_false (by linarith), one_false (by linarith)]; rfl
  · rw [one_true (by linarith), one_true (by linarith), one_false (by linarith), one_false (by linarith), one_false (by linarith), one_false (by linarith), one_false (by linarith)]; rfl
  · rw [one_true (by linarith), one_false (by linarith), one_false (by linarith), one_false (by linarith), one_false (by linarith), one_false (by linarith), one_false (by linarith)]; rfl
  · rw [one_false (by linarith), one_false (by linarith), one_false (by linarith), one_false (by linarith), one_false (by linarith), one_false (by linarith), one_false (by linarith)]; rfl

/-- The fraction of the way to the next level. -/
theorem fracR_coe {m : ℝ} (hm : 0 ≤ m) (h6 : m ≤ 6) : fracR (m : EReal) (BitVec.ofNat 32 (low m).val) = ((frac m : ℝ) : EReal) := by
  unfold fracR
  rw [next_eq, valueR_coe, valueR_coe, ← EReal.coe_sub, ← EReal.coe_sub, ← EReal.coe_zero, ← EReal.coe_one]
  simp only [EReal.coe_lt_coe_iff]
  have key : ∀ a b : ℝ, 0 < b → (if 0 < b then Ideal.div (a : EReal) (if 0 < b then (b : EReal) else ((1 : ℝ) : EReal)) else ((0 : ℝ) : EReal)) = ((a / b : ℝ) : EReal) := by
    intro a b hb
    rw [if_pos hb, if_pos hb]
    unfold Ideal.div
    rw [if_neg (by rw [← EReal.coe_zero, EReal.coe_eq_coe_iff]; exact hb.ne'), ← EReal.coe_inv, ← EReal.coe_mul, div_eq_mul_inv]
  by_cases h : 6 ≤ m
  · have e : low m = 7 := by unfold low; rw [if_pos h]
    have e' : frac m = 0 := by unfold frac; rw [if_pos h]
    rw [e, e', if_neg]
    norm_num [value]
  · have hl : (low m).val < 7 := by unfold low; split_ifs <;> first | decide | linarith
    rw [if_pos hl]
    have hv : 0 < value (low m + 1) - value (low m) ∧ (m - value (low m)) / (value (low m + 1) - value (low m)) = frac m := by
      have v0 : value 0 = 0 := rfl
      have v1 : value 1 = 1 / 2 := rfl
      have v2 : value 2 = 1 := rfl
      have v3 : value 3 = 3 / 2 := rfl
      have v4 : value 4 = 2 := rfl
      have v5 : value 5 = 3 := rfl
      have v6 : value 6 = 4 := rfl
      have v7 : value 7 = 6 := rfl
      unfold low frac
      rw [if_neg h, if_neg h]
      split_ifs
      · rw [show (6 + 1 : Fin 8) = 7 from rfl, v6, v7]; norm_num
      · rw [show (5 + 1 : Fin 8) = 6 from rfl, v5, v6]; norm_num
      · rw [show (4 + 1 : Fin 8) = 5 from rfl, v4, v5]; norm_num
      · rw [show (3 + 1 : Fin 8) = 4 from rfl, v3, v4]; norm_num; ring
      · rw [show (2 + 1 : Fin 8) = 3 from rfl, v2, v3]; norm_num; ring
      · rw [show (1 + 1 : Fin 8) = 2 from rfl, v1, v2]; norm_num; ring
      · rw [show (0 + 1 : Fin 8) = 1 from rfl, v0, v1]; norm_num; ring
    rw [key _ _ hv.1, hv.2]

/-- The reference's level of a value. -/
theorem levelR_coe (u : ℝ) {r : ℝ} (hr : 0 < r) : levelR (magR (u : EReal)) (r : EReal) = BitVec.ofNat 32 (chosen |u| r).val := by
  have hm : magR (u : EReal) = ((min |u| 6 : ℝ) : EReal) := by
    unfold magR
    rw [coe_min, coe_abs, ← lit_6]
  have hlow : low (min |u| 6) = low |u| := by
    unfold low
    simp only [le_min_iff]
    norm_num
  have hfrac : frac (min |u| 6) = frac |u| := by
    rcases le_total |u| 6 with h | h
    · rw [min_eq_left h]
    · rw [min_eq_right h]
      unfold frac
      rw [if_pos (le_refl _), if_pos h]
  rw [hm]
  unfold levelR
  rw [lowR_coe, fracR_coe (le_min (abs_nonneg u) (by norm_num)) (min_le_right _ _), hlow, hfrac]
  unfold chosen
  simp only [EReal.coe_lt_coe_iff]
  have succ : ∀ p : Fin 8, p.val < 7 → BitVec.ofNat 32 p.val + 1#32 = BitVec.ofNat 32 (p + 1 : Fin 8).val := by decide +kernel
  split_ifs with h
  · rw [one_true h, succ _ (low_lt hr h)]
  · rw [one_false h, BitVec.add_zero]

/-! ## Codes and bytes -/

/-- The code of a value `z` whose sums are four times it, in the two ways. -/
theorem code_eq {st a : EReal} {Q : ℝ} (hQ : 0 ≤ Q) (hq : qE st a = Q) (z : ℝ) {r : ℝ} (hr : 0 < r) (hr' : r < 1) :
    ∃ n : Fin 16, offset (levE st a (z : EReal) (r : EReal)) = (((n.val : ℕ) : ℝ) : EReal) ∧ codeR (Q : EReal) ((z * (1 / 4) : ℝ) : EReal) (r : EReal) = BitVec.ofNat 32 n.val := by
  have hz : ((z : EReal) < 0) ↔ z < 0 := by rw [← EReal.coe_zero, EReal.coe_lt_coe_iff]
  rcases lt_or_eq_of_le hQ with h | h
  · have hinv : invE st a = ((1 * Q⁻¹ * (1 / 4) : ℝ) : EReal) := by
      unfold invE
      rw [hq, if_pos (by rw [← EReal.coe_zero, EReal.coe_lt_coe_iff]; exact h), if_pos (by rw [← EReal.coe_zero, EReal.coe_lt_coe_iff]; exact h)]
      unfold Ideal.div
      rw [if_neg (by rw [← EReal.coe_zero, EReal.coe_eq_coe_iff]; exact h.ne'), lit_quarter, ← EReal.coe_inv, ← EReal.coe_one, ← EReal.coe_mul, ← EReal.coe_mul]
    have hu : ratioR (Q : EReal) ((z * (1 / 4) : ℝ) : EReal) = ((z * (1 / 4) * Q⁻¹ : ℝ) : EReal) := by
      unfold ratioR
      rw [if_pos (by rw [← EReal.coe_zero, EReal.coe_lt_coe_iff]; exact h), if_pos (by rw [← EReal.coe_zero, EReal.coe_lt_coe_iff]; exact h)]
      unfold Ideal.div
      rw [if_neg (by rw [← EReal.coe_zero, EReal.coe_eq_coe_iff]; exact h.ne'), ← EReal.coe_inv, ← EReal.coe_mul]
    have hm : |z * (1 / 4) * Q⁻¹| = |z| * (1 * Q⁻¹ * (1 / 4)) := by
      rw [abs_mul, abs_mul, abs_of_pos (inv_pos.2 h), abs_of_pos (by norm_num : (0 : ℝ) < 1 / 4)]; ring
    have hneg : (((z * (1 / 4) * Q⁻¹ : ℝ) : EReal) < 0) ↔ z < 0 := by
      rw [← EReal.coe_zero, EReal.coe_lt_coe_iff]
      have := inv_pos.2 h
      constructor
      · intro h1
        by_contra h2
        have : 0 ≤ z * (1 / 4) * Q⁻¹ := by have := not_lt.1 h2; positivity
        linarith
      · intro h1
        have : 0 < -z * (1 / 4) * Q⁻¹ := by have : 0 < -z := by linarith
                                            positivity
        nlinarith
    have hl : levelE (max (z : EReal) (-z) * invE st a) (r : EReal) = (((chosen |z * (1 / 4) * Q⁻¹| r : ℕ) : ℝ) : EReal) := by
      rw [hinv, ← coe_abs, ← EReal.coe_mul, ← hm, levelE_coe (abs_nonneg _) hr hr']
    unfold codeR levE
    rw [hl, hu, levelR_coe _ hr, codeOf_levels]
    generalize chosen |z * (1 / 4) * Q⁻¹| r = p
    simp only [decide_eq_true_eq, hneg, hz]
    by_cases h1 : z < 0
    · rw [if_pos h1]
      by_cases h2 : 0 < p.val
      · exact ⟨⟨8 + p.val, by omega⟩, offset_neg h2, by rw [if_pos ⟨h1, h2⟩]⟩
      · have h3 : p.val = 0 := by omega
        refine ⟨0, ?_, by rw [if_neg (fun h => h2 h.2), h3]; rfl⟩
        rw [h3]
        have := offset_nat 0
        simpa using this
    · rw [if_neg h1]
      exact ⟨⟨p.val, by omega⟩, offset_nat _, by rw [if_neg (fun h => h1 h.1)]⟩
  · subst h
    have hinv : invE st a = 0 := by
      unfold invE
      rw [hq]
      simp
    refine ⟨0, ?_, ?_⟩
    · unfold levE
      have hl : levelE (max (z : EReal) (-z) * invE st a) (r : EReal) = 0 := by
        have := levelE_coe (le_refl (0 : ℝ)) hr hr'
        rw [hinv, mul_zero]
        rw [chosen_zero hr] at this
        simpa using this
      rw [hl]
      have := offset_nat 0
      simpa using this
    · have hu : ratioR ((0 : ℝ) : EReal) ((z * (1 / 4) : ℝ) : EReal) = ((0 : ℝ) : EReal) := by
        unfold ratioR
        simp
      unfold codeR
      rw [hu, levelR_coe _ hr, codeOf_levels]
      rw [abs_zero, chosen_zero hr]
      simp

/-- The byte of two values. -/
theorem byte_eq {st a : EReal} {Q : ℝ} (hQ : 0 ≤ Q) (hq : qE st a = Q) (z z' : ℝ) (b b' : BitVec 8) :
    (wordE st a (z : EReal) (z' : EReal) (uniformE b) (uniformE b')).setWidth 8 = byteR (codeR (Q : EReal) ((z * (1 / 4) : ℝ) : EReal) (uniformR b)) (codeR (Q : EReal) ((z' * (1 / 4) : ℝ) : EReal) (uniformR b')) := by
  rw [uniformE_coe, uniformE_coe, uniformR_coe, uniformR_coe]
  obtain ⟨n, hn, hn'⟩ := code_eq hQ hq z (uniform_pos b) (uniform_lt b)
  obtain ⟨k, hk, hk'⟩ := code_eq hQ hq z' (uniform_pos b') (uniform_lt b')
  rw [hn', hk', ← byte_bits]
  congr 1
  show Ideal.fptosi 32 (offset (levE st a z (uniform b : EReal)) + Ideal.ofBits .bf16 0x4180#16 * offset (levE st a z' (uniform b' : EReal))) = _
  rw [hn, hk, bf16_16, ← EReal.coe_mul, ← EReal.coe_add, ← fptosi_nat _ (by omega)]
  congr 2
  push_cast
  rfl

end Cert.QuantDyLevels

end
-- ==== Proof.QuantDyEquation.lean ====
/-
  The codes of a group of sixteen finite values with finite signs, rounded stochastically, agree.
-/
module

public import proofs.«01_k».proof.Proof.QuantXEquation
public import proofs.«01_k».proof.Proof.QuantDyLevels

@[expose] public section

noncomputable section

namespace Cert.QuantDyEquation

open Cert.QuantXEquation Cert.QuantDyLevels
open Cert.QuantXIdeal.Scalar (scaleE butterfly amaxE)
open Cert.QuantXReferenceIdeal.Final (byteR qR scaleR amaxR rotateR)
open Idealize.ShloMosaic

/-- Word `p` of a group of sixteen rotated values with their random bytes: the values `2 p` and `2 p + 1`. -/
def codeWord (st : EReal) (z : Fin 16 → EReal) (b : Fin 16 → BitVec 8) (p : Fin 8) : BitVec 32 :=
  wordE st (amaxE z) (z ⟨2 * p.val, by omega⟩) (z ⟨2 * p.val + 1, by omega⟩) (uniformE (b ⟨2 * p.val, by omega⟩)) (uniformE (b ⟨2 * p.val + 1, by omega⟩))

/-- The bytes of codes agree. -/
theorem code_eq (A : EReal) (x s : Fin 16 → ℝ) (b : Fin 16 → BitVec 8) (p : Fin 8) :
    (codeWord (scaleE A) (butterfly fun j => (x j : EReal) * (s j : EReal)) b p).setWidth 8
      = byteR (codeR (qR (scaleR A) (amaxR (rotateR (fun j => (x j : EReal)) (fun j => (s j : EReal))))) (rotateR (fun j => (x j : EReal)) (fun j => (s j : EReal)) ⟨p.val * 2 + 0, by omega⟩) (uniformR (b ⟨p.val * 2 + 0, by omega⟩)))
          (codeR (qR (scaleR A) (amaxR (rotateR (fun j => (x j : EReal)) (fun j => (s j : EReal))))) (rotateR (fun j => (x j : EReal)) (fun j => (s j : EReal)) ⟨p.val * 2 + 1, by omega⟩) (uniformR (b ⟨p.val * 2 + 1, by omega⟩))) := by
  have h : (butterfly fun j => (x j : EReal) * (s j : EReal)) = fun i => ((sums (fun j => x j * s j) i : ℝ) : EReal) := by
    simp only [← EReal.coe_mul]
    exact funext (butterfly_coe _)
  rw [h, funext (rotateR_coe x s), ← amax_eq]
  generalize sums (fun j => x j * s j) = z
  obtain ⟨a, ha, ha'⟩ := amax_real z
  obtain ⟨Q, hQ, hq⟩ := q_real (scaleE_pos A) ha
  have hq' : qR (scaleR A) (a : EReal) = (Q : EReal) := hq
  unfold codeWord
  rw [ha', hq', byte_eq hQ hq]
  have h0 : (⟨2 * p.val, by omega⟩ : Fin 16) = ⟨p.val * 2 + 0, by omega⟩ := Fin.ext (show 2 * p.val = p.val * 2 + 0 by omega)
  have h1 : (⟨2 * p.val + 1, by omega⟩ : Fin 16) = ⟨p.val * 2 + 1, by omega⟩ := Fin.ext (show 2 * p.val + 1 = p.val * 2 + 1 by omega)
  rw [h0, h1]

end Cert.QuantDyEquation

end
-- ==== Proof.QuantDyIdealScalar.lean ====
/-
  The quantiser of `quant_dy` over the extended reals, one number at a time: the words of `Half` at an index are functions
  of the sixteen values and the sixteen random bytes there.
-/
module

public import proofs.«01_k».proof.Proof.QuantDyIdealHalf
public import proofs.«01_k».proof.Proof.QuantDyEquation

@[expose] public section

noncomputable section

namespace Cert.QuantDyIdeal.Scalar

open Cert.QuantXIdeal Cert.QuantXIdeal.Gen Cert.QuantDyIdeal.Half
open Cert.QuantXIdeal.Half (amax low high byte code pair signed splat splatB q sb rotate)
open Cert.QuantXIdeal.Scalar (byteE amaxE butterfly amax_apply)
open Cert.QuantDyLevels (uniformE uniformWord levE wordE)
open Cert.QuantDyEquation (codeWord)
open Idealize.ShloMosaic

/-- Byte `q` of a word. -/
def byteOf (w : BitVec 32) (q : ℕ) : BitVec 8 := (w >>> (8 * q)).setWidth 8

/-- The bits of a byte at the top of the fraction. -/
theorem word_0 (w : BitVec 32) : ((w <<< 15) &&& 8355840#32) ||| 1065369600#32 = uniformWord (byteOf w 0) := by
  unfold uniformWord byteOf
  apply BitVec.eq_of_getLsbD_eq
  intro i hi
  interval_cases i <;> simp
theorem word_1 (w : BitVec 32) : ((w <<< 7) &&& 8355840#32) ||| 1065369600#32 = uniformWord (byteOf w 1) := by
  unfold uniformWord byteOf
  apply BitVec.eq_of_getLsbD_eq
  intro i hi
  interval_cases i <;> simp
theorem word_2 (w : BitVec 32) : ((w >>> 1) &&& 8355840#32) ||| 1065369600#32 = uniformWord (byteOf w 2) := by
  unfold uniformWord byteOf
  apply BitVec.eq_of_getLsbD_eq
  intro i hi
  interval_cases i <;> simp
theorem word_3 (w : BitVec 32) : ((w >>> 9) &&& 8355840#32) ||| 1065369600#32 = uniformWord (byteOf w 3) := by
  unfold uniformWord byteOf
  apply BitVec.eq_of_getLsbD_eq
  intro i hi
  interval_cases i <;> simp

variable (st a z v z' v' r : FVec Ideal S8x128 .f32) (w : IVec S8x128 32) (s : Fin 8) (l : Fin 128)

theorem uniform0_apply : uniform0 (F := Ideal) w (ix2 s l) = uniformE (byteOf (w (ix2 s l)) 0) := by
  unfold uniformE
  rw [← word_0]
  rfl
theorem uniform1_apply : uniform1 (F := Ideal) w (ix2 s l) = uniformE (byteOf (w (ix2 s l)) 1) := by
  unfold uniformE
  rw [← word_1]
  rfl
theorem uniform2_apply : uniform2 (F := Ideal) w (ix2 s l) = uniformE (byteOf (w (ix2 s l)) 2) := by
  unfold uniformE
  rw [← word_2]
  rfl
theorem uniform3_apply : uniform3 (F := Ideal) w (ix2 s l) = uniformE (byteOf (w (ix2 s l)) 3) := by
  unfold uniformE
  rw [← word_3]
  rfl

theorem lev_apply : lev st a z r (ix2 s l) = levE (st (ix2 s l)) (a (ix2 s l)) (z (ix2 s l)) (r (ix2 s l)) := by
  pointwise [lev, signed, level, Cert.QuantXIdeal.Half.inv, q, sb, splat]
  rfl

theorem low_bytes : low (bytes st a z v z' v' w) (ix2 s l)
    = wordE (st (ix2 s l)) (a (ix2 s l)) (z (ix2 s l)) (z' (ix2 s l)) (uniformE (byteOf (w (ix2 s l)) 0)) (uniformE (byteOf (w (ix2 s l)) 1)) := by
  have h : low (bytes st a z v z' v' w) (ix2 s l)
      = Ideal.fptosi 32 (byteE (rowsOfParity 0 S8x128 (pair (lev st a z (uniform0 w)) (lev st a v (uniform2 w))) bitcasts_S16x128_w16_S8x128_w32 (ix2 s l))
          (rowsOfParity 0 S8x128 (pair (lev st a z' (uniform1 w)) (lev st a v' (uniform3 w))) bitcasts_S16x128_w16_S8x128_w32 (ix2 s l))) := by
    pointwise [low, bytes, byte, code, splatB]
    rfl
  rw [h]
  unfold pair
  rw [rowsOfParity_zero_interleaveRows, rowsOfParity_zero_interleaveRows]
  show Ideal.fptosi 32 (byteE (lev st a z (uniform0 w) (ix2 s l)) (lev st a z' (uniform1 w) (ix2 s l))) = _
  rw [lev_apply, lev_apply, uniform0_apply, uniform1_apply]
  rfl

theorem high_bytes : high (bytes st a z v z' v' w) (ix2 s l)
    = wordE (st (ix2 s l)) (a (ix2 s l)) (v (ix2 s l)) (v' (ix2 s l)) (uniformE (byteOf (w (ix2 s l)) 2)) (uniformE (byteOf (w (ix2 s l)) 3)) := by
  have h : high (bytes st a z v z' v' w) (ix2 s l)
      = Ideal.fptosi 32 (byteE (rowsOfParity 1 S8x128 (pair (lev st a z (uniform0 w)) (lev st a v (uniform2 w))) bitcasts_S16x128_w16_S8x128_w32 (ix2 s l))
          (rowsOfParity 1 S8x128 (pair (lev st a z' (uniform1 w)) (lev st a v' (uniform3 w))) bitcasts_S16x128_w16_S8x128_w32 (ix2 s l))) := by
    pointwise [high, bytes, byte, code, splatB]
    rfl
  rw [h]
  unfold pair
  rw [rowsOfParity_one_interleaveRows, rowsOfParity_one_interleaveRows]
  show Ideal.fptosi 32 (byteE (lev st a v (uniform2 w) (ix2 s l)) (lev st a v' (uniform3 w) (ix2 s l))) = _
  rw [lev_apply, lev_apply, uniform2_apply, uniform3_apply]
  rfl

variable (V : Fin 16 → FVec Ideal S8x128 .f32) (b : Fin 16 → BitVec 8)

theorem word0_apply (h : ∀ q : Fin 4, byteOf (w (ix2 s l)) q.val = b ⟨4 * 0 + q.val, by omega⟩) :
    rotate addf subf (word0 st w) (V 0) (V 1) (V 2) (V 3) (V 4) (V 5) (V 6) (V 7) (V 8) (V 9) (V 10) (V 11) (V 12) (V 13) (V 14) (V 15) (ix2 s l)
      = codeWord (st (ix2 s l)) (butterfly fun i => V i (ix2 s l)) b 0 :=
  (low_bytes _ _ _ _ _ _ _ s l).trans (by rw [amax_apply, show byteOf (w (ix2 s l)) 0 = _ from h 0, show byteOf (w (ix2 s l)) 1 = _ from h 1]; rfl)

theorem word1_apply (h : ∀ q : Fin 4, byteOf (w (ix2 s l)) q.val = b ⟨4 * 0 + q.val, by omega⟩) :
    rotate addf subf (word1 st w) (V 0) (V 1) (V 2) (V 3) (V 4) (V 5) (V 6) (V 7) (V 8) (V 9) (V 10) (V 11) (V 12) (V 13) (V 14) (V 15) (ix2 s l)
      = codeWord (st (ix2 s l)) (butterfly fun i => V i (ix2 s l)) b 1 :=
  (high_bytes _ _ _ _ _ _ _ s l).trans (by rw [amax_apply, show byteOf (w (ix2 s l)) 2 = _ from h 2, show byteOf (w (ix2 s l)) 3 = _ from h 3]; rfl)

theorem word2_apply (h : ∀ q : Fin 4, byteOf (w (ix2 s l)) q.val = b ⟨4 * 1 + q.val, by omega⟩) :
    rotate addf subf (word2 st w) (V 0) (V 1) (V 2) (V 3) (V 4) (V 5) (V 6) (V 7) (V 8) (V 9) (V 10) (V 11) (V 12) (V 13) (V 14) (V 15) (ix2 s l)
      = codeWord (st (ix2 s l)) (butterfly fun i => V i (ix2 s l)) b 2 :=
  (low_bytes _ _ _ _ _ _ _ s l).trans (by rw [amax_apply, show byteOf (w (ix2 s l)) 0 = _ from h 0, show byteOf (w (ix2 s l)) 1 = _ from h 1]; rfl)

theorem word3_apply (h : ∀ q : Fin 4, byteOf (w (ix2 s l)) q.val = b ⟨4 * 1 + q.val, by omega⟩) :
    rotate addf subf (word3 st w) (V 0) (V 1) (V 2) (V 3) (V 4) (V 5) (V 6) (V 7) (V 8) (V 9) (V 10) (V 11) (V 12) (V 13) (V 14) (V 15) (ix2 s l)
      = codeWord (st (ix2 s l)) (butterfly fun i => V i (ix2 s l)) b 3 :=
  (high_bytes _ _ _ _ _ _ _ s l).trans (by rw [amax_apply, show byteOf (w (ix2 s l)) 2 = _ from h 2, show byteOf (w (ix2 s l)) 3 = _ from h 3]; rfl)

theorem word4_apply (h : ∀ q : Fin 4, byteOf (w (ix2 s l)) q.val = b ⟨4 * 2 + q.val, by omega⟩) :
    rotate addf subf (word4 st w) (V 0) (V 1) (V 2) (V 3) (V 4) (V 5) (V 6) (V 7) (V 8) (V 9) (V 10) (V 11) (V 12) (V 13) (V 14) (V 15) (ix2 s l)
      = codeWord (st (ix2 s l)) (butterfly fun i => V i (ix2 s l)) b 4 :=
  (low_bytes _ _ _ _ _ _ _ s l).trans (by rw [amax_apply, show byteOf (w (ix2 s l)) 0 = _ from h 0, show byteOf (w (ix2 s l)) 1 = _ from h 1]; rfl)

theorem word5_apply (h : ∀ q : Fin 4, byteOf (w (ix2 s l)) q.val = b ⟨4 * 2 + q.val, by omega⟩) :
    rotate addf subf (word5 st w) (V 0) (V 1) (V 2) (V 3) (V 4) (V 5) (V 6) (V 7) (V 8) (V 9) (V 10) (V 11) (V 12) (V 13) (V 14) (V 15) (ix2 s l)
      = codeWord (st (ix2 s l)) (butterfly fun i => V i (ix2 s l)) b 5 :=
  (high_bytes _ _ _ _ _ _ _ s l).trans (by rw [amax_apply, show byteOf (w (ix2 s l)) 2 = _ from h 2, show byteOf (w (ix2 s l)) 3 = _ from h 3]; rfl)

theorem word6_apply (h : ∀ q : Fin 4, byteOf (w (ix2 s l)) q.val = b ⟨4 * 3 + q.val, by omega⟩) :
    rotate addf subf (word6 st w) (V 0) (V 1) (V 2) (V 3) (V 4) (V 5) (V 6) (V 7) (V 8) (V 9) (V 10) (V 11) (V 12) (V 13) (V 14) (V 15) (ix2 s l)
      = codeWord (st (ix2 s l)) (butterfly fun i => V i (ix2 s l)) b 6 :=
  (low_bytes _ _ _ _ _ _ _ s l).trans (by rw [amax_apply, show byteOf (w (ix2 s l)) 0 = _ from h 0, show byteOf (w (ix2 s l)) 1 = _ from h 1]; rfl)

theorem word7_apply (h : ∀ q : Fin 4, byteOf (w (ix2 s l)) q.val = b ⟨4 * 3 + q.val, by omega⟩) :
    rotate addf subf (word7 st w) (V 0) (V 1) (V 2) (V 3) (V 4) (V 5) (V 6) (V 7) (V 8) (V 9) (V 10) (V 11) (V 12) (V 13) (V 14) (V 15) (ix2 s l)
      = codeWord (st (ix2 s l)) (butterfly fun i => V i (ix2 s l)) b 7 :=
  (high_bytes _ _ _ _ _ _ _ s l).trans (by rw [amax_apply, show byteOf (w (ix2 s l)) 2 = _ from h 2, show byteOf (w (ix2 s l)) 3 = _ from h 3]; rfl)

end Cert.QuantDyIdeal.Scalar

end
-- ==== Proof.QuantDyIdealScratch.lean ====
/-
  The two scratch buffers of `quant_dy` over the extended reals: after the body, row `r` of the byte scratch holds word
  `r % 8` of group `r / 8`, and row `g` of the scale scratch holds the scale of group `g`.
-/
module

public import proofs.«01_k».proof.Proof.QuantDyIdealPieces
public import proofs.«01_k».proof.Proof.QuantDyIdealScalar
public import proofs.«01_k».proof.Proof.QuantXIdealScratch
public import Idealize.ShloMosaic.Lib.BitcastFour
public import Idealize.ShloMosaic.Lib.WholeRead

@[expose] public section

set_option maxRecDepth 16384

noncomputable section

namespace Cert.QuantDyIdeal.Body

open Cert.QuantDyIdeal Cert.QuantDyIdeal.Gen Cert.QuantDyIdeal.Half Cert.QuantDyIdeal.Scalar
open Cert.QuantXIdeal.Half (Of16 rotate even odd scales)
open Cert.QuantXIdeal.Scalar (scaleE sbE amaxE butterfly scale_apply scales_apply)
open Cert.QuantXIdeal.Body (group vec even_apply odd_apply congr16 Good pieceB pieceS mem_pieceB mem_pieceS scaleAt)
open Cert.QuantDyEquation (codeWord)
open Idealize.ShloMosaic Idealize.ShloMosaic.TcCoe Idealize.ShloMosaic.Tactic

section
variable {F : FTy → Type} [FloatOps F]

/-- A load of eight pairs of rows, from `off` on and eight pairs apart, at an index. -/
theorem ld_apply (c : Dev nD) (arg1 : Memref sig .tc .vmem S1536x128 .bf16) (harg1 : arg1.IsWhole) (X : Vec F S1536x128 .bf16)
    (off : ℕ) (h) (s : Fin 8) (e : Fin 2) (l : Fin 128) (r : Fin 1536) (hr : r.val = 2 * (off + 8 * s.val) + e.val) :
    ld c arg1 harg1 (harg1.unread X) off h (ix3 s e l) = X (ix2 r l) := by
  refine (congrFun (harg1.read_unread X) _).trans (congrArg X ?_)
  refine Shape.reshapeEquiv_eq_of_vals _ _ _ (r.val * 128 + l.val) ((off + 8 * s.val) * 256 + (e.val * 128 + l.val)) ?_ ?_ ?_
  · rw [rowMajor_val2 _ 128 rfl]; rfl
  · rw [rowMajor_val3 _ 256 128 rfl rfl]
    show (off + 8 * s.val) * 256 + (0 + 1 * e.val) * 128 + (0 + 1 * l.val) = _
    omega
  · omega

/-- A sign is an element of the array of signs. -/
theorem sg_apply (c : Dev nD) (arg3 : Memref sig .tc .smem S16 .f32) (harg3 : arg3.IsWhole) (X : Vec F S16 .f32)
    (i : ℕ) (h) (hi : i < 16) : sg c arg3 (harg3.unread X) i h = X (ix1 ⟨i, hi⟩) := by
  refine (harg3.readAt_unread X _ _).trans (congrArg X ?_)
  funext a
  match a with
  | ⟨0, _⟩ => rfl

end

/-- The sixteen random bytes of group `g` of channel `l`. -/
def random (R : Vec Ideal S1536x128 .i8) (g : Fin 96) (l : Fin 128) (i : Fin 16) : BitVec 8 :=
  R (ix2 ⟨16 * g.val + i.val, by omega⟩ l)

/-- The bytes of a word of four bytes in four rows are those of the rows. -/
theorem byteOf_bitcast (x : IVec S1536x128 8) (h) (a : Fin 384) (l : Fin 128) (q : Fin 4) (p : Fin 1536) (hp : p.val = 4 * a.val + q.val) :
    byteOf (bitcast S384x128 32 x h (ix2 a l)) q.val = x (ix2 p l) := by
  unfold byteOf
  apply BitVec.eq_of_getLsbD_eq
  intro i hi
  rw [BitVec.getLsbD_setWidth, BitVec.getLsbD_ushiftRight]
  rw [decide_eq_true hi, Bool.true_and]
  refine (bitcast_8_32_getLsbD_ix2 x h a l (8 * q.val + i) (by omega) p (by omega)).trans ?_
  congr 1
  omega

variable (c : Dev nD) (arg1 : Memref sig .tc .vmem S1536x128 .bf16) (harg1 : arg1.IsWhole)
  (arg2 : Memref sig .tc .vmem S1536x128 .i8) (harg2 : arg2.IsWhole)
  (arg3 : Memref sig .tc .smem S16 .f32) (harg3 : arg3.IsWhole) (arg4 : Memref sig .tc .vmem S1x1 .f32) (harg4 : arg4.IsWhole)
  (X : Vec Ideal S1536x128 .bf16) (R : Vec Ideal S1536x128 .i8) (S : Vec Ideal S16 .f32) (A : Vec Ideal S1x1 .f32)

theorem even_vec (h : Fin 12) (i : Fin 16) (off : ℕ) (h1 h2) (he : 64 * h.val + i.val / 2 = off) (hi : i.val % 2 = 0) :
    even (ld c arg1 harg1 (harg1.unread X) off h1) (sg c arg3 (harg3.unread S) i.val h2) = vec X S h i := by
  funext j
  obtain ⟨s, l, rfl⟩ : ∃ s l, j = ix2 s l := ⟨j 0, j 1, eq_ix2 j⟩
  rw [even_apply, sg_apply c arg3 harg3 S i.val h2 i.isLt, ld_apply c arg1 harg1 X off h1 s 0 l
    ⟨16 * (8 * h.val + s.val) + i.val, by omega⟩ (by show 16 * (8 * h.val + s.val) + i.val = 2 * (off + 8 * s.val) + 0; omega)]
  rfl

theorem odd_vec (h : Fin 12) (i : Fin 16) (off : ℕ) (h1 h2) (he : 64 * h.val + i.val / 2 = off) (hi : i.val % 2 = 1) :
    odd (ld c arg1 harg1 (harg1.unread X) off h1) (sg c arg3 (harg3.unread S) i.val h2) = vec X S h i := by
  funext j
  obtain ⟨s, l, rfl⟩ : ∃ s l, j = ix2 s l := ⟨j 0, j 1, eq_ix2 j⟩
  rw [odd_apply, sg_apply c arg3 harg3 S i.val h2 i.isLt, ld_apply c arg1 harg1 X off h1 s 1 l
    ⟨16 * (8 * h.val + s.val) + i.val, by omega⟩ (by show 16 * (8 * h.val + s.val) + i.val = 2 * (off + 8 * s.val) + 1; omega)]
  rfl

/-- The random bits of half `h`: word `j` of a group has the bytes of its tokens from `4 j` on. -/
theorem bits_apply (h : Fin 12) (j : Fin 4) (off : ℕ) (ho : 32 * h.val = off) (h1 h2) (s : Fin 8) (l : Fin 128) (q : Fin 4) :
    byteOf (bits c arg2 (harg2.unread R) off j.val h1 h2 (ix2 s l)) q.val
      = random R ⟨8 * h.val + s.val, by omega⟩ l ⟨4 * j.val + q.val, by omega⟩ := by
  have e : bits c arg2 (harg2.unread R) off j.val h1 h2 (ix2 s l)
      = bitcast S384x128 32 (R : IVec S1536x128 8) bitcasts_S1536x128_w8_S384x128_w32 (ix2 ⟨off + 4 * s.val + j.val, by omega⟩ l) := by
    unfold bits
    pointwise
    refine congrArg₂ (fun (x : IVec S1536x128 8) i => bitcast S384x128 32 x bitcasts_S1536x128_w8_S384x128_w32 (ix2 i l)) ?_
      (Fin.ext (show off + (s.val * 4 + j.val) = off + 4 * s.val + j.val by omega))
    refine (shapeCast_id _ _).trans (funext fun y => (harg2.readAt_unread R _ _).trans (congrArg R (funext fun a => Fin.ext ?_)))
    match a with
    | ⟨0, _⟩ => show 0 + 1 * (y 0).val = (y 0).val; omega
    | ⟨1, _⟩ => show 0 + 1 * (y 1).val = (y 1).val; omega
  rw [e, byteOf_bitcast _ _ _ l q ⟨16 * (8 * h.val + s.val) + (4 * j.val + q.val), by omega⟩ (by show 16 * (8 * h.val + s.val) + (4 * j.val + q.val) = 4 * (off + 4 * s.val + j.val) + q.val; omega)]
  rfl

theorem st_apply (s : Fin 8) (l : Fin 128) : st c arg4 (harg4.unread A) (ix2 s l) = scaleE (A (ix2 0 0)) := by
  refine (scale_apply s l _).trans (congrArg scaleE ?_)
  refine (harg4.readAt_unread A _ _).trans (congrArg A ?_)
  funext a
  match a with
  | ⟨0, _⟩ => rfl
  | ⟨1, _⟩ => rfl

/-- The word at row `r` and lane `l`. -/
def wordAt (y : S768x128.Idx) : BitVec 32 :=
  codeWord (scaleE (A (ix2 0 0))) (butterfly (group X S ⟨(y 0).val / 8, by have := (y 0).isLt; have : S768x128.size 0 = 768 := rfl; omega⟩ (y 1)))
    (random R ⟨(y 0).val / 8, by have := (y 0).isLt; have : S768x128.size 0 = 768 := rfl; omega⟩ (y 1)) ⟨(y 0).val % 8, Nat.mod_lt _ (by decide)⟩

theorem pieceB_agrees (h : Fin 12) (p : Fin 8) (off : ℕ) (ho : 64 * h.val + p.val = off) (hin) (w : IVec S8x128 32)
    (hw : ∀ (s : Fin 8) (l : Fin 128), w (ix2 s l)
      = codeWord (st c arg4 (harg4.unread A) (ix2 s l)) (butterfly fun i => vec X S h i (ix2 s l)) (random R ⟨8 * h.val + s.val, by omega⟩ l) p) :
    ∀ x, (pieceB (F := Ideal) off hin w).2 x = wordAt X R S A ((pieceB (F := Ideal) off hin w).1.emb x) := by
  intro x
  obtain ⟨s, l, rfl⟩ : ∃ s l, x = ix2 s l := ⟨x 0, x 1, eq_ix2 x⟩
  refine (congrFun (shapeCast_id w _) _).trans ((hw s l).trans ?_)
  rw [st_apply]
  have hl : ((pieceB (F := Ideal) off hin w).1.emb (ix2 s l)) 1 = l := Fin.ext (show 0 + 1 * l.val = l.val by omega)
  unfold wordAt
  rw [hl]
  congr 1
  · congr 1
    funext i
    show group X S _ l i = _
    congr 1
    exact Fin.ext (show 8 * h.val + s.val = (off + 8 * s.val) / 8 by omega)
  · congr 1
    exact Fin.ext (show 8 * h.val + s.val = (off + 8 * s.val) / 8 by omega)
  · exact Fin.ext (show p.val = (off + 8 * s.val) % 8 by omega)

theorem pieceS_agrees (h : Fin 12) (off : ℕ) (ho : 8 * h.val = off) (hin) (w : FVec Ideal S8x128 .f32)
    (hw : ∀ (s : Fin 8) (l : Fin 128), w (ix2 s l)
      = sbE (st c arg4 (harg4.unread A) (ix2 s l)) (amaxE (butterfly fun i => vec X S h i (ix2 s l)))) :
    ∀ x, (pieceS off hin w).2 x = scaleAt X S A ((pieceS off hin w).1.emb x) := by
  intro x
  obtain ⟨s, l, rfl⟩ : ∃ s l, x = ix2 s l := ⟨x 0, x 1, eq_ix2 x⟩
  refine (congrFun (shapeCast_id w _) _).trans ((hw s l).trans ?_)
  rw [st_apply]
  have hl : ((pieceS off hin w).1.emb (ix2 s l)) 1 = l := Fin.ext (show 0 + 1 * l.val = l.val by omega)
  unfold scaleAt
  rw [hl]
  congr 2
  congr 1
  funext i
  show group X S _ l i = _
  congr 1
  exact Fin.ext (show 8 * h.val + s.val = (off + 1 * s.val) % 96 by omega)

theorem half0_eq {β : Type} (k : Of16 (FVec Ideal S8x128 .f32) β) :
    half0 c arg1 harg1 arg3 (harg1.unread X) (harg3.unread S) k = rotate addf subf k (vec X S 0 0) (vec X S 0 1) (vec X S 0 2) (vec X S 0 3) (vec X S 0 4) (vec X S 0 5) (vec X S 0 6) (vec X S 0 7) (vec X S 0 8) (vec X S 0 9) (vec X S 0 10) (vec X S 0 11) (vec X S 0 12) (vec X S 0 13) (vec X S 0 14) (vec X S 0 15) := by
  have e := fun (i : Fin 16) (off : ℕ) (h1) (h2) (he : 64 * ((0 : Fin 12) : ℕ) + i.val / 2 = off) (hi : i.val % 2 = 0) => even_vec c arg1 harg1 arg3 harg3 X S 0 i off h1 h2 he hi
  have o := fun (i : Fin 16) (off : ℕ) (h1) (h2) (he : 64 * ((0 : Fin 12) : ℕ) + i.val / 2 = off) (hi : i.val % 2 = 1) => odd_vec c arg1 harg1 arg3 harg3 X S 0 i off h1 h2 he hi
  unfold half0
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half1_eq {β : Type} (k : Of16 (FVec Ideal S8x128 .f32) β) :
    half1 c arg1 harg1 arg3 (harg1.unread X) (harg3.unread S) k = rotate addf subf k (vec X S 1 0) (vec X S 1 1) (vec X S 1 2) (vec X S 1 3) (vec X S 1 4) (vec X S 1 5) (vec X S 1 6) (vec X S 1 7) (vec X S 1 8) (vec X S 1 9) (vec X S 1 10) (vec X S 1 11) (vec X S 1 12) (vec X S 1 13) (vec X S 1 14) (vec X S 1 15) := by
  have e := fun (i : Fin 16) (off : ℕ) (h1) (h2) (he : 64 * ((1 : Fin 12) : ℕ) + i.val / 2 = off) (hi : i.val % 2 = 0) => even_vec c arg1 harg1 arg3 harg3 X S 1 i off h1 h2 he hi
  have o := fun (i : Fin 16) (off : ℕ) (h1) (h2) (he : 64 * ((1 : Fin 12) : ℕ) + i.val / 2 = off) (hi : i.val % 2 = 1) => odd_vec c arg1 harg1 arg3 harg3 X S 1 i off h1 h2 he hi
  unfold half1
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half2_eq {β : Type} (k : Of16 (FVec Ideal S8x128 .f32) β) :
    half2 c arg1 harg1 arg3 (harg1.unread X) (harg3.unread S) k = rotate addf subf k (vec X S 2 0) (vec X S 2 1) (vec X S 2 2) (vec X S 2 3) (vec X S 2 4) (vec X S 2 5) (vec X S 2 6) (vec X S 2 7) (vec X S 2 8) (vec X S 2 9) (vec X S 2 10) (vec X S 2 11) (vec X S 2 12) (vec X S 2 13) (vec X S 2 14) (vec X S 2 15) := by
  have e := fun (i : Fin 16) (off : ℕ) (h1) (h2) (he : 64 * ((2 : Fin 12) : ℕ) + i.val / 2 = off) (hi : i.val % 2 = 0) => even_vec c arg1 harg1 arg3 harg3 X S 2 i off h1 h2 he hi
  have o := fun (i : Fin 16) (off : ℕ) (h1) (h2) (he : 64 * ((2 : Fin 12) : ℕ) + i.val / 2 = off) (hi : i.val % 2 = 1) => odd_vec c arg1 harg1 arg3 harg3 X S 2 i off h1 h2 he hi
  unfold half2
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half3_eq {β : Type} (k : Of16 (FVec Ideal S8x128 .f32) β) :
    half3 c arg1 harg1 arg3 (harg1.unread X) (harg3.unread S) k = rotate addf subf k (vec X S 3 0) (vec X S 3 1) (vec X S 3 2) (vec X S 3 3) (vec X S 3 4) (vec X S 3 5) (vec X S 3 6) (vec X S 3 7) (vec X S 3 8) (vec X S 3 9) (vec X S 3 10) (vec X S 3 11) (vec X S 3 12) (vec X S 3 13) (vec X S 3 14) (vec X S 3 15) := by
  have e := fun (i : Fin 16) (off : ℕ) (h1) (h2) (he : 64 * ((3 : Fin 12) : ℕ) + i.val / 2 = off) (hi : i.val % 2 = 0) => even_vec c arg1 harg1 arg3 harg3 X S 3 i off h1 h2 he hi
  have o := fun (i : Fin 16) (off : ℕ) (h1) (h2) (he : 64 * ((3 : Fin 12) : ℕ) + i.val / 2 = off) (hi : i.val % 2 = 1) => odd_vec c arg1 harg1 arg3 harg3 X S 3 i off h1 h2 he hi
  unfold half3
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half4_eq {β : Type} (k : Of16 (FVec Ideal S8x128 .f32) β) :
    half4 c arg1 harg1 arg3 (harg1.unread X) (harg3.unread S) k = rotate addf subf k (vec X S 4 0) (vec X S 4 1) (vec X S 4 2) (vec X S 4 3) (vec X S 4 4) (vec X S 4 5) (vec X S 4 6) (vec X S 4 7) (vec X S 4 8) (vec X S 4 9) (vec X S 4 10) (vec X S 4 11) (vec X S 4 12) (vec X S 4 13) (vec X S 4 14) (vec X S 4 15) := by
  have e := fun (i : Fin 16) (off : ℕ) (h1) (h2) (he : 64 * ((4 : Fin 12) : ℕ) + i.val / 2 = off) (hi : i.val % 2 = 0) => even_vec c arg1 harg1 arg3 harg3 X S 4 i off h1 h2 he hi
  have o := fun (i : Fin 16) (off : ℕ) (h1) (h2) (he : 64 * ((4 : Fin 12) : ℕ) + i.val / 2 = off) (hi : i.val % 2 = 1) => odd_vec c arg1 harg1 arg3 harg3 X S 4 i off h1 h2 he hi
  unfold half4
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half5_eq {β : Type} (k : Of16 (FVec Ideal S8x128 .f32) β) :
    half5 c arg1 harg1 arg3 (harg1.unread X) (harg3.unread S) k = rotate addf subf k (vec X S 5 0) (vec X S 5 1) (vec X S 5 2) (vec X S 5 3) (vec X S 5 4) (vec X S 5 5) (vec X S 5 6) (vec X S 5 7) (vec X S 5 8) (vec X S 5 9) (vec X S 5 10) (vec X S 5 11) (vec X S 5 12) (vec X S 5 13) (vec X S 5 14) (vec X S 5 15) := by
  have e := fun (i : Fin 16) (off : ℕ) (h1) (h2) (he : 64 * ((5 : Fin 12) : ℕ) + i.val / 2 = off) (hi : i.val % 2 = 0) => even_vec c arg1 harg1 arg3 harg3 X S 5 i off h1 h2 he hi
  have o := fun (i : Fin 16) (off : ℕ) (h1) (h2) (he : 64 * ((5 : Fin 12) : ℕ) + i.val / 2 = off) (hi : i.val % 2 = 1) => odd_vec c arg1 harg1 arg3 harg3 X S 5 i off h1 h2 he hi
  unfold half5
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half6_eq {β : Type} (k : Of16 (FVec Ideal S8x128 .f32) β) :
    half6 c arg1 harg1 arg3 (harg1.unread X) (harg3.unread S) k = rotate addf subf k (vec X S 6 0) (vec X S 6 1) (vec X S 6 2) (vec X S 6 3) (vec X S 6 4) (vec X S 6 5) (vec X S 6 6) (vec X S 6 7) (vec X S 6 8) (vec X S 6 9) (vec X S 6 10) (vec X S 6 11) (vec X S 6 12) (vec X S 6 13) (vec X S 6 14) (vec X S 6 15) := by
  have e := fun (i : Fin 16) (off : ℕ) (h1) (h2) (he : 64 * ((6 : Fin 12) : ℕ) + i.val / 2 = off) (hi : i.val % 2 = 0) => even_vec c arg1 harg1 arg3 harg3 X S 6 i off h1 h2 he hi
  have o := fun (i : Fin 16) (off : ℕ) (h1) (h2) (he : 64 * ((6 : Fin 12) : ℕ) + i.val / 2 = off) (hi : i.val % 2 = 1) => odd_vec c arg1 harg1 arg3 harg3 X S 6 i off h1 h2 he hi
  unfold half6
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half7_eq {β : Type} (k : Of16 (FVec Ideal S8x128 .f32) β) :
    half7 c arg1 harg1 arg3 (harg1.unread X) (harg3.unread S) k = rotate addf subf k (vec X S 7 0) (vec X S 7 1) (vec X S 7 2) (vec X S 7 3) (vec X S 7 4) (vec X S 7 5) (vec X S 7 6) (vec X S 7 7) (vec X S 7 8) (vec X S 7 9) (vec X S 7 10) (vec X S 7 11) (vec X S 7 12) (vec X S 7 13) (vec X S 7 14) (vec X S 7 15) := by
  have e := fun (i : Fin 16) (off : ℕ) (h1) (h2) (he : 64 * ((7 : Fin 12) : ℕ) + i.val / 2 = off) (hi : i.val % 2 = 0) => even_vec c arg1 harg1 arg3 harg3 X S 7 i off h1 h2 he hi
  have o := fun (i : Fin 16) (off : ℕ) (h1) (h2) (he : 64 * ((7 : Fin 12) : ℕ) + i.val / 2 = off) (hi : i.val % 2 = 1) => odd_vec c arg1 harg1 arg3 harg3 X S 7 i off h1 h2 he hi
  unfold half7
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half8_eq {β : Type} (k : Of16 (FVec Ideal S8x128 .f32) β) :
    half8 c arg1 harg1 arg3 (harg1.unread X) (harg3.unread S) k = rotate addf subf k (vec X S 8 0) (vec X S 8 1) (vec X S 8 2) (vec X S 8 3) (vec X S 8 4) (vec X S 8 5) (vec X S 8 6) (vec X S 8 7) (vec X S 8 8) (vec X S 8 9) (vec X S 8 10) (vec X S 8 11) (vec X S 8 12) (vec X S 8 13) (vec X S 8 14) (vec X S 8 15) := by
  have e := fun (i : Fin 16) (off : ℕ) (h1) (h2) (he : 64 * ((8 : Fin 12) : ℕ) + i.val / 2 = off) (hi : i.val % 2 = 0) => even_vec c arg1 harg1 arg3 harg3 X S 8 i off h1 h2 he hi
  have o := fun (i : Fin 16) (off : ℕ) (h1) (h2) (he : 64 * ((8 : Fin 12) : ℕ) + i.val / 2 = off) (hi : i.val % 2 = 1) => odd_vec c arg1 harg1 arg3 harg3 X S 8 i off h1 h2 he hi
  unfold half8
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half9_eq {β : Type} (k : Of16 (FVec Ideal S8x128 .f32) β) :
    half9 c arg1 harg1 arg3 (harg1.unread X) (harg3.unread S) k = rotate addf subf k (vec X S 9 0) (vec X S 9 1) (vec X S 9 2) (vec X S 9 3) (vec X S 9 4) (vec X S 9 5) (vec X S 9 6) (vec X S 9 7) (vec X S 9 8) (vec X S 9 9) (vec X S 9 10) (vec X S 9 11) (vec X S 9 12) (vec X S 9 13) (vec X S 9 14) (vec X S 9 15) := by
  have e := fun (i : Fin 16) (off : ℕ) (h1) (h2) (he : 64 * ((9 : Fin 12) : ℕ) + i.val / 2 = off) (hi : i.val % 2 = 0) => even_vec c arg1 harg1 arg3 harg3 X S 9 i off h1 h2 he hi
  have o := fun (i : Fin 16) (off : ℕ) (h1) (h2) (he : 64 * ((9 : Fin 12) : ℕ) + i.val / 2 = off) (hi : i.val % 2 = 1) => odd_vec c arg1 harg1 arg3 harg3 X S 9 i off h1 h2 he hi
  unfold half9
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half10_eq {β : Type} (k : Of16 (FVec Ideal S8x128 .f32) β) :
    half10 c arg1 harg1 arg3 (harg1.unread X) (harg3.unread S) k = rotate addf subf k (vec X S 10 0) (vec X S 10 1) (vec X S 10 2) (vec X S 10 3) (vec X S 10 4) (vec X S 10 5) (vec X S 10 6) (vec X S 10 7) (vec X S 10 8) (vec X S 10 9) (vec X S 10 10) (vec X S 10 11) (vec X S 10 12) (vec X S 10 13) (vec X S 10 14) (vec X S 10 15) := by
  have e := fun (i : Fin 16) (off : ℕ) (h1) (h2) (he : 64 * ((10 : Fin 12) : ℕ) + i.val / 2 = off) (hi : i.val % 2 = 0) => even_vec c arg1 harg1 arg3 harg3 X S 10 i off h1 h2 he hi
  have o := fun (i : Fin 16) (off : ℕ) (h1) (h2) (he : 64 * ((10 : Fin 12) : ℕ) + i.val / 2 = off) (hi : i.val % 2 = 1) => odd_vec c arg1 harg1 arg3 harg3 X S 10 i off h1 h2 he hi
  unfold half10
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem half11_eq {β : Type} (k : Of16 (FVec Ideal S8x128 .f32) β) :
    half11 c arg1 harg1 arg3 (harg1.unread X) (harg3.unread S) k = rotate addf subf k (vec X S 11 0) (vec X S 11 1) (vec X S 11 2) (vec X S 11 3) (vec X S 11 4) (vec X S 11 5) (vec X S 11 6) (vec X S 11 7) (vec X S 11 8) (vec X S 11 9) (vec X S 11 10) (vec X S 11 11) (vec X S 11 12) (vec X S 11 13) (vec X S 11 14) (vec X S 11 15) := by
  have e := fun (i : Fin 16) (off : ℕ) (h1) (h2) (he : 64 * ((11 : Fin 12) : ℕ) + i.val / 2 = off) (hi : i.val % 2 = 0) => even_vec c arg1 harg1 arg3 harg3 X S 11 i off h1 h2 he hi
  have o := fun (i : Fin 16) (off : ℕ) (h1) (h2) (he : 64 * ((11 : Fin 12) : ℕ) + i.val / 2 = off) (hi : i.val % 2 = 1) => odd_vec c arg1 harg1 arg3 harg3 X S 11 i off h1 h2 he hi
  unfold half11
  exact congr16 (rotate addf subf k) (e 0 _ _ _ rfl rfl) (o 1 _ _ _ rfl rfl) (e 2 _ _ _ rfl rfl) (o 3 _ _ _ rfl rfl) (e 4 _ _ _ rfl rfl) (o 5 _ _ _ rfl rfl) (e 6 _ _ _ rfl rfl) (o 7 _ _ _ rfl rfl) (e 8 _ _ _ rfl rfl) (o 9 _ _ _ rfl rfl) (e 10 _ _ _ rfl rfl) (o 11 _ _ _ rfl rfl) (e 12 _ _ _ rfl rfl) (o 13 _ _ _ rfl rfl) (e 14 _ _ _ rfl rfl) (o 15 _ _ _ rfl rfl)

theorem good_words_0 : Good (wordAt X R S A) (fun y => (y 0).val) 64 (kernelRun.sl.H8_8 c arg1 harg1 arg2 arg3 arg4 (harg1.unread X) (harg2.unread R) (harg3.unread S) (harg4.unread A)) := by
  rw [words_0]
  constructor
  · refine List.forall_mem_cons.2 ⟨pieceB_agrees c arg4 harg4 X R S A 0 7 7 rfl _ _ fun s l => by rw [half0_eq]; exact word7_apply _ _ s l (vec X S 0) _ fun q => bits_apply c arg2 harg2 R 0 3 0 rfl _ _ s l q, List.forall_mem_cons.2 ⟨pieceB_agrees c arg4 harg4 X R S A 0 6 6 rfl _ _ fun s l => by rw [half0_eq]; exact word6_apply _ _ s l (vec X S 0) _ fun q => bits_apply c arg2 harg2 R 0 3 0 rfl _ _ s l q, List.forall_mem_cons.2 ⟨pieceB_agrees c arg4 harg4 X R S A 0 5 5 rfl _ _ fun s l => by rw [half0_eq]; exact word5_apply _ _ s l (vec X S 0) _ fun q => bits_apply c arg2 harg2 R 0 2 0 rfl _ _ s l q, List.forall_mem_cons.2 ⟨pieceB_agrees c arg4 harg4 X R S A 0 4 4 rfl _ _ fun s l => by rw [half0_eq]; exact word4_apply _ _ s l (vec X S 0) _ fun q => bits_apply c arg2 harg2 R 0 2 0 rfl _ _ s l q, List.forall_mem_cons.2 ⟨pieceB_agrees c arg4 harg4 X R S A 0 3 3 rfl _ _ fun s l => by rw [half0_eq]; exact word3_apply _ _ s l (vec X S 0) _ fun q => bits_apply c arg2 harg2 R 0 1 0 rfl _ _ s l q, List.forall_mem_cons.2 ⟨pieceB_agrees c arg4 harg4 X R S A 0 2 2 rfl _ _ fun s l => by rw [half0_eq]; exact word2_apply _ _ s l (vec X S 0) _ fun q => bits_apply c arg2 harg2 R 0 1 0 rfl _ _ s l q, List.forall_mem_cons.2 ⟨pieceB_agrees c arg4 harg4 X R S A 0 1 1 rfl _ _ fun s l => by rw [half0_eq]; exact word1_apply _ _ s l (vec X S 0) _ fun q => bits_apply c arg2 harg2 R 0 0 0 rfl _ _ s l q, List.forall_mem_cons.2 ⟨pieceB_agrees c arg4 harg4 X R S A 0 0 0 rfl _ _ fun s l => by rw [half0_eq]; exact word0_apply _ _ s l (vec X S 0) _ fun q => bits_apply c arg2 harg2 R 0 0 0 rfl _ _ s l q, fun p hp => absurd hp List.not_mem_nil⟩⟩⟩⟩⟩⟩⟩⟩
  · intro y hy
    have hge : 0 ≤ (y 0).val := Nat.zero_le _
    obtain ⟨q, hq⟩ : ∃ q : ℕ, (y 0).val % 8 = q := ⟨_, rfl⟩
    have hq8 : q < 8 := hq ▸ Nat.mod_lt _ (by decide)
    have hy : (y 0).val < 64 := hy
    interval_cases q
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 0 _ _ y (((y 0).val - 0) / 8) (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), mem_pieceB 1 _ _ y (((y 0).val - 0) / 8) (by omega) (by omega)⟩
    · exact ⟨_, List.mem_cons_of_mem _ (List.mem_cons_of_mem _ (List.mem_cons_of_mem _ (List.mem_cons_of_mem _ (List.mem_cons_of_mem _ (List.mem_cons_self))))), mem_pieceB 2 _ _ y (((y 0).val - 0) / 8) (by omega) (by omega)⟩
    · exact ⟨_, List.mem_cons_of_mem _ (List.mem_cons_of_mem _ (List.mem_cons_of_mem _ (List.mem_cons_of_mem _ (List.mem_cons_self)))), mem_pieceB 3 _ _ y (((y 0).val - 0) / 8) (by omega) (by omega)⟩
    · exact ⟨_, List.mem_cons_of_mem _ (List.mem_cons_of_mem _ (List.mem_cons_of_mem _ (List.mem_cons_self))), mem_pieceB 4 _ _ y (((y 0).val - 0) / 8) (by omega) (by omega)⟩
    · exact ⟨_, List.mem_cons_of_mem _ (List.mem_cons_of_mem _ (List.mem_cons_self)), mem_pieceB 5 _ _ y (((y 0).val - 0) / 8) (by omega) (by omega)⟩
    · exact ⟨_, List.mem_cons_of_mem _ (List.mem_cons_self), mem_pieceB 6 _ _ y (((y 0).val - 0) / 8) (by omega) (by omega)⟩
    · exact ⟨_, List.mem_cons_self, mem_pieceB 7 _ _ y (((y 0).val - 0) / 8) (by omega) (by omega)⟩

theorem good_scales_0 : Good (scaleAt X S A) (fun y => (y 0).val) 8 (kernelRun.sl.H9_1 c arg1 harg1 arg3 arg4 (harg1.unread X) (harg3.unread S) (harg4.unread A)) := by
  rw [scales_0]
  constructor
  · refine List.forall_mem_cons.2 ⟨pieceS_agrees c arg4 harg4 X S A 0 0 rfl _ _ fun s l => by rw [half0_eq]; exact scales_apply _ s l (vec X S 0), fun p hp => absurd hp List.not_mem_nil⟩
  · intro y hy
    have hy : (y 0).val < 8 := hy
    exact ⟨_, List.mem_cons_self, mem_pieceS 0 _ _ y (Nat.zero_le _) (by omega)⟩

theorem good_words_1 : Good (wordAt X R S A) (fun y => (y 0).val) 128 (kernelRun.sl.H8_16 c arg1 harg1 arg2 arg3 arg4 (harg1.unread X) (harg2.unread R) (harg3.unread S) (harg4.unread A)) := by
  have ih := good_words_0 c arg1 harg1 arg2 harg2 arg3 harg3 arg4 harg4 X R S A
  rw [words_1]
  constructor
  · refine List.forall_mem_cons.2 ⟨pieceB_agrees c arg4 harg4 X R S A 1 7 71 rfl _ _ fun s l => by rw [half1_eq]; exact word7_apply _ _ s l (vec X S 1) _ fun q => bits_apply c arg2 harg2 R 1 3 32 rfl _ _ s l q, List.forall_mem_cons.2 ⟨pieceB_agrees c arg4 harg4 X R S A 1 6 70 rfl _ _ fun s l => by rw [half1_eq]; exact word6_apply _ _ s l (vec X S 1) _ fun q => bits_apply c arg2 harg2 R 1 3 32 rfl _ _ s l q, List.forall_mem_cons.2 ⟨pieceB_agrees c arg4 harg4 X R S A 1 5 69 rfl _ _ fun s l => by rw [half1_eq]; exact word5_apply _ _ s l (vec X S 1) _ fun q => bits_apply c arg2 harg2 R 1 2 32 rfl _ _ s l q, List.forall_mem_cons.2 ⟨pieceB_agrees c arg4 harg4 X R S A 1 4 68 rfl _ _ fun s l => by rw [half1_eq]; exact word4_apply _ _ s l (vec X S 1) _ fun q => bits_apply c arg2 harg2 R 1 2 32 rfl _ _ s l q, List.forall_mem_cons.2 ⟨pieceB_agrees c arg4 harg4 X R S A 1 3 67 rfl _ _ fun s l => by rw [half1_eq]; exact word3_apply _ _ s l (vec X S 1) _ fun q => bits_apply c arg2 harg2 R 1 1 32 rfl _ _ s l q, List.forall_mem_cons.2 ⟨pieceB_agrees c arg4 harg4 X R S A 1 2 66 rfl _ _ fun s l => by rw [half1_eq]; exact word2_apply _ _ s l (vec X S 1) _ fun q => bits_apply c arg2 harg2 R 1 1 32 rfl _ _ s l q, List.forall_mem_cons.2 ⟨pieceB_agrees c arg4 harg4 X R S A 1 1 65 rfl _ _ fun s l => by rw [half1_eq]; exact word1_apply _ _ s l (vec X S 1) _ fun q => bits_apply c arg2 harg2 R 1 0 32 rfl _ _ s l q, List.forall_mem_cons.2 ⟨pieceB_agrees c arg4 harg4 X R S A 1 0 64 rfl _ _ fun s l => by rw [half1_eq]; exact word0_apply _ _ s l (vec X S 1) _ fun q => bits_apply c arg2 harg2 R 1 0 32 rfl _ _ s l q, ih.1⟩⟩⟩⟩⟩⟩⟩⟩
  · intro y hy
    rcases Nat.lt_or_ge (y 0).val 64 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 128 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 64 _ _ y (((y 0).val - 64) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 65 _ _ y (((y 0).val - 64) / 8) (by omega) (by omega)⟩
      · exact ⟨_, List.mem_cons_of_mem _ (List.mem_cons_of_mem _ (List.mem_cons_of_mem _ (List.mem_cons_of_mem _ (List.mem_cons_of_mem _ (List.mem_cons_self))))), mem_pieceB 66 _ _ y (((y 0).val - 64) / 8) (by omega) (by omega)⟩
      · exact ⟨_, List.mem_cons_of_mem _ (List.mem_cons_of_mem _ (List.mem_cons_of_mem _ (List.mem_cons_of_mem _ (List.mem_cons_self)))), mem_pieceB 67 _ _ y (((y 0).val - 64) / 8) (by omega) (by omega)⟩
      · exact ⟨_, List.mem_cons_of_mem _ (List.mem_cons_of_mem _ (List.mem_cons_of_mem _ (List.mem_cons_self))), mem_pieceB 68 _ _ y (((y 0).val - 64) / 8) (by omega) (by omega)⟩
      · exact ⟨_, List.mem_cons_of_mem _ (List.mem_cons_of_mem _ (List.mem_cons_self)), mem_pieceB 69 _ _ y (((y 0).val - 64) / 8) (by omega) (by omega)⟩
      · exact ⟨_, List.mem_cons_of_mem _ (List.mem_cons_self), mem_pieceB 70 _ _ y (((y 0).val - 64) / 8) (by omega) (by omega)⟩
      · exact ⟨_, List.mem_cons_self, mem_pieceB 71 _ _ y (((y 0).val - 64) / 8) (by omega) (by omega)⟩

theorem good_scales_1 : Good (scaleAt X S A) (fun y => (y 0).val) 16 (kernelRun.sl.H9_2 c arg1 harg1 arg3 arg4 (harg1.unread X) (harg3.unread S) (harg4.unread A)) := by
  have ih := good_scales_0 c arg1 harg1 arg3 harg3 arg4 harg4 X S A
  rw [scales_1]
  constructor
  · refine List.forall_mem_cons.2 ⟨pieceS_agrees c arg4 harg4 X S A 1 8 rfl _ _ fun s l => by rw [half1_eq]; exact scales_apply _ s l (vec X S 1), ih.1⟩
  · intro y hy
    have hy : (y 0).val < 16 := hy
    rcases Nat.lt_or_ge (y 0).val 8 with hlt | hge
    · obtain ⟨p, hp, hy⟩ := ih.2 y hlt
      exact ⟨p, List.mem_cons_of_mem _ hp, hy⟩
    · exact ⟨_, List.mem_cons_self, mem_pieceS 8 _ _ y hge (by omega)⟩

theorem good_words_2 : Good (wordAt X R S A) (fun y => (y 0).val) 192 (kernelRun.sl.H8_24 c arg1 harg1 arg2 arg3 arg4 (harg1.unread X) (harg2.unread R) (harg3.unread S) (harg4.unread A)) := by
  have ih := good_words_1 c arg1 harg1 arg2 harg2 arg3 harg3 arg4 harg4 X R S A
  rw [words_2]
  constructor
  · refine List.forall_mem_cons.2 ⟨pieceB_agrees c arg4 harg4 X R S A 2 7 135 rfl _ _ fun s l => by rw [half2_eq]; exact word7_apply _ _ s l (vec X S 2) _ fun q => bits_apply c arg2 harg2 R 2 3 64 rfl _ _ s l q, List.forall_mem_cons.2 ⟨pieceB_agrees c arg4 harg4 X R S A 2 6 134 rfl _ _ fun s l => by rw [half2_eq]; exact word6_apply _ _ s l (vec X S 2) _ fun q => bits_apply c arg2 harg2 R 2 3 64 rfl _ _ s l q, List.forall_mem_cons.2 ⟨pieceB_agrees c arg4 harg4 X R S A 2 5 133 rfl _ _ fun s l => by rw [half2_eq]; exact word5_apply _ _ s l (vec X S 2) _ fun q => bits_apply c arg2 harg2 R 2 2 64 rfl _ _ s l q, List.forall_mem_cons.2 ⟨pieceB_agrees c arg4 harg4 X R S A 2 4 132 rfl _ _ fun s l => by rw [half2_eq]; exact word4_apply _ _ s l (vec X S 2) _ fun q => bits_apply c arg2 harg2 R 2 2 64 rfl _ _ s l q, List.forall_mem_cons.2 ⟨pieceB_agrees c arg4 harg4 X R S A 2 3 131 rfl _ _ fun s l => by rw [half2_eq]; exact word3_apply _ _ s l (vec X S 2) _ fun q => bits_apply c arg2 harg2 R 2 1 64 rfl _ _ s l q, List.forall_mem_cons.2 ⟨pieceB_agrees c arg4 harg4 X R S A 2 2 130 rfl _ _ fun s l => by rw [half2_eq]; exact word2_apply _ _ s l (vec X S 2) _ fun q => bits_apply c arg2 harg2 R 2 1 64 rfl _ _ s l q, List.forall_mem_cons.2 ⟨pieceB_agrees c arg4 harg4 X R S A 2 1 129 rfl _ _ fun s l => by rw [half2_eq]; exact word1_apply _ _ s l (vec X S 2) _ fun q => bits_apply c arg2 harg2 R 2 0 64 rfl _ _ s l q, List.forall_mem_cons.2 ⟨pieceB_agrees c arg4 harg4 X R S A 2 0 128 rfl _ _ fun s l => by rw [half2_eq]; exact word0_apply _ _ s l (vec X S 2) _ fun q => bits_apply c arg2 harg2 R 2 0 64 rfl _ _ s l q, ih.1⟩⟩⟩⟩⟩⟩⟩⟩
  · intro y hy
    rcases Nat.lt_or_ge (y 0).val 128 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 192 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 128 _ _ y (((y 0).val - 128) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 129 _ _ y (((y 0).val - 128) / 8) (by omega) (by omega)⟩
      · exact ⟨_, List.mem_cons_of_mem _ (List.mem_cons_of_mem _ (List.mem_cons_of_mem _ (List.mem_cons_of_mem _ (List.mem_cons_of_mem _ (List.mem_cons_self))))), mem_pieceB 130 _ _ y (((y 0).val - 128) / 8) (by omega) (by omega)⟩
      · exact ⟨_, List.mem_cons_of_mem _ (List.mem_cons_of_mem _ (List.mem_cons_of_mem _ (List.mem_cons_of_mem _ (List.mem_cons_self)))), mem_pieceB 131 _ _ y (((y 0).val - 128) / 8) (by omega) (by omega)⟩
      · exact ⟨_, List.mem_cons_of_mem _ (List.mem_cons_of_mem _ (List.mem_cons_of_mem _ (List.mem_cons_self))), mem_pieceB 132 _ _ y (((y 0).val - 128) / 8) (by omega) (by omega)⟩
      · exact ⟨_, List.mem_cons_of_mem _ (List.mem_cons_of_mem _ (List.mem_cons_self)), mem_pieceB 133 _ _ y (((y 0).val - 128) / 8) (by omega) (by omega)⟩
      · exact ⟨_, List.mem_cons_of_mem _ (List.mem_cons_self), mem_pieceB 134 _ _ y (((y 0).val - 128) / 8) (by omega) (by omega)⟩
      · exact ⟨_, List.mem_cons_self, mem_pieceB 135 _ _ y (((y 0).val - 128) / 8) (by omega) (by omega)⟩

theorem good_scales_2 : Good (scaleAt X S A) (fun y => (y 0).val) 24 (kernelRun.sl.H9_3 c arg1 harg1 arg3 arg4 (harg1.unread X) (harg3.unread S) (harg4.unread A)) := by
  have ih := good_scales_1 c arg1 harg1 arg3 harg3 arg4 harg4 X S A
  rw [scales_2]
  constructor
  · refine List.forall_mem_cons.2 ⟨pieceS_agrees c arg4 harg4 X S A 2 16 rfl _ _ fun s l => by rw [half2_eq]; exact scales_apply _ s l (vec X S 2), ih.1⟩
  · intro y hy
    have hy : (y 0).val < 24 := hy
    rcases Nat.lt_or_ge (y 0).val 16 with hlt | hge
    · obtain ⟨p, hp, hy⟩ := ih.2 y hlt
      exact ⟨p, List.mem_cons_of_mem _ hp, hy⟩
    · exact ⟨_, List.mem_cons_self, mem_pieceS 16 _ _ y hge (by omega)⟩

theorem good_words_3 : Good (wordAt X R S A) (fun y => (y 0).val) 256 (kernelRun.sl.H8_32 c arg1 harg1 arg2 arg3 arg4 (harg1.unread X) (harg2.unread R) (harg3.unread S) (harg4.unread A)) := by
  have ih := good_words_2 c arg1 harg1 arg2 harg2 arg3 harg3 arg4 harg4 X R S A
  rw [words_3]
  constructor
  · refine List.forall_mem_cons.2 ⟨pieceB_agrees c arg4 harg4 X R S A 3 7 199 rfl _ _ fun s l => by rw [half3_eq]; exact word7_apply _ _ s l (vec X S 3) _ fun q => bits_apply c arg2 harg2 R 3 3 96 rfl _ _ s l q, List.forall_mem_cons.2 ⟨pieceB_agrees c arg4 harg4 X R S A 3 6 198 rfl _ _ fun s l => by rw [half3_eq]; exact word6_apply _ _ s l (vec X S 3) _ fun q => bits_apply c arg2 harg2 R 3 3 96 rfl _ _ s l q, List.forall_mem_cons.2 ⟨pieceB_agrees c arg4 harg4 X R S A 3 5 197 rfl _ _ fun s l => by rw [half3_eq]; exact word5_apply _ _ s l (vec X S 3) _ fun q => bits_apply c arg2 harg2 R 3 2 96 rfl _ _ s l q, List.forall_mem_cons.2 ⟨pieceB_agrees c arg4 harg4 X R S A 3 4 196 rfl _ _ fun s l => by rw [half3_eq]; exact word4_apply _ _ s l (vec X S 3) _ fun q => bits_apply c arg2 harg2 R 3 2 96 rfl _ _ s l q, List.forall_mem_cons.2 ⟨pieceB_agrees c arg4 harg4 X R S A 3 3 195 rfl _ _ fun s l => by rw [half3_eq]; exact word3_apply _ _ s l (vec X S 3) _ fun q => bits_apply c arg2 harg2 R 3 1 96 rfl _ _ s l q, List.forall_mem_cons.2 ⟨pieceB_agrees c arg4 harg4 X R S A 3 2 194 rfl _ _ fun s l => by rw [half3_eq]; exact word2_apply _ _ s l (vec X S 3) _ fun q => bits_apply c arg2 harg2 R 3 1 96 rfl _ _ s l q, List.forall_mem_cons.2 ⟨pieceB_agrees c arg4 harg4 X R S A 3 1 193 rfl _ _ fun s l => by rw [half3_eq]; exact word1_apply _ _ s l (vec X S 3) _ fun q => bits_apply c arg2 harg2 R 3 0 96 rfl _ _ s l q, List.forall_mem_cons.2 ⟨pieceB_agrees c arg4 harg4 X R S A 3 0 192 rfl _ _ fun s l => by rw [half3_eq]; exact word0_apply _ _ s l (vec X S 3) _ fun q => bits_apply c arg2 harg2 R 3 0 96 rfl _ _ s l q, ih.1⟩⟩⟩⟩⟩⟩⟩⟩
  · intro y hy
    rcases Nat.lt_or_ge (y 0).val 192 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 256 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 192 _ _ y (((y 0).val - 192) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 193 _ _ y (((y 0).val - 192) / 8) (by omega) (by omega)⟩
      · exact ⟨_, List.mem_cons_of_mem _ (List.mem_cons_of_mem _ (List.mem_cons_of_mem _ (List.mem_cons_of_mem _ (List.mem_cons_of_mem _ (List.mem_cons_self))))), mem_pieceB 194 _ _ y (((y 0).val - 192) / 8) (by omega) (by omega)⟩
      · exact ⟨_, List.mem_cons_of_mem _ (List.mem_cons_of_mem _ (List.mem_cons_of_mem _ (List.mem_cons_of_mem _ (List.mem_cons_self)))), mem_pieceB 195 _ _ y (((y 0).val - 192) / 8) (by omega) (by omega)⟩
      · exact ⟨_, List.mem_cons_of_mem _ (List.mem_cons_of_mem _ (List.mem_cons_of_mem _ (List.mem_cons_self))), mem_pieceB 196 _ _ y (((y 0).val - 192) / 8) (by omega) (by omega)⟩
      · exact ⟨_, List.mem_cons_of_mem _ (List.mem_cons_of_mem _ (List.mem_cons_self)), mem_pieceB 197 _ _ y (((y 0).val - 192) / 8) (by omega) (by omega)⟩
      · exact ⟨_, List.mem_cons_of_mem _ (List.mem_cons_self), mem_pieceB 198 _ _ y (((y 0).val - 192) / 8) (by omega) (by omega)⟩
      · exact ⟨_, List.mem_cons_self, mem_pieceB 199 _ _ y (((y 0).val - 192) / 8) (by omega) (by omega)⟩

theorem good_scales_3 : Good (scaleAt X S A) (fun y => (y 0).val) 32 (kernelRun.sl.H9_4 c arg1 harg1 arg3 arg4 (harg1.unread X) (harg3.unread S) (harg4.unread A)) := by
  have ih := good_scales_2 c arg1 harg1 arg3 harg3 arg4 harg4 X S A
  rw [scales_3]
  constructor
  · refine List.forall_mem_cons.2 ⟨pieceS_agrees c arg4 harg4 X S A 3 24 rfl _ _ fun s l => by rw [half3_eq]; exact scales_apply _ s l (vec X S 3), ih.1⟩
  · intro y hy
    have hy : (y 0).val < 32 := hy
    rcases Nat.lt_or_ge (y 0).val 24 with hlt | hge
    · obtain ⟨p, hp, hy⟩ := ih.2 y hlt
      exact ⟨p, List.mem_cons_of_mem _ hp, hy⟩
    · exact ⟨_, List.mem_cons_self, mem_pieceS 24 _ _ y hge (by omega)⟩

theorem good_words_4 : Good (wordAt X R S A) (fun y => (y 0).val) 320 (kernelRun.sl.H8_40 c arg1 harg1 arg2 arg3 arg4 (harg1.unread X) (harg2.unread R) (harg3.unread S) (harg4.unread A)) := by
  have ih := good_words_3 c arg1 harg1 arg2 harg2 arg3 harg3 arg4 harg4 X R S A
  rw [words_4]
  constructor
  · refine List.forall_mem_cons.2 ⟨pieceB_agrees c arg4 harg4 X R S A 4 7 263 rfl _ _ fun s l => by rw [half4_eq]; exact word7_apply _ _ s l (vec X S 4) _ fun q => bits_apply c arg2 harg2 R 4 3 128 rfl _ _ s l q, List.forall_mem_cons.2 ⟨pieceB_agrees c arg4 harg4 X R S A 4 6 262 rfl _ _ fun s l => by rw [half4_eq]; exact word6_apply _ _ s l (vec X S 4) _ fun q => bits_apply c arg2 harg2 R 4 3 128 rfl _ _ s l q, List.forall_mem_cons.2 ⟨pieceB_agrees c arg4 harg4 X R S A 4 5 261 rfl _ _ fun s l => by rw [half4_eq]; exact word5_apply _ _ s l (vec X S 4) _ fun q => bits_apply c arg2 harg2 R 4 2 128 rfl _ _ s l q, List.forall_mem_cons.2 ⟨pieceB_agrees c arg4 harg4 X R S A 4 4 260 rfl _ _ fun s l => by rw [half4_eq]; exact word4_apply _ _ s l (vec X S 4) _ fun q => bits_apply c arg2 harg2 R 4 2 128 rfl _ _ s l q, List.forall_mem_cons.2 ⟨pieceB_agrees c arg4 harg4 X R S A 4 3 259 rfl _ _ fun s l => by rw [half4_eq]; exact word3_apply _ _ s l (vec X S 4) _ fun q => bits_apply c arg2 harg2 R 4 1 128 rfl _ _ s l q, List.forall_mem_cons.2 ⟨pieceB_agrees c arg4 harg4 X R S A 4 2 258 rfl _ _ fun s l => by rw [half4_eq]; exact word2_apply _ _ s l (vec X S 4) _ fun q => bits_apply c arg2 harg2 R 4 1 128 rfl _ _ s l q, List.forall_mem_cons.2 ⟨pieceB_agrees c arg4 harg4 X R S A 4 1 257 rfl _ _ fun s l => by rw [half4_eq]; exact word1_apply _ _ s l (vec X S 4) _ fun q => bits_apply c arg2 harg2 R 4 0 128 rfl _ _ s l q, List.forall_mem_cons.2 ⟨pieceB_agrees c arg4 harg4 X R S A 4 0 256 rfl _ _ fun s l => by rw [half4_eq]; exact word0_apply _ _ s l (vec X S 4) _ fun q => bits_apply c arg2 harg2 R 4 0 128 rfl _ _ s l q, ih.1⟩⟩⟩⟩⟩⟩⟩⟩
  · intro y hy
    rcases Nat.lt_or_ge (y 0).val 256 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 320 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 256 _ _ y (((y 0).val - 256) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 257 _ _ y (((y 0).val - 256) / 8) (by omega) (by omega)⟩
      · exact ⟨_, List.mem_cons_of_mem _ (List.mem_cons_of_mem _ (List.mem_cons_of_mem _ (List.mem_cons_of_mem _ (List.mem_cons_of_mem _ (List.mem_cons_self))))), mem_pieceB 258 _ _ y (((y 0).val - 256) / 8) (by omega) (by omega)⟩
      · exact ⟨_, List.mem_cons_of_mem _ (List.mem_cons_of_mem _ (List.mem_cons_of_mem _ (List.mem_cons_of_mem _ (List.mem_cons_self)))), mem_pieceB 259 _ _ y (((y 0).val - 256) / 8) (by omega) (by omega)⟩
      · exact ⟨_, List.mem_cons_of_mem _ (List.mem_cons_of_mem _ (List.mem_cons_of_mem _ (List.mem_cons_self))), mem_pieceB 260 _ _ y (((y 0).val - 256) / 8) (by omega) (by omega)⟩
      · exact ⟨_, List.mem_cons_of_mem _ (List.mem_cons_of_mem _ (List.mem_cons_self)), mem_pieceB 261 _ _ y (((y 0).val - 256) / 8) (by omega) (by omega)⟩
      · exact ⟨_, List.mem_cons_of_mem _ (List.mem_cons_self), mem_pieceB 262 _ _ y (((y 0).val - 256) / 8) (by omega) (by omega)⟩
      · exact ⟨_, List.mem_cons_self, mem_pieceB 263 _ _ y (((y 0).val - 256) / 8) (by omega) (by omega)⟩

theorem good_scales_4 : Good (scaleAt X S A) (fun y => (y 0).val) 40 (kernelRun.sl.H9_5 c arg1 harg1 arg3 arg4 (harg1.unread X) (harg3.unread S) (harg4.unread A)) := by
  have ih := good_scales_3 c arg1 harg1 arg3 harg3 arg4 harg4 X S A
  rw [scales_4]
  constructor
  · refine List.forall_mem_cons.2 ⟨pieceS_agrees c arg4 harg4 X S A 4 32 rfl _ _ fun s l => by rw [half4_eq]; exact scales_apply _ s l (vec X S 4), ih.1⟩
  · intro y hy
    have hy : (y 0).val < 40 := hy
    rcases Nat.lt_or_ge (y 0).val 32 with hlt | hge
    · obtain ⟨p, hp, hy⟩ := ih.2 y hlt
      exact ⟨p, List.mem_cons_of_mem _ hp, hy⟩
    · exact ⟨_, List.mem_cons_self, mem_pieceS 32 _ _ y hge (by omega)⟩

theorem good_words_5 : Good (wordAt X R S A) (fun y => (y 0).val) 384 (kernelRun.sl.H8_48 c arg1 harg1 arg2 arg3 arg4 (harg1.unread X) (harg2.unread R) (harg3.unread S) (harg4.unread A)) := by
  have ih := good_words_4 c arg1 harg1 arg2 harg2 arg3 harg3 arg4 harg4 X R S A
  rw [words_5]
  constructor
  · refine List.forall_mem_cons.2 ⟨pieceB_agrees c arg4 harg4 X R S A 5 7 327 rfl _ _ fun s l => by rw [half5_eq]; exact word7_apply _ _ s l (vec X S 5) _ fun q => bits_apply c arg2 harg2 R 5 3 160 rfl _ _ s l q, List.forall_mem_cons.2 ⟨pieceB_agrees c arg4 harg4 X R S A 5 6 326 rfl _ _ fun s l => by rw [half5_eq]; exact word6_apply _ _ s l (vec X S 5) _ fun q => bits_apply c arg2 harg2 R 5 3 160 rfl _ _ s l q, List.forall_mem_cons.2 ⟨pieceB_agrees c arg4 harg4 X R S A 5 5 325 rfl _ _ fun s l => by rw [half5_eq]; exact word5_apply _ _ s l (vec X S 5) _ fun q => bits_apply c arg2 harg2 R 5 2 160 rfl _ _ s l q, List.forall_mem_cons.2 ⟨pieceB_agrees c arg4 harg4 X R S A 5 4 324 rfl _ _ fun s l => by rw [half5_eq]; exact word4_apply _ _ s l (vec X S 5) _ fun q => bits_apply c arg2 harg2 R 5 2 160 rfl _ _ s l q, List.forall_mem_cons.2 ⟨pieceB_agrees c arg4 harg4 X R S A 5 3 323 rfl _ _ fun s l => by rw [half5_eq]; exact word3_apply _ _ s l (vec X S 5) _ fun q => bits_apply c arg2 harg2 R 5 1 160 rfl _ _ s l q, List.forall_mem_cons.2 ⟨pieceB_agrees c arg4 harg4 X R S A 5 2 322 rfl _ _ fun s l => by rw [half5_eq]; exact word2_apply _ _ s l (vec X S 5) _ fun q => bits_apply c arg2 harg2 R 5 1 160 rfl _ _ s l q, List.forall_mem_cons.2 ⟨pieceB_agrees c arg4 harg4 X R S A 5 1 321 rfl _ _ fun s l => by rw [half5_eq]; exact word1_apply _ _ s l (vec X S 5) _ fun q => bits_apply c arg2 harg2 R 5 0 160 rfl _ _ s l q, List.forall_mem_cons.2 ⟨pieceB_agrees c arg4 harg4 X R S A 5 0 320 rfl _ _ fun s l => by rw [half5_eq]; exact word0_apply _ _ s l (vec X S 5) _ fun q => bits_apply c arg2 harg2 R 5 0 160 rfl _ _ s l q, ih.1⟩⟩⟩⟩⟩⟩⟩⟩
  · intro y hy
    rcases Nat.lt_or_ge (y 0).val 320 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 384 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 320 _ _ y (((y 0).val - 320) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 321 _ _ y (((y 0).val - 320) / 8) (by omega) (by omega)⟩
      · exact ⟨_, List.mem_cons_of_mem _ (List.mem_cons_of_mem _ (List.mem_cons_of_mem _ (List.mem_cons_of_mem _ (List.mem_cons_of_mem _ (List.mem_cons_self))))), mem_pieceB 322 _ _ y (((y 0).val - 320) / 8) (by omega) (by omega)⟩
      · exact ⟨_, List.mem_cons_of_mem _ (List.mem_cons_of_mem _ (List.mem_cons_of_mem _ (List.mem_cons_of_mem _ (List.mem_cons_self)))), mem_pieceB 323 _ _ y (((y 0).val - 320) / 8) (by omega) (by omega)⟩
      · exact ⟨_, List.mem_cons_of_mem _ (List.mem_cons_of_mem _ (List.mem_cons_of_mem _ (List.mem_cons_self))), mem_pieceB 324 _ _ y (((y 0).val - 320) / 8) (by omega) (by omega)⟩
      · exact ⟨_, List.mem_cons_of_mem _ (List.mem_cons_of_mem _ (List.mem_cons_self)), mem_pieceB 325 _ _ y (((y 0).val - 320) / 8) (by omega) (by omega)⟩
      · exact ⟨_, List.mem_cons_of_mem _ (List.mem_cons_self), mem_pieceB 326 _ _ y (((y 0).val - 320) / 8) (by omega) (by omega)⟩
      · exact ⟨_, List.mem_cons_self, mem_pieceB 327 _ _ y (((y 0).val - 320) / 8) (by omega) (by omega)⟩

theorem good_scales_5 : Good (scaleAt X S A) (fun y => (y 0).val) 48 (kernelRun.sl.H9_6 c arg1 harg1 arg3 arg4 (harg1.unread X) (harg3.unread S) (harg4.unread A)) := by
  have ih := good_scales_4 c arg1 harg1 arg3 harg3 arg4 harg4 X S A
  rw [scales_5]
  constructor
  · refine List.forall_mem_cons.2 ⟨pieceS_agrees c arg4 harg4 X S A 5 40 rfl _ _ fun s l => by rw [half5_eq]; exact scales_apply _ s l (vec X S 5), ih.1⟩
  · intro y hy
    have hy : (y 0).val < 48 := hy
    rcases Nat.lt_or_ge (y 0).val 40 with hlt | hge
    · obtain ⟨p, hp, hy⟩ := ih.2 y hlt
      exact ⟨p, List.mem_cons_of_mem _ hp, hy⟩
    · exact ⟨_, List.mem_cons_self, mem_pieceS 40 _ _ y hge (by omega)⟩

theorem good_words_6 : Good (wordAt X R S A) (fun y => (y 0).val) 448 (kernelRun.sl.H8_56 c arg1 harg1 arg2 arg3 arg4 (harg1.unread X) (harg2.unread R) (harg3.unread S) (harg4.unread A)) := by
  have ih := good_words_5 c arg1 harg1 arg2 harg2 arg3 harg3 arg4 harg4 X R S A
  rw [words_6]
  constructor
  · refine List.forall_mem_cons.2 ⟨pieceB_agrees c arg4 harg4 X R S A 6 7 391 rfl _ _ fun s l => by rw [half6_eq]; exact word7_apply _ _ s l (vec X S 6) _ fun q => bits_apply c arg2 harg2 R 6 3 192 rfl _ _ s l q, List.forall_mem_cons.2 ⟨pieceB_agrees c arg4 harg4 X R S A 6 6 390 rfl _ _ fun s l => by rw [half6_eq]; exact word6_apply _ _ s l (vec X S 6) _ fun q => bits_apply c arg2 harg2 R 6 3 192 rfl _ _ s l q, List.forall_mem_cons.2 ⟨pieceB_agrees c arg4 harg4 X R S A 6 5 389 rfl _ _ fun s l => by rw [half6_eq]; exact word5_apply _ _ s l (vec X S 6) _ fun q => bits_apply c arg2 harg2 R 6 2 192 rfl _ _ s l q, List.forall_mem_cons.2 ⟨pieceB_agrees c arg4 harg4 X R S A 6 4 388 rfl _ _ fun s l => by rw [half6_eq]; exact word4_apply _ _ s l (vec X S 6) _ fun q => bits_apply c arg2 harg2 R 6 2 192 rfl _ _ s l q, List.forall_mem_cons.2 ⟨pieceB_agrees c arg4 harg4 X R S A 6 3 387 rfl _ _ fun s l => by rw [half6_eq]; exact word3_apply _ _ s l (vec X S 6) _ fun q => bits_apply c arg2 harg2 R 6 1 192 rfl _ _ s l q, List.forall_mem_cons.2 ⟨pieceB_agrees c arg4 harg4 X R S A 6 2 386 rfl _ _ fun s l => by rw [half6_eq]; exact word2_apply _ _ s l (vec X S 6) _ fun q => bits_apply c arg2 harg2 R 6 1 192 rfl _ _ s l q, List.forall_mem_cons.2 ⟨pieceB_agrees c arg4 harg4 X R S A 6 1 385 rfl _ _ fun s l => by rw [half6_eq]; exact word1_apply _ _ s l (vec X S 6) _ fun q => bits_apply c arg2 harg2 R 6 0 192 rfl _ _ s l q, List.forall_mem_cons.2 ⟨pieceB_agrees c arg4 harg4 X R S A 6 0 384 rfl _ _ fun s l => by rw [half6_eq]; exact word0_apply _ _ s l (vec X S 6) _ fun q => bits_apply c arg2 harg2 R 6 0 192 rfl _ _ s l q, ih.1⟩⟩⟩⟩⟩⟩⟩⟩
  · intro y hy
    rcases Nat.lt_or_ge (y 0).val 384 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 448 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 384 _ _ y (((y 0).val - 384) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 385 _ _ y (((y 0).val - 384) / 8) (by omega) (by omega)⟩
      · exact ⟨_, List.mem_cons_of_mem _ (List.mem_cons_of_mem _ (List.mem_cons_of_mem _ (List.mem_cons_of_mem _ (List.mem_cons_of_mem _ (List.mem_cons_self))))), mem_pieceB 386 _ _ y (((y 0).val - 384) / 8) (by omega) (by omega)⟩
      · exact ⟨_, List.mem_cons_of_mem _ (List.mem_cons_of_mem _ (List.mem_cons_of_mem _ (List.mem_cons_of_mem _ (List.mem_cons_self)))), mem_pieceB 387 _ _ y (((y 0).val - 384) / 8) (by omega) (by omega)⟩
      · exact ⟨_, List.mem_cons_of_mem _ (List.mem_cons_of_mem _ (List.mem_cons_of_mem _ (List.mem_cons_self))), mem_pieceB 388 _ _ y (((y 0).val - 384) / 8) (by omega) (by omega)⟩
      · exact ⟨_, List.mem_cons_of_mem _ (List.mem_cons_of_mem _ (List.mem_cons_self)), mem_pieceB 389 _ _ y (((y 0).val - 384) / 8) (by omega) (by omega)⟩
      · exact ⟨_, List.mem_cons_of_mem _ (List.mem_cons_self), mem_pieceB 390 _ _ y (((y 0).val - 384) / 8) (by omega) (by omega)⟩
      · exact ⟨_, List.mem_cons_self, mem_pieceB 391 _ _ y (((y 0).val - 384) / 8) (by omega) (by omega)⟩

theorem good_scales_6 : Good (scaleAt X S A) (fun y => (y 0).val) 56 (kernelRun.sl.H9_7 c arg1 harg1 arg3 arg4 (harg1.unread X) (harg3.unread S) (harg4.unread A)) := by
  have ih := good_scales_5 c arg1 harg1 arg3 harg3 arg4 harg4 X S A
  rw [scales_6]
  constructor
  · refine List.forall_mem_cons.2 ⟨pieceS_agrees c arg4 harg4 X S A 6 48 rfl _ _ fun s l => by rw [half6_eq]; exact scales_apply _ s l (vec X S 6), ih.1⟩
  · intro y hy
    have hy : (y 0).val < 56 := hy
    rcases Nat.lt_or_ge (y 0).val 48 with hlt | hge
    · obtain ⟨p, hp, hy⟩ := ih.2 y hlt
      exact ⟨p, List.mem_cons_of_mem _ hp, hy⟩
    · exact ⟨_, List.mem_cons_self, mem_pieceS 48 _ _ y hge (by omega)⟩

theorem good_words_7 : Good (wordAt X R S A) (fun y => (y 0).val) 512 (kernelRun.sl.H8_64 c arg1 harg1 arg2 arg3 arg4 (harg1.unread X) (harg2.unread R) (harg3.unread S) (harg4.unread A)) := by
  have ih := good_words_6 c arg1 harg1 arg2 harg2 arg3 harg3 arg4 harg4 X R S A
  rw [words_7]
  constructor
  · refine List.forall_mem_cons.2 ⟨pieceB_agrees c arg4 harg4 X R S A 7 7 455 rfl _ _ fun s l => by rw [half7_eq]; exact word7_apply _ _ s l (vec X S 7) _ fun q => bits_apply c arg2 harg2 R 7 3 224 rfl _ _ s l q, List.forall_mem_cons.2 ⟨pieceB_agrees c arg4 harg4 X R S A 7 6 454 rfl _ _ fun s l => by rw [half7_eq]; exact word6_apply _ _ s l (vec X S 7) _ fun q => bits_apply c arg2 harg2 R 7 3 224 rfl _ _ s l q, List.forall_mem_cons.2 ⟨pieceB_agrees c arg4 harg4 X R S A 7 5 453 rfl _ _ fun s l => by rw [half7_eq]; exact word5_apply _ _ s l (vec X S 7) _ fun q => bits_apply c arg2 harg2 R 7 2 224 rfl _ _ s l q, List.forall_mem_cons.2 ⟨pieceB_agrees c arg4 harg4 X R S A 7 4 452 rfl _ _ fun s l => by rw [half7_eq]; exact word4_apply _ _ s l (vec X S 7) _ fun q => bits_apply c arg2 harg2 R 7 2 224 rfl _ _ s l q, List.forall_mem_cons.2 ⟨pieceB_agrees c arg4 harg4 X R S A 7 3 451 rfl _ _ fun s l => by rw [half7_eq]; exact word3_apply _ _ s l (vec X S 7) _ fun q => bits_apply c arg2 harg2 R 7 1 224 rfl _ _ s l q, List.forall_mem_cons.2 ⟨pieceB_agrees c arg4 harg4 X R S A 7 2 450 rfl _ _ fun s l => by rw [half7_eq]; exact word2_apply _ _ s l (vec X S 7) _ fun q => bits_apply c arg2 harg2 R 7 1 224 rfl _ _ s l q, List.forall_mem_cons.2 ⟨pieceB_agrees c arg4 harg4 X R S A 7 1 449 rfl _ _ fun s l => by rw [half7_eq]; exact word1_apply _ _ s l (vec X S 7) _ fun q => bits_apply c arg2 harg2 R 7 0 224 rfl _ _ s l q, List.forall_mem_cons.2 ⟨pieceB_agrees c arg4 harg4 X R S A 7 0 448 rfl _ _ fun s l => by rw [half7_eq]; exact word0_apply _ _ s l (vec X S 7) _ fun q => bits_apply c arg2 harg2 R 7 0 224 rfl _ _ s l q, ih.1⟩⟩⟩⟩⟩⟩⟩⟩
  · intro y hy
    rcases Nat.lt_or_ge (y 0).val 448 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 512 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 448 _ _ y (((y 0).val - 448) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 449 _ _ y (((y 0).val - 448) / 8) (by omega) (by omega)⟩
      · exact ⟨_, List.mem_cons_of_mem _ (List.mem_cons_of_mem _ (List.mem_cons_of_mem _ (List.mem_cons_of_mem _ (List.mem_cons_of_mem _ (List.mem_cons_self))))), mem_pieceB 450 _ _ y (((y 0).val - 448) / 8) (by omega) (by omega)⟩
      · exact ⟨_, List.mem_cons_of_mem _ (List.mem_cons_of_mem _ (List.mem_cons_of_mem _ (List.mem_cons_of_mem _ (List.mem_cons_self)))), mem_pieceB 451 _ _ y (((y 0).val - 448) / 8) (by omega) (by omega)⟩
      · exact ⟨_, List.mem_cons_of_mem _ (List.mem_cons_of_mem _ (List.mem_cons_of_mem _ (List.mem_cons_self))), mem_pieceB 452 _ _ y (((y 0).val - 448) / 8) (by omega) (by omega)⟩
      · exact ⟨_, List.mem_cons_of_mem _ (List.mem_cons_of_mem _ (List.mem_cons_self)), mem_pieceB 453 _ _ y (((y 0).val - 448) / 8) (by omega) (by omega)⟩
      · exact ⟨_, List.mem_cons_of_mem _ (List.mem_cons_self), mem_pieceB 454 _ _ y (((y 0).val - 448) / 8) (by omega) (by omega)⟩
      · exact ⟨_, List.mem_cons_self, mem_pieceB 455 _ _ y (((y 0).val - 448) / 8) (by omega) (by omega)⟩

theorem good_scales_7 : Good (scaleAt X S A) (fun y => (y 0).val) 64 (kernelRun.sl.H9_8 c arg1 harg1 arg3 arg4 (harg1.unread X) (harg3.unread S) (harg4.unread A)) := by
  have ih := good_scales_6 c arg1 harg1 arg3 harg3 arg4 harg4 X S A
  rw [scales_7]
  constructor
  · refine List.forall_mem_cons.2 ⟨pieceS_agrees c arg4 harg4 X S A 7 56 rfl _ _ fun s l => by rw [half7_eq]; exact scales_apply _ s l (vec X S 7), ih.1⟩
  · intro y hy
    have hy : (y 0).val < 64 := hy
    rcases Nat.lt_or_ge (y 0).val 56 with hlt | hge
    · obtain ⟨p, hp, hy⟩ := ih.2 y hlt
      exact ⟨p, List.mem_cons_of_mem _ hp, hy⟩
    · exact ⟨_, List.mem_cons_self, mem_pieceS 56 _ _ y hge (by omega)⟩

theorem good_words_8 : Good (wordAt X R S A) (fun y => (y 0).val) 576 (kernelRun.sl.H8_72 c arg1 harg1 arg2 arg3 arg4 (harg1.unread X) (harg2.unread R) (harg3.unread S) (harg4.unread A)) := by
  have ih := good_words_7 c arg1 harg1 arg2 harg2 arg3 harg3 arg4 harg4 X R S A
  rw [words_8]
  constructor
  · refine List.forall_mem_cons.2 ⟨pieceB_agrees c arg4 harg4 X R S A 8 7 519 rfl _ _ fun s l => by rw [half8_eq]; exact word7_apply _ _ s l (vec X S 8) _ fun q => bits_apply c arg2 harg2 R 8 3 256 rfl _ _ s l q, List.forall_mem_cons.2 ⟨pieceB_agrees c arg4 harg4 X R S A 8 6 518 rfl _ _ fun s l => by rw [half8_eq]; exact word6_apply _ _ s l (vec X S 8) _ fun q => bits_apply c arg2 harg2 R 8 3 256 rfl _ _ s l q, List.forall_mem_cons.2 ⟨pieceB_agrees c arg4 harg4 X R S A 8 5 517 rfl _ _ fun s l => by rw [half8_eq]; exact word5_apply _ _ s l (vec X S 8) _ fun q => bits_apply c arg2 harg2 R 8 2 256 rfl _ _ s l q, List.forall_mem_cons.2 ⟨pieceB_agrees c arg4 harg4 X R S A 8 4 516 rfl _ _ fun s l => by rw [half8_eq]; exact word4_apply _ _ s l (vec X S 8) _ fun q => bits_apply c arg2 harg2 R 8 2 256 rfl _ _ s l q, List.forall_mem_cons.2 ⟨pieceB_agrees c arg4 harg4 X R S A 8 3 515 rfl _ _ fun s l => by rw [half8_eq]; exact word3_apply _ _ s l (vec X S 8) _ fun q => bits_apply c arg2 harg2 R 8 1 256 rfl _ _ s l q, List.forall_mem_cons.2 ⟨pieceB_agrees c arg4 harg4 X R S A 8 2 514 rfl _ _ fun s l => by rw [half8_eq]; exact word2_apply _ _ s l (vec X S 8) _ fun q => bits_apply c arg2 harg2 R 8 1 256 rfl _ _ s l q, List.forall_mem_cons.2 ⟨pieceB_agrees c arg4 harg4 X R S A 8 1 513 rfl _ _ fun s l => by rw [half8_eq]; exact word1_apply _ _ s l (vec X S 8) _ fun q => bits_apply c arg2 harg2 R 8 0 256 rfl _ _ s l q, List.forall_mem_cons.2 ⟨pieceB_agrees c arg4 harg4 X R S A 8 0 512 rfl _ _ fun s l => by rw [half8_eq]; exact word0_apply _ _ s l (vec X S 8) _ fun q => bits_apply c arg2 harg2 R 8 0 256 rfl _ _ s l q, ih.1⟩⟩⟩⟩⟩⟩⟩⟩
  · intro y hy
    rcases Nat.lt_or_ge (y 0).val 512 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 576 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 512 _ _ y (((y 0).val - 512) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 513 _ _ y (((y 0).val - 512) / 8) (by omega) (by omega)⟩
      · exact ⟨_, List.mem_cons_of_mem _ (List.mem_cons_of_mem _ (List.mem_cons_of_mem _ (List.mem_cons_of_mem _ (List.mem_cons_of_mem _ (List.mem_cons_self))))), mem_pieceB 514 _ _ y (((y 0).val - 512) / 8) (by omega) (by omega)⟩
      · exact ⟨_, List.mem_cons_of_mem _ (List.mem_cons_of_mem _ (List.mem_cons_of_mem _ (List.mem_cons_of_mem _ (List.mem_cons_self)))), mem_pieceB 515 _ _ y (((y 0).val - 512) / 8) (by omega) (by omega)⟩
      · exact ⟨_, List.mem_cons_of_mem _ (List.mem_cons_of_mem _ (List.mem_cons_of_mem _ (List.mem_cons_self))), mem_pieceB 516 _ _ y (((y 0).val - 512) / 8) (by omega) (by omega)⟩
      · exact ⟨_, List.mem_cons_of_mem _ (List.mem_cons_of_mem _ (List.mem_cons_self)), mem_pieceB 517 _ _ y (((y 0).val - 512) / 8) (by omega) (by omega)⟩
      · exact ⟨_, List.mem_cons_of_mem _ (List.mem_cons_self), mem_pieceB 518 _ _ y (((y 0).val - 512) / 8) (by omega) (by omega)⟩
      · exact ⟨_, List.mem_cons_self, mem_pieceB 519 _ _ y (((y 0).val - 512) / 8) (by omega) (by omega)⟩

theorem good_scales_8 : Good (scaleAt X S A) (fun y => (y 0).val) 72 (kernelRun.sl.H9_9 c arg1 harg1 arg3 arg4 (harg1.unread X) (harg3.unread S) (harg4.unread A)) := by
  have ih := good_scales_7 c arg1 harg1 arg3 harg3 arg4 harg4 X S A
  rw [scales_8]
  constructor
  · refine List.forall_mem_cons.2 ⟨pieceS_agrees c arg4 harg4 X S A 8 64 rfl _ _ fun s l => by rw [half8_eq]; exact scales_apply _ s l (vec X S 8), ih.1⟩
  · intro y hy
    have hy : (y 0).val < 72 := hy
    rcases Nat.lt_or_ge (y 0).val 64 with hlt | hge
    · obtain ⟨p, hp, hy⟩ := ih.2 y hlt
      exact ⟨p, List.mem_cons_of_mem _ hp, hy⟩
    · exact ⟨_, List.mem_cons_self, mem_pieceS 64 _ _ y hge (by omega)⟩

theorem good_words_9 : Good (wordAt X R S A) (fun y => (y 0).val) 640 (kernelRun.sl.H8_80 c arg1 harg1 arg2 arg3 arg4 (harg1.unread X) (harg2.unread R) (harg3.unread S) (harg4.unread A)) := by
  have ih := good_words_8 c arg1 harg1 arg2 harg2 arg3 harg3 arg4 harg4 X R S A
  rw [words_9]
  constructor
  · refine List.forall_mem_cons.2 ⟨pieceB_agrees c arg4 harg4 X R S A 9 7 583 rfl _ _ fun s l => by rw [half9_eq]; exact word7_apply _ _ s l (vec X S 9) _ fun q => bits_apply c arg2 harg2 R 9 3 288 rfl _ _ s l q, List.forall_mem_cons.2 ⟨pieceB_agrees c arg4 harg4 X R S A 9 6 582 rfl _ _ fun s l => by rw [half9_eq]; exact word6_apply _ _ s l (vec X S 9) _ fun q => bits_apply c arg2 harg2 R 9 3 288 rfl _ _ s l q, List.forall_mem_cons.2 ⟨pieceB_agrees c arg4 harg4 X R S A 9 5 581 rfl _ _ fun s l => by rw [half9_eq]; exact word5_apply _ _ s l (vec X S 9) _ fun q => bits_apply c arg2 harg2 R 9 2 288 rfl _ _ s l q, List.forall_mem_cons.2 ⟨pieceB_agrees c arg4 harg4 X R S A 9 4 580 rfl _ _ fun s l => by rw [half9_eq]; exact word4_apply _ _ s l (vec X S 9) _ fun q => bits_apply c arg2 harg2 R 9 2 288 rfl _ _ s l q, List.forall_mem_cons.2 ⟨pieceB_agrees c arg4 harg4 X R S A 9 3 579 rfl _ _ fun s l => by rw [half9_eq]; exact word3_apply _ _ s l (vec X S 9) _ fun q => bits_apply c arg2 harg2 R 9 1 288 rfl _ _ s l q, List.forall_mem_cons.2 ⟨pieceB_agrees c arg4 harg4 X R S A 9 2 578 rfl _ _ fun s l => by rw [half9_eq]; exact word2_apply _ _ s l (vec X S 9) _ fun q => bits_apply c arg2 harg2 R 9 1 288 rfl _ _ s l q, List.forall_mem_cons.2 ⟨pieceB_agrees c arg4 harg4 X R S A 9 1 577 rfl _ _ fun s l => by rw [half9_eq]; exact word1_apply _ _ s l (vec X S 9) _ fun q => bits_apply c arg2 harg2 R 9 0 288 rfl _ _ s l q, List.forall_mem_cons.2 ⟨pieceB_agrees c arg4 harg4 X R S A 9 0 576 rfl _ _ fun s l => by rw [half9_eq]; exact word0_apply _ _ s l (vec X S 9) _ fun q => bits_apply c arg2 harg2 R 9 0 288 rfl _ _ s l q, ih.1⟩⟩⟩⟩⟩⟩⟩⟩
  · intro y hy
    rcases Nat.lt_or_ge (y 0).val 576 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 640 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 576 _ _ y (((y 0).val - 576) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 577 _ _ y (((y 0).val - 576) / 8) (by omega) (by omega)⟩
      · exact ⟨_, List.mem_cons_of_mem _ (List.mem_cons_of_mem _ (List.mem_cons_of_mem _ (List.mem_cons_of_mem _ (List.mem_cons_of_mem _ (List.mem_cons_self))))), mem_pieceB 578 _ _ y (((y 0).val - 576) / 8) (by omega) (by omega)⟩
      · exact ⟨_, List.mem_cons_of_mem _ (List.mem_cons_of_mem _ (List.mem_cons_of_mem _ (List.mem_cons_of_mem _ (List.mem_cons_self)))), mem_pieceB 579 _ _ y (((y 0).val - 576) / 8) (by omega) (by omega)⟩
      · exact ⟨_, List.mem_cons_of_mem _ (List.mem_cons_of_mem _ (List.mem_cons_of_mem _ (List.mem_cons_self))), mem_pieceB 580 _ _ y (((y 0).val - 576) / 8) (by omega) (by omega)⟩
      · exact ⟨_, List.mem_cons_of_mem _ (List.mem_cons_of_mem _ (List.mem_cons_self)), mem_pieceB 581 _ _ y (((y 0).val - 576) / 8) (by omega) (by omega)⟩
      · exact ⟨_, List.mem_cons_of_mem _ (List.mem_cons_self), mem_pieceB 582 _ _ y (((y 0).val - 576) / 8) (by omega) (by omega)⟩
      · exact ⟨_, List.mem_cons_self, mem_pieceB 583 _ _ y (((y 0).val - 576) / 8) (by omega) (by omega)⟩

theorem good_scales_9 : Good (scaleAt X S A) (fun y => (y 0).val) 80 (kernelRun.sl.H9_10 c arg1 harg1 arg3 arg4 (harg1.unread X) (harg3.unread S) (harg4.unread A)) := by
  have ih := good_scales_8 c arg1 harg1 arg3 harg3 arg4 harg4 X S A
  rw [scales_9]
  constructor
  · refine List.forall_mem_cons.2 ⟨pieceS_agrees c arg4 harg4 X S A 9 72 rfl _ _ fun s l => by rw [half9_eq]; exact scales_apply _ s l (vec X S 9), ih.1⟩
  · intro y hy
    have hy : (y 0).val < 80 := hy
    rcases Nat.lt_or_ge (y 0).val 72 with hlt | hge
    · obtain ⟨p, hp, hy⟩ := ih.2 y hlt
      exact ⟨p, List.mem_cons_of_mem _ hp, hy⟩
    · exact ⟨_, List.mem_cons_self, mem_pieceS 72 _ _ y hge (by omega)⟩

theorem good_words_10 : Good (wordAt X R S A) (fun y => (y 0).val) 704 (kernelRun.sl.H8_88 c arg1 harg1 arg2 arg3 arg4 (harg1.unread X) (harg2.unread R) (harg3.unread S) (harg4.unread A)) := by
  have ih := good_words_9 c arg1 harg1 arg2 harg2 arg3 harg3 arg4 harg4 X R S A
  rw [words_10]
  constructor
  · refine List.forall_mem_cons.2 ⟨pieceB_agrees c arg4 harg4 X R S A 10 7 647 rfl _ _ fun s l => by rw [half10_eq]; exact word7_apply _ _ s l (vec X S 10) _ fun q => bits_apply c arg2 harg2 R 10 3 320 rfl _ _ s l q, List.forall_mem_cons.2 ⟨pieceB_agrees c arg4 harg4 X R S A 10 6 646 rfl _ _ fun s l => by rw [half10_eq]; exact word6_apply _ _ s l (vec X S 10) _ fun q => bits_apply c arg2 harg2 R 10 3 320 rfl _ _ s l q, List.forall_mem_cons.2 ⟨pieceB_agrees c arg4 harg4 X R S A 10 5 645 rfl _ _ fun s l => by rw [half10_eq]; exact word5_apply _ _ s l (vec X S 10) _ fun q => bits_apply c arg2 harg2 R 10 2 320 rfl _ _ s l q, List.forall_mem_cons.2 ⟨pieceB_agrees c arg4 harg4 X R S A 10 4 644 rfl _ _ fun s l => by rw [half10_eq]; exact word4_apply _ _ s l (vec X S 10) _ fun q => bits_apply c arg2 harg2 R 10 2 320 rfl _ _ s l q, List.forall_mem_cons.2 ⟨pieceB_agrees c arg4 harg4 X R S A 10 3 643 rfl _ _ fun s l => by rw [half10_eq]; exact word3_apply _ _ s l (vec X S 10) _ fun q => bits_apply c arg2 harg2 R 10 1 320 rfl _ _ s l q, List.forall_mem_cons.2 ⟨pieceB_agrees c arg4 harg4 X R S A 10 2 642 rfl _ _ fun s l => by rw [half10_eq]; exact word2_apply _ _ s l (vec X S 10) _ fun q => bits_apply c arg2 harg2 R 10 1 320 rfl _ _ s l q, List.forall_mem_cons.2 ⟨pieceB_agrees c arg4 harg4 X R S A 10 1 641 rfl _ _ fun s l => by rw [half10_eq]; exact word1_apply _ _ s l (vec X S 10) _ fun q => bits_apply c arg2 harg2 R 10 0 320 rfl _ _ s l q, List.forall_mem_cons.2 ⟨pieceB_agrees c arg4 harg4 X R S A 10 0 640 rfl _ _ fun s l => by rw [half10_eq]; exact word0_apply _ _ s l (vec X S 10) _ fun q => bits_apply c arg2 harg2 R 10 0 320 rfl _ _ s l q, ih.1⟩⟩⟩⟩⟩⟩⟩⟩
  · intro y hy
    rcases Nat.lt_or_ge (y 0).val 640 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 704 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 640 _ _ y (((y 0).val - 640) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 641 _ _ y (((y 0).val - 640) / 8) (by omega) (by omega)⟩
      · exact ⟨_, List.mem_cons_of_mem _ (List.mem_cons_of_mem _ (List.mem_cons_of_mem _ (List.mem_cons_of_mem _ (List.mem_cons_of_mem _ (List.mem_cons_self))))), mem_pieceB 642 _ _ y (((y 0).val - 640) / 8) (by omega) (by omega)⟩
      · exact ⟨_, List.mem_cons_of_mem _ (List.mem_cons_of_mem _ (List.mem_cons_of_mem _ (List.mem_cons_of_mem _ (List.mem_cons_self)))), mem_pieceB 643 _ _ y (((y 0).val - 640) / 8) (by omega) (by omega)⟩
      · exact ⟨_, List.mem_cons_of_mem _ (List.mem_cons_of_mem _ (List.mem_cons_of_mem _ (List.mem_cons_self))), mem_pieceB 644 _ _ y (((y 0).val - 640) / 8) (by omega) (by omega)⟩
      · exact ⟨_, List.mem_cons_of_mem _ (List.mem_cons_of_mem _ (List.mem_cons_self)), mem_pieceB 645 _ _ y (((y 0).val - 640) / 8) (by omega) (by omega)⟩
      · exact ⟨_, List.mem_cons_of_mem _ (List.mem_cons_self), mem_pieceB 646 _ _ y (((y 0).val - 640) / 8) (by omega) (by omega)⟩
      · exact ⟨_, List.mem_cons_self, mem_pieceB 647 _ _ y (((y 0).val - 640) / 8) (by omega) (by omega)⟩

theorem good_scales_10 : Good (scaleAt X S A) (fun y => (y 0).val) 88 (kernelRun.sl.H9_11 c arg1 harg1 arg3 arg4 (harg1.unread X) (harg3.unread S) (harg4.unread A)) := by
  have ih := good_scales_9 c arg1 harg1 arg3 harg3 arg4 harg4 X S A
  rw [scales_10]
  constructor
  · refine List.forall_mem_cons.2 ⟨pieceS_agrees c arg4 harg4 X S A 10 80 rfl _ _ fun s l => by rw [half10_eq]; exact scales_apply _ s l (vec X S 10), ih.1⟩
  · intro y hy
    have hy : (y 0).val < 88 := hy
    rcases Nat.lt_or_ge (y 0).val 80 with hlt | hge
    · obtain ⟨p, hp, hy⟩ := ih.2 y hlt
      exact ⟨p, List.mem_cons_of_mem _ hp, hy⟩
    · exact ⟨_, List.mem_cons_self, mem_pieceS 80 _ _ y hge (by omega)⟩

theorem good_words_11 : Good (wordAt X R S A) (fun y => (y 0).val) 768 (kernelRun.sl.H8_96 c arg1 harg1 arg2 arg3 arg4 (harg1.unread X) (harg2.unread R) (harg3.unread S) (harg4.unread A)) := by
  have ih := good_words_10 c arg1 harg1 arg2 harg2 arg3 harg3 arg4 harg4 X R S A
  rw [words_11]
  constructor
  · refine List.forall_mem_cons.2 ⟨pieceB_agrees c arg4 harg4 X R S A 11 7 711 rfl _ _ fun s l => by rw [half11_eq]; exact word7_apply _ _ s l (vec X S 11) _ fun q => bits_apply c arg2 harg2 R 11 3 352 rfl _ _ s l q, List.forall_mem_cons.2 ⟨pieceB_agrees c arg4 harg4 X R S A 11 6 710 rfl _ _ fun s l => by rw [half11_eq]; exact word6_apply _ _ s l (vec X S 11) _ fun q => bits_apply c arg2 harg2 R 11 3 352 rfl _ _ s l q, List.forall_mem_cons.2 ⟨pieceB_agrees c arg4 harg4 X R S A 11 5 709 rfl _ _ fun s l => by rw [half11_eq]; exact word5_apply _ _ s l (vec X S 11) _ fun q => bits_apply c arg2 harg2 R 11 2 352 rfl _ _ s l q, List.forall_mem_cons.2 ⟨pieceB_agrees c arg4 harg4 X R S A 11 4 708 rfl _ _ fun s l => by rw [half11_eq]; exact word4_apply _ _ s l (vec X S 11) _ fun q => bits_apply c arg2 harg2 R 11 2 352 rfl _ _ s l q, List.forall_mem_cons.2 ⟨pieceB_agrees c arg4 harg4 X R S A 11 3 707 rfl _ _ fun s l => by rw [half11_eq]; exact word3_apply _ _ s l (vec X S 11) _ fun q => bits_apply c arg2 harg2 R 11 1 352 rfl _ _ s l q, List.forall_mem_cons.2 ⟨pieceB_agrees c arg4 harg4 X R S A 11 2 706 rfl _ _ fun s l => by rw [half11_eq]; exact word2_apply _ _ s l (vec X S 11) _ fun q => bits_apply c arg2 harg2 R 11 1 352 rfl _ _ s l q, List.forall_mem_cons.2 ⟨pieceB_agrees c arg4 harg4 X R S A 11 1 705 rfl _ _ fun s l => by rw [half11_eq]; exact word1_apply _ _ s l (vec X S 11) _ fun q => bits_apply c arg2 harg2 R 11 0 352 rfl _ _ s l q, List.forall_mem_cons.2 ⟨pieceB_agrees c arg4 harg4 X R S A 11 0 704 rfl _ _ fun s l => by rw [half11_eq]; exact word0_apply _ _ s l (vec X S 11) _ fun q => bits_apply c arg2 harg2 R 11 0 352 rfl _ _ s l q, ih.1⟩⟩⟩⟩⟩⟩⟩⟩
  · intro y hy
    rcases Nat.lt_or_ge (y 0).val 704 with hlt | hge
    · obtain ⟨p, hp, hy⟩ := ih.2 y hlt
      exact ⟨p, List.mem_cons_of_mem _ (List.mem_cons_of_mem _ (List.mem_cons_of_mem _ (List.mem_cons_of_mem _ (List.mem_cons_of_mem _ (List.mem_cons_of_mem _ (List.mem_cons_of_mem _ (List.mem_cons_of_mem _ (hp)))))))), hy⟩
    · obtain ⟨q, hq⟩ : ∃ q : ℕ, (y 0).val % 8 = q := ⟨_, rfl⟩
      have hq8 : q < 8 := hq ▸ Nat.mod_lt _ (by decide)
      have hy : (y 0).val < 768 := hy
      interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_pieceB 704 _ _ y (((y 0).val - 704) / 8) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem_pieceB 705 _ _ y (((y 0).val - 704) / 8) (by omega) (by omega)⟩
      · exact ⟨_, List.mem_cons_of_mem _ (List.mem_cons_of_mem _ (List.mem_cons_of_mem _ (List.mem_cons_of_mem _ (List.mem_cons_of_mem _ (List.mem_cons_self))))), mem_pieceB 706 _ _ y (((y 0).val - 704) / 8) (by omega) (by omega)⟩
      · exact ⟨_, List.mem_cons_of_mem _ (List.mem_cons_of_mem _ (List.mem_cons_of_mem _ (List.mem_cons_of_mem _ (List.mem_cons_self)))), mem_pieceB 707 _ _ y (((y 0).val - 704) / 8) (by omega) (by omega)⟩
      · exact ⟨_, List.mem_cons_of_mem _ (List.mem_cons_of_mem _ (List.mem_cons_of_mem _ (List.mem_cons_self))), mem_pieceB 708 _ _ y (((y 0).val - 704) / 8) (by omega) (by omega)⟩
      · exact ⟨_, List.mem_cons_of_mem _ (List.mem_cons_of_mem _ (List.mem_cons_self)), mem_pieceB 709 _ _ y (((y 0).val - 704) / 8) (by omega) (by omega)⟩
      · exact ⟨_, List.mem_cons_of_mem _ (List.mem_cons_self), mem_pieceB 710 _ _ y (((y 0).val - 704) / 8) (by omega) (by omega)⟩
      · exact ⟨_, List.mem_cons_self, mem_pieceB 711 _ _ y (((y 0).val - 704) / 8) (by omega) (by omega)⟩

theorem good_scales_11 : Good (scaleAt X S A) (fun y => (y 0).val) 96 (kernelRun.sl.H9_12 c arg1 harg1 arg3 arg4 (harg1.unread X) (harg3.unread S) (harg4.unread A)) := by
  have ih := good_scales_10 c arg1 harg1 arg3 harg3 arg4 harg4 X S A
  rw [scales_11]
  constructor
  · refine List.forall_mem_cons.2 ⟨pieceS_agrees c arg4 harg4 X S A 11 88 rfl _ _ fun s l => by rw [half11_eq]; exact scales_apply _ s l (vec X S 11), ih.1⟩
  · intro y hy
    have hy : (y 0).val < 96 := hy
    rcases Nat.lt_or_ge (y 0).val 88 with hlt | hge
    · obtain ⟨p, hp, hy⟩ := ih.2 y hlt
      exact ⟨p, List.mem_cons_of_mem _ hp, hy⟩
    · exact ⟨_, List.mem_cons_self, mem_pieceS 88 _ _ y hge (by omega)⟩

end Cert.QuantDyIdeal.Body

end
-- ==== Proof.QuantDyIdealBlock.lean ====
/-
  What the body of `quant_dy` leaves at one point, over the extended reals: the codes are the low bytes of the words, the
  byte scratch transposed; the scales are the scale scratch transposed.
-/
module

public import proofs.«01_k».proof.Proof.QuantDyIdealScratch
public import proofs.«01_k».proof.Proof.QuantXIdealBlock
public import proofs.«01_k».proof.Proof.QuantDyIdealPoint

@[expose] public section

set_option maxRecDepth 16384

noncomputable section

namespace Cert.QuantDyIdeal.Body

open Cert.QuantDyIdeal Cert.QuantDyIdeal.Gen Cert.QuantDyIdeal.Scalar
open Cert.QuantXIdeal.Scalar (scaleE sbE amaxE butterfly)
open Cert.QuantXIdeal.Body (group Good scaleAt blockScaleAt scaleAt_eq)
open Cert.QuantDyEquation (codeWord)
open Idealize.ShloMosaic Idealize.ShloMosaic.TcCoe Idealize.ShloMosaic.Tactic

section
variable {F : FTy → Type} [FloatOps F]

/-- A block of 128 columns of codes: 128 rows of the byte scratch. -/
def pieceC (off : ℕ) (h : ∀ a, (![0, off] : Fin 2 → ℕ) a + S128x128.size a ≤ S128x768.size a)
    (h' : ∀ a, (![off, 0] : Fin 2 → ℕ) a + S128x128.size a ≤ S768x128.size a)
    (arg8 : Memref sig .tc .vmem S768x128 .i32) (L : List (View.Piece (Elt F) S768x128 .i32)) : View.Piece (Elt F) S128x768 .i8 :=
  ⟨Rect.unit ![0, off] S128x128.size h, k0_pay2 (arg8.view.readCov L (Rect.unit (s := S768x128) ![off, 0] S128x128.size h').toLoadRect)⟩

theorem codes_list (c : Dev nD) (arg1 : Memref sig .tc .vmem S1536x128 .bf16) (harg1 : arg1.IsWhole)
    (arg2 : Memref sig .tc .vmem S1536x128 .i8) (arg3 : Memref sig .tc .smem S16 .f32) (arg4 : Memref sig .tc .vmem S1x1 .f32) (arg8 : Memref sig .tc .vmem S768x128 .i32)
    (f1 : Bf (F := F) c arg1) (f2 : Bf (F := F) c arg2) (f3 : Bf (F := F) c arg3) (f4 : Bf (F := F) c arg4) :
    kernelRun.sl.H5_6 c arg1 harg1 arg2 arg3 arg4 arg8 f1 f2 f3 f4 = [
      pieceC 640 inb_S128x768_S128x128_0_640 inb_S768x128_S128x128_640_0 arg8 (kernelRun.sl.H8_96 c arg1 harg1 arg2 arg3 arg4 f1 f2 f3 f4),
      pieceC 512 inb_S128x768_S128x128_0_512 inb_S768x128_S128x128_512_0 arg8 (kernelRun.sl.H8_96 c arg1 harg1 arg2 arg3 arg4 f1 f2 f3 f4),
      pieceC 384 inb_S128x768_S128x128_0_384 inb_S768x128_S128x128_384_0 arg8 (kernelRun.sl.H8_96 c arg1 harg1 arg2 arg3 arg4 f1 f2 f3 f4),
      pieceC 256 inb_S128x768_S128x128_0_256 inb_S768x128_S128x128_256_0 arg8 (kernelRun.sl.H8_96 c arg1 harg1 arg2 arg3 arg4 f1 f2 f3 f4),
      pieceC 128 inb_S128x768_S128x128_0_128 inb_S768x128_S128x128_128_0 arg8 (kernelRun.sl.H8_96 c arg1 harg1 arg2 arg3 arg4 f1 f2 f3 f4),
      pieceC 0 inb_S128x768_S128x128_0_0 inb_S768x128_S128x128_0_0 arg8 (kernelRun.sl.H8_96 c arg1 harg1 arg2 arg3 arg4 f1 f2 f3 f4)] := by
  sl_kernel_rfl

end

variable (X : Vec Ideal S1536x128 .bf16) (R : Vec Ideal S1536x128 .i8) (S : Vec Ideal S16 .f32) (A : Vec Ideal S1x1 .f32)

/-- The code byte at lane `y 0` and column `y 1`. -/
def codeAt (y : S128x768.Idx) : BitVec 8 := (wordAt X R S A (ix2 (y 1) (y 0))).setWidth 8

theorem codes_apply (v : Vec Ideal S128x128 .i32) (x y : Fin 128) : k0_pay2 (F := Ideal) v (ix2 x y) = (v (ix2 y x)).setWidth 8 := by
  pointwise [k0_pay2]

theorem scales_apply (v : Vec Ideal S128x128 .f32) (x : Fin 128) (y : Fin 96) :
    k0_pay4 (F := Ideal) v (ix2 x y) = v (ix2 ⟨y.val, by omega⟩ x) := by
  pointwise [k0_pay4]

theorem pieceC_agrees (off : ℕ) (ho : off ≤ 640) (h h') (arg8 : Memref sig .tc .vmem S768x128 .i32) (L : List (View.Piece (Elt Ideal) S768x128 .i32))
    (hL : Good (wordAt X R S A) (fun y => (y 0).val) 768 L) :
    ∀ x, (pieceC off h h' arg8 L).2 x = codeAt X R S A ((pieceC off h h' arg8 L).1.emb x) := by
  intro x
  obtain ⟨s, l, rfl⟩ : ∃ s l, x = ix2 s l := ⟨x 0, x 1, eq_ix2 x⟩
  refine (codes_apply _ s l).trans (congrArg (BitVec.setWidth 8) ?_)
  refine (View.read_writes_apply_of_pieces _ _ (wordAt X R S A) L hL.1 _ (hL.2 _ ?_)).trans (congrArg (wordAt X R S A) ?_)
  · show off + 1 * l.val < 768
    have hl : l.val < 128 := l.isLt
    omega
  · funext a
    match a with
    | ⟨0, _⟩ => rfl
    | ⟨1, _⟩ => rfl

theorem mem_pieceC (off : ℕ) (h h') (arg8 : Memref sig .tc .vmem S768x128 .i32) (L : List (View.Piece (Elt Ideal) S768x128 .i32))
    (y : S128x768.Idx) (hy : off ≤ (y 1).val) (hy' : (y 1).val < off + 128) : y ∈ (pieceC off h h' arg8 L).1.set :=
  (Rect.mem_set_unit (inb := h)).2 fun a => match a with
    | ⟨0, _⟩ => ⟨Nat.zero_le _, (show (y 0).val < 0 + 128 by have := (y 0).isLt; have : S128x768.size 0 = 128 := rfl; omega)⟩
    | ⟨1, _⟩ => ⟨hy, hy'⟩

variable (m : (ℓ : Loc nD τ sig) → Buf (Elt Ideal) ℓ)

/-- The codes after point `t`. -/
theorem out4_apply (c : Dev nD) (t : Fin cfg0.N) (y : S128x768.Idx) :
    out4 m c t y = codeAt (iblk m c 0 t) (iblk m c 1 t) (iblk m c 2 t) (iblk m c 3 t) y := by
  have hw := good_words_11 c (ms0_0 t) (hs0_0 t) (ms0_1 t) (hs0_1 t) (ms0_2 t) (hs0_2 t) (ms0_3 t) (hs0_3 t) (iblk m c 0 t) (iblk m c 1 t) (iblk m c 2 t) (iblk m c 3 t)
  unfold out4 runAt kernelRun
  dsimp only
  rw [codes_list]
  refine View.read_writes_apply_of_pieces (Val := Elt Ideal) (e := .i8) _ _ (codeAt (iblk m c 0 t) (iblk m c 1 t) (iblk m c 2 t) (iblk m c 3 t)) _ ?_ y ?_
  · refine List.forall_mem_cons.2 ⟨pieceC_agrees _ _ _ _ 640 (by decide) _ _ _ _ hw, List.forall_mem_cons.2 ⟨pieceC_agrees _ _ _ _ 512 (by decide) _ _ _ _ hw, List.forall_mem_cons.2 ⟨pieceC_agrees _ _ _ _ 384 (by decide) _ _ _ _ hw, List.forall_mem_cons.2 ⟨pieceC_agrees _ _ _ _ 256 (by decide) _ _ _ _ hw, List.forall_mem_cons.2 ⟨pieceC_agrees _ _ _ _ 128 (by decide) _ _ _ _ hw, List.forall_mem_cons.2 ⟨pieceC_agrees _ _ _ _ 0 (by decide) _ _ _ _ hw, fun p hp => absurd hp List.not_mem_nil⟩⟩⟩⟩⟩⟩
  · have hy : (y 1).val < 768 := (y 1).isLt
    obtain ⟨q, hq⟩ : ∃ q : ℕ, (y 1).val / 128 = q := ⟨_, rfl⟩
    have hq6 : q < 6 := by omega
    interval_cases q
    · exact ⟨_, List.mem_cons_of_mem _ (List.mem_cons_of_mem _ (List.mem_cons_of_mem _ (List.mem_cons_of_mem _ (List.mem_cons_of_mem _ (List.mem_cons_self))))), mem_pieceC 0 _ _ _ _ y (by omega) (by omega)⟩
    · exact ⟨_, List.mem_cons_of_mem _ (List.mem_cons_of_mem _ (List.mem_cons_of_mem _ (List.mem_cons_of_mem _ (List.mem_cons_self)))), mem_pieceC 128 _ _ _ _ y (by omega) (by omega)⟩
    · exact ⟨_, List.mem_cons_of_mem _ (List.mem_cons_of_mem _ (List.mem_cons_of_mem _ (List.mem_cons_self))), mem_pieceC 256 _ _ _ _ y (by omega) (by omega)⟩
    · exact ⟨_, List.mem_cons_of_mem _ (List.mem_cons_of_mem _ (List.mem_cons_self)), mem_pieceC 384 _ _ _ _ y (by omega) (by omega)⟩
    · exact ⟨_, List.mem_cons_of_mem _ (List.mem_cons_self), mem_pieceC 512 _ _ _ _ y (by omega) (by omega)⟩
    · exact ⟨_, List.mem_cons_self, mem_pieceC 640 _ _ _ _ y (by omega) (by omega)⟩

/-- The scales after point `t`. -/
theorem out5_apply (c : Dev nD) (t : Fin cfg0.N) (y : S128x96.Idx) :
    out5 m c t y = blockScaleAt (iblk m c 0 t) (iblk m c 2 t) (iblk m c 3 t) y := by
  have hw := good_scales_11 c (ms0_0 t) (hs0_0 t) (ms0_2 t) (hs0_2 t) (ms0_3 t) (hs0_3 t) (iblk m c 0 t) (iblk m c 2 t) (iblk m c 3 t)
  unfold out5 runAt kernelRun
  dsimp only
  unfold kernelRun.sl.H6_1
  refine View.read_writes_apply_of_pieces (Val := Elt Ideal) (e := .fp8e4m3) _ _ (blockScaleAt (iblk m c 0 t) (iblk m c 2 t) (iblk m c 3 t)) _ ?_ y
    ⟨_, List.mem_cons_self, (Rect.mem_set_unit (inb := inb_S128x96_S128x96_0_0)).2 fun a => match a with
      | ⟨0, _⟩ => ⟨Nat.zero_le _, (show (y 0).val < 0 + 128 by have := (y 0).isLt; have : S128x96.size 0 = 128 := rfl; omega)⟩
      | ⟨1, _⟩ => ⟨Nat.zero_le _, (show (y 1).val < 0 + 96 by have := (y 1).isLt; have : S128x96.size 1 = 96 := rfl; omega)⟩⟩
  refine List.forall_mem_cons.2 ⟨fun x => ?_, fun p hp => absurd hp List.not_mem_nil⟩
  obtain ⟨s, l, rfl⟩ : ∃ s l, x = ix2 s l := ⟨x 0, x 1, eq_ix2 x⟩
  have hl : l.val < 96 := l.isLt
  refine (scales_apply _ s ⟨l.val, hl⟩).trans ?_
  refine (View.read_writes_apply_of_pieces (Val := Elt Ideal) (e := .f32) scS.view _ (scaleAt (iblk m c 0 t) (iblk m c 2 t) (iblk m c 3 t)) _ hw.1 _ (hw.2 _ ?_)).trans ?_
  · show 0 + 1 * l.val < 96
    omega
  · exact scaleAt_eq _ _ _ _ _ (show 0 + 1 * l.val = 0 + 1 * l.val from rfl) (show 0 + 1 * s.val = 0 + 1 * s.val from rfl)

end Cert.QuantDyIdeal.Body

end
-- ==== Proof.QuantDyIdealRun.lean ====
/-
  The whole program of `quant_dy` over the extended reals: each channel's groups of sixteen tokens, rotated, and their random bytes give
  the code bytes; the block scales.
-/
module

public import proofs.«01_k».proof.Proof.QuantDyIdealBlock
public import proofs.«01_k».proof.Proof.QuantDyIdealFrame
public import Idealize.ShloMosaic.Lib.Pipeline.ValueKit

@[expose] public section

set_option maxRecDepth 16384

noncomputable section

namespace Cert.QuantDyIdeal.Body

open Cert.QuantDyIdeal Cert.QuantDyIdeal.Gen
open Cert.QuantXIdeal.Scalar (scaleE sbE amaxE butterfly)
open Cert.QuantXIdeal.Body (group blockScaleAt)
open Cert.QuantDyEquation (codeWord)
open Idealize.ShloMosaic Idealize.ShloMosaic.TcCoe Idealize.SL.Sem
open Idealize.ShloMosaic.Pipeline (Dat)

/-- The sixteen values of group `g` of channel `l`, each times its sign. -/
def tokens (X : Vec Ideal S1536x18432 .bf16) (S : Vec Ideal S16 .f32) (g : Fin 96) (l : Fin 18432) (i : Fin 16) : EReal :=
  X (ix2 ⟨16 * g.val + i.val, by omega⟩ l) * S (ix1 i)

/-- Their random bytes. -/
def tokenBytes (R : Vec Ideal S1536x18432 .i8) (g : Fin 96) (l : Fin 18432) (i : Fin 16) : BitVec 8 := R (ix2 ⟨16 * g.val + i.val, by omega⟩ l)

/-- Byte `k` of a channel whose groups are `z` and random bytes `b`: word `k % 8` of group `k / 8`. -/
def codeByte (st : EReal) (z : Fin 96 → Fin 16 → EReal) (b : Fin 96 → Fin 16 → BitVec 8) (k : Fin 768) : BitVec 8 :=
  (codeWord st (butterfly (z ⟨k.val / 8, by omega⟩)) (b ⟨k.val / 8, by omega⟩) ⟨k.val % 8, Nat.mod_lt _ (by decide)⟩).setWidth 8

/-- The code bytes of every channel. -/
def CODES (X : Vec Ideal S1536x18432 .bf16) (R : Vec Ideal S1536x18432 .i8) (S : Vec Ideal S16 .f32) (A : Vec Ideal S1x1 .f32) : Vec Ideal S18432x768 .i8 := fun y =>
  codeByte (scaleE (A (ix2 0 0))) (fun g => tokens X S g (y 0)) (fun g => tokenBytes R g (y 0)) (y 1)

/-- The block scales. -/
def SCALES (X : Vec Ideal S1536x18432 .bf16) (S : Vec Ideal S16 .f32) (A : Vec Ideal S1x1 .f32) : Vec Ideal S18432x96 .fp8e4m3 := fun y =>
  sbE (scaleE (A (ix2 0 0))) (amaxE (butterfly (tokens X S (y 1) (y 0))))

variable (m : (ℓ : Loc nD τ sig) → Buf (Elt Ideal) ℓ)

/-- The block index of every window of the codes and the scales at point `t`. -/
theorem idx : ∀ t : Fin cfg0.N, win0_0.index t = ![0, t.val] ∧ win0_1.index t = ![0, t.val] ∧ win0_2.index t = ![0]
    ∧ win0_3.index t = ![0, 0] ∧ win0_4.index t = ![t.val, 0] ∧ win0_5.index t = ![t.val, 0] :=
  (by decide +kernel : ∀ t : Fin grid0.N, _)

/-- The four operands' blocks at a point, at an index: 128 channels of the values and of the random bytes, and the whole of the other two. -/
theorem x_apply (c : Dev nD) (t : Fin cfg0.N) (r : Fin 1536) (l : Fin 128) (l' : Fin 18432) (hl : l'.val = t.val * 128 + l.val) :
    iblk m c 0 t (ix2 r l) = (V m c main_v0 : Vec Ideal S1536x18432 .bf16) (ix2 r l') := by
  blk_simp [iblk]
  refine congrArg (V m c main_v0 : Vec Ideal S1536x18432 .bf16) (funext fun a => Fin.ext ?_)
  match a with
  | ⟨0, _⟩ => blk_simp [(idx t).1]
  | ⟨1, _⟩ => blk_simp [(idx t).1]; exact hl.symm

theorem rand_apply (c : Dev nD) (t : Fin cfg0.N) (r : Fin 1536) (l : Fin 128) (l' : Fin 18432) (hl : l'.val = t.val * 128 + l.val) :
    iblk m c 1 t (ix2 r l) = (V m c main_v1 : Vec Ideal S1536x18432 .i8) (ix2 r l') := by
  blk_simp [iblk]
  refine congrArg (V m c main_v1 : Vec Ideal S1536x18432 .i8) (funext fun a => Fin.ext ?_)
  match a with
  | ⟨0, _⟩ => blk_simp [(idx t).2.1]
  | ⟨1, _⟩ => blk_simp [(idx t).2.1]; exact hl.symm

theorem sign_apply (c : Dev nD) (t : Fin cfg0.N) (i : Fin 16) :
    iblk m c 2 t (ix1 i) = (V m c main_arg2 : Vec Ideal S16 .f32) (ix1 i) := by
  blk_simp [iblk]
  refine congrArg (V m c main_arg2 : Vec Ideal S16 .f32) (funext fun a => Fin.ext ?_)
  match a with
  | ⟨0, _⟩ => blk_simp [(idx t).2.2.1]

theorem amax_apply' (c : Dev nD) (t : Fin cfg0.N) :
    iblk m c 3 t (ix2 0 0) = (V m c main_v2 : Vec Ideal S1x1 .f32) (ix2 0 0) := by
  blk_simp [iblk]
  refine congrArg (V m c main_v2 : Vec Ideal S1x1 .f32) (funext fun a => Fin.ext ?_)
  match a with
  | ⟨0, _⟩ => blk_simp [(idx t).2.2.2.1]
  | ⟨1, _⟩ => blk_simp [(idx t).2.2.2.1]

theorem group_eq (c : Dev nD) (t : Fin cfg0.N) (g g' : Fin 96) (hg : g.val = g'.val) (l : Fin 128) (l' : Fin 18432) (hl : l'.val = t.val * 128 + l.val) :
    group (iblk m c 0 t) (iblk m c 2 t) g l = tokens (V m c main_v0) (V m c main_arg2) g' l' := by
  obtain rfl := Fin.ext hg
  funext i
  unfold group tokens
  rw [x_apply m c t _ l l' hl, sign_apply]

theorem random_eq (c : Dev nD) (t : Fin cfg0.N) (g : Fin 96) (l : Fin 128) (l' : Fin 18432) (hl : l'.val = t.val * 128 + l.val) :
    random (iblk m c 1 t) g l = tokenBytes (V m c main_v1) g l' := by
  funext i
  unfold random tokenBytes
  rw [rand_apply m c t _ l l' hl]

theorem codeByte_congr {st st' : EReal} {z z' : Fin 96 → Fin 16 → EReal} {b b' : Fin 96 → Fin 16 → BitVec 8} {k k' : Fin 768} (h : st = st') (hz : z = z') (hb : b = b') (hk : k = k') :
    codeByte st z b k = codeByte st' z' b' k' := by
  rw [h, hz, hb, hk]

theorem codeAt_eq (X : Vec Ideal S1536x128 .bf16) (R : Vec Ideal S1536x128 .i8) (S : Vec Ideal S16 .f32) (A : Vec Ideal S1x1 .f32) (y : S128x768.Idx) :
    codeAt X R S A y = codeByte (scaleE (A (ix2 0 0))) (fun g => group X S g (y 0)) (fun g => random R g (y 0)) (y 1) := rfl

/-- The array of codes after the launch. -/
theorem final4 (c : Dev nD) : (dats m 0 c).arrAt 4 cfg0.N = CODES (V m c main_v0) (V m c main_v1) (V m c main_arg2) (V m c main_v2) := by
  refine (dats m 0 c).arrAt_eq_of_covers 4 _ (by decide +kernel) fun t _ y => ?_
  blk_simp
  rw [after0_4]
  refine (out4_apply m c t y).trans ((codeAt_eq _ _ _ _ y).trans ?_)
  have e4 := (idx t).2.2.2.2.1
  have h0 : ((((cfg0.win 4).blk t).view.emb y) 0 : Nat) = t.val * 128 + (y 0).val := by blk_simp [e4]
  have h1 : ((((cfg0.win 4).blk t).view.emb y) 1 : Nat) = (y 1).val := by blk_simp [e4]
  show _ = codeByte (scaleE ((V m c main_v2 : Vec Ideal S1x1 .f32) (ix2 0 0))) (fun g => tokens (V m c main_v0) (V m c main_arg2) g ((((cfg0.win 4).blk t).view.emb y) 0)) (fun g => tokenBytes (V m c main_v1) g ((((cfg0.win 4).blk t).view.emb y) 0)) ((((cfg0.win 4).blk t).view.emb y) 1)
  exact codeByte_congr (congrArg scaleE (amax_apply' m c t)) (funext fun g => group_eq m c t g g rfl _ _ h0) (funext fun g => random_eq m c t g _ _ h0) (Fin.ext h1.symm)

/-- The array of block scales after the launch. -/
theorem final5 (c : Dev nD) : (dats m 0 c).arrAt 5 cfg0.N = SCALES (V m c main_v0) (V m c main_arg2) (V m c main_v2) := by
  refine (dats m 0 c).arrAt_eq_of_covers 5 _ (by decide +kernel) fun t _ y => ?_
  blk_simp
  rw [after0_5]
  refine (out5_apply m c t y).trans ?_
  have e5 := (idx t).2.2.2.2.2
  have h0 : ((((cfg0.win 5).blk t).view.emb y) 0 : Nat) = t.val * 128 + (y 0).val := by blk_simp [e5]
  have h1 : ((((cfg0.win 5).blk t).view.emb y) 1 : Nat) = (y 1).val := by blk_simp [e5]
  exact congr (congrArg sbE (congrArg scaleE (amax_apply' m c t))) (congrArg (fun z => amaxE (butterfly z)) (group_eq m c t _ _ h1.symm _ _ h0))

/-- What the launch finds in the three reshaped arguments' buffers. -/
theorem entry_x (c : Dev nD) : (V m c main_v0 : Vec Ideal S1536x18432 .bf16) = shapeCast S1536x18432 (m ((c : Thread nD τ).loc main_arg0) : Vec Ideal S2x768x18432 .bf16) shapeCasts_S2x768x18432_S1536x18432 := by
  unfold V
  simp only [hostOps0, List.flatten_cons, List.flatten_nil,
    List.append_nil, List.cons_append, List.nil_append, StableHlo.TRef.ternary, StableHlo.TRef.unary, StableHlo.TRef.toBuf,
    StableHlo.TRef.ofBuf, cast_eq]
  after_results
  rfl
theorem entry_rand (c : Dev nD) : (V m c main_v1 : Vec Ideal S1536x18432 .i8) = shapeCast S1536x18432 (m ((c : Thread nD τ).loc main_arg1) : Vec Ideal S2x768x18432 .i8) shapeCasts_S2x768x18432_S1536x18432 := by
  unfold V
  simp only [hostOps0, List.flatten_cons, List.flatten_nil,
    List.append_nil, List.cons_append, List.nil_append, StableHlo.TRef.ternary, StableHlo.TRef.unary, StableHlo.TRef.toBuf,
    StableHlo.TRef.ofBuf, cast_eq]
  after_results
  rfl
theorem entry_amax (c : Dev nD) : (V m c main_v2 : Vec Ideal S1x1 .f32) = shapeCast S1x1 (m ((c : Thread nD τ).loc main_arg3) : Vec Ideal S1 .f32) shapeCasts_S1_S1x1 := by
  unfold V
  simp only [hostOps0, List.flatten_cons, List.flatten_nil,
    List.append_nil, List.cons_append, List.nil_append, StableHlo.TRef.ternary, StableHlo.TRef.unary, StableHlo.TRef.toBuf,
    StableHlo.TRef.ofBuf, cast_eq]
  after_results
  rfl

variable (ρ : Dev nD → PrngReg)

/-- The program's run: the codes and the block scales; the arguments stay. -/
theorem run : θ_run defs (onTc (τ := τ) (main (F := Ideal))) ⟨m, fun _ => 0, ρ⟩ fun r => ∀ c : Dev nD,
      r.2.mem ((c.tc : Thread nD τ).loc main_v3_0) = CODES (V m c main_v0) (V m c main_v1) (m ((c : Thread nD τ).loc main_arg2)) (V m c main_v2)
      ∧ r.2.mem ((c.tc : Thread nD τ).loc main_v3_1) = SCALES (V m c main_v0) (m ((c : Thread nD τ).loc main_arg2)) (V m c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans ((final4 m c).trans (by rw [V_main_arg2])),
      ((h c).1 5).trans ((final5 m c).trans (by rw [V_main_arg2])), final_args h c⟩)
    (run_main m ρ)

end Cert.QuantDyIdeal.Body

end
-- ==== Proof.QuantDyReferenceRead.lean ====
/-
  The reference of `quant_dy` at an index: the Hadamard sums and the block scale of a group of sixteen tokens are those of
  `quant_x`; the byte of two codes is that of two levels rounded by the random bytes.
-/
module

public import proofs.«01_k».proof.Proof.Gen.QuantDyReferenceIdeal.Run
public import proofs.«01_k».proof.Proof.QuantXReferenceRead
public import proofs.«01_k».proof.Proof.QuantDyLevels

@[expose] public section

set_option maxRecDepth 100000

noncomputable section

namespace Cert.QuantDyReferenceIdeal.Final

open Cert.QuantDyReferenceIdeal Cert.QuantDyReferenceIdeal.Gen Cert.QuantDyReferenceIdeal.Value
open Cert.QuantXReferenceIdeal.Final (even rotateR scaleR amaxR sbR qR ratioR magR codeOf byteR)
open Cert.QuantXIdeal.Scalar (lit)
open Cert.QuantDyLevels (valueR lowR fracR uniformR levelR codeR)
open Idealize.ShloMosaic Idealize.ShloMosaic.TcCoe Idealize.SL.Sem Idealize.ShloMosaic.StableHlo

variable (V0 : Valuation τ sig (Elt Ideal))

/-- The reference's Hadamard matrix, and its condition. -/
def cond : IVec S16x16 1 :=
  cmpi .eq (select (andi (cmpi .ne (cmpi .slt (res_main_call0_v4 V0) (broadcastInDim S16x16 ![] bcast_S_S16x16 (constantI S_ 32 0#32))) (broadcastInDim S16x16 ![] bcast_S_S16x16 (cmpi .slt (res_main_call0_v2 V0) (constantI S_ 32 0#32)))) (cmpi .ne (res_main_call0_v4 V0) (broadcastInDim S16x16 ![] bcast_S_S16x16 (constantI S_ 32 0#32)))) (addi (res_main_call0_v4 V0) (broadcastInDim S16x16 ![] bcast_S_S16x16 (res_main_call0_v2 V0))) (res_main_call0_v4 V0)) (broadcastInDim S16x16 ![] bcast_S_S16x16 (constantI S_ 32 0#32))

def had : FVec Ideal S16x16 .f32 :=
  id (select (cond V0) (broadcastInDim S16x16 ![] bcast_S_S16x16 (constant S_ .f32 0x3F800000#32)) (broadcastInDim S16x16 ![] bcast_S_S16x16 (constant S_ .f32 0xBF800000#32)))

theorem cond_apply (i j : Fin 16) : cond V0 (ix2 i j) = BitVec.ofBool (even i j) := by
  pointwise [cond, res_main_call0_v4, res_main_call0_v2, res_main_call0_v0, res_main_v5, res_main_v0, id]
  clear cond_apply
  clear V0
  revert i j
  decide +kernel

theorem had_apply (i j : Fin 16) : had V0 (ix2 i j) = if even i j then 1 else lit 0xBF800000#32 := by
  unfold had
  simp only [id]
  pointwise
  rw [cond_apply]
  cases even i j <;> simp [Scalar.select]

/-- The argument arrays, as arrays. -/
abbrev argX : FVec Ideal S2x768x18432 .bf16 := V0 (Proc.devRef .tc main_arg0)
abbrev argR : IVec S2x768x18432 8 := V0 (Proc.devRef .tc main_arg1)
abbrev argS : FVec Ideal S16 .f32 := V0 (Proc.devRef .tc main_arg2)
abbrev argA : FVec Ideal S1 .f32 := V0 (Proc.devRef .tc main_arg3)

/-- The sixteen tokens of group `g` on channel `c`. -/
def group (c : Fin 18432) (g : Fin 96) (i : Fin 16) : EReal := argX V0 (ix3 ⟨g.val / 48, by omega⟩ ⟨g.val % 48 * 16 + i.val, by omega⟩ c)

/-- Their random bytes. -/
def randomR (c : Fin 18432) (g : Fin 96) (i : Fin 16) : BitVec 8 := argR V0 (ix3 ⟨g.val / 48, by omega⟩ ⟨g.val % 48 * 16 + i.val, by omega⟩ c)

def sgns (i : Fin 16) : EReal := argS V0 (ix1 i)

def zR (c : Fin 18432) (g : Fin 96) : Fin 16 → EReal := rotateR (group V0 c g) (sgns V0)

def stR : EReal := scaleR (argA V0 (ix1 0))

theorem v40 (c : Fin 18432) (g : Fin 96) (i : Fin 16) : (res_main_v40 V0 : FVec Ideal S18432x96x16 .f32) (ix3 c g i) = zR V0 c g i := by
  pointwise [res_main_v40]
  exact congrArg (fun h : Fin 16 → EReal => ∑ j, group V0 c g j * (h j * sgns V0 j * lit 0x3E800000#32)) (funext fun j => had_apply V0 i j)

theorem v47 : (res_main_v47 V0 : FVec Ideal S1 .f32) (ix1 0) = stR V0 := by
  pointwise [res_main_v47, id]
  rfl

/-- The largest magnitude over the last axis is that of the sixteen values there. -/
theorem fold_drop (f : S18432x96x16.Idx → EReal) (b : EReal) (c : Fin 18432) (g : Fin 96) :
    Finset.fold max b f {i | reducesTo_S18432x96x16_S18432x96_d2.drop i = ix2 c g} = Finset.univ.fold max b (fun i : Fin 16 => f (ix3 c g i)) := by
  apply le_antisymm
  · rw [Finset.fold_max_le]
    refine ⟨(Finset.le_fold_max _).2 (Or.inl le_rfl), fun x hx => (Finset.le_fold_max _).2 (Or.inr ⟨x 2, Finset.mem_univ _, le_of_eq ?_⟩)⟩
    have h := (Finset.mem_filter.1 hx).2
    congr 1
    funext d
    fin_cases d
    · exact congrFun h 0
    · exact congrFun h 1
    · rfl
  · rw [Finset.fold_max_le]
    refine ⟨(Finset.le_fold_max _).2 (Or.inl le_rfl), fun x _ => (Finset.le_fold_max _).2 (Or.inr ⟨ix3 c g x, Finset.mem_filter.2 ⟨Finset.mem_univ _, ?_⟩, le_rfl⟩)⟩
    funext d
    fin_cases d <;> rfl

theorem v56 (c : Fin 18432) (g : Fin 96) : (res_main_v56 V0 : FVec Ideal S18432x96 .f32) (ix2 c g) = sbR (stR V0) (amaxR (zR V0 c g)) := by
  pointwise [res_main_v56]
  refine (congrArg (fun t => min (Ideal.div t _) _) (fold_drop (fun x => (FloatOps.absf ((res_main_v40 V0 : FVec Ideal S18432x96x16 .f32) x) : Ideal .f32)) _ c g)).trans ?_
  exact congrArg₂ (fun (f : Fin 16 → EReal) (s : EReal) =>
    min (Ideal.div (Finset.univ.fold max (lit 0xFF800000#32) (fun i => max (f i) (-(f i)))) (lit 0x40C00000#32 * s)) (lit 0x43E00000#32))
    (funext (v40 V0 c g)) (v47 V0)

theorem v60 (c : Fin 18432) (g : Fin 96) : (res_main_v60 V0 : FVec Ideal S18432x96x1 .f32) (ix3 c g 0) = qR (stR V0) (amaxR (zR V0 c g)) := by
  have h1 := v56 V0 c g
  have h2 := v47 V0
  unfold qR
  rw [← h1, ← h2]
  pointwise [res_main_v60]

theorem v68 (c : Fin 18432) (g : Fin 96) (i : Fin 16) :
    (res_main_v68 V0 : FVec Ideal S18432x96x16 .f32) (ix3 c g i) = ratioR (qR (stR V0) (amaxR (zR V0 c g))) (zR V0 c g i) := by
  have h1 := v60 V0 c g
  have h2 := v40 V0 c g i
  unfold ratioR
  rw [← h1, ← h2]
  pointwise [res_main_v68, id]

theorem v71 (c : Fin 18432) (g : Fin 96) (i : Fin 16) :
    (res_main_v71 V0 : FVec Ideal S18432x96x16 .f32) (ix3 c g i) = magR (ratioR (qR (stR V0) (amaxR (zR V0 c g))) (zR V0 c g i)) := by
  rw [← v68 V0 c g i]
  pointwise [res_main_v71]
  rfl

/-- The words of one and of zero. -/
theorem one_lit : lit 0x3F800000#32 = 1 := by simp [lit, Ideal.ofBits, Ideal.ieee, -EReal.coe_mul]; norm_num

theorem zero_lit : lit 0x00000000#32 = 0 := by simp [lit, Ideal.ofBits, Ideal.ieee, -EReal.coe_mul]

/-- The level below. -/
theorem v98 (c : Fin 18432) (g : Fin 96) (i : Fin 16) :
    (res_main_v98 V0 : IVec S18432x96x16 32) (ix3 c g i) = lowR (magR (ratioR (qR (stR V0) (amaxR (zR V0 c g))) (zR V0 c g i))) := by
  rw [← v71 V0 c g i]
  pointwise [res_main_v98]
  generalize (res_main_v71 V0 : FVec Ideal S18432x96x16 .f32) (ix3 c g i) = m
  unfold lowR
  rw [one_lit]
  rfl

/-- The level above. -/
theorem v121 (c : Fin 18432) (g : Fin 96) (i : Fin 16) (k : BitVec 32) (h : (res_main_v98 V0 : IVec S18432x96x16 32) (ix3 c g i) = k) :
    (res_main_v121 V0 : IVec S18432x96x16 32) (ix3 c g i) = IntOp.minsi (k + 1#32) 7#32 := by
  subst h
  pointwise [res_main_v121]
  rfl

/-- A choice by a bit that tells two words apart. -/
theorem select_ne (a b : BitVec 32) (x y : EReal) : Scalar.select (IntOp.cmpi .ne a b) x y = if a ≠ b then x else y := by
  by_cases h : a = b
  · simp [Scalar.select, IntOp.cmpi, h]
  · have e : (a != b) = true := bne_iff_ne.2 h
    simp [Scalar.select, IntOp.cmpi, h, e]

/-- The choice among the eight values by the bits of a level. -/
def pick (k : BitVec 32) : EReal :=
  Scalar.select (IntOp.cmpi .ne (IntOp.andi k 4#32) 0#32)
    (Scalar.select (IntOp.cmpi .ne (IntOp.andi k 2#32) 0#32)
      (Scalar.select (IntOp.cmpi .ne (IntOp.andi k 1#32) 0#32) (lit 0x40C00000#32) (lit 0x40800000#32))
      (Scalar.select (IntOp.cmpi .ne (IntOp.andi k 1#32) 0#32) (lit 0x40400000#32) (lit 0x40000000#32)))
    (Scalar.select (IntOp.cmpi .ne (IntOp.andi k 2#32) 0#32)
      (Scalar.select (IntOp.cmpi .ne (IntOp.andi k 1#32) 0#32) (lit 0x3FC00000#32) 1)
      (Scalar.select (IntOp.cmpi .ne (IntOp.andi k 1#32) 0#32) (lit 0x3F000000#32) 0))

theorem pick_eq (k : BitVec 32) : pick k = valueR k := by
  unfold pick valueR
  simp only [select_ne]
  rw [one_lit, zero_lit]

theorem v117 (c : Fin 18432) (g : Fin 96) (i : Fin 16) (k : BitVec 32) (h : (res_main_v98 V0 : IVec S18432x96x16 32) (ix3 c g i) = k) :
    (res_main_v117 V0 : FVec Ideal S18432x96x16 .f32) (ix3 c g i) = valueR k := by
  subst h
  refine Eq.trans ?_ (pick_eq _)
  pointwise [res_main_v117, res_main_v102, res_main_v106]
  rfl

theorem v141 (c : Fin 18432) (g : Fin 96) (i : Fin 16) (k : BitVec 32) (h : (res_main_v98 V0 : IVec S18432x96x16 32) (ix3 c g i) = k) :
    (res_main_v141 V0 : FVec Ideal S18432x96x16 .f32) (ix3 c g i) = valueR (IntOp.minsi (k + 1#32) 7#32) - valueR k := by
  refine Eq.trans ?_ (congrArg₂ (fun a b : EReal => a - b) ((congrArg pick (v121 V0 c g i k h)).trans (pick_eq _)) (v117 V0 c g i k h))
  pointwise [res_main_v141, res_main_v125, res_main_v129]
  rfl

/-- The level chosen. -/
theorem v158 (c : Fin 18432) (g : Fin 96) (i : Fin 16) :
    (res_main_v158 V0 : IVec S18432x96x16 32) (ix3 c g i)
      = levelR (magR (ratioR (qR (stR V0) (amaxR (zR V0 c g))) (zR V0 c g i))) (uniformR (randomR V0 c g i)) := by
  have h1 := v98 V0 c g i
  have h2 := v141 V0 c g i _ h1
  have h3 := v117 V0 c g i _ h1
  have h4 := v71 V0 c g i
  unfold levelR fracR
  rw [← h2, ← h3, ← h4]
  rw [← h4] at h1
  rw [← h1]
  pointwise [res_main_v158, id]
  rfl

theorem v168 (c : Fin 18432) (k : Fin 768) (e : Fin 2) :
    (res_main_v168 V0 : IVec S18432x768x2 32) (ix3 c k e)
      = codeR (qR (stR V0) (amaxR (zR V0 c ⟨k.val / 8, by omega⟩))) (zR V0 c ⟨k.val / 8, by omega⟩ ⟨k.val % 8 * 2 + e.val, by omega⟩) (uniformR (randomR V0 c ⟨k.val / 8, by omega⟩ ⟨k.val % 8 * 2 + e.val, by omega⟩)) := by
  unfold codeR codeOf
  rw [← v158, ← v68]
  pointwise [res_main_v168, res_main_v163]

/-- The codes of the reference. -/
theorem codes (c : Fin 18432) (k : Fin 768) :
    (trunci 8 (ori (shapeCast _ (extractStridedSlice S18432x768x1 ![0, 0, 0] (res_main_v168 V0) slices_S18432x768x2_S18432x768x1_0_0_0) shapeCasts_S18432x768x1_S18432x768) (Host.shli (shapeCast _ (extractStridedSlice S18432x768x1 ![0, 0, 1] (res_main_v168 V0) slices_S18432x768x2_S18432x768x1_0_0_1) shapeCasts_S18432x768x1_S18432x768) (broadcastInDim S18432x768 ![] bcast_S_S18432x768 (constantI S_ 32 4#32)))) natLt_8_32 : IVec S18432x768 8) (ix2 c k)
      = byteR (codeR (qR (stR V0) (amaxR (zR V0 c ⟨k.val / 8, by omega⟩))) (zR V0 c ⟨k.val / 8, by omega⟩ ⟨k.val % 8 * 2 + 0, by omega⟩) (uniformR (randomR V0 c ⟨k.val / 8, by omega⟩ ⟨k.val % 8 * 2 + 0, by omega⟩)))
          (codeR (qR (stR V0) (amaxR (zR V0 c ⟨k.val / 8, by omega⟩))) (zR V0 c ⟨k.val / 8, by omega⟩ ⟨k.val % 8 * 2 + 1, by omega⟩) (uniformR (randomR V0 c ⟨k.val / 8, by omega⟩ ⟨k.val % 8 * 2 + 1, by omega⟩))) := by
  have h0 := v168 V0 c k 0
  have h1 := v168 V0 c k 1
  unfold byteR
  refine Eq.trans ?_ (congrArg₂ (fun a b => BitVec.setWidth 8 (IntOp.ori a (IntOp.shli .host b 4#32))) h0 h1)
  pointwise

end Cert.QuantDyReferenceIdeal.Final

end
-- ==== Proof.QuantDyFinite.lean ====
/-
  The precondition: every output gradient and every sign is a real number.
-/
module

public import proofs.«01_k».proof.Pre_finite_dy
public import proofs.«01_k».proof.Proof.QuantXFinite

@[expose] public section

noncomputable section

namespace Cert.Pre_finite_dy

open Idealize.ShloMosaic
open Cert.Pre_finite (real_of_lt)

theorem facts : Facts where
  bitsLt_bf16_f32 := by decide
  bcast_S_S2x768x18432 := by decide
  bcast_S_S16 := by decide

variable [Facts] (x : FVec Ideal S2x768x18432 .bf16) (r : IVec S2x768x18432 8) (s : FVec Ideal S16 .f32) (a : FVec Ideal S1 .f32)

theorem real_x (h : (fn (F := Ideal) x r s a).1 = fun _ => 1#1) (y : S2x768x18432.Idx) : x y = ((EReal.toReal (x y) : ℝ) : EReal) := by
  refine real_of_lt ?_
  have h' := congrFun h y
  refine Eq.trans ?_ h'
  rw [eq_ix3 y]
  unfold fn
  pointwise
  rfl

theorem real_s (h : (fn (F := Ideal) x r s a).2 = fun _ => 1#1) (i : Fin 16) : s (ix1 i) = ((EReal.toReal (s (ix1 i)) : ℝ) : EReal) := by
  refine real_of_lt ?_
  have h' := congrFun h (ix1 i)
  refine Eq.trans ?_ h'
  unfold fn
  pointwise
  rfl

end Cert.Pre_finite_dy

end
-- ==== Proof.QuantDyClaims.lean ====
/- The claims about the quantiser of the output gradients and its reference. -/
module

public import proofs.«01_k».proof.Defs
public import proofs.«01_k».proof.Proof.QuantDyFrame
public import proofs.«01_k».proof.Proof.QuantDyIdealFrame
public import proofs.«01_k».proof.Proof.QuantDyIdealRun
public import proofs.«01_k».proof.Proof.QuantDyReferenceRead
public import proofs.«01_k».proof.Proof.QuantDyEquation
public import proofs.«01_k».proof.Proof.QuantDyEquation
public import proofs.«01_k».proof.Proof.QuantDyFinite

@[expose] public section

noncomputable section

open Idealize.ShloMosaic Idealize.ShloMosaic.TcCoe Idealize.SL.Sem

namespace Cert.Proof.QuantDyClaims

open Cert.QuantDyIdeal (S2x768x18432 S1536x18432 S16 S1 S1x1 S18432x768 S18432x96)
open Cert.QuantDyIdeal.Gen (shapeCasts_S2x768x18432_S1536x18432 shapeCasts_S1_S1x1)
open Cert.QuantDyIdeal.Body (CODES SCALES tokens tokenBytes codeByte)
open Cert.QuantXIdeal.Scalar (sbE scaleE amaxE butterfly)
open Cert.QuantDyEquation (codeWord)

theorem frame_p : Cert.quiescent_QuantDy := fun m ρ _ => Cert.QuantDy.Body.frame m ρ
theorem frame_pi : Cert.quiescent_QuantDyIdeal := fun m ρ _ => Cert.QuantDyIdeal.Body.frame m ρ
theorem frame_pi_finite : Cert.quiescent_QuantDyIdeal_pre_finite_dy (hPre_finite_dy := Cert.Pre_finite_dy.facts) := fun m ρ _ => Cert.QuantDyIdeal.Body.frame m ρ
theorem frame_ri : Cert.quiescent_QuantDyReferenceIdeal := fun m ρ _ =>
  (θ_run Cert.QuantDyReferenceIdeal.defs _ _).mono (fun r h => ⟨fun c => (h c).2.2,
      sem_eq_zero_of_no_sems (by decide) r.2⟩)
    (Cert.QuantDyReferenceIdeal.Value.run (F := Ideal) m ρ)
theorem frame_ri_finite : Cert.quiescent_QuantDyReferenceIdeal_pre_finite_dy (hPre_finite_dy := Cert.Pre_finite_dy.facts) := fun m ρ _ => frame_ri m ρ trivial

/-- The four identities the idealized kernel rests on. -/
theorem preserves : Cert.preserves_QuantDy_QuantDyIdeal :=
  ⟨IdealRules.bf16_pair.statement Cert.QuantDyIdeal.S8x2x128 Cert.QuantDyIdeal.S8x1x128,
    IdealRules.bf16_pair.statement Cert.QuantDyIdeal.S16x128 Cert.QuantDyIdeal.S8x128,
    IdealRules.truncf_extf.statement Cert.QuantDyIdeal.S8x128 .f32 .fp8e4m3,
    IdealRules.bf16_pair.packStatement Cert.QuantDyIdeal.S8x128⟩

variable (V0 : Valuation Cert.QuantDyReferenceIdeal.τ Cert.QuantDyReferenceIdeal.sig (Elt Ideal))

/-- The tokens of a group as the kernel reads them, out of the reshaped gradient, are those of the reference. -/
theorem tokens_eq (x : FVec Ideal S2x768x18432 .bf16) (s : FVec Ideal S16 .f32) (hx : x = Cert.QuantDyReferenceIdeal.Final.argX V0) (hs : s = Cert.QuantDyReferenceIdeal.Final.argS V0)
    (g : Fin 96) (l : Fin 18432) :
    tokens (shapeCast S1536x18432 x shapeCasts_S2x768x18432_S1536x18432) s g l
      = fun i => Cert.QuantDyReferenceIdeal.Final.group V0 l g i * Cert.QuantDyReferenceIdeal.Final.sgns V0 i := by
  subst hx hs
  funext i
  have h : (shapeCast S1536x18432 (Cert.QuantDyReferenceIdeal.Final.argX V0) shapeCasts_S2x768x18432_S1536x18432 : FVec Ideal S1536x18432 .bf16) (ix2 ⟨16 * g.val + i.val, by omega⟩ l)
      = Cert.QuantDyReferenceIdeal.Final.group V0 l g i := by
    unfold Cert.QuantDyReferenceIdeal.Final.group
    pointwise
    congr 1
    funext a
    fin_cases a
    · exact Fin.ext (by show _ = g.val / 48; simp; omega)
    · exact Fin.ext (by show _ = g.val % 48 * 16 + i.val; simp; omega)
    · rfl
  exact congrArg (fun e : EReal => e * Cert.QuantDyReferenceIdeal.Final.sgns V0 i) h

/-- So are their random bytes. -/
theorem bytes_eq (r : IVec S2x768x18432 8) (hr : r = Cert.QuantDyReferenceIdeal.Final.argR V0) (g : Fin 96) (l : Fin 18432) :
    tokenBytes (shapeCast S1536x18432 r shapeCasts_S2x768x18432_S1536x18432) g l = Cert.QuantDyReferenceIdeal.Final.randomR V0 l g := by
  subst hr
  funext i
  unfold tokenBytes Cert.QuantDyReferenceIdeal.Final.randomR
  pointwise
  congr 1
  funext a
  fin_cases a
  · exact Fin.ext (by show _ = g.val / 48; simp; omega)
  · exact Fin.ext (by show _ = g.val % 48 * 16 + i.val; simp; omega)
  · rfl

theorem amax_at (a : FVec Ideal S1 .f32) : (shapeCast S1x1 a shapeCasts_S1_S1x1 : FVec Ideal S1x1 .f32) (ix2 0 0) = a (ix1 0) := by
  pointwise

section

variable (x : FVec Ideal S2x768x18432 .bf16) (s : FVec Ideal S16 .f32) (a : FVec Ideal S1 .f32)
  (hx : x = Cert.QuantDyReferenceIdeal.Final.argX V0) (hs : s = Cert.QuantDyReferenceIdeal.Final.argS V0) (ha : a = Cert.QuantDyReferenceIdeal.Final.argA V0)
  (fx : ∀ y, x y = ((EReal.toReal (x y) : ℝ) : EReal)) (fs : ∀ i, s (ix1 i) = ((EReal.toReal (s (ix1 i)) : ℝ) : EReal))

include hx hs ha fx fs

/-- The group and the signs are real numbers. -/
theorem group_real (l : Fin 18432) (g : Fin 96) : ∃ r t : Fin 16 → ℝ,
    Cert.QuantDyReferenceIdeal.Final.group V0 l g = (fun j => (r j : EReal)) ∧ Cert.QuantDyReferenceIdeal.Final.sgns V0 = fun j => (t j : EReal) := by
  subst hx hs
  exact ⟨fun j => EReal.toReal (Cert.QuantDyReferenceIdeal.Final.group V0 l g j), fun j => EReal.toReal (Cert.QuantDyReferenceIdeal.Final.sgns V0 j),
    funext fun j => fx _, funext fun j => fs _⟩

/-- The codes of the kernel are those of the reference. -/
theorem codes_eq (b : IVec S2x768x18432 8) (hb : b = Cert.QuantDyReferenceIdeal.Final.argR V0) (l : Fin 18432) (k : Fin 768) :
    CODES (shapeCast S1536x18432 x shapeCasts_S2x768x18432_S1536x18432) (shapeCast S1536x18432 b shapeCasts_S2x768x18432_S1536x18432) s (shapeCast S1x1 a shapeCasts_S1_S1x1) (ix2 l k)
      = Cert.QuantXReferenceIdeal.Final.byteR (Cert.QuantDyLevels.codeR (Cert.QuantXReferenceIdeal.Final.qR (Cert.QuantDyReferenceIdeal.Final.stR V0) (Cert.QuantXReferenceIdeal.Final.amaxR (Cert.QuantDyReferenceIdeal.Final.zR V0 l ⟨k.val / 8, by omega⟩))) (Cert.QuantDyReferenceIdeal.Final.zR V0 l ⟨k.val / 8, by omega⟩ ⟨k.val % 8 * 2 + 0, by omega⟩) (Cert.QuantDyLevels.uniformR (Cert.QuantDyReferenceIdeal.Final.randomR V0 l ⟨k.val / 8, by omega⟩ ⟨k.val % 8 * 2 + 0, by omega⟩)))
          (Cert.QuantDyLevels.codeR (Cert.QuantXReferenceIdeal.Final.qR (Cert.QuantDyReferenceIdeal.Final.stR V0) (Cert.QuantXReferenceIdeal.Final.amaxR (Cert.QuantDyReferenceIdeal.Final.zR V0 l ⟨k.val / 8, by omega⟩))) (Cert.QuantDyReferenceIdeal.Final.zR V0 l ⟨k.val / 8, by omega⟩ ⟨k.val % 8 * 2 + 1, by omega⟩) (Cert.QuantDyLevels.uniformR (Cert.QuantDyReferenceIdeal.Final.randomR V0 l ⟨k.val / 8, by omega⟩ ⟨k.val % 8 * 2 + 1, by omega⟩))) := by
  obtain ⟨r, t, hr, ht⟩ := group_real V0 x s a hx hs ha fx fs l ⟨k.val / 8, by omega⟩
  show (codeWord (scaleE ((shapeCast S1x1 a shapeCasts_S1_S1x1 : FVec Ideal S1x1 .f32) (ix2 0 0)))
    (butterfly (tokens (shapeCast S1536x18432 x shapeCasts_S2x768x18432_S1536x18432) s ⟨k.val / 8, by omega⟩ l)) (tokenBytes (shapeCast S1536x18432 b shapeCasts_S2x768x18432_S1536x18432) ⟨k.val / 8, by omega⟩ l) ⟨k.val % 8, by omega⟩).setWidth 8 = _
  rw [amax_at, tokens_eq V0 x s hx hs, bytes_eq V0 b hb]
  unfold Cert.QuantDyReferenceIdeal.Final.zR Cert.QuantDyReferenceIdeal.Final.stR
  rw [hr, ht, ← ha]
  exact Cert.QuantDyEquation.code_eq (a (ix1 0)) r t (Cert.QuantDyReferenceIdeal.Final.randomR V0 l ⟨k.val / 8, by omega⟩) ⟨k.val % 8, by omega⟩

/-- The block scales of the kernel are those of the reference. -/
theorem scales_eq (l : Fin 18432) (g : Fin 96) :
    SCALES (shapeCast S1536x18432 x shapeCasts_S2x768x18432_S1536x18432) s (shapeCast S1x1 a shapeCasts_S1_S1x1) (ix2 l g)
      = Cert.QuantXReferenceIdeal.Final.sbR (Cert.QuantDyReferenceIdeal.Final.stR V0) (Cert.QuantXReferenceIdeal.Final.amaxR (Cert.QuantDyReferenceIdeal.Final.zR V0 l g)) := by
  obtain ⟨r, t, hr, ht⟩ := group_real V0 x s a hx hs ha fx fs l g
  show sbE (scaleE ((shapeCast S1x1 a shapeCasts_S1_S1x1 : FVec Ideal S1x1 .f32) (ix2 0 0)))
    (amaxE (butterfly (tokens (shapeCast S1536x18432 x shapeCasts_S2x768x18432_S1536x18432) s g l))) = _
  rw [amax_at, tokens_eq V0 x s hx hs]
  unfold Cert.QuantDyReferenceIdeal.Final.zR Cert.QuantDyReferenceIdeal.Final.stR
  rw [hr, ht, ← ha]
  exact Cert.QuantXEquation.scale_eq (a (ix1 0)) r t

end

/-- The kernel and the reference end with the same codes and the same block scales. -/
theorem algebraic : Cert.algebraic_QuantDyIdeal_QuantDyReferenceIdeal_pre_finite_dy (hPre_finite_dy := Cert.Pre_finite_dy.facts) := by
  intro m ρ m' ρ' hpre hagree
  refine ⟨_, _, Cert.QuantDyIdeal.Body.run m ρ, ?_⟩
  refine (θ_run Cert.QuantDyReferenceIdeal.defs _ _).mono
    (fun _ h c => ⟨(h c).1.trans ?_, (h c).2.1.trans ?_, (h c).2.2⟩)
    (Cert.QuantDyReferenceIdeal.Value.run (F := Ideal) m' ρ')
  · rw [Cert.QuantDyIdeal.Body.entry_x, Cert.QuantDyIdeal.Body.entry_rand, Cert.QuantDyIdeal.Body.entry_amax]
    have fx := @Cert.Pre_finite_dy.real_x Cert.Pre_finite_dy.facts _ _ _ _ (hpre c).1
    have fs := @Cert.Pre_finite_dy.real_s Cert.Pre_finite_dy.facts _ _ _ _ (hpre c).2
    rw [← (hagree c).1] at fx ⊢
    rw [← (hagree c).2.2.1] at fs ⊢
    rw [← (hagree c).2.1, ← (hagree c).2.2.2]
    funext y
    rw [eq_ix2 y]
    exact (Cert.QuantDyReferenceIdeal.Final.codes _ _ _).trans (codes_eq (StableHlo.launchContents m' c) _ _ _ rfl rfl rfl fx fs _ rfl _ _).symm
  · rw [Cert.QuantDyIdeal.Body.entry_x, Cert.QuantDyIdeal.Body.entry_amax]
    have fx := @Cert.Pre_finite_dy.real_x Cert.Pre_finite_dy.facts _ _ _ _ (hpre c).1
    have fs := @Cert.Pre_finite_dy.real_s Cert.Pre_finite_dy.facts _ _ _ _ (hpre c).2
    rw [← (hagree c).1] at fx ⊢
    rw [← (hagree c).2.2.1] at fs ⊢
    rw [← (hagree c).2.2.2]
    funext y
    rw [eq_ix2 y]
    exact (Cert.QuantDyReferenceIdeal.Final.v56 _ _ _).trans (scales_eq (StableHlo.launchContents m' c) _ _ _ rfl rfl rfl fx fs _ _).symm

end Cert.Proof.QuantDyClaims

end
-- ==== Proof.lean ====
module

public import proofs.«01_k».proof.Defs
public import proofs.«01_k».proof.Proof.Gen.Matmul
public import proofs.«01_k».proof.Proof.Gen.MatmulIdeal
public import proofs.«01_k».proof.Proof.Gen.MatmulReferenceIdeal
public import proofs.«01_k».proof.Proof.Gen.MatmulIdeal.Value
public import proofs.«01_k».proof.Proof.Gen.MatmulReferenceIdeal.Run
public import proofs.«01_k».proof.Proof.MatmulClaims
public import proofs.«01_k».proof.Proof.QuantXClaims
public import proofs.«01_k».proof.Proof.QuantDyClaims
public import proofs.«01_k».proof.Proof.Gen.QuantX
public import proofs.«01_k».proof.Proof.Gen.QuantX.Skeleton
public import proofs.«01_k».proof.Proof.Gen.QuantX.Launch
public import proofs.«01_k».proof.Proof.Gen.QuantXIdeal
public import proofs.«01_k».proof.Proof.Gen.QuantXIdeal.Skeleton
public import proofs.«01_k».proof.Proof.Gen.QuantXIdeal.Launch
public import proofs.«01_k».proof.Proof.Gen.QuantXReferenceIdeal
public import proofs.«01_k».proof.Proof.Gen.QuantXReferenceIdeal.Run
public import proofs.«01_k».proof.Proof.Gen.QuantXReferenceIdeal.Read
public import proofs.«01_k».proof.Proof.Gen.QuantDy
public import proofs.«01_k».proof.Proof.Gen.QuantDy.Skeleton
public import proofs.«01_k».proof.Proof.Gen.QuantDy.Launch
public import proofs.«01_k».proof.Proof.Gen.QuantDyIdeal
public import proofs.«01_k».proof.Proof.Gen.QuantDyIdeal.Skeleton
public import proofs.«01_k».proof.Proof.Gen.QuantDyIdeal.Launch
public import proofs.«01_k».proof.Proof.Gen.QuantDyReferenceIdeal
public import proofs.«01_k».proof.Proof.Gen.QuantDyReferenceIdeal.Run
public import proofs.«01_k».proof.Proof.Gen.QuantDyReferenceIdeal.Read
public import Idealize.ShloMosaic.Adequacy
public import Idealize.ShloMosaic.Init

@[expose] public section

noncomputable section

namespace Cert.Proof

open Idealize.ShloMosaic Idealize.SL.Sem

theorem claim : Cert.Claim :=
  ⟨Cert.Matmul.Gen.facts, Cert.MatmulIdeal.Gen.facts, Cert.MatmulReferenceIdeal.Gen.facts,
    Cert.QuantX.Gen.facts, Cert.QuantXIdeal.Gen.facts, Cert.QuantXReferenceIdeal.Gen.facts,
    Cert.QuantDy.Gen.facts, Cert.QuantDyIdeal.Gen.facts, Cert.QuantDyReferenceIdeal.Gen.facts, Cert.Pre_finite.facts, Cert.Pre_finite_dy.facts,
    MatmulClaims.frame_p, MatmulClaims.frame_pi, MatmulClaims.frame_ri,
    QuantXClaims.frame_p, QuantXClaims.frame_pi, QuantXClaims.frame_pi_finite, QuantXClaims.frame_ri, QuantXClaims.frame_ri_finite,
    QuantDyClaims.frame_p, QuantDyClaims.frame_pi, QuantDyClaims.frame_pi_finite, QuantDyClaims.frame_ri, QuantDyClaims.frame_ri_finite,
    MatmulClaims.preserves, MatmulClaims.algebraic, QuantXClaims.preserves, QuantXClaims.algebraic,
    QuantDyClaims.preserves, QuantDyClaims.algebraic⟩

end Cert.Proof

end
